-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdRefIdeal (m : (ℓ : Loc Cert.MemBwdRefIdeal.nD Cert.MemBwdRefIdeal.τ Cert.MemBwdRefIdeal.sig) → Buf (Elt Ideal) ℓ) : Prop :=
  True

def Pre_MmDh (m : (ℓ : Loc Cert.MmDh.nD Cert.MmDh.τ Cert.MmDh.sig) → Buf (Elt Bits) ℓ) : Prop :=
  True

def Pre_MmDhIdeal (m : (ℓ : Loc Cert.MmDhIdeal.nD Cert.MmDhIdeal.τ Cert.MmDhIdeal.sig) → Buf (Elt Ideal) ℓ) : Prop :=
  True

def Pre_MmDhRefIdeal (m : (ℓ : Loc Cert.MmDhRefIdeal.nD Cert.MmDhRefIdeal.τ Cert.MmDhRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_BranchABwd (m : (ℓ : Loc Cert.BranchABwd.nD Cert.BranchABwd.τ Cert.BranchABwd.sig) → Buf (Elt Bits) ℓ) : Prop :=
  True

def Pre_BranchABwdIdeal (m : (ℓ : Loc Cert.BranchABwdIdeal.nD Cert.BranchABwdIdeal.τ Cert.BranchABwdIdeal.sig) → Buf (Elt Ideal) ℓ) : Prop :=
  True

def Pre_BranchABwdIdeal_a_finite [hPre_a_finite : Cert.Pre_a_finite.Facts] (m : (ℓ : Loc Cert.BranchABwdIdeal.nD Cert.BranchABwdIdeal.τ Cert.BranchABwdIdeal.sig) → Buf (Elt Ideal) ℓ) : Prop :=
  ∀ c : Dev Cert.BranchABwdIdeal.nD,
    (Cert.Pre_a_finite.fn (F := Ideal) (m ((c.tc : Thread Cert.BranchABwdIdeal.nD Cert.BranchABwdIdeal.τ).loc Cert.BranchABwdIdeal.main_arg0)) (m ((c.tc : Thread Cert.BranchABwdIdeal.nD Cert.BranchABwdIdeal.τ).loc Cert.BranchABwdIdeal.main_arg1)) (m ((c.tc : Thread Cert.BranchABwdIdeal.nD Cert.BranchABwdIdeal.τ).loc Cert.BranchABwdIdeal.main_arg2)) (m ((c.tc : Thread Cert.BranchABwdIdeal.nD Cert.BranchABwdIdeal.τ).loc Cert.BranchABwdIdeal.main_arg3)) (m ((c.tc : Thread Cert.BranchABwdIdeal.nD Cert.BranchABwdIdeal.τ).loc Cert.BranchABwdIdeal.main_arg4)) (m ((c.tc : Thread Cert.BranchABwdIdeal.nD Cert.BranchABwdIdeal.τ).loc Cert.BranchABwdIdeal.main_arg5)) (m ((c.tc : Thread Cert.BranchABwdIdeal.nD Cert.BranchABwdIdeal.τ).loc Cert.BranchABwdIdeal.main_arg6))) = (fun _ => 1#1)

def Pre_BranchABwdRefIdeal (m : (ℓ : Loc Cert.BranchABwdRefIdeal.nD Cert.BranchABwdRefIdeal.τ Cert.BranchABwdRefIdeal.sig) → Buf (Elt Ideal) ℓ) : Prop :=
  True

def Pre_BranchABwdRefIdeal_a_finite [hPre_a_finite : Cert.Pre_a_finite.Facts] (m : (ℓ : Loc Cert.BranchABwdRefIdeal.nD Cert.BranchABwdRefIdeal.τ Cert.BranchABwdRefIdeal.sig) → Buf (Elt Ideal) ℓ) : Prop :=
  ∀ c : Dev Cert.BranchABwdRefIdeal.nD,
    (Cert.Pre_a_finite.fn (F := Ideal) (m ((c.tc : Thread Cert.BranchABwdRefIdeal.nD Cert.BranchABwdRefIdeal.τ).loc Cert.BranchABwdRefIdeal.main_arg0)) (m ((c.tc : Thread Cert.BranchABwdRefIdeal.nD Cert.BranchABwdRefIdeal.τ).loc Cert.BranchABwdRefIdeal.main_arg1)) (m ((c.tc : Thread Cert.BranchABwdRefIdeal.nD Cert.BranchABwdRefIdeal.τ).loc Cert.BranchABwdRefIdeal.main_arg2)) (m ((c.tc : Thread Cert.BranchABwdRefIdeal.nD Cert.BranchABwdRefIdeal.τ).loc Cert.BranchABwdRefIdeal.main_arg3)) (m ((c.tc : Thread Cert.BranchABwdRefIdeal.nD Cert.BranchABwdRefIdeal.τ).loc Cert.BranchABwdRefIdeal.main_arg4)) (m ((c.tc : Thread Cert.BranchABwdRefIdeal.nD Cert.BranchABwdRefIdeal.τ).loc Cert.BranchABwdRefIdeal.main_arg5)) (m ((c.tc : Thread Cert.BranchABwdRefIdeal.nD Cert.BranchABwdRefIdeal.τ).loc Cert.BranchABwdRefIdeal.main_arg6))) = (fun _ => 1#1)

def Pre_BranchCBwd (m : (ℓ : Loc Cert.BranchCBwd.nD Cert.BranchCBwd.τ Cert.BranchCBwd.sig) → Buf (Elt Bits) ℓ) : Prop :=
  True

def Pre_BranchCBwdIdeal (m : (ℓ : Loc Cert.BranchCBwdIdeal.nD Cert.BranchCBwdIdeal.τ Cert.BranchCBwdIdeal.sig) → Buf (Elt Ideal) ℓ) : Prop :=
  True

def Pre_BranchCBwdIdeal_c_finite [hPre_c_finite : Cert.Pre_c_finite.Facts] (m : (ℓ : Loc Cert.BranchCBwdIdeal.nD Cert.BranchCBwdIdeal.τ Cert.BranchCBwdIdeal.sig) → Buf (Elt Ideal) ℓ) : Prop :=
  ∀ c : Dev Cert.BranchCBwdIdeal.nD,
    (Cert.Pre_c_finite.fn (F := Ideal) (m ((c.tc : Thread Cert.BranchCBwdIdeal.nD Cert.BranchCBwdIdeal.τ).loc Cert.BranchCBwdIdeal.main_arg0)) (m ((c.tc : Thread Cert.BranchCBwdIdeal.nD Cert.BranchCBwdIdeal.τ).loc Cert.BranchCBwdIdeal.main_arg1)) (m ((c.tc : Thread Cert.BranchCBwdIdeal.nD Cert.BranchCBwdIdeal.τ).loc Cert.BranchCBwdIdeal.main_arg2)) (m ((c.tc : Thread Cert.BranchCBwdIdeal.nD Cert.BranchCBwdIdeal.τ).loc Cert.BranchCBwdIdeal.main_arg3))) = (fun _ => 1#1)

def Pre_BranchCBwdRefIdeal (m : (ℓ : Loc Cert.BranchCBwdRefIdeal.nD Cert.BranchCBwdRefIdeal.τ Cert.BranchCBwdRefIdeal.sig) → Buf (Elt Ideal) ℓ) : Prop :=
  True

def Pre_BranchCBwdRefIdeal_c_finite [hPre_c_finite : Cert.Pre_c_finite.Facts] (m : (ℓ : Loc Cert.BranchCBwdRefIdeal.nD Cert.BranchCBwdRefIdeal.τ Cert.BranchCBwdRefIdeal.sig) → Buf (Elt Ideal) ℓ) : Prop :=
  ∀ c : Dev Cert.BranchCBwdRefIdeal.nD,
    (Cert.Pre_c_finite.fn (F := Ideal) (m ((c.tc : Thread Cert.BranchCBwdRefIdeal.nD Cert.BranchCBwdRefIdeal.τ).loc Cert.BranchCBwdRefIdeal.main_arg0)) (m ((c.tc : Thread Cert.BranchCBwdRefIdeal.nD Cert.BranchCBwdRefIdeal.τ).loc Cert.BranchCBwdRefIdeal.main_arg1)) (m ((c.tc : Thread Cert.BranchCBwdRefIdeal.nD Cert.BranchCBwdRefIdeal.τ).loc Cert.BranchCBwdRefIdeal.main_arg2)) (m ((c.tc : Thread Cert.BranchCBwdRefIdeal.nD Cert.BranchCBwdRefIdeal.τ).loc Cert.BranchCBwdRefIdeal.main_arg3))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_o_finite [hPre_o_finite : Cert.Pre_o_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_o_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_o_finite [hPre_o_finite : Cert.Pre_o_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_o_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))) = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_BranchAFwd (m : (ℓ : Loc Cert.BranchAFwd.nD Cert.BranchAFwd.τ Cert.BranchAFwd.sig) → Buf (Elt Bits) ℓ) : Prop :=
  True

def Pre_BranchAFwdIdeal (m : (ℓ : Loc Cert.BranchAFwdIdeal.nD Cert.BranchAFwdIdeal.τ Cert.BranchAFwdIdeal.sig) → Buf (Elt Ideal) ℓ) : Prop :=
  True

def Pre_BranchAFwdRefIdeal (m : (ℓ : Loc Cert.BranchAFwdRefIdeal.nD Cert.BranchAFwdRefIdeal.τ Cert.BranchAFwdRefIdeal.sig) → Buf (Elt Ideal) ℓ) : Prop :=
  True

def Pre_BranchCFwd (m : (ℓ : Loc Cert.BranchCFwd.nD Cert.BranchCFwd.τ Cert.BranchCFwd.sig) → Buf (Elt Bits) ℓ) : Prop :=
  True

def Pre_BranchCFwdIdeal (m : (ℓ : Loc Cert.BranchCFwdIdeal.nD Cert.BranchCFwdIdeal.τ Cert.BranchCFwdIdeal.sig) → Buf (Elt Ideal) ℓ) : Prop :=
  True

def Pre_BranchCFwdRefIdeal (m : (ℓ : Loc Cert.BranchCFwdRefIdeal.nD Cert.BranchCFwdRefIdeal.τ Cert.BranchCFwdRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_MmDwin (m : (ℓ : Loc Cert.MmDwin.nD Cert.MmDwin.τ Cert.MmDwin.sig) → Buf (Elt Bits) ℓ) : Prop :=
  True

def Pre_MmDwinIdeal (m : (ℓ : Loc Cert.MmDwinIdeal.nD Cert.MmDwinIdeal.τ Cert.MmDwinIdeal.sig) → Buf (Elt Ideal) ℓ) : Prop :=
  True

def Pre_MmDwinRefIdeal (m : (ℓ : Loc Cert.MmDwinRefIdeal.nD Cert.MmDwinRefIdeal.τ Cert.MmDwinRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_AdamwFlat (m : (ℓ : Loc Cert.AdamwFlat.nD Cert.AdamwFlat.τ Cert.AdamwFlat.sig) → Buf (Elt Bits) ℓ) : Prop :=
  True

def Pre_AdamwFlatIdeal (m : (ℓ : Loc Cert.AdamwFlatIdeal.nD Cert.AdamwFlatIdeal.τ Cert.AdamwFlatIdeal.sig) → Buf (Elt Ideal) ℓ) : Prop :=
  True

def Pre_AdamwFlatRefIdeal (m : (ℓ : Loc Cert.AdamwFlatRefIdeal.nD Cert.AdamwFlatRefIdeal.τ Cert.AdamwFlatRefIdeal.sig) → Buf (Elt Ideal) ℓ) : Prop :=
  True

def Pre_AdamwLayer (m : (ℓ : Loc Cert.AdamwLayer.nD Cert.AdamwLayer.τ Cert.AdamwLayer.sig) → Buf (Elt Bits) ℓ) : Prop :=
  True

def Pre_AdamwLayerIdeal (m : (ℓ : Loc Cert.AdamwLayerIdeal.nD Cert.AdamwLayerIdeal.τ Cert.AdamwLayerIdeal.sig) → Buf (Elt Ideal) ℓ) : Prop :=
  True

def Pre_AdamwLayerRefIdeal (m : (ℓ : Loc Cert.AdamwLayerRefIdeal.nD Cert.AdamwLayerRefIdeal.τ Cert.AdamwLayerRefIdeal.sig) → Buf (Elt Ideal) ℓ) : Prop :=
  True

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3)
      ∧ r.2.mem ((c.tc : Thread Cert.MemBwd.nD Cert.MemBwd.τ).loc Cert.MemBwd.main_arg4) = m ((c.tc : Thread Cert.MemBwd.nD Cert.MemBwd.τ).loc Cert.MemBwd.main_arg4))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
      ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3)
      ∧ r.2.mem ((c.tc : Thread Cert.MemBwdRefIdeal.nD Cert.MemBwdRefIdeal.τ).loc Cert.MemBwdRefIdeal.main_arg4) = m ((c.tc : Thread Cert.MemBwdRefIdeal.nD Cert.MemBwdRefIdeal.τ).loc Cert.MemBwdRefIdeal.main_arg4))
      ∧ r.2.sem = fun _ => 0)

def quiescent_MmDh [hMmDh : Cert.MmDh.Facts] : Prop :=
  ∀ (m : (ℓ : Loc Cert.MmDh.nD Cert.MmDh.τ Cert.MmDh.sig) → Buf (Elt Bits) ℓ) (g : Dev Cert.MmDh.nD → PrngReg), Pre_MmDh m →
    θ_run (Cert.MmDh.defs (F := Bits)) (onTc (τ := Cert.MmDh.τ) (Cert.MmDh.main (F := Bits))) ⟨m, fun _ => 0, g⟩ (fun r => (∀ c : Dev Cert.MmDh.nD,
      r.2.mem ((c.tc : Thread Cert.MmDh.nD Cert.MmDh.τ).loc Cert.MmDh.main_arg0) = m ((c.tc : Thread Cert.MmDh.nD Cert.MmDh.τ).loc Cert.MmDh.main_arg0)
      ∧ r.2.mem ((c.tc : Thread Cert.MmDh.nD Cert.MmDh.τ).loc Cert.MmDh.main_arg1) = m ((c.tc : Thread Cert.MmDh.nD Cert.MmDh.τ).loc Cert.MmDh.main_arg1)
      ∧ r.2.mem ((c.tc : Thread Cert.MmDh.nD Cert.MmDh.τ).loc Cert.MmDh.main_arg2) = m ((c.tc : Thread Cert.MmDh.nD Cert.MmDh.τ).loc Cert.MmDh.main_arg2)
      ∧ r.2.mem ((c.tc : Thread Cert.MmDh.nD Cert.MmDh.τ).loc Cert.MmDh.main_arg3) = m ((c.tc : Thread Cert.MmDh.nD Cert.MmDh.τ).loc Cert.MmDh.main_arg3)
      ∧ r.2.mem ((c.tc : Thread Cert.MmDh.nD Cert.MmDh.τ).loc Cert.MmDh.main_arg4) = m ((c.tc : Thread Cert.MmDh.nD Cert.MmDh.τ).loc Cert.MmDh.main_arg4))
      ∧ r.2.sem = fun _ => 0)

def quiescent_MmDhIdeal [hMmDhIdeal : Cert.MmDhIdeal.Facts] : Prop :=
  ∀ (m : (ℓ : Loc Cert.MmDhIdeal.nD Cert.MmDhIdeal.τ Cert.MmDhIdeal.sig) → Buf (Elt Ideal) ℓ) (g : Dev Cert.MmDhIdeal.nD → PrngReg), Pre_MmDhIdeal m →
    θ_run (Cert.MmDhIdeal.defs (F := Ideal)) (onTc (τ := Cert.MmDhIdeal.τ) (Cert.MmDhIdeal.main (F := Ideal))) ⟨m, fun _ => 0, g⟩ (fun r => (∀ c : Dev Cert.MmDhIdeal.nD,
      r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
      ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1)
      ∧ r.2.mem ((c.tc : Thread Cert.MmDhIdeal.nD Cert.MmDhIdeal.τ).loc Cert.MmDhIdeal.main_arg2) = m ((c.tc : Thread Cert.MmDhIdeal.nD Cert.MmDhIdeal.τ).loc Cert.MmDhIdeal.main_arg2)
      ∧ r.2.mem ((c.tc : Thread Cert.MmDhIdeal.nD Cert.MmDhIdeal.τ).loc Cert.MmDhIdeal.main_arg3) = m ((c.tc : Thread Cert.MmDhIdeal.nD Cert.MmDhIdeal.τ).loc Cert.MmDhIdeal.main_arg3)
      ∧ r.2.mem ((c.tc : Thread Cert.MmDhIdeal.nD Cert.MmDhIdeal.τ).loc Cert.MmDhIdeal.main_arg4) = m ((c.tc : Thread Cert.MmDhIdeal.nD Cert.MmDhIdeal.τ).loc Cert.MmDhIdeal.main_arg4))
      ∧ r.2.sem = fun _ => 0)

def quiescent_MmDhRefIdeal [hMmDhRefIdeal : Cert.MmDhRefIdeal.Facts] : Prop :=
  ∀ (m : (ℓ : Loc Cert.MmDhRefIdeal.nD Cert.MmDhRefIdeal.τ Cert.MmDhRefIdeal.sig) → Buf (Elt Ideal) ℓ) (g : Dev Cert.MmDhRefIdeal.nD → PrngReg), Pre_MmDhRefIdeal m →
    θ_run (Cert.MmDhRefIdeal.defs (F := Ideal)) (onTc (τ := Cert.MmDhRefIdeal.τ) (Cert.MmDhRefIdeal.main (F := Ideal))) ⟨m, fun _ => 0, g⟩ (fun r => (∀ c : Dev Cert.MmDhRefIdeal.nD,
      r.2.mem ((c.tc : Thread Cert.MmDhRefIdeal.nD Cert.MmDhRefIdeal.τ).loc Cert.MmDhRefIdeal.main_arg0) = m ((c.tc : Thread Cert.MmDhRefIdeal.nD Cert.MmDhRefIdeal.τ).loc Cert.MmDhRefIdeal.main_arg0)
      ∧ r.2.mem ((c.tc : Thread Cert.MmDhRefIdeal.nD Cert.MmDhRefIdeal.τ).loc Cert.MmDhRefIdeal.main_arg1) = m ((c.tc : Thread Cert.MmDhRefIdeal.nD Cert.MmDhRefIdeal.τ).loc Cert.MmDhRefIdeal.main_arg1)
      ∧ r.2.mem ((c.tc : Thread Cert.MmDhRefIdeal.nD Cert.MmDhRefIdeal.τ).loc Cert.MmDhRefIdeal.main_arg2) = m ((c.tc : Thread Cert.MmDhRefIdeal.nD Cert.MmDhRefIdeal.τ).loc Cert.MmDhRefIdeal.main_arg2)
      ∧ r.2.mem ((c.tc : Thread Cert.MmDhRefIdeal.nD Cert.MmDhRefIdeal.τ).loc Cert.MmDhRefIdeal.main_arg3) = m ((c.tc : Thread Cert.MmDhRefIdeal.nD Cert.MmDhRefIdeal.τ).loc Cert.MmDhRefIdeal.main_arg3)
      ∧ r.2.mem ((c.tc : Thread Cert.MmDhRefIdeal.nD Cert.MmDhRefIdeal.τ).loc Cert.MmDhRefIdeal.main_arg4) = m ((c.tc : Thread Cert.MmDhRefIdeal.nD Cert.MmDhRefIdeal.τ).loc Cert.MmDhRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_BranchABwd [hBranchABwd : Cert.BranchABwd.Facts] : Prop :=
  ∀ (m : (ℓ : Loc Cert.BranchABwd.nD Cert.BranchABwd.τ Cert.BranchABwd.sig) → Buf (Elt Bits) ℓ) (g : Dev Cert.BranchABwd.nD → PrngReg), Pre_BranchABwd m →
    θ_run (Cert.BranchABwd.defs (F := Bits)) (onTc (τ := Cert.BranchABwd.τ) (Cert.BranchABwd.main (F := Bits))) ⟨m, fun _ => 0, g⟩ (fun r => (∀ c : Dev Cert.BranchABwd.nD,
      r.2.mem ((c.tc : Thread Cert.BranchABwd.nD Cert.BranchABwd.τ).loc Cert.BranchABwd.main_arg0) = m ((c.tc : Thread Cert.BranchABwd.nD Cert.BranchABwd.τ).loc Cert.BranchABwd.main_arg0)
      ∧ r.2.mem ((c.tc : Thread Cert.BranchABwd.nD Cert.BranchABwd.τ).loc Cert.BranchABwd.main_arg1) = m ((c.tc : Thread Cert.BranchABwd.nD Cert.BranchABwd.τ).loc Cert.BranchABwd.main_arg1)
      ∧ r.2.mem ((c.tc : Thread Cert.BranchABwd.nD Cert.BranchABwd.τ).loc Cert.BranchABwd.main_arg2) = m ((c.tc : Thread Cert.BranchABwd.nD Cert.BranchABwd.τ).loc Cert.BranchABwd.main_arg2)
      ∧ r.2.mem ((c.tc : Thread Cert.BranchABwd.nD Cert.BranchABwd.τ).loc Cert.BranchABwd.main_arg3) = m ((c.tc : Thread Cert.BranchABwd.nD Cert.BranchABwd.τ).loc Cert.BranchABwd.main_arg3)
      ∧ r.2.mem ((c.tc : Thread Cert.BranchABwd.nD Cert.BranchABwd.τ).loc Cert.BranchABwd.main_arg4) = m ((c.tc : Thread Cert.BranchABwd.nD Cert.BranchABwd.τ).loc Cert.BranchABwd.main_arg4)
      ∧ r.2.mem ((c.tc : Thread Cert.BranchABwd.nD Cert.BranchABwd.τ).loc Cert.BranchABwd.main_arg5) = m ((c.tc : Thread Cert.BranchABwd.nD Cert.BranchABwd.τ).loc Cert.BranchABwd.main_arg5)
      ∧ r.2.mem ((c.tc : Thread Cert.BranchABwd.nD Cert.BranchABwd.τ).loc Cert.BranchABwd.main_arg6) = m ((c.tc : Thread Cert.BranchABwd.nD Cert.BranchABwd.τ).loc Cert.BranchABwd.main_arg6))
      ∧ r.2.sem = fun _ => 0)

def quiescent_BranchABwdIdeal [hBranchABwdIdeal : Cert.BranchABwdIdeal.Facts] : Prop :=
  ∀ (m : (ℓ : Loc Cert.BranchABwdIdeal.nD Cert.BranchABwdIdeal.τ Cert.BranchABwdIdeal.sig) → Buf (Elt Ideal) ℓ) (g : Dev Cert.BranchABwdIdeal.nD → PrngReg), Pre_BranchABwdIdeal m →
    θ_run (Cert.BranchABwdIdeal.defs (F := Ideal)) (onTc (τ := Cert.BranchABwdIdeal.τ) (Cert.BranchABwdIdeal.main (F := Ideal))) ⟨m, fun _ => 0, g⟩ (fun r => (∀ c : Dev Cert.BranchABwdIdeal.nD,
      r.2.mem ((c.tc : Thread Cert.BranchABwdIdeal.nD Cert.BranchABwdIdeal.τ).loc Cert.BranchABwdIdeal.main_arg0) = m ((c.tc : Thread Cert.BranchABwdIdeal.nD Cert.BranchABwdIdeal.τ).loc Cert.BranchABwdIdeal.main_arg0)
      ∧ r.2.mem ((c.tc : Thread Cert.BranchABwdIdeal.nD Cert.BranchABwdIdeal.τ).loc Cert.BranchABwdIdeal.main_arg1) = m ((c.tc : Thread Cert.BranchABwdIdeal.nD Cert.BranchABwdIdeal.τ).loc Cert.BranchABwdIdeal.main_arg1)
      ∧ r.2.mem ((c.tc : Thread Cert.BranchABwdIdeal.nD Cert.BranchABwdIdeal.τ).loc Cert.BranchABwdIdeal.main_arg2) = m ((c.tc : Thread Cert.BranchABwdIdeal.nD Cert.BranchABwdIdeal.τ).loc Cert.BranchABwdIdeal.main_arg2)
      ∧ r.2.mem ((c.tc : Thread Cert.BranchABwdIdeal.nD Cert.BranchABwdIdeal.τ).loc Cert.BranchABwdIdeal.main_arg3) = m ((c.tc : Thread Cert.BranchABwdIdeal.nD Cert.BranchABwdIdeal.τ).loc Cert.BranchABwdIdeal.main_arg3)
      ∧ r.2.mem ((c.tc : Thread Cert.BranchABwdIdeal.nD Cert.BranchABwdIdeal.τ).loc Cert.BranchABwdIdeal.main_arg4) = m ((c.tc : Thread Cert.BranchABwdIdeal.nD Cert.BranchABwdIdeal.τ).loc Cert.BranchABwdIdeal.main_arg4)
      ∧ r.2.mem ((c.tc : Thread Cert.BranchABwdIdeal.nD Cert.BranchABwdIdeal.τ).loc Cert.BranchABwdIdeal.main_arg5) = m ((c.tc : Thread Cert.BranchABwdIdeal.nD Cert.BranchABwdIdeal.τ).loc Cert.BranchABwdIdeal.main_arg5)
      ∧ r.2.mem ((c.tc : Thread Cert.BranchABwdIdeal.nD Cert.BranchABwdIdeal.τ).loc Cert.BranchABwdIdeal.main_arg6) = m ((c.tc : Thread Cert.BranchABwdIdeal.nD Cert.BranchABwdIdeal.τ).loc Cert.BranchABwdIdeal.main_arg6))
      ∧ r.2.sem = fun _ => 0)

def quiescent_BranchABwdIdeal_pre_a_finite [hBranchABwdIdeal : Cert.BranchABwdIdeal.Facts] [hPre_a_finite : Cert.Pre_a_finite.Facts] : Prop :=
  ∀ (m : (ℓ : Loc Cert.BranchABwdIdeal.nD Cert.BranchABwdIdeal.τ Cert.BranchABwdIdeal.sig) → Buf (Elt Ideal) ℓ) (g : Dev Cert.BranchABwdIdeal.nD → PrngReg), Pre_BranchABwdIdeal_a_finite m →
    θ_run (Cert.BranchABwdIdeal.defs (F := Ideal)) (onTc (τ := Cert.BranchABwdIdeal.τ) (Cert.BranchABwdIdeal.main (F := Ideal))) ⟨m, fun _ => 0, g⟩ (fun r => (∀ c : Dev Cert.BranchABwdIdeal.nD,
      r.2.mem ((c.tc : Thread Cert.BranchABwdIdeal.nD Cert.BranchABwdIdeal.τ).loc Cert.BranchABwdIdeal.main_arg0) = m ((c.tc : Thread Cert.BranchABwdIdeal.nD Cert.BranchABwdIdeal.τ).loc Cert.BranchABwdIdeal.main_arg0)
      ∧ r.2.mem ((c.tc : Thread Cert.BranchABwdIdeal.nD Cert.BranchABwdIdeal.τ).loc Cert.BranchABwdIdeal.main_arg1) = m ((c.tc : Thread Cert.BranchABwdIdeal.nD Cert.BranchABwdIdeal.τ).loc Cert.BranchABwdIdeal.main_arg1)
      ∧ r.2.mem ((c.tc : Thread Cert.BranchABwdIdeal.nD Cert.BranchABwdIdeal.τ).loc Cert.BranchABwdIdeal.main_arg2) = m ((c.tc : Thread Cert.BranchABwdIdeal.nD Cert.BranchABwdIdeal.τ).loc Cert.BranchABwdIdeal.main_arg2)
      ∧ r.2.mem ((c.tc : Thread Cert.BranchABwdIdeal.nD Cert.BranchABwdIdeal.τ).loc Cert.BranchABwdIdeal.main_arg3) = m ((c.tc : Thread Cert.BranchABwdIdeal.nD Cert.BranchABwdIdeal.τ).loc Cert.BranchABwdIdeal.main_arg3)
      ∧ r.2.mem ((c.tc : Thread Cert.BranchABwdIdeal.nD Cert.BranchABwdIdeal.τ).loc Cert.BranchABwdIdeal.main_arg4) = m ((c.tc : Thread Cert.BranchABwdIdeal.nD Cert.BranchABwdIdeal.τ).loc Cert.BranchABwdIdeal.main_arg4)
      ∧ r.2.mem ((c.tc : Thread Cert.BranchABwdIdeal.nD Cert.BranchABwdIdeal.τ).loc Cert.BranchABwdIdeal.main_arg5) = m ((c.tc : Thread Cert.BranchABwdIdeal.nD Cert.BranchABwdIdeal.τ).loc Cert.BranchABwdIdeal.main_arg5)
      ∧ r.2.mem ((c.tc : Thread Cert.BranchABwdIdeal.nD Cert.BranchABwdIdeal.τ).loc Cert.BranchABwdIdeal.main_arg6) = m ((c.tc : Thread Cert.BranchABwdIdeal.nD Cert.BranchABwdIdeal.τ).loc Cert.BranchABwdIdeal.main_arg6))
      ∧ r.2.sem = fun _ => 0)

def quiescent_BranchABwdRefIdeal [hBranchABwdRefIdeal : Cert.BranchABwdRefIdeal.Facts] : Prop :=
  ∀ (m : (ℓ : Loc Cert.BranchABwdRefIdeal.nD Cert.BranchABwdRefIdeal.τ Cert.BranchABwdRefIdeal.sig) → Buf (Elt Ideal) ℓ) (g : Dev Cert.BranchABwdRefIdeal.nD → PrngReg), Pre_BranchABwdRefIdeal m →
    θ_run (Cert.BranchABwdRefIdeal.defs (F := Ideal)) (onTc (τ := Cert.BranchABwdRefIdeal.τ) (Cert.BranchABwdRefIdeal.main (F := Ideal))) ⟨m, fun _ => 0, g⟩ (fun r => (∀ c : Dev Cert.BranchABwdRefIdeal.nD,
      r.2.mem ((c.tc : Thread Cert.BranchABwdRefIdeal.nD Cert.BranchABwdRefIdeal.τ).loc Cert.BranchABwdRefIdeal.main_arg0) = m ((c.tc : Thread Cert.BranchABwdRefIdeal.nD Cert.BranchABwdRefIdeal.τ).loc Cert.BranchABwdRefIdeal.main_arg0)
      ∧ r.2.mem ((c.tc : Thread Cert.BranchABwdRefIdeal.nD Cert.BranchABwdRefIdeal.τ).loc Cert.BranchABwdRefIdeal.main_arg1) = m ((c.tc : Thread Cert.BranchABwdRefIdeal.nD Cert.BranchABwdRefIdeal.τ).loc Cert.BranchABwdRefIdeal.main_arg1)
      ∧ r.2.mem ((c.tc : Thread Cert.BranchABwdRefIdeal.nD Cert.BranchABwdRefIdeal.τ).loc Cert.BranchABwdRefIdeal.main_arg2) = m ((c.tc : Thread Cert.BranchABwdRefIdeal.nD Cert.BranchABwdRefIdeal.τ).loc Cert.BranchABwdRefIdeal.main_arg2)
      ∧ r.2.mem ((c.tc : Thread Cert.BranchABwdRefIdeal.nD Cert.BranchABwdRefIdeal.τ).loc Cert.BranchABwdRefIdeal.main_arg3) = m ((c.tc : Thread Cert.BranchABwdRefIdeal.nD Cert.BranchABwdRefIdeal.τ).loc Cert.BranchABwdRefIdeal.main_arg3)
      ∧ r.2.mem ((c.tc : Thread Cert.BranchABwdRefIdeal.nD Cert.BranchABwdRefIdeal.τ).loc Cert.BranchABwdRefIdeal.main_arg4) = m ((c.tc : Thread Cert.BranchABwdRefIdeal.nD Cert.BranchABwdRefIdeal.τ).loc Cert.BranchABwdRefIdeal.main_arg4)
      ∧ r.2.mem ((c.tc : Thread Cert.BranchABwdRefIdeal.nD Cert.BranchABwdRefIdeal.τ).loc Cert.BranchABwdRefIdeal.main_arg5) = m ((c.tc : Thread Cert.BranchABwdRefIdeal.nD Cert.BranchABwdRefIdeal.τ).loc Cert.BranchABwdRefIdeal.main_arg5)
      ∧ r.2.mem ((c.tc : Thread Cert.BranchABwdRefIdeal.nD Cert.BranchABwdRefIdeal.τ).loc Cert.BranchABwdRefIdeal.main_arg6) = m ((c.tc : Thread Cert.BranchABwdRefIdeal.nD Cert.BranchABwdRefIdeal.τ).loc Cert.BranchABwdRefIdeal.main_arg6))
      ∧ r.2.sem = fun _ => 0)

def quiescent_BranchABwdRefIdeal_pre_a_finite [hBranchABwdRefIdeal : Cert.BranchABwdRefIdeal.Facts] [hPre_a_finite : Cert.Pre_a_finite.Facts] : Prop :=
  ∀ (m : (ℓ : Loc Cert.BranchABwdRefIdeal.nD Cert.BranchABwdRefIdeal.τ Cert.BranchABwdRefIdeal.sig) → Buf (Elt Ideal) ℓ) (g : Dev Cert.BranchABwdRefIdeal.nD → PrngReg), Pre_BranchABwdRefIdeal_a_finite m →
    θ_run (Cert.BranchABwdRefIdeal.defs (F := Ideal)) (onTc (τ := Cert.BranchABwdRefIdeal.τ) (Cert.BranchABwdRefIdeal.main (F := Ideal))) ⟨m, fun _ => 0, g⟩ (fun r => (∀ c : Dev Cert.BranchABwdRefIdeal.nD,
      r.2.mem ((c.tc : Thread Cert.BranchABwdRefIdeal.nD Cert.BranchABwdRefIdeal.τ).loc Cert.BranchABwdRefIdeal.main_arg0) = m ((c.tc : Thread Cert.BranchABwdRefIdeal.nD Cert.BranchABwdRefIdeal.τ).loc Cert.BranchABwdRefIdeal.main_arg0)
      ∧ r.2.mem ((c.tc : Thread Cert.BranchABwdRefIdeal.nD Cert.BranchABwdRefIdeal.τ).loc Cert.BranchABwdRefIdeal.main_arg1) = m ((c.tc : Thread Cert.BranchABwdRefIdeal.nD Cert.BranchABwdRefIdeal.τ).loc Cert.BranchABwdRefIdeal.main_arg1)
      ∧ r.2.mem ((c.tc : Thread Cert.BranchABwdRefIdeal.nD Cert.BranchABwdRefIdeal.τ).loc Cert.BranchABwdRefIdeal.main_arg2) = m ((c.tc : Thread Cert.BranchABwdRefIdeal.nD Cert.BranchABwdRefIdeal.τ).loc Cert.BranchABwdRefIdeal.main_arg2)
      ∧ r.2.mem ((c.tc : Thread Cert.BranchABwdRefIdeal.nD Cert.BranchABwdRefIdeal.τ).loc Cert.BranchABwdRefIdeal.main_arg3) = m ((c.tc : Thread Cert.BranchABwdRefIdeal.nD Cert.BranchABwdRefIdeal.τ).loc Cert.BranchABwdRefIdeal.main_arg3)
      ∧ r.2.mem ((c.tc : Thread Cert.BranchABwdRefIdeal.nD Cert.BranchABwdRefIdeal.τ).loc Cert.BranchABwdRefIdeal.main_arg4) = m ((c.tc : Thread Cert.BranchABwdRefIdeal.nD Cert.BranchABwdRefIdeal.τ).loc Cert.BranchABwdRefIdeal.main_arg4)
      ∧ r.2.mem ((c.tc : Thread Cert.BranchABwdRefIdeal.nD Cert.BranchABwdRefIdeal.τ).loc Cert.BranchABwdRefIdeal.main_arg5) = m ((c.tc : Thread Cert.BranchABwdRefIdeal.nD Cert.BranchABwdRefIdeal.τ).loc Cert.BranchABwdRefIdeal.main_arg5)
      ∧ r.2.mem ((c.tc : Thread Cert.BranchABwdRefIdeal.nD Cert.BranchABwdRefIdeal.τ).loc Cert.BranchABwdRefIdeal.main_arg6) = m ((c.tc : Thread Cert.BranchABwdRefIdeal.nD Cert.BranchABwdRefIdeal.τ).loc Cert.BranchABwdRefIdeal.main_arg6))
      ∧ r.2.sem = fun _ => 0)

def quiescent_BranchCBwd [hBranchCBwd : Cert.BranchCBwd.Facts] : Prop :=
  ∀ (m : (ℓ : Loc Cert.BranchCBwd.nD Cert.BranchCBwd.τ Cert.BranchCBwd.sig) → Buf (Elt Bits) ℓ) (g : Dev Cert.BranchCBwd.nD → PrngReg), Pre_BranchCBwd m →
    θ_run (Cert.BranchCBwd.defs (F := Bits)) (onTc (τ := Cert.BranchCBwd.τ) (Cert.BranchCBwd.main (F := Bits))) ⟨m, fun _ => 0, g⟩ (fun r => (∀ c : Dev Cert.BranchCBwd.nD,
      r.2.mem ((c.tc : Thread Cert.BranchCBwd.nD Cert.BranchCBwd.τ).loc Cert.BranchCBwd.main_arg0) = m ((c.tc : Thread Cert.BranchCBwd.nD Cert.BranchCBwd.τ).loc Cert.BranchCBwd.main_arg0)
      ∧ r.2.mem ((c.tc : Thread Cert.BranchCBwd.nD Cert.BranchCBwd.τ).loc Cert.BranchCBwd.main_arg1) = m ((c.tc : Thread Cert.BranchCBwd.nD Cert.BranchCBwd.τ).loc Cert.BranchCBwd.main_arg1)
      ∧ r.2.mem ((c.tc : Thread Cert.BranchCBwd.nD Cert.BranchCBwd.τ).loc Cert.BranchCBwd.main_arg2) = m ((c.tc : Thread Cert.BranchCBwd.nD Cert.BranchCBwd.τ).loc Cert.BranchCBwd.main_arg2)
      ∧ r.2.mem ((c.tc : Thread Cert.BranchCBwd.nD Cert.BranchCBwd.τ).loc Cert.BranchCBwd.main_arg3) = m ((c.tc : Thread Cert.BranchCBwd.nD Cert.BranchCBwd.τ).loc Cert.BranchCBwd.main_arg3))
      ∧ r.2.sem = fun _ => 0)

def quiescent_BranchCBwdIdeal [hBranchCBwdIdeal : Cert.BranchCBwdIdeal.Facts] : Prop :=
  ∀ (m : (ℓ : Loc Cert.BranchCBwdIdeal.nD Cert.BranchCBwdIdeal.τ Cert.BranchCBwdIdeal.sig) → Buf (Elt Ideal) ℓ) (g : Dev Cert.BranchCBwdIdeal.nD → PrngReg), Pre_BranchCBwdIdeal m →
    θ_run (Cert.BranchCBwdIdeal.defs (F := Ideal)) (onTc (τ := Cert.BranchCBwdIdeal.τ) (Cert.BranchCBwdIdeal.main (F := Ideal))) ⟨m, fun _ => 0, g⟩ (fun r => (∀ c : Dev Cert.BranchCBwdIdeal.nD,
      r.2.mem ((c.tc : Thread Cert.BranchCBwdIdeal.nD Cert.BranchCBwdIdeal.τ).loc Cert.BranchCBwdIdeal.main_arg0) = m ((c.tc : Thread Cert.BranchCBwdIdeal.nD Cert.BranchCBwdIdeal.τ).loc Cert.BranchCBwdIdeal.main_arg0)
      ∧ r.2.mem ((c.tc : Thread Cert.BranchCBwdIdeal.nD Cert.BranchCBwdIdeal.τ).loc Cert.BranchCBwdIdeal.main_arg1) = m ((c.tc : Thread Cert.BranchCBwdIdeal.nD Cert.BranchCBwdIdeal.τ).loc Cert.BranchCBwdIdeal.main_arg1)
      ∧ r.2.mem ((c.tc : Thread Cert.BranchCBwdIdeal.nD Cert.BranchCBwdIdeal.τ).loc Cert.BranchCBwdIdeal.main_arg2) = m ((c.tc : Thread Cert.BranchCBwdIdeal.nD Cert.BranchCBwdIdeal.τ).loc Cert.BranchCBwdIdeal.main_arg2)
      ∧ r.2.mem ((c.tc : Thread Cert.BranchCBwdIdeal.nD Cert.BranchCBwdIdeal.τ).loc Cert.BranchCBwdIdeal.main_arg3) = m ((c.tc : Thread Cert.BranchCBwdIdeal.nD Cert.BranchCBwdIdeal.τ).loc Cert.BranchCBwdIdeal.main_arg3))
      ∧ r.2.sem = fun _ => 0)

def quiescent_BranchCBwdIdeal_pre_c_finite [hBranchCBwdIdeal : Cert.BranchCBwdIdeal.Facts] [hPre_c_finite : Cert.Pre_c_finite.Facts] : Prop :=
  ∀ (m : (ℓ : Loc Cert.BranchCBwdIdeal.nD Cert.BranchCBwdIdeal.τ Cert.BranchCBwdIdeal.sig) → Buf (Elt Ideal) ℓ) (g : Dev Cert.BranchCBwdIdeal.nD → PrngReg), Pre_BranchCBwdIdeal_c_finite m →
    θ_run (Cert.BranchCBwdIdeal.defs (F := Ideal)) (onTc (τ := Cert.BranchCBwdIdeal.τ) (Cert.BranchCBwdIdeal.main (F := Ideal))) ⟨m, fun _ => 0, g⟩ (fun r => (∀ c : Dev Cert.BranchCBwdIdeal.nD,
      r.2.mem ((c.tc : Thread Cert.BranchCBwdIdeal.nD Cert.BranchCBwdIdeal.τ).loc Cert.BranchCBwdIdeal.main_arg0) = m ((c.tc : Thread Cert.BranchCBwdIdeal.nD Cert.BranchCBwdIdeal.τ).loc Cert.BranchCBwdIdeal.main_arg0)
      ∧ r.2.mem ((c.tc : Thread Cert.BranchCBwdIdeal.nD Cert.BranchCBwdIdeal.τ).loc Cert.BranchCBwdIdeal.main_arg1) = m ((c.tc : Thread Cert.BranchCBwdIdeal.nD Cert.BranchCBwdIdeal.τ).loc Cert.BranchCBwdIdeal.main_arg1)
      ∧ r.2.mem ((c.tc : Thread Cert.BranchCBwdIdeal.nD Cert.BranchCBwdIdeal.τ).loc Cert.BranchCBwdIdeal.main_arg2) = m ((c.tc : Thread Cert.BranchCBwdIdeal.nD Cert.BranchCBwdIdeal.τ).loc Cert.BranchCBwdIdeal.main_arg2)
      ∧ r.2.mem ((c.tc : Thread Cert.BranchCBwdIdeal.nD Cert.BranchCBwdIdeal.τ).loc Cert.BranchCBwdIdeal.main_arg3) = m ((c.tc : Thread Cert.BranchCBwdIdeal.nD Cert.BranchCBwdIdeal.τ).loc Cert.BranchCBwdIdeal.main_arg3))
      ∧ r.2.sem = fun _ => 0)

def quiescent_BranchCBwdRefIdeal [hBranchCBwdRefIdeal : Cert.BranchCBwdRefIdeal.Facts] : Prop :=
  ∀ (m : (ℓ : Loc Cert.BranchCBwdRefIdeal.nD Cert.BranchCBwdRefIdeal.τ Cert.BranchCBwdRefIdeal.sig) → Buf (Elt Ideal) ℓ) (g : Dev Cert.BranchCBwdRefIdeal.nD → PrngReg), Pre_BranchCBwdRefIdeal m →
    θ_run (Cert.BranchCBwdRefIdeal.defs (F := Ideal)) (onTc (τ := Cert.BranchCBwdRefIdeal.τ) (Cert.BranchCBwdRefIdeal.main (F := Ideal))) ⟨m, fun _ => 0, g⟩ (fun r => (∀ c : Dev Cert.BranchCBwdRefIdeal.nD,
      r.2.mem ((c.tc : Thread Cert.BranchCBwdRefIdeal.nD Cert.BranchCBwdRefIdeal.τ).loc Cert.BranchCBwdRefIdeal.main_arg0) = m ((c.tc : Thread Cert.BranchCBwdRefIdeal.nD Cert.BranchCBwdRefIdeal.τ).loc Cert.BranchCBwdRefIdeal.main_arg0)
      ∧ r.2.mem ((c.tc : Thread Cert.BranchCBwdRefIdeal.nD Cert.BranchCBwdRefIdeal.τ).loc Cert.BranchCBwdRefIdeal.main_arg1) = m ((c.tc : Thread Cert.BranchCBwdRefIdeal.nD Cert.BranchCBwdRefIdeal.τ).loc Cert.BranchCBwdRefIdeal.main_arg1)
      ∧ r.2.mem ((c.tc : Thread Cert.BranchCBwdRefIdeal.nD Cert.BranchCBwdRefIdeal.τ).loc Cert.BranchCBwdRefIdeal.main_arg2) = m ((c.tc : Thread Cert.BranchCBwdRefIdeal.nD Cert.BranchCBwdRefIdeal.τ).loc Cert.BranchCBwdRefIdeal.main_arg2)
      ∧ r.2.mem ((c.tc : Thread Cert.BranchCBwdRefIdeal.nD Cert.BranchCBwdRefIdeal.τ).loc Cert.BranchCBwdRefIdeal.main_arg3) = m ((c.tc : Thread Cert.BranchCBwdRefIdeal.nD Cert.BranchCBwdRefIdeal.τ).loc Cert.BranchCBwdRefIdeal.main_arg3))
      ∧ r.2.sem = fun _ => 0)

def quiescent_BranchCBwdRefIdeal_pre_c_finite [hBranchCBwdRefIdeal : Cert.BranchCBwdRefIdeal.Facts] [hPre_c_finite : Cert.Pre_c_finite.Facts] : Prop :=
  ∀ (m : (ℓ : Loc Cert.BranchCBwdRefIdeal.nD Cert.BranchCBwdRefIdeal.τ Cert.BranchCBwdRefIdeal.sig) → Buf (Elt Ideal) ℓ) (g : Dev Cert.BranchCBwdRefIdeal.nD → PrngReg), Pre_BranchCBwdRefIdeal_c_finite m →
    θ_run (Cert.BranchCBwdRefIdeal.defs (F := Ideal)) (onTc (τ := Cert.BranchCBwdRefIdeal.τ) (Cert.BranchCBwdRefIdeal.main (F := Ideal))) ⟨m, fun _ => 0, g⟩ (fun r => (∀ c : Dev Cert.BranchCBwdRefIdeal.nD,
      r.2.mem ((c.tc : Thread Cert.BranchCBwdRefIdeal.nD Cert.BranchCBwdRefIdeal.τ).loc Cert.BranchCBwdRefIdeal.main_arg0) = m ((c.tc : Thread Cert.BranchCBwdRefIdeal.nD Cert.BranchCBwdRefIdeal.τ).loc Cert.BranchCBwdRefIdeal.main_arg0)
      ∧ r.2.mem ((c.tc : Thread Cert.BranchCBwdRefIdeal.nD Cert.BranchCBwdRefIdeal.τ).loc Cert.BranchCBwdRefIdeal.main_arg1) = m ((c.tc : Thread Cert.BranchCBwdRefIdeal.nD Cert.BranchCBwdRefIdeal.τ).loc Cert.BranchCBwdRefIdeal.main_arg1)
      ∧ r.2.mem ((c.tc : Thread Cert.BranchCBwdRefIdeal.nD Cert.BranchCBwdRefIdeal.τ).loc Cert.BranchCBwdRefIdeal.main_arg2) = m ((c.tc : Thread Cert.BranchCBwdRefIdeal.nD Cert.BranchCBwdRefIdeal.τ).loc Cert.BranchCBwdRefIdeal.main_arg2)
      ∧ r.2.mem ((c.tc : Thread Cert.BranchCBwdRefIdeal.nD Cert.BranchCBwdRefIdeal.τ).loc Cert.BranchCBwdRefIdeal.main_arg3) = m ((c.tc : Thread Cert.BranchCBwdRefIdeal.nD Cert.BranchCBwdRefIdeal.τ).loc Cert.BranchCBwdRefIdeal.main_arg3))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_o_finite [hOutBwdIdeal : Cert.OutBwdIdeal.Facts] [hPre_o_finite : Cert.Pre_o_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_o_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_OutBwdRefIdeal_pre_o_finite [hOutBwdRefIdeal : Cert.OutBwdRefIdeal.Facts] [hPre_o_finite : Cert.Pre_o_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_o_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_BranchAFwd [hBranchAFwd : Cert.BranchAFwd.Facts] : Prop :=
  ∀ (m : (ℓ : Loc Cert.BranchAFwd.nD Cert.BranchAFwd.τ Cert.BranchAFwd.sig) → Buf (Elt Bits) ℓ) (g : Dev Cert.BranchAFwd.nD → PrngReg), Pre_BranchAFwd m →
    θ_run (Cert.BranchAFwd.defs (F := Bits)) (onTc (τ := Cert.BranchAFwd.τ) (Cert.BranchAFwd.main (F := Bits))) ⟨m, fun _ => 0, g⟩ (fun r => (∀ c : Dev Cert.BranchAFwd.nD,
      r.2.mem ((c.tc : Thread Cert.BranchAFwd.nD Cert.BranchAFwd.τ).loc Cert.BranchAFwd.main_arg0) = m ((c.tc : Thread Cert.BranchAFwd.nD Cert.BranchAFwd.τ).loc Cert.BranchAFwd.main_arg0)
      ∧ r.2.mem ((c.tc : Thread Cert.BranchAFwd.nD Cert.BranchAFwd.τ).loc Cert.BranchAFwd.main_arg1) = m ((c.tc : Thread Cert.BranchAFwd.nD Cert.BranchAFwd.τ).loc Cert.BranchAFwd.main_arg1)
      ∧ r.2.mem ((c.tc : Thread Cert.BranchAFwd.nD Cert.BranchAFwd.τ).loc Cert.BranchAFwd.main_arg2) = m ((c.tc : Thread Cert.BranchAFwd.nD Cert.BranchAFwd.τ).loc Cert.BranchAFwd.main_arg2)
      ∧ r.2.mem ((c.tc : Thread Cert.BranchAFwd.nD Cert.BranchAFwd.τ).loc Cert.BranchAFwd.main_arg3) = m ((c.tc : Thread Cert.BranchAFwd.nD Cert.BranchAFwd.τ).loc Cert.BranchAFwd.main_arg3)
      ∧ r.2.mem ((c.tc : Thread Cert.BranchAFwd.nD Cert.BranchAFwd.τ).loc Cert.BranchAFwd.main_arg4) = m ((c.tc : Thread Cert.BranchAFwd.nD Cert.BranchAFwd.τ).loc Cert.BranchAFwd.main_arg4))
      ∧ r.2.sem = fun _ => 0)

def quiescent_BranchAFwdIdeal [hBranchAFwdIdeal : Cert.BranchAFwdIdeal.Facts] : Prop :=
  ∀ (m : (ℓ : Loc Cert.BranchAFwdIdeal.nD Cert.BranchAFwdIdeal.τ Cert.BranchAFwdIdeal.sig) → Buf (Elt Ideal) ℓ) (g : Dev Cert.BranchAFwdIdeal.nD → PrngReg), Pre_BranchAFwdIdeal m →
    θ_run (Cert.BranchAFwdIdeal.defs (F := Ideal)) (onTc (τ := Cert.BranchAFwdIdeal.τ) (Cert.BranchAFwdIdeal.main (F := Ideal))) ⟨m, fun _ => 0, g⟩ (fun r => (∀ c : Dev Cert.BranchAFwdIdeal.nD,
      r.2.mem ((c.tc : Thread Cert.BranchAFwdIdeal.nD Cert.BranchAFwdIdeal.τ).loc Cert.BranchAFwdIdeal.main_arg0) = m ((c.tc : Thread Cert.BranchAFwdIdeal.nD Cert.BranchAFwdIdeal.τ).loc Cert.BranchAFwdIdeal.main_arg0)
      ∧ r.2.mem ((c.tc : Thread Cert.BranchAFwdIdeal.nD Cert.BranchAFwdIdeal.τ).loc Cert.BranchAFwdIdeal.main_arg1) = m ((c.tc : Thread Cert.BranchAFwdIdeal.nD Cert.BranchAFwdIdeal.τ).loc Cert.BranchAFwdIdeal.main_arg1)
      ∧ r.2.mem ((c.tc : Thread Cert.BranchAFwdIdeal.nD Cert.BranchAFwdIdeal.τ).loc Cert.BranchAFwdIdeal.main_arg2) = m ((c.tc : Thread Cert.BranchAFwdIdeal.nD Cert.BranchAFwdIdeal.τ).loc Cert.BranchAFwdIdeal.main_arg2)
      ∧ r.2.mem ((c.tc : Thread Cert.BranchAFwdIdeal.nD Cert.BranchAFwdIdeal.τ).loc Cert.BranchAFwdIdeal.main_arg3) = m ((c.tc : Thread Cert.BranchAFwdIdeal.nD Cert.BranchAFwdIdeal.τ).loc Cert.BranchAFwdIdeal.main_arg3)
      ∧ r.2.mem ((c.tc : Thread Cert.BranchAFwdIdeal.nD Cert.BranchAFwdIdeal.τ).loc Cert.BranchAFwdIdeal.main_arg4) = m ((c.tc : Thread Cert.BranchAFwdIdeal.nD Cert.BranchAFwdIdeal.τ).loc Cert.BranchAFwdIdeal.main_arg4))
      ∧ r.2.sem = fun _ => 0)

def quiescent_BranchAFwdRefIdeal [hBranchAFwdRefIdeal : Cert.BranchAFwdRefIdeal.Facts] : Prop :=
  ∀ (m : (ℓ : Loc Cert.BranchAFwdRefIdeal.nD Cert.BranchAFwdRefIdeal.τ Cert.BranchAFwdRefIdeal.sig) → Buf (Elt Ideal) ℓ) (g : Dev Cert.BranchAFwdRefIdeal.nD → PrngReg), Pre_BranchAFwdRefIdeal m →
    θ_run (Cert.BranchAFwdRefIdeal.defs (F := Ideal)) (onTc (τ := Cert.BranchAFwdRefIdeal.τ) (Cert.BranchAFwdRefIdeal.main (F := Ideal))) ⟨m, fun _ => 0, g⟩ (fun r => (∀ c : Dev Cert.BranchAFwdRefIdeal.nD,
      r.2.mem ((c.tc : Thread Cert.BranchAFwdRefIdeal.nD Cert.BranchAFwdRefIdeal.τ).loc Cert.BranchAFwdRefIdeal.main_arg0) = m ((c.tc : Thread Cert.BranchAFwdRefIdeal.nD Cert.BranchAFwdRefIdeal.τ).loc Cert.BranchAFwdRefIdeal.main_arg0)
      ∧ r.2.mem ((c.tc : Thread Cert.BranchAFwdRefIdeal.nD Cert.BranchAFwdRefIdeal.τ).loc Cert.BranchAFwdRefIdeal.main_arg1) = m ((c.tc : Thread Cert.BranchAFwdRefIdeal.nD Cert.BranchAFwdRefIdeal.τ).loc Cert.BranchAFwdRefIdeal.main_arg1)
      ∧ r.2.mem ((c.tc : Thread Cert.BranchAFwdRefIdeal.nD Cert.BranchAFwdRefIdeal.τ).loc Cert.BranchAFwdRefIdeal.main_arg2) = m ((c.tc : Thread Cert.BranchAFwdRefIdeal.nD Cert.BranchAFwdRefIdeal.τ).loc Cert.BranchAFwdRefIdeal.main_arg2)
      ∧ r.2.mem ((c.tc : Thread Cert.BranchAFwdRefIdeal.nD Cert.BranchAFwdRefIdeal.τ).loc Cert.BranchAFwdRefIdeal.main_arg3) = m ((c.tc : Thread Cert.BranchAFwdRefIdeal.nD Cert.BranchAFwdRefIdeal.τ).loc Cert.BranchAFwdRefIdeal.main_arg3)
      ∧ r.2.mem ((c.tc : Thread Cert.BranchAFwdRefIdeal.nD Cert.BranchAFwdRefIdeal.τ).loc Cert.BranchAFwdRefIdeal.main_arg4) = m ((c.tc : Thread Cert.BranchAFwdRefIdeal.nD Cert.BranchAFwdRefIdeal.τ).loc Cert.BranchAFwdRefIdeal.main_arg4))
      ∧ r.2.sem = fun _ => 0)

def quiescent_BranchCFwd [hBranchCFwd : Cert.BranchCFwd.Facts] : Prop :=
  ∀ (m : (ℓ : Loc Cert.BranchCFwd.nD Cert.BranchCFwd.τ Cert.BranchCFwd.sig) → Buf (Elt Bits) ℓ) (g : Dev Cert.BranchCFwd.nD → PrngReg), Pre_BranchCFwd m →
    θ_run (Cert.BranchCFwd.defs (F := Bits)) (onTc (τ := Cert.BranchCFwd.τ) (Cert.BranchCFwd.main (F := Bits))) ⟨m, fun _ => 0, g⟩ (fun r => (∀ c : Dev Cert.BranchCFwd.nD,
      r.2.mem ((c.tc : Thread Cert.BranchCFwd.nD Cert.BranchCFwd.τ).loc Cert.BranchCFwd.main_arg0) = m ((c.tc : Thread Cert.BranchCFwd.nD Cert.BranchCFwd.τ).loc Cert.BranchCFwd.main_arg0)
      ∧ r.2.mem ((c.tc : Thread Cert.BranchCFwd.nD Cert.BranchCFwd.τ).loc Cert.BranchCFwd.main_arg1) = m ((c.tc : Thread Cert.BranchCFwd.nD Cert.BranchCFwd.τ).loc Cert.BranchCFwd.main_arg1))
      ∧ r.2.sem = fun _ => 0)

def quiescent_BranchCFwdIdeal [hBranchCFwdIdeal : Cert.BranchCFwdIdeal.Facts] : Prop :=
  ∀ (m : (ℓ : Loc Cert.BranchCFwdIdeal.nD Cert.BranchCFwdIdeal.τ Cert.BranchCFwdIdeal.sig) → Buf (Elt Ideal) ℓ) (g : Dev Cert.BranchCFwdIdeal.nD → PrngReg), Pre_BranchCFwdIdeal m →
    θ_run (Cert.BranchCFwdIdeal.defs (F := Ideal)) (onTc (τ := Cert.BranchCFwdIdeal.τ) (Cert.BranchCFwdIdeal.main (F := Ideal))) ⟨m, fun _ => 0, g⟩ (fun r => (∀ c : Dev Cert.BranchCFwdIdeal.nD,
      r.2.mem ((c.tc : Thread Cert.BranchCFwdIdeal.nD Cert.BranchCFwdIdeal.τ).loc Cert.BranchCFwdIdeal.main_arg0) = m ((c.tc : Thread Cert.BranchCFwdIdeal.nD Cert.BranchCFwdIdeal.τ).loc Cert.BranchCFwdIdeal.main_arg0)
      ∧ r.2.mem ((c.tc : Thread Cert.BranchCFwdIdeal.nD Cert.BranchCFwdIdeal.τ).loc Cert.BranchCFwdIdeal.main_arg1) = m ((c.tc : Thread Cert.BranchCFwdIdeal.nD Cert.BranchCFwdIdeal.τ).loc Cert.BranchCFwdIdeal.main_arg1))
      ∧ r.2.sem = fun _ => 0)

def quiescent_BranchCFwdRefIdeal [hBranchCFwdRefIdeal : Cert.BranchCFwdRefIdeal.Facts] : Prop :=
  ∀ (m : (ℓ : Loc Cert.BranchCFwdRefIdeal.nD Cert.BranchCFwdRefIdeal.τ Cert.BranchCFwdRefIdeal.sig) → Buf (Elt Ideal) ℓ) (g : Dev Cert.BranchCFwdRefIdeal.nD → PrngReg), Pre_BranchCFwdRefIdeal m →
    θ_run (Cert.BranchCFwdRefIdeal.defs (F := Ideal)) (onTc (τ := Cert.BranchCFwdRefIdeal.τ) (Cert.BranchCFwdRefIdeal.main (F := Ideal))) ⟨m, fun _ => 0, g⟩ (fun r => (∀ c : Dev Cert.BranchCFwdRefIdeal.nD,
      r.2.mem ((c.tc : Thread Cert.BranchCFwdRefIdeal.nD Cert.BranchCFwdRefIdeal.τ).loc Cert.BranchCFwdRefIdeal.main_arg0) = m ((c.tc : Thread Cert.BranchCFwdRefIdeal.nD Cert.BranchCFwdRefIdeal.τ).loc Cert.BranchCFwdRefIdeal.main_arg0)
      ∧ r.2.mem ((c.tc : Thread Cert.BranchCFwdRefIdeal.nD Cert.BranchCFwdRefIdeal.τ).loc Cert.BranchCFwdRefIdeal.main_arg1) = m ((c.tc : Thread Cert.BranchCFwdRefIdeal.nD Cert.BranchCFwdRefIdeal.τ).loc Cert.BranchCFwdRefIdeal.main_arg1))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3)
      ∧ r.2.mem ((c.tc : Thread Cert.MergeOut.nD Cert.MergeOut.τ).loc Cert.MergeOut.main_arg4) = m ((c.tc : Thread Cert.MergeOut.nD Cert.MergeOut.τ).loc Cert.MergeOut.main_arg4)
      ∧ r.2.mem ((c.tc : Thread Cert.MergeOut.nD Cert.MergeOut.τ).loc Cert.MergeOut.main_arg5) = m ((c.tc : Thread Cert.MergeOut.nD Cert.MergeOut.τ).loc Cert.MergeOut.main_arg5)
      ∧ r.2.mem ((c.tc : Thread Cert.MergeOut.nD Cert.MergeOut.τ).loc Cert.MergeOut.main_arg6) = m ((c.tc : Thread Cert.MergeOut.nD Cert.MergeOut.τ).loc Cert.MergeOut.main_arg6))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
      ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
      ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
      ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3)
      ∧ r.2.mem ((c.tc : Thread Cert.MergeOutRefIdeal.nD Cert.MergeOutRefIdeal.τ).loc Cert.MergeOutRefIdeal.main_arg4) = m ((c.tc : Thread Cert.MergeOutRefIdeal.nD Cert.MergeOutRefIdeal.τ).loc Cert.MergeOutRefIdeal.main_arg4)
      ∧ r.2.mem ((c.tc : Thread Cert.MergeOutRefIdeal.nD Cert.MergeOutRefIdeal.τ).loc Cert.MergeOutRefIdeal.main_arg5) = m ((c.tc : Thread Cert.MergeOutRefIdeal.nD Cert.MergeOutRefIdeal.τ).loc Cert.MergeOutRefIdeal.main_arg5)
      ∧ r.2.mem ((c.tc : Thread Cert.MergeOutRefIdeal.nD Cert.MergeOutRefIdeal.τ).loc Cert.MergeOutRefIdeal.main_arg6) = m ((c.tc : Thread Cert.MergeOutRefIdeal.nD Cert.MergeOutRefIdeal.τ).loc Cert.MergeOutRefIdeal.main_arg6))
      ∧ r.2.sem = fun _ => 0)

def quiescent_MmDwin [hMmDwin : Cert.MmDwin.Facts] : Prop :=
  ∀ (m : (ℓ : Loc Cert.MmDwin.nD Cert.MmDwin.τ Cert.MmDwin.sig) → Buf (Elt Bits) ℓ) (g : Dev Cert.MmDwin.nD → PrngReg), Pre_MmDwin m →
    θ_run (Cert.MmDwin.defs (F := Bits)) (onTc (τ := Cert.MmDwin.τ) (Cert.MmDwin.main (F := Bits))) ⟨m, fun _ => 0, g⟩ (fun r => (∀ c : Dev Cert.MmDwin.nD,
      r.2.mem ((c.tc : Thread Cert.MmDwin.nD Cert.MmDwin.τ).loc Cert.MmDwin.main_arg0) = m ((c.tc : Thread Cert.MmDwin.nD Cert.MmDwin.τ).loc Cert.MmDwin.main_arg0)
      ∧ r.2.mem ((c.tc : Thread Cert.MmDwin.nD Cert.MmDwin.τ).loc Cert.MmDwin.main_arg1) = m ((c.tc : Thread Cert.MmDwin.nD Cert.MmDwin.τ).loc Cert.MmDwin.main_arg1))
      ∧ r.2.sem = fun _ => 0)

def quiescent_MmDwinIdeal [hMmDwinIdeal : Cert.MmDwinIdeal.Facts] : Prop :=
  ∀ (m : (ℓ : Loc Cert.MmDwinIdeal.nD Cert.MmDwinIdeal.τ Cert.MmDwinIdeal.sig) → Buf (Elt Ideal) ℓ) (g : Dev Cert.MmDwinIdeal.nD → PrngReg), Pre_MmDwinIdeal m →
    θ_run (Cert.MmDwinIdeal.defs (F := Ideal)) (onTc (τ := Cert.MmDwinIdeal.τ) (Cert.MmDwinIdeal.main (F := Ideal))) ⟨m, fun _ => 0, g⟩ (fun r => (∀ c : Dev Cert.MmDwinIdeal.nD,
      r.2.mem ((c.tc : Thread Cert.MmDwinIdeal.nD Cert.MmDwinIdeal.τ).loc Cert.MmDwinIdeal.main_arg0) = m ((c.tc : Thread Cert.MmDwinIdeal.nD Cert.MmDwinIdeal.τ).loc Cert.MmDwinIdeal.main_arg0)
      ∧ r.2.mem ((c.tc : Thread Cert.MmDwinIdeal.nD Cert.MmDwinIdeal.τ).loc Cert.MmDwinIdeal.main_arg1) = m ((c.tc : Thread Cert.MmDwinIdeal.nD Cert.MmDwinIdeal.τ).loc Cert.MmDwinIdeal.main_arg1))
      ∧ r.2.sem = fun _ => 0)

def quiescent_MmDwinRefIdeal [hMmDwinRefIdeal : Cert.MmDwinRefIdeal.Facts] : Prop :=
  ∀ (m : (ℓ : Loc Cert.MmDwinRefIdeal.nD Cert.MmDwinRefIdeal.τ Cert.MmDwinRefIdeal.sig) → Buf (Elt Ideal) ℓ) (g : Dev Cert.MmDwinRefIdeal.nD → PrngReg), Pre_MmDwinRefIdeal m →
    θ_run (Cert.MmDwinRefIdeal.defs (F := Ideal)) (onTc (τ := Cert.MmDwinRefIdeal.τ) (Cert.MmDwinRefIdeal.main (F := Ideal))) ⟨m, fun _ => 0, g⟩ (fun r => (∀ c : Dev Cert.MmDwinRefIdeal.nD,
      r.2.mem ((c.tc : Thread Cert.MmDwinRefIdeal.nD Cert.MmDwinRefIdeal.τ).loc Cert.MmDwinRefIdeal.main_arg0) = m ((c.tc : Thread Cert.MmDwinRefIdeal.nD Cert.MmDwinRefIdeal.τ).loc Cert.MmDwinRefIdeal.main_arg0)
      ∧ r.2.mem ((c.tc : Thread Cert.MmDwinRefIdeal.nD Cert.MmDwinRefIdeal.τ).loc Cert.MmDwinRefIdeal.main_arg1) = m ((c.tc : Thread Cert.MmDwinRefIdeal.nD Cert.MmDwinRefIdeal.τ).loc Cert.MmDwinRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_AdamwFlat [hAdamwFlat : Cert.AdamwFlat.Facts] : Prop :=
  ∀ (m : (ℓ : Loc Cert.AdamwFlat.nD Cert.AdamwFlat.τ Cert.AdamwFlat.sig) → Buf (Elt Bits) ℓ) (g : Dev Cert.AdamwFlat.nD → PrngReg), Pre_AdamwFlat m →
    θ_run (Cert.AdamwFlat.defs (F := Bits)) (onTc (τ := Cert.AdamwFlat.τ) (Cert.AdamwFlat.main (F := Bits))) ⟨m, fun _ => 0, g⟩ (fun r => (∀ c : Dev Cert.AdamwFlat.nD,
      r.2.mem ((c.tc : Thread Cert.AdamwFlat.nD Cert.AdamwFlat.τ).loc Cert.AdamwFlat.main_arg0) = m ((c.tc : Thread Cert.AdamwFlat.nD Cert.AdamwFlat.τ).loc Cert.AdamwFlat.main_arg0)
      ∧ r.2.mem ((c.tc : Thread Cert.AdamwFlat.nD Cert.AdamwFlat.τ).loc Cert.AdamwFlat.main_arg1) = m ((c.tc : Thread Cert.AdamwFlat.nD Cert.AdamwFlat.τ).loc Cert.AdamwFlat.main_arg1)
      ∧ r.2.mem ((c.tc : Thread Cert.AdamwFlat.nD Cert.AdamwFlat.τ).loc Cert.AdamwFlat.main_arg2) = m ((c.tc : Thread Cert.AdamwFlat.nD Cert.AdamwFlat.τ).loc Cert.AdamwFlat.main_arg2)
      ∧ r.2.mem ((c.tc : Thread Cert.AdamwFlat.nD Cert.AdamwFlat.τ).loc Cert.AdamwFlat.main_arg3) = m ((c.tc : Thread Cert.AdamwFlat.nD Cert.AdamwFlat.τ).loc Cert.AdamwFlat.main_arg3)
      ∧ r.2.mem ((c.tc : Thread Cert.AdamwFlat.nD Cert.AdamwFlat.τ).loc Cert.AdamwFlat.main_arg4) = m ((c.tc : Thread Cert.AdamwFlat.nD Cert.AdamwFlat.τ).loc Cert.AdamwFlat.main_arg4)
      ∧ r.2.mem ((c.tc : Thread Cert.AdamwFlat.nD Cert.AdamwFlat.τ).loc Cert.AdamwFlat.main_arg5) = m ((c.tc : Thread Cert.AdamwFlat.nD Cert.AdamwFlat.τ).loc Cert.AdamwFlat.main_arg5)
      ∧ r.2.mem ((c.tc : Thread Cert.AdamwFlat.nD Cert.AdamwFlat.τ).loc Cert.AdamwFlat.main_arg6) = m ((c.tc : Thread Cert.AdamwFlat.nD Cert.AdamwFlat.τ).loc Cert.AdamwFlat.main_arg6)
      ∧ r.2.mem ((c.tc : Thread Cert.AdamwFlat.nD Cert.AdamwFlat.τ).loc Cert.AdamwFlat.main_arg7) = m ((c.tc : Thread Cert.AdamwFlat.nD Cert.AdamwFlat.τ).loc Cert.AdamwFlat.main_arg7)
      ∧ r.2.mem ((c.tc : Thread Cert.AdamwFlat.nD Cert.AdamwFlat.τ).loc Cert.AdamwFlat.main_arg8) = m ((c.tc : Thread Cert.AdamwFlat.nD Cert.AdamwFlat.τ).loc Cert.AdamwFlat.main_arg8)
      ∧ r.2.mem ((c.tc : Thread Cert.AdamwFlat.nD Cert.AdamwFlat.τ).loc Cert.AdamwFlat.main_arg9) = m ((c.tc : Thread Cert.AdamwFlat.nD Cert.AdamwFlat.τ).loc Cert.AdamwFlat.main_arg9)
      ∧ r.2.mem ((c.tc : Thread Cert.AdamwFlat.nD Cert.AdamwFlat.τ).loc Cert.AdamwFlat.main_arg10) = m ((c.tc : Thread Cert.AdamwFlat.nD Cert.AdamwFlat.τ).loc Cert.AdamwFlat.main_arg10)
      ∧ r.2.mem ((c.tc : Thread Cert.AdamwFlat.nD Cert.AdamwFlat.τ).loc Cert.AdamwFlat.main_arg11) = m ((c.tc : Thread Cert.AdamwFlat.nD Cert.AdamwFlat.τ).loc Cert.AdamwFlat.main_arg11)
      ∧ r.2.mem ((c.tc : Thread Cert.AdamwFlat.nD Cert.AdamwFlat.τ).loc Cert.AdamwFlat.main_arg12) = m ((c.tc : Thread Cert.AdamwFlat.nD Cert.AdamwFlat.τ).loc Cert.AdamwFlat.main_arg12)
      ∧ r.2.mem ((c.tc : Thread Cert.AdamwFlat.nD Cert.AdamwFlat.τ).loc Cert.AdamwFlat.main_arg13) = m ((c.tc : Thread Cert.AdamwFlat.nD Cert.AdamwFlat.τ).loc Cert.AdamwFlat.main_arg13)
      ∧ r.2.mem ((c.tc : Thread Cert.AdamwFlat.nD Cert.AdamwFlat.τ).loc Cert.AdamwFlat.main_arg14) = m ((c.tc : Thread Cert.AdamwFlat.nD Cert.AdamwFlat.τ).loc Cert.AdamwFlat.main_arg14)
      ∧ r.2.mem ((c.tc : Thread Cert.AdamwFlat.nD Cert.AdamwFlat.τ).loc Cert.AdamwFlat.main_arg15) = m ((c.tc : Thread Cert.AdamwFlat.nD Cert.AdamwFlat.τ).loc Cert.AdamwFlat.main_arg15)
      ∧ r.2.mem ((c.tc : Thread Cert.AdamwFlat.nD Cert.AdamwFlat.τ).loc Cert.AdamwFlat.main_arg16) = m ((c.tc : Thread Cert.AdamwFlat.nD Cert.AdamwFlat.τ).loc Cert.AdamwFlat.main_arg16)
      ∧ r.2.mem ((c.tc : Thread Cert.AdamwFlat.nD Cert.AdamwFlat.τ).loc Cert.AdamwFlat.main_arg17) = m ((c.tc : Thread Cert.AdamwFlat.nD Cert.AdamwFlat.τ).loc Cert.AdamwFlat.main_arg17)
      ∧ r.2.mem ((c.tc : Thread Cert.AdamwFlat.nD Cert.AdamwFlat.τ).loc Cert.AdamwFlat.main_arg18) = m ((c.tc : Thread Cert.AdamwFlat.nD Cert.AdamwFlat.τ).loc Cert.AdamwFlat.main_arg18)
      ∧ r.2.mem ((c.tc : Thread Cert.AdamwFlat.nD Cert.AdamwFlat.τ).loc Cert.AdamwFlat.main_arg19) = m ((c.tc : Thread Cert.AdamwFlat.nD Cert.AdamwFlat.τ).loc Cert.AdamwFlat.main_arg19)
      ∧ r.2.mem ((c.tc : Thread Cert.AdamwFlat.nD Cert.AdamwFlat.τ).loc Cert.AdamwFlat.main_arg20) = m ((c.tc : Thread Cert.AdamwFlat.nD Cert.AdamwFlat.τ).loc Cert.AdamwFlat.main_arg20)
      ∧ r.2.mem ((c.tc : Thread Cert.AdamwFlat.nD Cert.AdamwFlat.τ).loc Cert.AdamwFlat.main_arg21) = m ((c.tc : Thread Cert.AdamwFlat.nD Cert.AdamwFlat.τ).loc Cert.AdamwFlat.main_arg21)
      ∧ r.2.mem ((c.tc : Thread Cert.AdamwFlat.nD Cert.AdamwFlat.τ).loc Cert.AdamwFlat.main_arg22) = m ((c.tc : Thread Cert.AdamwFlat.nD Cert.AdamwFlat.τ).loc Cert.AdamwFlat.main_arg22)
      ∧ r.2.mem ((c.tc : Thread Cert.AdamwFlat.nD Cert.AdamwFlat.τ).loc Cert.AdamwFlat.main_arg23) = m ((c.tc : Thread Cert.AdamwFlat.nD Cert.AdamwFlat.τ).loc Cert.AdamwFlat.main_arg23)
      ∧ r.2.mem ((c.tc : Thread Cert.AdamwFlat.nD Cert.AdamwFlat.τ).loc Cert.AdamwFlat.main_arg24) = m ((c.tc : Thread Cert.AdamwFlat.nD Cert.AdamwFlat.τ).loc Cert.AdamwFlat.main_arg24)
      ∧ r.2.mem ((c.tc : Thread Cert.AdamwFlat.nD Cert.AdamwFlat.τ).loc Cert.AdamwFlat.main_arg25) = m ((c.tc : Thread Cert.AdamwFlat.nD Cert.AdamwFlat.τ).loc Cert.AdamwFlat.main_arg25)
      ∧ r.2.mem ((c.tc : Thread Cert.AdamwFlat.nD Cert.AdamwFlat.τ).loc Cert.AdamwFlat.main_arg26) = m ((c.tc : Thread Cert.AdamwFlat.nD Cert.AdamwFlat.τ).loc Cert.AdamwFlat.main_arg26)
      ∧ r.2.mem ((c.tc : Thread Cert.AdamwFlat.nD Cert.AdamwFlat.τ).loc Cert.AdamwFlat.main_arg27) = m ((c.tc : Thread Cert.AdamwFlat.nD Cert.AdamwFlat.τ).loc Cert.AdamwFlat.main_arg27)
      ∧ r.2.mem ((c.tc : Thread Cert.AdamwFlat.nD Cert.AdamwFlat.τ).loc Cert.AdamwFlat.main_arg28) = m ((c.tc : Thread Cert.AdamwFlat.nD Cert.AdamwFlat.τ).loc Cert.AdamwFlat.main_arg28)
      ∧ r.2.mem ((c.tc : Thread Cert.AdamwFlat.nD Cert.AdamwFlat.τ).loc Cert.AdamwFlat.main_arg29) = m ((c.tc : Thread Cert.AdamwFlat.nD Cert.AdamwFlat.τ).loc Cert.AdamwFlat.main_arg29)
      ∧ r.2.mem ((c.tc : Thread Cert.AdamwFlat.nD Cert.AdamwFlat.τ).loc Cert.AdamwFlat.main_arg30) = m ((c.tc : Thread Cert.AdamwFlat.nD Cert.AdamwFlat.τ).loc Cert.AdamwFlat.main_arg30)
      ∧ r.2.mem ((c.tc : Thread Cert.AdamwFlat.nD Cert.AdamwFlat.τ).loc Cert.AdamwFlat.main_arg31) = m ((c.tc : Thread Cert.AdamwFlat.nD Cert.AdamwFlat.τ).loc Cert.AdamwFlat.main_arg31)
      ∧ r.2.mem ((c.tc : Thread Cert.AdamwFlat.nD Cert.AdamwFlat.τ).loc Cert.AdamwFlat.main_arg32) = m ((c.tc : Thread Cert.AdamwFlat.nD Cert.AdamwFlat.τ).loc Cert.AdamwFlat.main_arg32)
      ∧ r.2.mem ((c.tc : Thread Cert.AdamwFlat.nD Cert.AdamwFlat.τ).loc Cert.AdamwFlat.main_arg33) = m ((c.tc : Thread Cert.AdamwFlat.nD Cert.AdamwFlat.τ).loc Cert.AdamwFlat.main_arg33)
      ∧ r.2.mem ((c.tc : Thread Cert.AdamwFlat.nD Cert.AdamwFlat.τ).loc Cert.AdamwFlat.main_arg34) = m ((c.tc : Thread Cert.AdamwFlat.nD Cert.AdamwFlat.τ).loc Cert.AdamwFlat.main_arg34)
      ∧ r.2.mem ((c.tc : Thread Cert.AdamwFlat.nD Cert.AdamwFlat.τ).loc Cert.AdamwFlat.main_arg35) = m ((c.tc : Thread Cert.AdamwFlat.nD Cert.AdamwFlat.τ).loc Cert.AdamwFlat.main_arg35)
      ∧ r.2.mem ((c.tc : Thread Cert.AdamwFlat.nD Cert.AdamwFlat.τ).loc Cert.AdamwFlat.main_arg36) = m ((c.tc : Thread Cert.AdamwFlat.nD Cert.AdamwFlat.τ).loc Cert.AdamwFlat.main_arg36)
      ∧ r.2.mem ((c.tc : Thread Cert.AdamwFlat.nD Cert.AdamwFlat.τ).loc Cert.AdamwFlat.main_arg37) = m ((c.tc : Thread Cert.AdamwFlat.nD Cert.AdamwFlat.τ).loc Cert.AdamwFlat.main_arg37)
      ∧ r.2.mem ((c.tc : Thread Cert.AdamwFlat.nD Cert.AdamwFlat.τ).loc Cert.AdamwFlat.main_arg38) = m ((c.tc : Thread Cert.AdamwFlat.nD Cert.AdamwFlat.τ).loc Cert.AdamwFlat.main_arg38)
      ∧ r.2.mem ((c.tc : Thread Cert.AdamwFlat.nD Cert.AdamwFlat.τ).loc Cert.AdamwFlat.main_arg39) = m ((c.tc : Thread Cert.AdamwFlat.nD Cert.AdamwFlat.τ).loc Cert.AdamwFlat.main_arg39))
      ∧ r.2.sem = fun _ => 0)

def quiescent_AdamwFlatIdeal [hAdamwFlatIdeal : Cert.AdamwFlatIdeal.Facts] : Prop :=
  ∀ (m : (ℓ : Loc Cert.AdamwFlatIdeal.nD Cert.AdamwFlatIdeal.τ Cert.AdamwFlatIdeal.sig) → Buf (Elt Ideal) ℓ) (g : Dev Cert.AdamwFlatIdeal.nD → PrngReg), Pre_AdamwFlatIdeal m →
    θ_run (Cert.AdamwFlatIdeal.defs (F := Ideal)) (onTc (τ := Cert.AdamwFlatIdeal.τ) (Cert.AdamwFlatIdeal.main (F := Ideal))) ⟨m, fun _ => 0, g⟩ (fun r => (∀ c : Dev Cert.AdamwFlatIdeal.nD,
      r.2.mem ((c.tc : Thread Cert.AdamwFlatIdeal.nD Cert.AdamwFlatIdeal.τ).loc Cert.AdamwFlatIdeal.main_arg0) = m ((c.tc : Thread Cert.AdamwFlatIdeal.nD Cert.AdamwFlatIdeal.τ).loc Cert.AdamwFlatIdeal.main_arg0)
      ∧ r.2.mem ((c.tc : Thread Cert.AdamwFlatIdeal.nD Cert.AdamwFlatIdeal.τ).loc Cert.AdamwFlatIdeal.main_arg1) = m ((c.tc : Thread Cert.AdamwFlatIdeal.nD Cert.AdamwFlatIdeal.τ).loc Cert.AdamwFlatIdeal.main_arg1)
      ∧ r.2.mem ((c.tc : Thread Cert.AdamwFlatIdeal.nD Cert.AdamwFlatIdeal.τ).loc Cert.AdamwFlatIdeal.main_arg2) = m ((c.tc : Thread Cert.AdamwFlatIdeal.nD Cert.AdamwFlatIdeal.τ).loc Cert.AdamwFlatIdeal.main_arg2)
      ∧ r.2.mem ((c.tc : Thread Cert.AdamwFlatIdeal.nD Cert.AdamwFlatIdeal.τ).loc Cert.AdamwFlatIdeal.main_arg3) = m ((c.tc : Thread Cert.AdamwFlatIdeal.nD Cert.AdamwFlatIdeal.τ).loc Cert.AdamwFlatIdeal.main_arg3)
      ∧ r.2.mem ((c.tc : Thread Cert.AdamwFlatIdeal.nD Cert.AdamwFlatIdeal.τ).loc Cert.AdamwFlatIdeal.main_arg4) = m ((c.tc : Thread Cert.AdamwFlatIdeal.nD Cert.AdamwFlatIdeal.τ).loc Cert.AdamwFlatIdeal.main_arg4)
      ∧ r.2.mem ((c.tc : Thread Cert.AdamwFlatIdeal.nD Cert.AdamwFlatIdeal.τ).loc Cert.AdamwFlatIdeal.main_arg5) = m ((c.tc : Thread Cert.AdamwFlatIdeal.nD Cert.AdamwFlatIdeal.τ).loc Cert.AdamwFlatIdeal.main_arg5)
      ∧ r.2.mem ((c.tc : Thread Cert.AdamwFlatIdeal.nD Cert.AdamwFlatIdeal.τ).loc Cert.AdamwFlatIdeal.main_arg6) = m ((c.tc : Thread Cert.AdamwFlatIdeal.nD Cert.AdamwFlatIdeal.τ).loc Cert.AdamwFlatIdeal.main_arg6)
      ∧ r.2.mem ((c.tc : Thread Cert.AdamwFlatIdeal.nD Cert.AdamwFlatIdeal.τ).loc Cert.AdamwFlatIdeal.main_arg7) = m ((c.tc : Thread Cert.AdamwFlatIdeal.nD Cert.AdamwFlatIdeal.τ).loc Cert.AdamwFlatIdeal.main_arg7)
      ∧ r.2.mem ((c.tc : Thread Cert.AdamwFlatIdeal.nD Cert.AdamwFlatIdeal.τ).loc Cert.AdamwFlatIdeal.main_arg8) = m ((c.tc : Thread Cert.AdamwFlatIdeal.nD Cert.AdamwFlatIdeal.τ).loc Cert.AdamwFlatIdeal.main_arg8)
      ∧ r.2.mem ((c.tc : Thread Cert.AdamwFlatIdeal.nD Cert.AdamwFlatIdeal.τ).loc Cert.AdamwFlatIdeal.main_arg9) = m ((c.tc : Thread Cert.AdamwFlatIdeal.nD Cert.AdamwFlatIdeal.τ).loc Cert.AdamwFlatIdeal.main_arg9)
      ∧ r.2.mem ((c.tc : Thread Cert.AdamwFlatIdeal.nD Cert.AdamwFlatIdeal.τ).loc Cert.AdamwFlatIdeal.main_arg10) = m ((c.tc : Thread Cert.AdamwFlatIdeal.nD Cert.AdamwFlatIdeal.τ).loc Cert.AdamwFlatIdeal.main_arg10)
      ∧ r.2.mem ((c.tc : Thread Cert.AdamwFlatIdeal.nD Cert.AdamwFlatIdeal.τ).loc Cert.AdamwFlatIdeal.main_arg11) = m ((c.tc : Thread Cert.AdamwFlatIdeal.nD Cert.AdamwFlatIdeal.τ).loc Cert.AdamwFlatIdeal.main_arg11)
      ∧ r.2.mem ((c.tc : Thread Cert.AdamwFlatIdeal.nD Cert.AdamwFlatIdeal.τ).loc Cert.AdamwFlatIdeal.main_arg12) = m ((c.tc : Thread Cert.AdamwFlatIdeal.nD Cert.AdamwFlatIdeal.τ).loc Cert.AdamwFlatIdeal.main_arg12)
      ∧ r.2.mem ((c.tc : Thread Cert.AdamwFlatIdeal.nD Cert.AdamwFlatIdeal.τ).loc Cert.AdamwFlatIdeal.main_arg13) = m ((c.tc : Thread Cert.AdamwFlatIdeal.nD Cert.AdamwFlatIdeal.τ).loc Cert.AdamwFlatIdeal.main_arg13)
      ∧ r.2.mem ((c.tc : Thread Cert.AdamwFlatIdeal.nD Cert.AdamwFlatIdeal.τ).loc Cert.AdamwFlatIdeal.main_arg14) = m ((c.tc : Thread Cert.AdamwFlatIdeal.nD Cert.AdamwFlatIdeal.τ).loc Cert.AdamwFlatIdeal.main_arg14)
      ∧ r.2.mem ((c.tc : Thread Cert.AdamwFlatIdeal.nD Cert.AdamwFlatIdeal.τ).loc Cert.AdamwFlatIdeal.main_arg15) = m ((c.tc : Thread Cert.AdamwFlatIdeal.nD Cert.AdamwFlatIdeal.τ).loc Cert.AdamwFlatIdeal.main_arg15)
      ∧ r.2.mem ((c.tc : Thread Cert.AdamwFlatIdeal.nD Cert.AdamwFlatIdeal.τ).loc Cert.AdamwFlatIdeal.main_arg16) = m ((c.tc : Thread Cert.AdamwFlatIdeal.nD Cert.AdamwFlatIdeal.τ).loc Cert.AdamwFlatIdeal.main_arg16)
      ∧ r.2.mem ((c.tc : Thread Cert.AdamwFlatIdeal.nD Cert.AdamwFlatIdeal.τ).loc Cert.AdamwFlatIdeal.main_arg17) = m ((c.tc : Thread Cert.AdamwFlatIdeal.nD Cert.AdamwFlatIdeal.τ).loc Cert.AdamwFlatIdeal.main_arg17)
      ∧ r.2.mem ((c.tc : Thread Cert.AdamwFlatIdeal.nD Cert.AdamwFlatIdeal.τ).loc Cert.AdamwFlatIdeal.main_arg18) = m ((c.tc : Thread Cert.AdamwFlatIdeal.nD Cert.AdamwFlatIdeal.τ).loc Cert.AdamwFlatIdeal.main_arg18)
      ∧ r.2.mem ((c.tc : Thread Cert.AdamwFlatIdeal.nD Cert.AdamwFlatIdeal.τ).loc Cert.AdamwFlatIdeal.main_arg19) = m ((c.tc : Thread Cert.AdamwFlatIdeal.nD Cert.AdamwFlatIdeal.τ).loc Cert.AdamwFlatIdeal.main_arg19)
      ∧ r.2.mem ((c.tc : Thread Cert.AdamwFlatIdeal.nD Cert.AdamwFlatIdeal.τ).loc Cert.AdamwFlatIdeal.main_arg20) = m ((c.tc : Thread Cert.AdamwFlatIdeal.nD Cert.AdamwFlatIdeal.τ).loc Cert.AdamwFlatIdeal.main_arg20)
      ∧ r.2.mem ((c.tc : Thread Cert.AdamwFlatIdeal.nD Cert.AdamwFlatIdeal.τ).loc Cert.AdamwFlatIdeal.main_arg21) = m ((c.tc : Thread Cert.AdamwFlatIdeal.nD Cert.AdamwFlatIdeal.τ).loc Cert.AdamwFlatIdeal.main_arg21)
      ∧ r.2.mem ((c.tc : Thread Cert.AdamwFlatIdeal.nD Cert.AdamwFlatIdeal.τ).loc Cert.AdamwFlatIdeal.main_arg22) = m ((c.tc : Thread Cert.AdamwFlatIdeal.nD Cert.AdamwFlatIdeal.τ).loc Cert.AdamwFlatIdeal.main_arg22)
      ∧ r.2.mem ((c.tc : Thread Cert.AdamwFlatIdeal.nD Cert.AdamwFlatIdeal.τ).loc Cert.AdamwFlatIdeal.main_arg23) = m ((c.tc : Thread Cert.AdamwFlatIdeal.nD Cert.AdamwFlatIdeal.τ).loc Cert.AdamwFlatIdeal.main_arg23)
      ∧ r.2.mem ((c.tc : Thread Cert.AdamwFlatIdeal.nD Cert.AdamwFlatIdeal.τ).loc Cert.AdamwFlatIdeal.main_arg24) = m ((c.tc : Thread Cert.AdamwFlatIdeal.nD Cert.AdamwFlatIdeal.τ).loc Cert.AdamwFlatIdeal.main_arg24)
      ∧ r.2.mem ((c.tc : Thread Cert.AdamwFlatIdeal.nD Cert.AdamwFlatIdeal.τ).loc Cert.AdamwFlatIdeal.main_arg25) = m ((c.tc : Thread Cert.AdamwFlatIdeal.nD Cert.AdamwFlatIdeal.τ).loc Cert.AdamwFlatIdeal.main_arg25)
      ∧ r.2.mem ((c.tc : Thread Cert.AdamwFlatIdeal.nD Cert.AdamwFlatIdeal.τ).loc Cert.AdamwFlatIdeal.main_arg26) = m ((c.tc : Thread Cert.AdamwFlatIdeal.nD Cert.AdamwFlatIdeal.τ).loc Cert.AdamwFlatIdeal.main_arg26)
      ∧ r.2.mem ((c.tc : Thread Cert.AdamwFlatIdeal.nD Cert.AdamwFlatIdeal.τ).loc Cert.AdamwFlatIdeal.main_arg27) = m ((c.tc : Thread Cert.AdamwFlatIdeal.nD Cert.AdamwFlatIdeal.τ).loc Cert.AdamwFlatIdeal.main_arg27)
      ∧ r.2.mem ((c.tc : Thread Cert.AdamwFlatIdeal.nD Cert.AdamwFlatIdeal.τ).loc Cert.AdamwFlatIdeal.main_arg28) = m ((c.tc : Thread Cert.AdamwFlatIdeal.nD Cert.AdamwFlatIdeal.τ).loc Cert.AdamwFlatIdeal.main_arg28)
      ∧ r.2.mem ((c.tc : Thread Cert.AdamwFlatIdeal.nD Cert.AdamwFlatIdeal.τ).loc Cert.AdamwFlatIdeal.main_arg29) = m ((c.tc : Thread Cert.AdamwFlatIdeal.nD Cert.AdamwFlatIdeal.τ).loc Cert.AdamwFlatIdeal.main_arg29)
      ∧ r.2.mem ((c.tc : Thread Cert.AdamwFlatIdeal.nD Cert.AdamwFlatIdeal.τ).loc Cert.AdamwFlatIdeal.main_arg30) = m ((c.tc : Thread Cert.AdamwFlatIdeal.nD Cert.AdamwFlatIdeal.τ).loc Cert.AdamwFlatIdeal.main_arg30)
      ∧ r.2.mem ((c.tc : Thread Cert.AdamwFlatIdeal.nD Cert.AdamwFlatIdeal.τ).loc Cert.AdamwFlatIdeal.main_arg31) = m ((c.tc : Thread Cert.AdamwFlatIdeal.nD Cert.AdamwFlatIdeal.τ).loc Cert.AdamwFlatIdeal.main_arg31)
      ∧ r.2.mem ((c.tc : Thread Cert.AdamwFlatIdeal.nD Cert.AdamwFlatIdeal.τ).loc Cert.AdamwFlatIdeal.main_arg32) = m ((c.tc : Thread Cert.AdamwFlatIdeal.nD Cert.AdamwFlatIdeal.τ).loc Cert.AdamwFlatIdeal.main_arg32)
      ∧ r.2.mem ((c.tc : Thread Cert.AdamwFlatIdeal.nD Cert.AdamwFlatIdeal.τ).loc Cert.AdamwFlatIdeal.main_arg33) = m ((c.tc : Thread Cert.AdamwFlatIdeal.nD Cert.AdamwFlatIdeal.τ).loc Cert.AdamwFlatIdeal.main_arg33)
      ∧ r.2.mem ((c.tc : Thread Cert.AdamwFlatIdeal.nD Cert.AdamwFlatIdeal.τ).loc Cert.AdamwFlatIdeal.main_arg34) = m ((c.tc : Thread Cert.AdamwFlatIdeal.nD Cert.AdamwFlatIdeal.τ).loc Cert.AdamwFlatIdeal.main_arg34)
      ∧ r.2.mem ((c.tc : Thread Cert.AdamwFlatIdeal.nD Cert.AdamwFlatIdeal.τ).loc Cert.AdamwFlatIdeal.main_arg35) = m ((c.tc : Thread Cert.AdamwFlatIdeal.nD Cert.AdamwFlatIdeal.τ).loc Cert.AdamwFlatIdeal.main_arg35)
      ∧ r.2.mem ((c.tc : Thread Cert.AdamwFlatIdeal.nD Cert.AdamwFlatIdeal.τ).loc Cert.AdamwFlatIdeal.main_arg36) = m ((c.tc : Thread Cert.AdamwFlatIdeal.nD Cert.AdamwFlatIdeal.τ).loc Cert.AdamwFlatIdeal.main_arg36)
      ∧ r.2.mem ((c.tc : Thread Cert.AdamwFlatIdeal.nD Cert.AdamwFlatIdeal.τ).loc Cert.AdamwFlatIdeal.main_arg37) = m ((c.tc : Thread Cert.AdamwFlatIdeal.nD Cert.AdamwFlatIdeal.τ).loc Cert.AdamwFlatIdeal.main_arg37)
      ∧ r.2.mem ((c.tc : Thread Cert.AdamwFlatIdeal.nD Cert.AdamwFlatIdeal.τ).loc Cert.AdamwFlatIdeal.main_arg38) = m ((c.tc : Thread Cert.AdamwFlatIdeal.nD Cert.AdamwFlatIdeal.τ).loc Cert.AdamwFlatIdeal.main_arg38)
      ∧ r.2.mem ((c.tc : Thread Cert.AdamwFlatIdeal.nD Cert.AdamwFlatIdeal.τ).loc Cert.AdamwFlatIdeal.main_arg39) = m ((c.tc : Thread Cert.AdamwFlatIdeal.nD Cert.AdamwFlatIdeal.τ).loc Cert.AdamwFlatIdeal.main_arg39))
      ∧ r.2.sem = fun _ => 0)

def quiescent_AdamwFlatRefIdeal [hAdamwFlatRefIdeal : Cert.AdamwFlatRefIdeal.Facts] : Prop :=
  ∀ (m : (ℓ : Loc Cert.AdamwFlatRefIdeal.nD Cert.AdamwFlatRefIdeal.τ Cert.AdamwFlatRefIdeal.sig) → Buf (Elt Ideal) ℓ) (g : Dev Cert.AdamwFlatRefIdeal.nD → PrngReg), Pre_AdamwFlatRefIdeal m →
    θ_run (Cert.AdamwFlatRefIdeal.defs (F := Ideal)) (onTc (τ := Cert.AdamwFlatRefIdeal.τ) (Cert.AdamwFlatRefIdeal.main (F := Ideal))) ⟨m, fun _ => 0, g⟩ (fun r => (∀ c : Dev Cert.AdamwFlatRefIdeal.nD,
      r.2.mem ((c.tc : Thread Cert.AdamwFlatRefIdeal.nD Cert.AdamwFlatRefIdeal.τ).loc Cert.AdamwFlatRefIdeal.main_arg0) = m ((c.tc : Thread Cert.AdamwFlatRefIdeal.nD Cert.AdamwFlatRefIdeal.τ).loc Cert.AdamwFlatRefIdeal.main_arg0)
      ∧ r.2.mem ((c.tc : Thread Cert.AdamwFlatRefIdeal.nD Cert.AdamwFlatRefIdeal.τ).loc Cert.AdamwFlatRefIdeal.main_arg1) = m ((c.tc : Thread Cert.AdamwFlatRefIdeal.nD Cert.AdamwFlatRefIdeal.τ).loc Cert.AdamwFlatRefIdeal.main_arg1)
      ∧ r.2.mem ((c.tc : Thread Cert.AdamwFlatRefIdeal.nD Cert.AdamwFlatRefIdeal.τ).loc Cert.AdamwFlatRefIdeal.main_arg2) = m ((c.tc : Thread Cert.AdamwFlatRefIdeal.nD Cert.AdamwFlatRefIdeal.τ).loc Cert.AdamwFlatRefIdeal.main_arg2)
      ∧ r.2.mem ((c.tc : Thread Cert.AdamwFlatRefIdeal.nD Cert.AdamwFlatRefIdeal.τ).loc Cert.AdamwFlatRefIdeal.main_arg3) = m ((c.tc : Thread Cert.AdamwFlatRefIdeal.nD Cert.AdamwFlatRefIdeal.τ).loc Cert.AdamwFlatRefIdeal.main_arg3)
      ∧ r.2.mem ((c.tc : Thread Cert.AdamwFlatRefIdeal.nD Cert.AdamwFlatRefIdeal.τ).loc Cert.AdamwFlatRefIdeal.main_arg4) = m ((c.tc : Thread Cert.AdamwFlatRefIdeal.nD Cert.AdamwFlatRefIdeal.τ).loc Cert.AdamwFlatRefIdeal.main_arg4)
      ∧ r.2.mem ((c.tc : Thread Cert.AdamwFlatRefIdeal.nD Cert.AdamwFlatRefIdeal.τ).loc Cert.AdamwFlatRefIdeal.main_arg5) = m ((c.tc : Thread Cert.AdamwFlatRefIdeal.nD Cert.AdamwFlatRefIdeal.τ).loc Cert.AdamwFlatRefIdeal.main_arg5)
      ∧ r.2.mem ((c.tc : Thread Cert.AdamwFlatRefIdeal.nD Cert.AdamwFlatRefIdeal.τ).loc Cert.AdamwFlatRefIdeal.main_arg6) = m ((c.tc : Thread Cert.AdamwFlatRefIdeal.nD Cert.AdamwFlatRefIdeal.τ).loc Cert.AdamwFlatRefIdeal.main_arg6)
      ∧ r.2.mem ((c.tc : Thread Cert.AdamwFlatRefIdeal.nD Cert.AdamwFlatRefIdeal.τ).loc Cert.AdamwFlatRefIdeal.main_arg7) = m ((c.tc : Thread Cert.AdamwFlatRefIdeal.nD Cert.AdamwFlatRefIdeal.τ).loc Cert.AdamwFlatRefIdeal.main_arg7)
      ∧ r.2.mem ((c.tc : Thread Cert.AdamwFlatRefIdeal.nD Cert.AdamwFlatRefIdeal.τ).loc Cert.AdamwFlatRefIdeal.main_arg8) = m ((c.tc : Thread Cert.AdamwFlatRefIdeal.nD Cert.AdamwFlatRefIdeal.τ).loc Cert.AdamwFlatRefIdeal.main_arg8)
      ∧ r.2.mem ((c.tc : Thread Cert.AdamwFlatRefIdeal.nD Cert.AdamwFlatRefIdeal.τ).loc Cert.AdamwFlatRefIdeal.main_arg9) = m ((c.tc : Thread Cert.AdamwFlatRefIdeal.nD Cert.AdamwFlatRefIdeal.τ).loc Cert.AdamwFlatRefIdeal.main_arg9)
      ∧ r.2.mem ((c.tc : Thread Cert.AdamwFlatRefIdeal.nD Cert.AdamwFlatRefIdeal.τ).loc Cert.AdamwFlatRefIdeal.main_arg10) = m ((c.tc : Thread Cert.AdamwFlatRefIdeal.nD Cert.AdamwFlatRefIdeal.τ).loc Cert.AdamwFlatRefIdeal.main_arg10)
      ∧ r.2.mem ((c.tc : Thread Cert.AdamwFlatRefIdeal.nD Cert.AdamwFlatRefIdeal.τ).loc Cert.AdamwFlatRefIdeal.main_arg11) = m ((c.tc : Thread Cert.AdamwFlatRefIdeal.nD Cert.AdamwFlatRefIdeal.τ).loc Cert.AdamwFlatRefIdeal.main_arg11)
      ∧ r.2.mem ((c.tc : Thread Cert.AdamwFlatRefIdeal.nD Cert.AdamwFlatRefIdeal.τ).loc Cert.AdamwFlatRefIdeal.main_arg12) = m ((c.tc : Thread Cert.AdamwFlatRefIdeal.nD Cert.AdamwFlatRefIdeal.τ).loc Cert.AdamwFlatRefIdeal.main_arg12)
      ∧ r.2.mem ((c.tc : Thread Cert.AdamwFlatRefIdeal.nD Cert.AdamwFlatRefIdeal.τ).loc Cert.AdamwFlatRefIdeal.main_arg13) = m ((c.tc : Thread Cert.AdamwFlatRefIdeal.nD Cert.AdamwFlatRefIdeal.τ).loc Cert.AdamwFlatRefIdeal.main_arg13)
      ∧ r.2.mem ((c.tc : Thread Cert.AdamwFlatRefIdeal.nD Cert.AdamwFlatRefIdeal.τ).loc Cert.AdamwFlatRefIdeal.main_arg14) = m ((c.tc : Thread Cert.AdamwFlatRefIdeal.nD Cert.AdamwFlatRefIdeal.τ).loc Cert.AdamwFlatRefIdeal.main_arg14)
      ∧ r.2.mem ((c.tc : Thread Cert.AdamwFlatRefIdeal.nD Cert.AdamwFlatRefIdeal.τ).loc Cert.AdamwFlatRefIdeal.main_arg15) = m ((c.tc : Thread Cert.AdamwFlatRefIdeal.nD Cert.AdamwFlatRefIdeal.τ).loc Cert.AdamwFlatRefIdeal.main_arg15)
      ∧ r.2.mem ((c.tc : Thread Cert.AdamwFlatRefIdeal.nD Cert.AdamwFlatRefIdeal.τ).loc Cert.AdamwFlatRefIdeal.main_arg16) = m ((c.tc : Thread Cert.AdamwFlatRefIdeal.nD Cert.AdamwFlatRefIdeal.τ).loc Cert.AdamwFlatRefIdeal.main_arg16)
      ∧ r.2.mem ((c.tc : Thread Cert.AdamwFlatRefIdeal.nD Cert.AdamwFlatRefIdeal.τ).loc Cert.AdamwFlatRefIdeal.main_arg17) = m ((c.tc : Thread Cert.AdamwFlatRefIdeal.nD Cert.AdamwFlatRefIdeal.τ).loc Cert.AdamwFlatRefIdeal.main_arg17)
      ∧ r.2.mem ((c.tc : Thread Cert.AdamwFlatRefIdeal.nD Cert.AdamwFlatRefIdeal.τ).loc Cert.AdamwFlatRefIdeal.main_arg18) = m ((c.tc : Thread Cert.AdamwFlatRefIdeal.nD Cert.AdamwFlatRefIdeal.τ).loc Cert.AdamwFlatRefIdeal.main_arg18)
      ∧ r.2.mem ((c.tc : Thread Cert.AdamwFlatRefIdeal.nD Cert.AdamwFlatRefIdeal.τ).loc Cert.AdamwFlatRefIdeal.main_arg19) = m ((c.tc : Thread Cert.AdamwFlatRefIdeal.nD Cert.AdamwFlatRefIdeal.τ).loc Cert.AdamwFlatRefIdeal.main_arg19)
      ∧ r.2.mem ((c.tc : Thread Cert.AdamwFlatRefIdeal.nD Cert.AdamwFlatRefIdeal.τ).loc Cert.AdamwFlatRefIdeal.main_arg20) = m ((c.tc : Thread Cert.AdamwFlatRefIdeal.nD Cert.AdamwFlatRefIdeal.τ).loc Cert.AdamwFlatRefIdeal.main_arg20)
      ∧ r.2.mem ((c.tc : Thread Cert.AdamwFlatRefIdeal.nD Cert.AdamwFlatRefIdeal.τ).loc Cert.AdamwFlatRefIdeal.main_arg21) = m ((c.tc : Thread Cert.AdamwFlatRefIdeal.nD Cert.AdamwFlatRefIdeal.τ).loc Cert.AdamwFlatRefIdeal.main_arg21)
      ∧ r.2.mem ((c.tc : Thread Cert.AdamwFlatRefIdeal.nD Cert.AdamwFlatRefIdeal.τ).loc Cert.AdamwFlatRefIdeal.main_arg22) = m ((c.tc : Thread Cert.AdamwFlatRefIdeal.nD Cert.AdamwFlatRefIdeal.τ).loc Cert.AdamwFlatRefIdeal.main_arg22)
      ∧ r.2.mem ((c.tc : Thread Cert.AdamwFlatRefIdeal.nD Cert.AdamwFlatRefIdeal.τ).loc Cert.AdamwFlatRefIdeal.main_arg23) = m ((c.tc : Thread Cert.AdamwFlatRefIdeal.nD Cert.AdamwFlatRefIdeal.τ).loc Cert.AdamwFlatRefIdeal.main_arg23)
      ∧ r.2.mem ((c.tc : Thread Cert.AdamwFlatRefIdeal.nD Cert.AdamwFlatRefIdeal.τ).loc Cert.AdamwFlatRefIdeal.main_arg24) = m ((c.tc : Thread Cert.AdamwFlatRefIdeal.nD Cert.AdamwFlatRefIdeal.τ).loc Cert.AdamwFlatRefIdeal.main_arg24)
      ∧ r.2.mem ((c.tc : Thread Cert.AdamwFlatRefIdeal.nD Cert.AdamwFlatRefIdeal.τ).loc Cert.AdamwFlatRefIdeal.main_arg25) = m ((c.tc : Thread Cert.AdamwFlatRefIdeal.nD Cert.AdamwFlatRefIdeal.τ).loc Cert.AdamwFlatRefIdeal.main_arg25)
      ∧ r.2.mem ((c.tc : Thread Cert.AdamwFlatRefIdeal.nD Cert.AdamwFlatRefIdeal.τ).loc Cert.AdamwFlatRefIdeal.main_arg26) = m ((c.tc : Thread Cert.AdamwFlatRefIdeal.nD Cert.AdamwFlatRefIdeal.τ).loc Cert.AdamwFlatRefIdeal.main_arg26)
      ∧ r.2.mem ((c.tc : Thread Cert.AdamwFlatRefIdeal.nD Cert.AdamwFlatRefIdeal.τ).loc Cert.AdamwFlatRefIdeal.main_arg27) = m ((c.tc : Thread Cert.AdamwFlatRefIdeal.nD Cert.AdamwFlatRefIdeal.τ).loc Cert.AdamwFlatRefIdeal.main_arg27)
      ∧ r.2.mem ((c.tc : Thread Cert.AdamwFlatRefIdeal.nD Cert.AdamwFlatRefIdeal.τ).loc Cert.AdamwFlatRefIdeal.main_arg28) = m ((c.tc : Thread Cert.AdamwFlatRefIdeal.nD Cert.AdamwFlatRefIdeal.τ).loc Cert.AdamwFlatRefIdeal.main_arg28)
      ∧ r.2.mem ((c.tc : Thread Cert.AdamwFlatRefIdeal.nD Cert.AdamwFlatRefIdeal.τ).loc Cert.AdamwFlatRefIdeal.main_arg29) = m ((c.tc : Thread Cert.AdamwFlatRefIdeal.nD Cert.AdamwFlatRefIdeal.τ).loc Cert.AdamwFlatRefIdeal.main_arg29)
      ∧ r.2.mem ((c.tc : Thread Cert.AdamwFlatRefIdeal.nD Cert.AdamwFlatRefIdeal.τ).loc Cert.AdamwFlatRefIdeal.main_arg30) = m ((c.tc : Thread Cert.AdamwFlatRefIdeal.nD Cert.AdamwFlatRefIdeal.τ).loc Cert.AdamwFlatRefIdeal.main_arg30)
      ∧ r.2.mem ((c.tc : Thread Cert.AdamwFlatRefIdeal.nD Cert.AdamwFlatRefIdeal.τ).loc Cert.AdamwFlatRefIdeal.main_arg31) = m ((c.tc : Thread Cert.AdamwFlatRefIdeal.nD Cert.AdamwFlatRefIdeal.τ).loc Cert.AdamwFlatRefIdeal.main_arg31)
      ∧ r.2.mem ((c.tc : Thread Cert.AdamwFlatRefIdeal.nD Cert.AdamwFlatRefIdeal.τ).loc Cert.AdamwFlatRefIdeal.main_arg32) = m ((c.tc : Thread Cert.AdamwFlatRefIdeal.nD Cert.AdamwFlatRefIdeal.τ).loc Cert.AdamwFlatRefIdeal.main_arg32)
      ∧ r.2.mem ((c.tc : Thread Cert.AdamwFlatRefIdeal.nD Cert.AdamwFlatRefIdeal.τ).loc Cert.AdamwFlatRefIdeal.main_arg33) = m ((c.tc : Thread Cert.AdamwFlatRefIdeal.nD Cert.AdamwFlatRefIdeal.τ).loc Cert.AdamwFlatRefIdeal.main_arg33)
      ∧ r.2.mem ((c.tc : Thread Cert.AdamwFlatRefIdeal.nD Cert.AdamwFlatRefIdeal.τ).loc Cert.AdamwFlatRefIdeal.main_arg34) = m ((c.tc : Thread Cert.AdamwFlatRefIdeal.nD Cert.AdamwFlatRefIdeal.τ).loc Cert.AdamwFlatRefIdeal.main_arg34)
      ∧ r.2.mem ((c.tc : Thread Cert.AdamwFlatRefIdeal.nD Cert.AdamwFlatRefIdeal.τ).loc Cert.AdamwFlatRefIdeal.main_arg35) = m ((c.tc : Thread Cert.AdamwFlatRefIdeal.nD Cert.AdamwFlatRefIdeal.τ).loc Cert.AdamwFlatRefIdeal.main_arg35)
      ∧ r.2.mem ((c.tc : Thread Cert.AdamwFlatRefIdeal.nD Cert.AdamwFlatRefIdeal.τ).loc Cert.AdamwFlatRefIdeal.main_arg36) = m ((c.tc : Thread Cert.AdamwFlatRefIdeal.nD Cert.AdamwFlatRefIdeal.τ).loc Cert.AdamwFlatRefIdeal.main_arg36)
      ∧ r.2.mem ((c.tc : Thread Cert.AdamwFlatRefIdeal.nD Cert.AdamwFlatRefIdeal.τ).loc Cert.AdamwFlatRefIdeal.main_arg37) = m ((c.tc : Thread Cert.AdamwFlatRefIdeal.nD Cert.AdamwFlatRefIdeal.τ).loc Cert.AdamwFlatRefIdeal.main_arg37)
      ∧ r.2.mem ((c.tc : Thread Cert.AdamwFlatRefIdeal.nD Cert.AdamwFlatRefIdeal.τ).loc Cert.AdamwFlatRefIdeal.main_arg38) = m ((c.tc : Thread Cert.AdamwFlatRefIdeal.nD Cert.AdamwFlatRefIdeal.τ).loc Cert.AdamwFlatRefIdeal.main_arg38)
      ∧ r.2.mem ((c.tc : Thread Cert.AdamwFlatRefIdeal.nD Cert.AdamwFlatRefIdeal.τ).loc Cert.AdamwFlatRefIdeal.main_arg39) = m ((c.tc : Thread Cert.AdamwFlatRefIdeal.nD Cert.AdamwFlatRefIdeal.τ).loc Cert.AdamwFlatRefIdeal.main_arg39))
      ∧ r.2.sem = fun _ => 0)

def quiescent_AdamwLayer [hAdamwLayer : Cert.AdamwLayer.Facts] : Prop :=
  ∀ (m : (ℓ : Loc Cert.AdamwLayer.nD Cert.AdamwLayer.τ Cert.AdamwLayer.sig) → Buf (Elt Bits) ℓ) (g : Dev Cert.AdamwLayer.nD → PrngReg), Pre_AdamwLayer m →
    θ_run (Cert.AdamwLayer.defs (F := Bits)) (onTc (τ := Cert.AdamwLayer.τ) (Cert.AdamwLayer.main (F := Bits))) ⟨m, fun _ => 0, g⟩ (fun r => (∀ c : Dev Cert.AdamwLayer.nD,
      r.2.mem ((c.tc : Thread Cert.AdamwLayer.nD Cert.AdamwLayer.τ).loc Cert.AdamwLayer.main_arg0) = m ((c.tc : Thread Cert.AdamwLayer.nD Cert.AdamwLayer.τ).loc Cert.AdamwLayer.main_arg0)
      ∧ r.2.mem ((c.tc : Thread Cert.AdamwLayer.nD Cert.AdamwLayer.τ).loc Cert.AdamwLayer.main_arg1) = m ((c.tc : Thread Cert.AdamwLayer.nD Cert.AdamwLayer.τ).loc Cert.AdamwLayer.main_arg1)
      ∧ r.2.mem ((c.tc : Thread Cert.AdamwLayer.nD Cert.AdamwLayer.τ).loc Cert.AdamwLayer.main_arg2) = m ((c.tc : Thread Cert.AdamwLayer.nD Cert.AdamwLayer.τ).loc Cert.AdamwLayer.main_arg2)
      ∧ r.2.mem ((c.tc : Thread Cert.AdamwLayer.nD Cert.AdamwLayer.τ).loc Cert.AdamwLayer.main_arg3) = m ((c.tc : Thread Cert.AdamwLayer.nD Cert.AdamwLayer.τ).loc Cert.AdamwLayer.main_arg3)
      ∧ r.2.mem ((c.tc : Thread Cert.AdamwLayer.nD Cert.AdamwLayer.τ).loc Cert.AdamwLayer.main_arg4) = m ((c.tc : Thread Cert.AdamwLayer.nD Cert.AdamwLayer.τ).loc Cert.AdamwLayer.main_arg4)
      ∧ r.2.mem ((c.tc : Thread Cert.AdamwLayer.nD Cert.AdamwLayer.τ).loc Cert.AdamwLayer.main_arg5) = m ((c.tc : Thread Cert.AdamwLayer.nD Cert.AdamwLayer.τ).loc Cert.AdamwLayer.main_arg5)
      ∧ r.2.mem ((c.tc : Thread Cert.AdamwLayer.nD Cert.AdamwLayer.τ).loc Cert.AdamwLayer.main_arg6) = m ((c.tc : Thread Cert.AdamwLayer.nD Cert.AdamwLayer.τ).loc Cert.AdamwLayer.main_arg6)
      ∧ r.2.mem ((c.tc : Thread Cert.AdamwLayer.nD Cert.AdamwLayer.τ).loc Cert.AdamwLayer.main_arg7) = m ((c.tc : Thread Cert.AdamwLayer.nD Cert.AdamwLayer.τ).loc Cert.AdamwLayer.main_arg7))
      ∧ r.2.sem = fun _ => 0)

def quiescent_AdamwLayerIdeal [hAdamwLayerIdeal : Cert.AdamwLayerIdeal.Facts] : Prop :=
  ∀ (m : (ℓ : Loc Cert.AdamwLayerIdeal.nD Cert.AdamwLayerIdeal.τ Cert.AdamwLayerIdeal.sig) → Buf (Elt Ideal) ℓ) (g : Dev Cert.AdamwLayerIdeal.nD → PrngReg), Pre_AdamwLayerIdeal m →
    θ_run (Cert.AdamwLayerIdeal.defs (F := Ideal)) (onTc (τ := Cert.AdamwLayerIdeal.τ) (Cert.AdamwLayerIdeal.main (F := Ideal))) ⟨m, fun _ => 0, g⟩ (fun r => (∀ c : Dev Cert.AdamwLayerIdeal.nD,
      r.2.mem ((c.tc : Thread Cert.AdamwLayerIdeal.nD Cert.AdamwLayerIdeal.τ).loc Cert.AdamwLayerIdeal.main_arg0) = m ((c.tc : Thread Cert.AdamwLayerIdeal.nD Cert.AdamwLayerIdeal.τ).loc Cert.AdamwLayerIdeal.main_arg0)
      ∧ r.2.mem ((c.tc : Thread Cert.AdamwLayerIdeal.nD Cert.AdamwLayerIdeal.τ).loc Cert.AdamwLayerIdeal.main_arg1) = m ((c.tc : Thread Cert.AdamwLayerIdeal.nD Cert.AdamwLayerIdeal.τ).loc Cert.AdamwLayerIdeal.main_arg1)
      ∧ r.2.mem ((c.tc : Thread Cert.AdamwLayerIdeal.nD Cert.AdamwLayerIdeal.τ).loc Cert.AdamwLayerIdeal.main_arg2) = m ((c.tc : Thread Cert.AdamwLayerIdeal.nD Cert.AdamwLayerIdeal.τ).loc Cert.AdamwLayerIdeal.main_arg2)
      ∧ r.2.mem ((c.tc : Thread Cert.AdamwLayerIdeal.nD Cert.AdamwLayerIdeal.τ).loc Cert.AdamwLayerIdeal.main_arg3) = m ((c.tc : Thread Cert.AdamwLayerIdeal.nD Cert.AdamwLayerIdeal.τ).loc Cert.AdamwLayerIdeal.main_arg3)
      ∧ r.2.mem ((c.tc : Thread Cert.AdamwLayerIdeal.nD Cert.AdamwLayerIdeal.τ).loc Cert.AdamwLayerIdeal.main_arg4) = m ((c.tc : Thread Cert.AdamwLayerIdeal.nD Cert.AdamwLayerIdeal.τ).loc Cert.AdamwLayerIdeal.main_arg4)
      ∧ r.2.mem ((c.tc : Thread Cert.AdamwLayerIdeal.nD Cert.AdamwLayerIdeal.τ).loc Cert.AdamwLayerIdeal.main_arg5) = m ((c.tc : Thread Cert.AdamwLayerIdeal.nD Cert.AdamwLayerIdeal.τ).loc Cert.AdamwLayerIdeal.main_arg5)
      ∧ r.2.mem ((c.tc : Thread Cert.AdamwLayerIdeal.nD Cert.AdamwLayerIdeal.τ).loc Cert.AdamwLayerIdeal.main_arg6) = m ((c.tc : Thread Cert.AdamwLayerIdeal.nD Cert.AdamwLayerIdeal.τ).loc Cert.AdamwLayerIdeal.main_arg6)
      ∧ r.2.mem ((c.tc : Thread Cert.AdamwLayerIdeal.nD Cert.AdamwLayerIdeal.τ).loc Cert.AdamwLayerIdeal.main_arg7) = m ((c.tc : Thread Cert.AdamwLayerIdeal.nD Cert.AdamwLayerIdeal.τ).loc Cert.AdamwLayerIdeal.main_arg7))
      ∧ r.2.sem = fun _ => 0)

def quiescent_AdamwLayerRefIdeal [hAdamwLayerRefIdeal : Cert.AdamwLayerRefIdeal.Facts] : Prop :=
  ∀ (m : (ℓ : Loc Cert.AdamwLayerRefIdeal.nD Cert.AdamwLayerRefIdeal.τ Cert.AdamwLayerRefIdeal.sig) → Buf (Elt Ideal) ℓ) (g : Dev Cert.AdamwLayerRefIdeal.nD → PrngReg), Pre_AdamwLayerRefIdeal m →
    θ_run (Cert.AdamwLayerRefIdeal.defs (F := Ideal)) (onTc (τ := Cert.AdamwLayerRefIdeal.τ) (Cert.AdamwLayerRefIdeal.main (F := Ideal))) ⟨m, fun _ => 0, g⟩ (fun r => (∀ c : Dev Cert.AdamwLayerRefIdeal.nD,
      r.2.mem ((c.tc : Thread Cert.AdamwLayerRefIdeal.nD Cert.AdamwLayerRefIdeal.τ).loc Cert.AdamwLayerRefIdeal.main_arg0) = m ((c.tc : Thread Cert.AdamwLayerRefIdeal.nD Cert.AdamwLayerRefIdeal.τ).loc Cert.AdamwLayerRefIdeal.main_arg0)
      ∧ r.2.mem ((c.tc : Thread Cert.AdamwLayerRefIdeal.nD Cert.AdamwLayerRefIdeal.τ).loc Cert.AdamwLayerRefIdeal.main_arg1) = m ((c.tc : Thread Cert.AdamwLayerRefIdeal.nD Cert.AdamwLayerRefIdeal.τ).loc Cert.AdamwLayerRefIdeal.main_arg1)
      ∧ r.2.mem ((c.tc : Thread Cert.AdamwLayerRefIdeal.nD Cert.AdamwLayerRefIdeal.τ).loc Cert.AdamwLayerRefIdeal.main_arg2) = m ((c.tc : Thread Cert.AdamwLayerRefIdeal.nD Cert.AdamwLayerRefIdeal.τ).loc Cert.AdamwLayerRefIdeal.main_arg2)
      ∧ r.2.mem ((c.tc : Thread Cert.AdamwLayerRefIdeal.nD Cert.AdamwLayerRefIdeal.τ).loc Cert.AdamwLayerRefIdeal.main_arg3) = m ((c.tc : Thread Cert.AdamwLayerRefIdeal.nD Cert.AdamwLayerRefIdeal.τ).loc Cert.AdamwLayerRefIdeal.main_arg3)
      ∧ r.2.mem ((c.tc : Thread Cert.AdamwLayerRefIdeal.nD Cert.AdamwLayerRefIdeal.τ).loc Cert.AdamwLayerRefIdeal.main_arg4) = m ((c.tc : Thread Cert.AdamwLayerRefIdeal.nD Cert.AdamwLayerRefIdeal.τ).loc Cert.AdamwLayerRefIdeal.main_arg4)
      ∧ r.2.mem ((c.tc : Thread Cert.AdamwLayerRefIdeal.nD Cert.AdamwLayerRefIdeal.τ).loc Cert.AdamwLayerRefIdeal.main_arg5) = m ((c.tc : Thread Cert.AdamwLayerRefIdeal.nD Cert.AdamwLayerRefIdeal.τ).loc Cert.AdamwLayerRefIdeal.main_arg5)
      ∧ r.2.mem ((c.tc : Thread Cert.AdamwLayerRefIdeal.nD Cert.AdamwLayerRefIdeal.τ).loc Cert.AdamwLayerRefIdeal.main_arg6) = m ((c.tc : Thread Cert.AdamwLayerRefIdeal.nD Cert.AdamwLayerRefIdeal.τ).loc Cert.AdamwLayerRefIdeal.main_arg6)
      ∧ r.2.mem ((c.tc : Thread Cert.AdamwLayerRefIdeal.nD Cert.AdamwLayerRefIdeal.τ).loc Cert.AdamwLayerRefIdeal.main_arg7) = m ((c.tc : Thread Cert.AdamwLayerRefIdeal.nD Cert.AdamwLayerRefIdeal.τ).loc Cert.AdamwLayerRefIdeal.main_arg7))
      ∧ r.2.sem = fun _ => 0)

def preserves_MemBwd_MemBwdIdeal : Prop :=
  True

def algebraic_MemBwdIdeal_MemBwdRefIdeal [hMemBwdIdeal : Cert.MemBwdIdeal.Facts] [hMemBwdRefIdeal : Cert.MemBwdRefIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)
      ∧ m' ((c.tc : Thread Cert.MemBwdRefIdeal.nD Cert.MemBwdRefIdeal.τ).loc Cert.MemBwdRefIdeal.main_arg3) = m ((c.tc : Thread Cert.MemBwdIdeal.nD Cert.MemBwdIdeal.τ).loc Cert.MemBwdIdeal.main_arg3)
      ∧ m' ((c.tc : Thread Cert.MemBwdRefIdeal.nD Cert.MemBwdRefIdeal.τ).loc Cert.MemBwdRefIdeal.main_arg4) = m ((c.tc : Thread Cert.MemBwdIdeal.nD Cert.MemBwdIdeal.τ).loc Cert.MemBwdIdeal.main_arg4)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
          ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v20) = v0 c
          ∧ r.2.mem ((c.tc : Thread Cert.MemBwdRefIdeal.nD Cert.MemBwdRefIdeal.τ).loc Cert.MemBwdRefIdeal.main_v21) = v1 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2)
          ∧ r.2.mem ((c.tc : Thread Cert.MemBwdRefIdeal.nD Cert.MemBwdRefIdeal.τ).loc Cert.MemBwdRefIdeal.main_arg3) = m' ((c.tc : Thread Cert.MemBwdRefIdeal.nD Cert.MemBwdRefIdeal.τ).loc Cert.MemBwdRefIdeal.main_arg3)
          ∧ r.2.mem ((c.tc : Thread Cert.MemBwdRefIdeal.nD Cert.MemBwdRefIdeal.τ).loc Cert.MemBwdRefIdeal.main_arg4) = m' ((c.tc : Thread Cert.MemBwdRefIdeal.nD Cert.MemBwdRefIdeal.τ).loc Cert.MemBwdRefIdeal.main_arg4))

def preserves_MmDh_MmDhIdeal : Prop :=
  True

def algebraic_MmDhIdeal_MmDhRefIdeal [hMmDhIdeal : Cert.MmDhIdeal.Facts] [hMmDhRefIdeal : Cert.MmDhRefIdeal.Facts] : Prop :=
  ∀ (m : (ℓ : Loc Cert.MmDhIdeal.nD Cert.MmDhIdeal.τ Cert.MmDhIdeal.sig) → Buf (Elt Ideal) ℓ) (g : Dev Cert.MmDhIdeal.nD → PrngReg)
    (m' : (ℓ : Loc Cert.MmDhRefIdeal.nD Cert.MmDhRefIdeal.τ Cert.MmDhRefIdeal.sig) → Buf (Elt Ideal) ℓ) (g' : Dev Cert.MmDhRefIdeal.nD → PrngReg), Pre_MmDhIdeal m →
    (∀ c : Dev Cert.MmDhIdeal.nD,
      m' ((c.tc : Thread Cert.MmDhRefIdeal.nD Cert.MmDhRefIdeal.τ).loc Cert.MmDhRefIdeal.main_arg0) = m ((c.tc : Thread Cert.MmDhIdeal.nD Cert.MmDhIdeal.τ).loc Cert.MmDhIdeal.main_arg0)
      ∧ m' ((c.tc : Thread Cert.MmDhRefIdeal.nD Cert.MmDhRefIdeal.τ).loc Cert.MmDhRefIdeal.main_arg1) = m ((c.tc : Thread Cert.MmDhIdeal.nD Cert.MmDhIdeal.τ).loc Cert.MmDhIdeal.main_arg1)
      ∧ m' ((c.tc : Thread Cert.MmDhRefIdeal.nD Cert.MmDhRefIdeal.τ).loc Cert.MmDhRefIdeal.main_arg2) = m ((c.tc : Thread Cert.MmDhIdeal.nD Cert.MmDhIdeal.τ).loc Cert.MmDhIdeal.main_arg2)
      ∧ m' ((c.tc : Thread Cert.MmDhRefIdeal.nD Cert.MmDhRefIdeal.τ).loc Cert.MmDhRefIdeal.main_arg3) = m ((c.tc : Thread Cert.MmDhIdeal.nD Cert.MmDhIdeal.τ).loc Cert.MmDhIdeal.main_arg3)
      ∧ m' ((c.tc : Thread Cert.MmDhRefIdeal.nD Cert.MmDhRefIdeal.τ).loc Cert.MmDhRefIdeal.main_arg4) = m ((c.tc : Thread Cert.MmDhIdeal.nD Cert.MmDhIdeal.τ).loc Cert.MmDhIdeal.main_arg4)) →
    ∃ (v0 : (c : Dev Cert.MmDhIdeal.nD) → Buf (Elt Ideal) ((c.tc : Thread Cert.MmDhIdeal.nD Cert.MmDhIdeal.τ).loc Cert.MmDhIdeal.main_v0_0)) (v1 : (c : Dev Cert.MmDhIdeal.nD) → Buf (Elt Ideal) ((c.tc : Thread Cert.MmDhIdeal.nD Cert.MmDhIdeal.τ).loc Cert.MmDhIdeal.main_v0_1)),
      θ_run (Cert.MmDhIdeal.defs (F := Ideal)) (onTc (τ := Cert.MmDhIdeal.τ) (Cert.MmDhIdeal.main (F := Ideal))) ⟨m, fun _ => 0, g⟩ (fun r => ∀ c : Dev Cert.MmDhIdeal.nD,
          r.2.mem ((c.tc : Thread Cert.MmDhIdeal.nD Cert.MmDhIdeal.τ).loc Cert.MmDhIdeal.main_v0_0) = v0 c
          ∧ r.2.mem ((c.tc : Thread Cert.MmDhIdeal.nD Cert.MmDhIdeal.τ).loc Cert.MmDhIdeal.main_v0_1) = v1 c
          ∧ r.2.mem ((c.tc : Thread Cert.MmDhIdeal.nD Cert.MmDhIdeal.τ).loc Cert.MmDhIdeal.main_arg0) = m ((c.tc : Thread Cert.MmDhIdeal.nD Cert.MmDhIdeal.τ).loc Cert.MmDhIdeal.main_arg0)
          ∧ r.2.mem ((c.tc : Thread Cert.MmDhIdeal.nD Cert.MmDhIdeal.τ).loc Cert.MmDhIdeal.main_arg1) = m ((c.tc : Thread Cert.MmDhIdeal.nD Cert.MmDhIdeal.τ).loc Cert.MmDhIdeal.main_arg1)
          ∧ r.2.mem ((c.tc : Thread Cert.MmDhIdeal.nD Cert.MmDhIdeal.τ).loc Cert.MmDhIdeal.main_arg2) = m ((c.tc : Thread Cert.MmDhIdeal.nD Cert.MmDhIdeal.τ).loc Cert.MmDhIdeal.main_arg2)
          ∧ r.2.mem ((c.tc : Thread Cert.MmDhIdeal.nD Cert.MmDhIdeal.τ).loc Cert.MmDhIdeal.main_arg3) = m ((c.tc : Thread Cert.MmDhIdeal.nD Cert.MmDhIdeal.τ).loc Cert.MmDhIdeal.main_arg3)
          ∧ r.2.mem ((c.tc : Thread Cert.MmDhIdeal.nD Cert.MmDhIdeal.τ).loc Cert.MmDhIdeal.main_arg4) = m ((c.tc : Thread Cert.MmDhIdeal.nD Cert.MmDhIdeal.τ).loc Cert.MmDhIdeal.main_arg4))
      ∧ θ_run (Cert.MmDhRefIdeal.defs (F := Ideal)) (onTc (τ := Cert.MmDhRefIdeal.τ) (Cert.MmDhRefIdeal.main (F := Ideal))) ⟨m', fun _ => 0, g'⟩ (fun r => ∀ c : Dev Cert.MmDhRefIdeal.nD,
          r.2.mem ((c.tc : Thread Cert.MmDhRefIdeal.nD Cert.MmDhRefIdeal.τ).loc Cert.MmDhRefIdeal.main_v68) = v0 c
          ∧ r.2.mem ((c.tc : Thread Cert.MmDhRefIdeal.nD Cert.MmDhRefIdeal.τ).loc Cert.MmDhRefIdeal.main_v51) = v1 c
          ∧ r.2.mem ((c.tc : Thread Cert.MmDhRefIdeal.nD Cert.MmDhRefIdeal.τ).loc Cert.MmDhRefIdeal.main_arg0) = m' ((c.tc : Thread Cert.MmDhRefIdeal.nD Cert.MmDhRefIdeal.τ).loc Cert.MmDhRefIdeal.main_arg0)
          ∧ r.2.mem ((c.tc : Thread Cert.MmDhRefIdeal.nD Cert.MmDhRefIdeal.τ).loc Cert.MmDhRefIdeal.main_arg1) = m' ((c.tc : Thread Cert.MmDhRefIdeal.nD Cert.MmDhRefIdeal.τ).loc Cert.MmDhRefIdeal.main_arg1)
          ∧ r.2.mem ((c.tc : Thread Cert.MmDhRefIdeal.nD Cert.MmDhRefIdeal.τ).loc Cert.MmDhRefIdeal.main_arg2) = m' ((c.tc : Thread Cert.MmDhRefIdeal.nD Cert.MmDhRefIdeal.τ).loc Cert.MmDhRefIdeal.main_arg2)
          ∧ r.2.mem ((c.tc : Thread Cert.MmDhRefIdeal.nD Cert.MmDhRefIdeal.τ).loc Cert.MmDhRefIdeal.main_arg3) = m' ((c.tc : Thread Cert.MmDhRefIdeal.nD Cert.MmDhRefIdeal.τ).loc Cert.MmDhRefIdeal.main_arg3)
          ∧ r.2.mem ((c.tc : Thread Cert.MmDhRefIdeal.nD Cert.MmDhRefIdeal.τ).loc Cert.MmDhRefIdeal.main_arg4) = m' ((c.tc : Thread Cert.MmDhRefIdeal.nD Cert.MmDhRefIdeal.τ).loc Cert.MmDhRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v15) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_BranchABwd_BranchABwdIdeal : Prop :=
  True

def algebraic_BranchABwdIdeal_BranchABwdRefIdeal_pre_a_finite [hBranchABwdIdeal : Cert.BranchABwdIdeal.Facts] [hBranchABwdRefIdeal : Cert.BranchABwdRefIdeal.Facts] [hPre_a_finite : Cert.Pre_a_finite.Facts] : Prop :=
  ∀ (m : (ℓ : Loc Cert.BranchABwdIdeal.nD Cert.BranchABwdIdeal.τ Cert.BranchABwdIdeal.sig) → Buf (Elt Ideal) ℓ) (g : Dev Cert.BranchABwdIdeal.nD → PrngReg)
    (m' : (ℓ : Loc Cert.BranchABwdRefIdeal.nD Cert.BranchABwdRefIdeal.τ Cert.BranchABwdRefIdeal.sig) → Buf (Elt Ideal) ℓ) (g' : Dev Cert.BranchABwdRefIdeal.nD → PrngReg), Pre_BranchABwdIdeal_a_finite m →
    (∀ c : Dev Cert.BranchABwdIdeal.nD,
      m' ((c.tc : Thread Cert.BranchABwdRefIdeal.nD Cert.BranchABwdRefIdeal.τ).loc Cert.BranchABwdRefIdeal.main_arg0) = m ((c.tc : Thread Cert.BranchABwdIdeal.nD Cert.BranchABwdIdeal.τ).loc Cert.BranchABwdIdeal.main_arg0)
      ∧ m' ((c.tc : Thread Cert.BranchABwdRefIdeal.nD Cert.BranchABwdRefIdeal.τ).loc Cert.BranchABwdRefIdeal.main_arg1) = m ((c.tc : Thread Cert.BranchABwdIdeal.nD Cert.BranchABwdIdeal.τ).loc Cert.BranchABwdIdeal.main_arg1)
      ∧ m' ((c.tc : Thread Cert.BranchABwdRefIdeal.nD Cert.BranchABwdRefIdeal.τ).loc Cert.BranchABwdRefIdeal.main_arg2) = m ((c.tc : Thread Cert.BranchABwdIdeal.nD Cert.BranchABwdIdeal.τ).loc Cert.BranchABwdIdeal.main_arg2)
      ∧ m' ((c.tc : Thread Cert.BranchABwdRefIdeal.nD Cert.BranchABwdRefIdeal.τ).loc Cert.BranchABwdRefIdeal.main_arg3) = m ((c.tc : Thread Cert.BranchABwdIdeal.nD Cert.BranchABwdIdeal.τ).loc Cert.BranchABwdIdeal.main_arg3)
      ∧ m' ((c.tc : Thread Cert.BranchABwdRefIdeal.nD Cert.BranchABwdRefIdeal.τ).loc Cert.BranchABwdRefIdeal.main_arg4) = m ((c.tc : Thread Cert.BranchABwdIdeal.nD Cert.BranchABwdIdeal.τ).loc Cert.BranchABwdIdeal.main_arg4)
      ∧ m' ((c.tc : Thread Cert.BranchABwdRefIdeal.nD Cert.BranchABwdRefIdeal.τ).loc Cert.BranchABwdRefIdeal.main_arg5) = m ((c.tc : Thread Cert.BranchABwdIdeal.nD Cert.BranchABwdIdeal.τ).loc Cert.BranchABwdIdeal.main_arg5)
      ∧ m' ((c.tc : Thread Cert.BranchABwdRefIdeal.nD Cert.BranchABwdRefIdeal.τ).loc Cert.BranchABwdRefIdeal.main_arg6) = m ((c.tc : Thread Cert.BranchABwdIdeal.nD Cert.BranchABwdIdeal.τ).loc Cert.BranchABwdIdeal.main_arg6)) →
    ∃ (v0 : (c : Dev Cert.BranchABwdIdeal.nD) → Buf (Elt Ideal) ((c.tc : Thread Cert.BranchABwdIdeal.nD Cert.BranchABwdIdeal.τ).loc Cert.BranchABwdIdeal.main_v2_0)) (v1 : (c : Dev Cert.BranchABwdIdeal.nD) → Buf (Elt Ideal) ((c.tc : Thread Cert.BranchABwdIdeal.nD Cert.BranchABwdIdeal.τ).loc Cert.BranchABwdIdeal.main_v2_1)) (v2 : (c : Dev Cert.BranchABwdIdeal.nD) → Buf (Elt Ideal) ((c.tc : Thread Cert.BranchABwdIdeal.nD Cert.BranchABwdIdeal.τ).loc Cert.BranchABwdIdeal.main_v2_2)) (v3 : (c : Dev Cert.BranchABwdIdeal.nD) → Buf (Elt Ideal) ((c.tc : Thread Cert.BranchABwdIdeal.nD Cert.BranchABwdIdeal.τ).loc Cert.BranchABwdIdeal.main_v2_3)) (v4 : (c : Dev Cert.BranchABwdIdeal.nD) → Buf (Elt Ideal) ((c.tc : Thread Cert.BranchABwdIdeal.nD Cert.BranchABwdIdeal.τ).loc Cert.BranchABwdIdeal.main_v2_4)),
      θ_run (Cert.BranchABwdIdeal.defs (F := Ideal)) (onTc (τ := Cert.BranchABwdIdeal.τ) (Cert.BranchABwdIdeal.main (F := Ideal))) ⟨m, fun _ => 0, g⟩ (fun r => ∀ c : Dev Cert.BranchABwdIdeal.nD,
          r.2.mem ((c.tc : Thread Cert.BranchABwdIdeal.nD Cert.BranchABwdIdeal.τ).loc Cert.BranchABwdIdeal.main_v2_0) = v0 c
          ∧ r.2.mem ((c.tc : Thread Cert.BranchABwdIdeal.nD Cert.BranchABwdIdeal.τ).loc Cert.BranchABwdIdeal.main_v2_1) = v1 c
          ∧ r.2.mem ((c.tc : Thread Cert.BranchABwdIdeal.nD Cert.BranchABwdIdeal.τ).loc Cert.BranchABwdIdeal.main_v2_2) = v2 c
          ∧ r.2.mem ((c.tc : Thread Cert.BranchABwdIdeal.nD Cert.BranchABwdIdeal.τ).loc Cert.BranchABwdIdeal.main_v2_3) = v3 c
          ∧ r.2.mem ((c.tc : Thread Cert.BranchABwdIdeal.nD Cert.BranchABwdIdeal.τ).loc Cert.BranchABwdIdeal.main_v2_4) = v4 c
          ∧ r.2.mem ((c.tc : Thread Cert.BranchABwdIdeal.nD Cert.BranchABwdIdeal.τ).loc Cert.BranchABwdIdeal.main_arg0) = m ((c.tc : Thread Cert.BranchABwdIdeal.nD Cert.BranchABwdIdeal.τ).loc Cert.BranchABwdIdeal.main_arg0)
          ∧ r.2.mem ((c.tc : Thread Cert.BranchABwdIdeal.nD Cert.BranchABwdIdeal.τ).loc Cert.BranchABwdIdeal.main_arg1) = m ((c.tc : Thread Cert.BranchABwdIdeal.nD Cert.BranchABwdIdeal.τ).loc Cert.BranchABwdIdeal.main_arg1)
          ∧ r.2.mem ((c.tc : Thread Cert.BranchABwdIdeal.nD Cert.BranchABwdIdeal.τ).loc Cert.BranchABwdIdeal.main_arg2) = m ((c.tc : Thread Cert.BranchABwdIdeal.nD Cert.BranchABwdIdeal.τ).loc Cert.BranchABwdIdeal.main_arg2)
          ∧ r.2.mem ((c.tc : Thread Cert.BranchABwdIdeal.nD Cert.BranchABwdIdeal.τ).loc Cert.BranchABwdIdeal.main_arg3) = m ((c.tc : Thread Cert.BranchABwdIdeal.nD Cert.BranchABwdIdeal.τ).loc Cert.BranchABwdIdeal.main_arg3)
          ∧ r.2.mem ((c.tc : Thread Cert.BranchABwdIdeal.nD Cert.BranchABwdIdeal.τ).loc Cert.BranchABwdIdeal.main_arg4) = m ((c.tc : Thread Cert.BranchABwdIdeal.nD Cert.BranchABwdIdeal.τ).loc Cert.BranchABwdIdeal.main_arg4)
          ∧ r.2.mem ((c.tc : Thread Cert.BranchABwdIdeal.nD Cert.BranchABwdIdeal.τ).loc Cert.BranchABwdIdeal.main_arg5) = m ((c.tc : Thread Cert.BranchABwdIdeal.nD Cert.BranchABwdIdeal.τ).loc Cert.BranchABwdIdeal.main_arg5)
          ∧ r.2.mem ((c.tc : Thread Cert.BranchABwdIdeal.nD Cert.BranchABwdIdeal.τ).loc Cert.BranchABwdIdeal.main_arg6) = m ((c.tc : Thread Cert.BranchABwdIdeal.nD Cert.BranchABwdIdeal.τ).loc Cert.BranchABwdIdeal.main_arg6))
      ∧ θ_run (Cert.BranchABwdRefIdeal.defs (F := Ideal)) (onTc (τ := Cert.BranchABwdRefIdeal.τ) (Cert.BranchABwdRefIdeal.main (F := Ideal))) ⟨m', fun _ => 0, g'⟩ (fun r => ∀ c : Dev Cert.BranchABwdRefIdeal.nD,
          r.2.mem ((c.tc : Thread Cert.BranchABwdRefIdeal.nD Cert.BranchABwdRefIdeal.τ).loc Cert.BranchABwdRefIdeal.main_v110) = v0 c
          ∧ r.2.mem ((c.tc : Thread Cert.BranchABwdRefIdeal.nD Cert.BranchABwdRefIdeal.τ).loc Cert.BranchABwdRefIdeal.main_v68) = v1 c
          ∧ r.2.mem ((c.tc : Thread Cert.BranchABwdRefIdeal.nD Cert.BranchABwdRefIdeal.τ).loc Cert.BranchABwdRefIdeal.main_v63) = v2 c
          ∧ r.2.mem ((c.tc : Thread Cert.BranchABwdRefIdeal.nD Cert.BranchABwdRefIdeal.τ).loc Cert.BranchABwdRefIdeal.main_v74) = v3 c
          ∧ r.2.mem ((c.tc : Thread Cert.BranchABwdRefIdeal.nD Cert.BranchABwdRefIdeal.τ).loc Cert.BranchABwdRefIdeal.main_v71) = v4 c
          ∧ r.2.mem ((c.tc : Thread Cert.BranchABwdRefIdeal.nD Cert.BranchABwdRefIdeal.τ).loc Cert.BranchABwdRefIdeal.main_arg0) = m' ((c.tc : Thread Cert.BranchABwdRefIdeal.nD Cert.BranchABwdRefIdeal.τ).loc Cert.BranchABwdRefIdeal.main_arg0)
          ∧ r.2.mem ((c.tc : Thread Cert.BranchABwdRefIdeal.nD Cert.BranchABwdRefIdeal.τ).loc Cert.BranchABwdRefIdeal.main_arg1) = m' ((c.tc : Thread Cert.BranchABwdRefIdeal.nD Cert.BranchABwdRefIdeal.τ).loc Cert.BranchABwdRefIdeal.main_arg1)
          ∧ r.2.mem ((c.tc : Thread Cert.BranchABwdRefIdeal.nD Cert.BranchABwdRefIdeal.τ).loc Cert.BranchABwdRefIdeal.main_arg2) = m' ((c.tc : Thread Cert.BranchABwdRefIdeal.nD Cert.BranchABwdRefIdeal.τ).loc Cert.BranchABwdRefIdeal.main_arg2)
          ∧ r.2.mem ((c.tc : Thread Cert.BranchABwdRefIdeal.nD Cert.BranchABwdRefIdeal.τ).loc Cert.BranchABwdRefIdeal.main_arg3) = m' ((c.tc : Thread Cert.BranchABwdRefIdeal.nD Cert.BranchABwdRefIdeal.τ).loc Cert.BranchABwdRefIdeal.main_arg3)
          ∧ r.2.mem ((c.tc : Thread Cert.BranchABwdRefIdeal.nD Cert.BranchABwdRefIdeal.τ).loc Cert.BranchABwdRefIdeal.main_arg4) = m' ((c.tc : Thread Cert.BranchABwdRefIdeal.nD Cert.BranchABwdRefIdeal.τ).loc Cert.BranchABwdRefIdeal.main_arg4)
          ∧ r.2.mem ((c.tc : Thread Cert.BranchABwdRefIdeal.nD Cert.BranchABwdRefIdeal.τ).loc Cert.BranchABwdRefIdeal.main_arg5) = m' ((c.tc : Thread Cert.BranchABwdRefIdeal.nD Cert.BranchABwdRefIdeal.τ).loc Cert.BranchABwdRefIdeal.main_arg5)
          ∧ r.2.mem ((c.tc : Thread Cert.BranchABwdRefIdeal.nD Cert.BranchABwdRefIdeal.τ).loc Cert.BranchABwdRefIdeal.main_arg6) = m' ((c.tc : Thread Cert.BranchABwdRefIdeal.nD Cert.BranchABwdRefIdeal.τ).loc Cert.BranchABwdRefIdeal.main_arg6))

def preserves_BranchCBwd_BranchCBwdIdeal : Prop :=
  True

def algebraic_BranchCBwdIdeal_BranchCBwdRefIdeal_pre_c_finite [hBranchCBwdIdeal : Cert.BranchCBwdIdeal.Facts] [hBranchCBwdRefIdeal : Cert.BranchCBwdRefIdeal.Facts] [hPre_c_finite : Cert.Pre_c_finite.Facts] : Prop :=
  ∀ (m : (ℓ : Loc Cert.BranchCBwdIdeal.nD Cert.BranchCBwdIdeal.τ Cert.BranchCBwdIdeal.sig) → Buf (Elt Ideal) ℓ) (g : Dev Cert.BranchCBwdIdeal.nD → PrngReg)
    (m' : (ℓ : Loc Cert.BranchCBwdRefIdeal.nD Cert.BranchCBwdRefIdeal.τ Cert.BranchCBwdRefIdeal.sig) → Buf (Elt Ideal) ℓ) (g' : Dev Cert.BranchCBwdRefIdeal.nD → PrngReg), Pre_BranchCBwdIdeal_c_finite m →
    (∀ c : Dev Cert.BranchCBwdIdeal.nD,
      m' ((c.tc : Thread Cert.BranchCBwdRefIdeal.nD Cert.BranchCBwdRefIdeal.τ).loc Cert.BranchCBwdRefIdeal.main_arg0) = m ((c.tc : Thread Cert.BranchCBwdIdeal.nD Cert.BranchCBwdIdeal.τ).loc Cert.BranchCBwdIdeal.main_arg0)
      ∧ m' ((c.tc : Thread Cert.BranchCBwdRefIdeal.nD Cert.BranchCBwdRefIdeal.τ).loc Cert.BranchCBwdRefIdeal.main_arg1) = m ((c.tc : Thread Cert.BranchCBwdIdeal.nD Cert.BranchCBwdIdeal.τ).loc Cert.BranchCBwdIdeal.main_arg1)
      ∧ m' ((c.tc : Thread Cert.BranchCBwdRefIdeal.nD Cert.BranchCBwdRefIdeal.τ).loc Cert.BranchCBwdRefIdeal.main_arg2) = m ((c.tc : Thread Cert.BranchCBwdIdeal.nD Cert.BranchCBwdIdeal.τ).loc Cert.BranchCBwdIdeal.main_arg2)
      ∧ m' ((c.tc : Thread Cert.BranchCBwdRefIdeal.nD Cert.BranchCBwdRefIdeal.τ).loc Cert.BranchCBwdRefIdeal.main_arg3) = m ((c.tc : Thread Cert.BranchCBwdIdeal.nD Cert.BranchCBwdIdeal.τ).loc Cert.BranchCBwdIdeal.main_arg3)) →
    ∃ (v0 : (c : Dev Cert.BranchCBwdIdeal.nD) → Buf (Elt Ideal) ((c.tc : Thread Cert.BranchCBwdIdeal.nD Cert.BranchCBwdIdeal.τ).loc Cert.BranchCBwdIdeal.main_v1_0)) (v1 : (c : Dev Cert.BranchCBwdIdeal.nD) → Buf (Elt Ideal) ((c.tc : Thread Cert.BranchCBwdIdeal.nD Cert.BranchCBwdIdeal.τ).loc Cert.BranchCBwdIdeal.main_v1_1)),
      θ_run (Cert.BranchCBwdIdeal.defs (F := Ideal)) (onTc (τ := Cert.BranchCBwdIdeal.τ) (Cert.BranchCBwdIdeal.main (F := Ideal))) ⟨m, fun _ => 0, g⟩ (fun r => ∀ c : Dev Cert.BranchCBwdIdeal.nD,
          r.2.mem ((c.tc : Thread Cert.BranchCBwdIdeal.nD Cert.BranchCBwdIdeal.τ).loc Cert.BranchCBwdIdeal.main_v1_0) = v0 c
          ∧ r.2.mem ((c.tc : Thread Cert.BranchCBwdIdeal.nD Cert.BranchCBwdIdeal.τ).loc Cert.BranchCBwdIdeal.main_v1_1) = v1 c
          ∧ r.2.mem ((c.tc : Thread Cert.BranchCBwdIdeal.nD Cert.BranchCBwdIdeal.τ).loc Cert.BranchCBwdIdeal.main_arg0) = m ((c.tc : Thread Cert.BranchCBwdIdeal.nD Cert.BranchCBwdIdeal.τ).loc Cert.BranchCBwdIdeal.main_arg0)
          ∧ r.2.mem ((c.tc : Thread Cert.BranchCBwdIdeal.nD Cert.BranchCBwdIdeal.τ).loc Cert.BranchCBwdIdeal.main_arg1) = m ((c.tc : Thread Cert.BranchCBwdIdeal.nD Cert.BranchCBwdIdeal.τ).loc Cert.BranchCBwdIdeal.main_arg1)
          ∧ r.2.mem ((c.tc : Thread Cert.BranchCBwdIdeal.nD Cert.BranchCBwdIdeal.τ).loc Cert.BranchCBwdIdeal.main_arg2) = m ((c.tc : Thread Cert.BranchCBwdIdeal.nD Cert.BranchCBwdIdeal.τ).loc Cert.BranchCBwdIdeal.main_arg2)
          ∧ r.2.mem ((c.tc : Thread Cert.BranchCBwdIdeal.nD Cert.BranchCBwdIdeal.τ).loc Cert.BranchCBwdIdeal.main_arg3) = m ((c.tc : Thread Cert.BranchCBwdIdeal.nD Cert.BranchCBwdIdeal.τ).loc Cert.BranchCBwdIdeal.main_arg3))
      ∧ θ_run (Cert.BranchCBwdRefIdeal.defs (F := Ideal)) (onTc (τ := Cert.BranchCBwdRefIdeal.τ) (Cert.BranchCBwdRefIdeal.main (F := Ideal))) ⟨m', fun _ => 0, g'⟩ (fun r => ∀ c : Dev Cert.BranchCBwdRefIdeal.nD,
          r.2.mem ((c.tc : Thread Cert.BranchCBwdRefIdeal.nD Cert.BranchCBwdRefIdeal.τ).loc Cert.BranchCBwdRefIdeal.main_v84) = v0 c
          ∧ r.2.mem ((c.tc : Thread Cert.BranchCBwdRefIdeal.nD Cert.BranchCBwdRefIdeal.τ).loc Cert.BranchCBwdRefIdeal.main_v77) = v1 c
          ∧ r.2.mem ((c.tc : Thread Cert.BranchCBwdRefIdeal.nD Cert.BranchCBwdRefIdeal.τ).loc Cert.BranchCBwdRefIdeal.main_arg0) = m' ((c.tc : Thread Cert.BranchCBwdRefIdeal.nD Cert.BranchCBwdRefIdeal.τ).loc Cert.BranchCBwdRefIdeal.main_arg0)
          ∧ r.2.mem ((c.tc : Thread Cert.BranchCBwdRefIdeal.nD Cert.BranchCBwdRefIdeal.τ).loc Cert.BranchCBwdRefIdeal.main_arg1) = m' ((c.tc : Thread Cert.BranchCBwdRefIdeal.nD Cert.BranchCBwdRefIdeal.τ).loc Cert.BranchCBwdRefIdeal.main_arg1)
          ∧ r.2.mem ((c.tc : Thread Cert.BranchCBwdRefIdeal.nD Cert.BranchCBwdRefIdeal.τ).loc Cert.BranchCBwdRefIdeal.main_arg2) = m' ((c.tc : Thread Cert.BranchCBwdRefIdeal.nD Cert.BranchCBwdRefIdeal.τ).loc Cert.BranchCBwdRefIdeal.main_arg2)
          ∧ r.2.mem ((c.tc : Thread Cert.BranchCBwdRefIdeal.nD Cert.BranchCBwdRefIdeal.τ).loc Cert.BranchCBwdRefIdeal.main_arg3) = m' ((c.tc : Thread Cert.BranchCBwdRefIdeal.nD Cert.BranchCBwdRefIdeal.τ).loc Cert.BranchCBwdRefIdeal.main_arg3))

def preserves_OutBwd_OutBwdIdeal : Prop :=
  True

def algebraic_OutBwdIdeal_OutBwdRefIdeal_on_o_written_pre_o_finite [hOutBwdIdeal : Cert.OutBwdIdeal.Facts] [hOutBwdRefIdeal : Cert.OutBwdRefIdeal.Facts] [hPre_o_finite : Cert.Pre_o_finite.Facts] [hOn_o_written : Cert.On_o_written.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_o_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v33_0)) (v1 : (c : Dev Cert.OutBwdIdeal.nD) → Buf (Elt Ideal) ((c.tc : Thread Cert.OutBwdIdeal.nD Cert.OutBwdIdeal.τ).loc Cert.OutBwdIdeal.main_v33_1)) (v2 : (c : Dev Cert.OutBwdIdeal.nD) → Buf (Elt Ideal) ((c.tc : Thread Cert.OutBwdIdeal.nD Cert.OutBwdIdeal.τ).loc Cert.OutBwdIdeal.main_v33_2)) (v3 : (c : Dev Cert.OutBwdIdeal.nD) → Buf (Elt Ideal) ((c.tc : Thread Cert.OutBwdIdeal.nD Cert.OutBwdIdeal.τ).loc Cert.OutBwdIdeal.main_v33_3)) (v4 : (c : Dev Cert.OutBwdIdeal.nD) → Buf (Elt Ideal) ((c.tc : Thread Cert.OutBwdIdeal.nD Cert.OutBwdIdeal.τ).loc Cert.OutBwdIdeal.main_v33_4)) (v5 : (c : Dev Cert.OutBwdIdeal.nD) → Buf (Elt Ideal) ((c.tc : Thread Cert.OutBwdIdeal.nD Cert.OutBwdIdeal.τ).loc Cert.OutBwdIdeal.main_v33_5)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          (∀ i : (⟨3, ![4, 4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).1 i = 1#1 → r.2.mem ((c.tc : Thread Cert.OutBwdIdeal.nD Cert.OutBwdIdeal.τ).loc Cert.OutBwdIdeal.main_v33_0) i = v0 c i)
          ∧ (∀ i : (⟨2, ![4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.1 i = 1#1 → r.2.mem ((c.tc : Thread Cert.OutBwdIdeal.nD Cert.OutBwdIdeal.τ).loc Cert.OutBwdIdeal.main_v33_1) i = v1 c i)
          ∧ (∀ i : (⟨2, ![4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.1 i = 1#1 → r.2.mem ((c.tc : Thread Cert.OutBwdIdeal.nD Cert.OutBwdIdeal.τ).loc Cert.OutBwdIdeal.main_v33_2) i = v2 c i)
          ∧ (∀ i : (⟨2, ![4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.1 i = 1#1 → r.2.mem ((c.tc : Thread Cert.OutBwdIdeal.nD Cert.OutBwdIdeal.τ).loc Cert.OutBwdIdeal.main_v33_3) i = v3 c i)
          ∧ (∀ i : (⟨3, ![10, 4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.1 i = 1#1 → r.2.mem ((c.tc : Thread Cert.OutBwdIdeal.nD Cert.OutBwdIdeal.τ).loc Cert.OutBwdIdeal.main_v33_4) i = v4 c i)
          ∧ (∀ i : (⟨2, ![1, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.2 i = 1#1 → r.2.mem ((c.tc : Thread Cert.OutBwdIdeal.nD Cert.OutBwdIdeal.τ).loc Cert.OutBwdIdeal.main_v33_5) i = v5 c i)
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          (∀ i : (⟨3, ![4, 4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).1 i = 1#1 → r.2.mem ((c.tc : Thread Cert.OutBwdRefIdeal.nD Cert.OutBwdRefIdeal.τ).loc Cert.OutBwdRefIdeal.main_v104) i = v0 c i)
          ∧ (∀ i : (⟨2, ![4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.1 i = 1#1 → r.2.mem ((c.tc : Thread Cert.OutBwdRefIdeal.nD Cert.OutBwdRefIdeal.τ).loc Cert.OutBwdRefIdeal.main_v105) i = v1 c i)
          ∧ (∀ i : (⟨2, ![4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.1 i = 1#1 → r.2.mem ((c.tc : Thread Cert.OutBwdRefIdeal.nD Cert.OutBwdRefIdeal.τ).loc Cert.OutBwdRefIdeal.main_v106) i = v2 c i)
          ∧ (∀ i : (⟨2, ![4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.1 i = 1#1 → r.2.mem ((c.tc : Thread Cert.OutBwdRefIdeal.nD Cert.OutBwdRefIdeal.τ).loc Cert.OutBwdRefIdeal.main_v107) i = v3 c i)
          ∧ (∀ i : (⟨3, ![10, 4096, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.1 i = 1#1 → r.2.mem ((c.tc : Thread Cert.OutBwdRefIdeal.nD Cert.OutBwdRefIdeal.τ).loc Cert.OutBwdRefIdeal.main_v95) i = v4 c i)
          ∧ (∀ i : (⟨2, ![1, 1024]⟩ : Shape).Idx, (Cert.On_o_written.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))).2.2.2.2.2 i = 1#1 → r.2.mem ((c.tc : Thread Cert.OutBwdRefIdeal.nD Cert.OutBwdRefIdeal.τ).loc Cert.OutBwdRefIdeal.main_v57) i = v5 c i)
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_BranchAFwd_BranchAFwdIdeal : Prop :=
  True

def algebraic_BranchAFwdIdeal_BranchAFwdRefIdeal [hBranchAFwdIdeal : Cert.BranchAFwdIdeal.Facts] [hBranchAFwdRefIdeal : Cert.BranchAFwdRefIdeal.Facts] : Prop :=
  ∀ (m : (ℓ : Loc Cert.BranchAFwdIdeal.nD Cert.BranchAFwdIdeal.τ Cert.BranchAFwdIdeal.sig) → Buf (Elt Ideal) ℓ) (g : Dev Cert.BranchAFwdIdeal.nD → PrngReg)
    (m' : (ℓ : Loc Cert.BranchAFwdRefIdeal.nD Cert.BranchAFwdRefIdeal.τ Cert.BranchAFwdRefIdeal.sig) → Buf (Elt Ideal) ℓ) (g' : Dev Cert.BranchAFwdRefIdeal.nD → PrngReg), Pre_BranchAFwdIdeal m →
    (∀ c : Dev Cert.BranchAFwdIdeal.nD,
      m' ((c.tc : Thread Cert.BranchAFwdRefIdeal.nD Cert.BranchAFwdRefIdeal.τ).loc Cert.BranchAFwdRefIdeal.main_arg0) = m ((c.tc : Thread Cert.BranchAFwdIdeal.nD Cert.BranchAFwdIdeal.τ).loc Cert.BranchAFwdIdeal.main_arg0)
      ∧ m' ((c.tc : Thread Cert.BranchAFwdRefIdeal.nD Cert.BranchAFwdRefIdeal.τ).loc Cert.BranchAFwdRefIdeal.main_arg1) = m ((c.tc : Thread Cert.BranchAFwdIdeal.nD Cert.BranchAFwdIdeal.τ).loc Cert.BranchAFwdIdeal.main_arg1)
      ∧ m' ((c.tc : Thread Cert.BranchAFwdRefIdeal.nD Cert.BranchAFwdRefIdeal.τ).loc Cert.BranchAFwdRefIdeal.main_arg2) = m ((c.tc : Thread Cert.BranchAFwdIdeal.nD Cert.BranchAFwdIdeal.τ).loc Cert.BranchAFwdIdeal.main_arg2)
      ∧ m' ((c.tc : Thread Cert.BranchAFwdRefIdeal.nD Cert.BranchAFwdRefIdeal.τ).loc Cert.BranchAFwdRefIdeal.main_arg3) = m ((c.tc : Thread Cert.BranchAFwdIdeal.nD Cert.BranchAFwdIdeal.τ).loc Cert.BranchAFwdIdeal.main_arg3)
      ∧ m' ((c.tc : Thread Cert.BranchAFwdRefIdeal.nD Cert.BranchAFwdRefIdeal.τ).loc Cert.BranchAFwdRefIdeal.main_arg4) = m ((c.tc : Thread Cert.BranchAFwdIdeal.nD Cert.BranchAFwdIdeal.τ).loc Cert.BranchAFwdIdeal.main_arg4)) →
    ∃ (v0 : (c : Dev Cert.BranchAFwdIdeal.nD) → Buf (Elt Ideal) ((c.tc : Thread Cert.BranchAFwdIdeal.nD Cert.BranchAFwdIdeal.τ).loc Cert.BranchAFwdIdeal.main_v2)),
      θ_run (Cert.BranchAFwdIdeal.defs (F := Ideal)) (onTc (τ := Cert.BranchAFwdIdeal.τ) (Cert.BranchAFwdIdeal.main (F := Ideal))) ⟨m, fun _ => 0, g⟩ (fun r => ∀ c : Dev Cert.BranchAFwdIdeal.nD,
          r.2.mem ((c.tc : Thread Cert.BranchAFwdIdeal.nD Cert.BranchAFwdIdeal.τ).loc Cert.BranchAFwdIdeal.main_v2) = v0 c
          ∧ r.2.mem ((c.tc : Thread Cert.BranchAFwdIdeal.nD Cert.BranchAFwdIdeal.τ).loc Cert.BranchAFwdIdeal.main_arg0) = m ((c.tc : Thread Cert.BranchAFwdIdeal.nD Cert.BranchAFwdIdeal.τ).loc Cert.BranchAFwdIdeal.main_arg0)
          ∧ r.2.mem ((c.tc : Thread Cert.BranchAFwdIdeal.nD Cert.BranchAFwdIdeal.τ).loc Cert.BranchAFwdIdeal.main_arg1) = m ((c.tc : Thread Cert.BranchAFwdIdeal.nD Cert.BranchAFwdIdeal.τ).loc Cert.BranchAFwdIdeal.main_arg1)
          ∧ r.2.mem ((c.tc : Thread Cert.BranchAFwdIdeal.nD Cert.BranchAFwdIdeal.τ).loc Cert.BranchAFwdIdeal.main_arg2) = m ((c.tc : Thread Cert.BranchAFwdIdeal.nD Cert.BranchAFwdIdeal.τ).loc Cert.BranchAFwdIdeal.main_arg2)
          ∧ r.2.mem ((c.tc : Thread Cert.BranchAFwdIdeal.nD Cert.BranchAFwdIdeal.τ).loc Cert.BranchAFwdIdeal.main_arg3) = m ((c.tc : Thread Cert.BranchAFwdIdeal.nD Cert.BranchAFwdIdeal.τ).loc Cert.BranchAFwdIdeal.main_arg3)
          ∧ r.2.mem ((c.tc : Thread Cert.BranchAFwdIdeal.nD Cert.BranchAFwdIdeal.τ).loc Cert.BranchAFwdIdeal.main_arg4) = m ((c.tc : Thread Cert.BranchAFwdIdeal.nD Cert.BranchAFwdIdeal.τ).loc Cert.BranchAFwdIdeal.main_arg4))
      ∧ θ_run (Cert.BranchAFwdRefIdeal.defs (F := Ideal)) (onTc (τ := Cert.BranchAFwdRefIdeal.τ) (Cert.BranchAFwdRefIdeal.main (F := Ideal))) ⟨m', fun _ => 0, g'⟩ (fun r => ∀ c : Dev Cert.BranchAFwdRefIdeal.nD,
          r.2.mem ((c.tc : Thread Cert.BranchAFwdRefIdeal.nD Cert.BranchAFwdRefIdeal.τ).loc Cert.BranchAFwdRefIdeal.main_v48) = v0 c
          ∧ r.2.mem ((c.tc : Thread Cert.BranchAFwdRefIdeal.nD Cert.BranchAFwdRefIdeal.τ).loc Cert.BranchAFwdRefIdeal.main_arg0) = m' ((c.tc : Thread Cert.BranchAFwdRefIdeal.nD Cert.BranchAFwdRefIdeal.τ).loc Cert.BranchAFwdRefIdeal.main_arg0)
          ∧ r.2.mem ((c.tc : Thread Cert.BranchAFwdRefIdeal.nD Cert.BranchAFwdRefIdeal.τ).loc Cert.BranchAFwdRefIdeal.main_arg1) = m' ((c.tc : Thread Cert.BranchAFwdRefIdeal.nD Cert.BranchAFwdRefIdeal.τ).loc Cert.BranchAFwdRefIdeal.main_arg1)
          ∧ r.2.mem ((c.tc : Thread Cert.BranchAFwdRefIdeal.nD Cert.BranchAFwdRefIdeal.τ).loc Cert.BranchAFwdRefIdeal.main_arg2) = m' ((c.tc : Thread Cert.BranchAFwdRefIdeal.nD Cert.BranchAFwdRefIdeal.τ).loc Cert.BranchAFwdRefIdeal.main_arg2)
          ∧ r.2.mem ((c.tc : Thread Cert.BranchAFwdRefIdeal.nD Cert.BranchAFwdRefIdeal.τ).loc Cert.BranchAFwdRefIdeal.main_arg3) = m' ((c.tc : Thread Cert.BranchAFwdRefIdeal.nD Cert.BranchAFwdRefIdeal.τ).loc Cert.BranchAFwdRefIdeal.main_arg3)
          ∧ r.2.mem ((c.tc : Thread Cert.BranchAFwdRefIdeal.nD Cert.BranchAFwdRefIdeal.τ).loc Cert.BranchAFwdRefIdeal.main_arg4) = m' ((c.tc : Thread Cert.BranchAFwdRefIdeal.nD Cert.BranchAFwdRefIdeal.τ).loc Cert.BranchAFwdRefIdeal.main_arg4))

def preserves_BranchCFwd_BranchCFwdIdeal : Prop :=
  True

def algebraic_BranchCFwdIdeal_BranchCFwdRefIdeal [hBranchCFwdIdeal : Cert.BranchCFwdIdeal.Facts] [hBranchCFwdRefIdeal : Cert.BranchCFwdRefIdeal.Facts] : Prop :=
  ∀ (m : (ℓ : Loc Cert.BranchCFwdIdeal.nD Cert.BranchCFwdIdeal.τ Cert.BranchCFwdIdeal.sig) → Buf (Elt Ideal) ℓ) (g : Dev Cert.BranchCFwdIdeal.nD → PrngReg)
    (m' : (ℓ : Loc Cert.BranchCFwdRefIdeal.nD Cert.BranchCFwdRefIdeal.τ Cert.BranchCFwdRefIdeal.sig) → Buf (Elt Ideal) ℓ) (g' : Dev Cert.BranchCFwdRefIdeal.nD → PrngReg), Pre_BranchCFwdIdeal m →
    (∀ c : Dev Cert.BranchCFwdIdeal.nD,
      m' ((c.tc : Thread Cert.BranchCFwdRefIdeal.nD Cert.BranchCFwdRefIdeal.τ).loc Cert.BranchCFwdRefIdeal.main_arg0) = m ((c.tc : Thread Cert.BranchCFwdIdeal.nD Cert.BranchCFwdIdeal.τ).loc Cert.BranchCFwdIdeal.main_arg0)
      ∧ m' ((c.tc : Thread Cert.BranchCFwdRefIdeal.nD Cert.BranchCFwdRefIdeal.τ).loc Cert.BranchCFwdRefIdeal.main_arg1) = m ((c.tc : Thread Cert.BranchCFwdIdeal.nD Cert.BranchCFwdIdeal.τ).loc Cert.BranchCFwdIdeal.main_arg1)) →
    ∃ (v0 : (c : Dev Cert.BranchCFwdIdeal.nD) → Buf (Elt Ideal) ((c.tc : Thread Cert.BranchCFwdIdeal.nD Cert.BranchCFwdIdeal.τ).loc Cert.BranchCFwdIdeal.main_v0_0)) (v1 : (c : Dev Cert.BranchCFwdIdeal.nD) → Buf (Elt Ideal) ((c.tc : Thread Cert.BranchCFwdIdeal.nD Cert.BranchCFwdIdeal.τ).loc Cert.BranchCFwdIdeal.main_v0_1)),
      θ_run (Cert.BranchCFwdIdeal.defs (F := Ideal)) (onTc (τ := Cert.BranchCFwdIdeal.τ) (Cert.BranchCFwdIdeal.main (F := Ideal))) ⟨m, fun _ => 0, g⟩ (fun r => ∀ c : Dev Cert.BranchCFwdIdeal.nD,
          r.2.mem ((c.tc : Thread Cert.BranchCFwdIdeal.nD Cert.BranchCFwdIdeal.τ).loc Cert.BranchCFwdIdeal.main_v0_0) = v0 c
          ∧ r.2.mem ((c.tc : Thread Cert.BranchCFwdIdeal.nD Cert.BranchCFwdIdeal.τ).loc Cert.BranchCFwdIdeal.main_v0_1) = v1 c
          ∧ r.2.mem ((c.tc : Thread Cert.BranchCFwdIdeal.nD Cert.BranchCFwdIdeal.τ).loc Cert.BranchCFwdIdeal.main_arg0) = m ((c.tc : Thread Cert.BranchCFwdIdeal.nD Cert.BranchCFwdIdeal.τ).loc Cert.BranchCFwdIdeal.main_arg0)
          ∧ r.2.mem ((c.tc : Thread Cert.BranchCFwdIdeal.nD Cert.BranchCFwdIdeal.τ).loc Cert.BranchCFwdIdeal.main_arg1) = m ((c.tc : Thread Cert.BranchCFwdIdeal.nD Cert.BranchCFwdIdeal.τ).loc Cert.BranchCFwdIdeal.main_arg1))
      ∧ θ_run (Cert.BranchCFwdRefIdeal.defs (F := Ideal)) (onTc (τ := Cert.BranchCFwdRefIdeal.τ) (Cert.BranchCFwdRefIdeal.main (F := Ideal))) ⟨m', fun _ => 0, g'⟩ (fun r => ∀ c : Dev Cert.BranchCFwdRefIdeal.nD,
          r.2.mem ((c.tc : Thread Cert.BranchCFwdRefIdeal.nD Cert.BranchCFwdRefIdeal.τ).loc Cert.BranchCFwdRefIdeal.main_v31) = v0 c
          ∧ r.2.mem ((c.tc : Thread Cert.BranchCFwdRefIdeal.nD Cert.BranchCFwdRefIdeal.τ).loc Cert.BranchCFwdRefIdeal.main_v32) = v1 c
          ∧ r.2.mem ((c.tc : Thread Cert.BranchCFwdRefIdeal.nD Cert.BranchCFwdRefIdeal.τ).loc Cert.BranchCFwdRefIdeal.main_arg0) = m' ((c.tc : Thread Cert.BranchCFwdRefIdeal.nD Cert.BranchCFwdRefIdeal.τ).loc Cert.BranchCFwdRefIdeal.main_arg0)
          ∧ r.2.mem ((c.tc : Thread Cert.BranchCFwdRefIdeal.nD Cert.BranchCFwdRefIdeal.τ).loc Cert.BranchCFwdRefIdeal.main_arg1) = m' ((c.tc : Thread Cert.BranchCFwdRefIdeal.nD Cert.BranchCFwdRefIdeal.τ).loc Cert.BranchCFwdRefIdeal.main_arg1))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)
      ∧ m' ((c.tc : Thread Cert.MergeOutRefIdeal.nD Cert.MergeOutRefIdeal.τ).loc Cert.MergeOutRefIdeal.main_arg4) = m ((c.tc : Thread Cert.MergeOutIdeal.nD Cert.MergeOutIdeal.τ).loc Cert.MergeOutIdeal.main_arg4)
      ∧ m' ((c.tc : Thread Cert.MergeOutRefIdeal.nD Cert.MergeOutRefIdeal.τ).loc Cert.MergeOutRefIdeal.main_arg5) = m ((c.tc : Thread Cert.MergeOutIdeal.nD Cert.MergeOutIdeal.τ).loc Cert.MergeOutIdeal.main_arg5)
      ∧ m' ((c.tc : Thread Cert.MergeOutRefIdeal.nD Cert.MergeOutRefIdeal.τ).loc Cert.MergeOutRefIdeal.main_arg6) = m ((c.tc : Thread Cert.MergeOutIdeal.nD Cert.MergeOutIdeal.τ).loc Cert.MergeOutIdeal.main_arg6)) →
    ∃ (v0 : (c : Dev Cert.MergeOutIdeal.nD) → Buf (Elt Ideal) ((c.tc : Thread Cert.MergeOutIdeal.nD Cert.MergeOutIdeal.τ).loc Cert.MergeOutIdeal.main_v0_0)) (v1 : (c : Dev Cert.MergeOutIdeal.nD) → Buf (Elt Ideal) ((c.tc : Thread Cert.MergeOutIdeal.nD Cert.MergeOutIdeal.τ).loc Cert.MergeOutIdeal.main_v0_1)) (v2 : (c : Dev Cert.MergeOutIdeal.nD) → Buf (Elt Ideal) ((c.tc : Thread Cert.MergeOutIdeal.nD Cert.MergeOutIdeal.τ).loc Cert.MergeOutIdeal.main_v0_2)) (v3 : (c : Dev Cert.MergeOutIdeal.nD) → Buf (Elt Ideal) ((c.tc : Thread Cert.MergeOutIdeal.nD Cert.MergeOutIdeal.τ).loc Cert.MergeOutIdeal.main_v0_3)) (v4 : (c : Dev Cert.MergeOutIdeal.nD) → Buf (Elt Ideal) ((c.tc : Thread Cert.MergeOutIdeal.nD Cert.MergeOutIdeal.τ).loc Cert.MergeOutIdeal.main_v0_4)) (v5 : (c : Dev Cert.MergeOutIdeal.nD) → Buf (Elt Ideal) ((c.tc : Thread Cert.MergeOutIdeal.nD Cert.MergeOutIdeal.τ).loc Cert.MergeOutIdeal.main_v0_5)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v0_0) = v0 c
          ∧ r.2.mem ((c.tc : Thread Cert.MergeOutIdeal.nD Cert.MergeOutIdeal.τ).loc Cert.MergeOutIdeal.main_v0_1) = v1 c
          ∧ r.2.mem ((c.tc : Thread Cert.MergeOutIdeal.nD Cert.MergeOutIdeal.τ).loc Cert.MergeOutIdeal.main_v0_2) = v2 c
          ∧ r.2.mem ((c.tc : Thread Cert.MergeOutIdeal.nD Cert.MergeOutIdeal.τ).loc Cert.MergeOutIdeal.main_v0_3) = v3 c
          ∧ r.2.mem ((c.tc : Thread Cert.MergeOutIdeal.nD Cert.MergeOutIdeal.τ).loc Cert.MergeOutIdeal.main_v0_4) = v4 c
          ∧ r.2.mem ((c.tc : Thread Cert.MergeOutIdeal.nD Cert.MergeOutIdeal.τ).loc Cert.MergeOutIdeal.main_v0_5) = v5 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3)
          ∧ r.2.mem ((c.tc : Thread Cert.MergeOutIdeal.nD Cert.MergeOutIdeal.τ).loc Cert.MergeOutIdeal.main_arg4) = m ((c.tc : Thread Cert.MergeOutIdeal.nD Cert.MergeOutIdeal.τ).loc Cert.MergeOutIdeal.main_arg4)
          ∧ r.2.mem ((c.tc : Thread Cert.MergeOutIdeal.nD Cert.MergeOutIdeal.τ).loc Cert.MergeOutIdeal.main_arg5) = m ((c.tc : Thread Cert.MergeOutIdeal.nD Cert.MergeOutIdeal.τ).loc Cert.MergeOutIdeal.main_arg5)
          ∧ r.2.mem ((c.tc : Thread Cert.MergeOutIdeal.nD Cert.MergeOutIdeal.τ).loc Cert.MergeOutIdeal.main_arg6) = m ((c.tc : Thread Cert.MergeOutIdeal.nD Cert.MergeOutIdeal.τ).loc Cert.MergeOutIdeal.main_arg6))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v49) = v0 c
          ∧ r.2.mem ((c.tc : Thread Cert.MergeOutRefIdeal.nD Cert.MergeOutRefIdeal.τ).loc Cert.MergeOutRefIdeal.main_v50) = v1 c
          ∧ r.2.mem ((c.tc : Thread Cert.MergeOutRefIdeal.nD Cert.MergeOutRefIdeal.τ).loc Cert.MergeOutRefIdeal.main_v51) = v2 c
          ∧ r.2.mem ((c.tc : Thread Cert.MergeOutRefIdeal.nD Cert.MergeOutRefIdeal.τ).loc Cert.MergeOutRefIdeal.main_v57) = v3 c
          ∧ r.2.mem ((c.tc : Thread Cert.MergeOutRefIdeal.nD Cert.MergeOutRefIdeal.τ).loc Cert.MergeOutRefIdeal.main_v58) = v4 c
          ∧ r.2.mem ((c.tc : Thread Cert.MergeOutRefIdeal.nD Cert.MergeOutRefIdeal.τ).loc Cert.MergeOutRefIdeal.main_v48) = v5 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3)
          ∧ r.2.mem ((c.tc : Thread Cert.MergeOutRefIdeal.nD Cert.MergeOutRefIdeal.τ).loc Cert.MergeOutRefIdeal.main_arg4) = m' ((c.tc : Thread Cert.MergeOutRefIdeal.nD Cert.MergeOutRefIdeal.τ).loc Cert.MergeOutRefIdeal.main_arg4)
          ∧ r.2.mem ((c.tc : Thread Cert.MergeOutRefIdeal.nD Cert.MergeOutRefIdeal.τ).loc Cert.MergeOutRefIdeal.main_arg5) = m' ((c.tc : Thread Cert.MergeOutRefIdeal.nD Cert.MergeOutRefIdeal.τ).loc Cert.MergeOutRefIdeal.main_arg5)
          ∧ r.2.mem ((c.tc : Thread Cert.MergeOutRefIdeal.nD Cert.MergeOutRefIdeal.τ).loc Cert.MergeOutRefIdeal.main_arg6) = m' ((c.tc : Thread Cert.MergeOutRefIdeal.nD Cert.MergeOutRefIdeal.τ).loc Cert.MergeOutRefIdeal.main_arg6))

def preserves_MmDwin_MmDwinIdeal : Prop :=
  True

def algebraic_MmDwinIdeal_MmDwinRefIdeal [hMmDwinIdeal : Cert.MmDwinIdeal.Facts] [hMmDwinRefIdeal : Cert.MmDwinRefIdeal.Facts] : Prop :=
  ∀ (m : (ℓ : Loc Cert.MmDwinIdeal.nD Cert.MmDwinIdeal.τ Cert.MmDwinIdeal.sig) → Buf (Elt Ideal) ℓ) (g : Dev Cert.MmDwinIdeal.nD → PrngReg)
    (m' : (ℓ : Loc Cert.MmDwinRefIdeal.nD Cert.MmDwinRefIdeal.τ Cert.MmDwinRefIdeal.sig) → Buf (Elt Ideal) ℓ) (g' : Dev Cert.MmDwinRefIdeal.nD → PrngReg), Pre_MmDwinIdeal m →
    (∀ c : Dev Cert.MmDwinIdeal.nD,
      m' ((c.tc : Thread Cert.MmDwinRefIdeal.nD Cert.MmDwinRefIdeal.τ).loc Cert.MmDwinRefIdeal.main_arg0) = m ((c.tc : Thread Cert.MmDwinIdeal.nD Cert.MmDwinIdeal.τ).loc Cert.MmDwinIdeal.main_arg0)
      ∧ m' ((c.tc : Thread Cert.MmDwinRefIdeal.nD Cert.MmDwinRefIdeal.τ).loc Cert.MmDwinRefIdeal.main_arg1) = m ((c.tc : Thread Cert.MmDwinIdeal.nD Cert.MmDwinIdeal.τ).loc Cert.MmDwinIdeal.main_arg1)) →
    ∃ (v0 : (c : Dev Cert.MmDwinIdeal.nD) → Buf (Elt Ideal) ((c.tc : Thread Cert.MmDwinIdeal.nD Cert.MmDwinIdeal.τ).loc Cert.MmDwinIdeal.main_v0)),
      θ_run (Cert.MmDwinIdeal.defs (F := Ideal)) (onTc (τ := Cert.MmDwinIdeal.τ) (Cert.MmDwinIdeal.main (F := Ideal))) ⟨m, fun _ => 0, g⟩ (fun r => ∀ c : Dev Cert.MmDwinIdeal.nD,
          r.2.mem ((c.tc : Thread Cert.MmDwinIdeal.nD Cert.MmDwinIdeal.τ).loc Cert.MmDwinIdeal.main_v0) = v0 c
          ∧ r.2.mem ((c.tc : Thread Cert.MmDwinIdeal.nD Cert.MmDwinIdeal.τ).loc Cert.MmDwinIdeal.main_arg0) = m ((c.tc : Thread Cert.MmDwinIdeal.nD Cert.MmDwinIdeal.τ).loc Cert.MmDwinIdeal.main_arg0)
          ∧ r.2.mem ((c.tc : Thread Cert.MmDwinIdeal.nD Cert.MmDwinIdeal.τ).loc Cert.MmDwinIdeal.main_arg1) = m ((c.tc : Thread Cert.MmDwinIdeal.nD Cert.MmDwinIdeal.τ).loc Cert.MmDwinIdeal.main_arg1))
      ∧ θ_run (Cert.MmDwinRefIdeal.defs (F := Ideal)) (onTc (τ := Cert.MmDwinRefIdeal.τ) (Cert.MmDwinRefIdeal.main (F := Ideal))) ⟨m', fun _ => 0, g'⟩ (fun r => ∀ c : Dev Cert.MmDwinRefIdeal.nD,
          r.2.mem ((c.tc : Thread Cert.MmDwinRefIdeal.nD Cert.MmDwinRefIdeal.τ).loc Cert.MmDwinRefIdeal.main_v34) = v0 c
          ∧ r.2.mem ((c.tc : Thread Cert.MmDwinRefIdeal.nD Cert.MmDwinRefIdeal.τ).loc Cert.MmDwinRefIdeal.main_arg0) = m' ((c.tc : Thread Cert.MmDwinRefIdeal.nD Cert.MmDwinRefIdeal.τ).loc Cert.MmDwinRefIdeal.main_arg0)
          ∧ r.2.mem ((c.tc : Thread Cert.MmDwinRefIdeal.nD Cert.MmDwinRefIdeal.τ).loc Cert.MmDwinRefIdeal.main_arg1) = m' ((c.tc : Thread Cert.MmDwinRefIdeal.nD Cert.MmDwinRefIdeal.τ).loc Cert.MmDwinRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v0)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v0) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v3) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_AdamwFlat_AdamwFlatIdeal : Prop :=
  True

def algebraic_AdamwFlatIdeal_AdamwFlatRefIdeal [hAdamwFlatIdeal : Cert.AdamwFlatIdeal.Facts] [hAdamwFlatRefIdeal : Cert.AdamwFlatRefIdeal.Facts] : Prop :=
  ∀ (m : (ℓ : Loc Cert.AdamwFlatIdeal.nD Cert.AdamwFlatIdeal.τ Cert.AdamwFlatIdeal.sig) → Buf (Elt Ideal) ℓ) (g : Dev Cert.AdamwFlatIdeal.nD → PrngReg)
    (m' : (ℓ : Loc Cert.AdamwFlatRefIdeal.nD Cert.AdamwFlatRefIdeal.τ Cert.AdamwFlatRefIdeal.sig) → Buf (Elt Ideal) ℓ) (g' : Dev Cert.AdamwFlatRefIdeal.nD → PrngReg), Pre_AdamwFlatIdeal m →
    (∀ c : Dev Cert.AdamwFlatIdeal.nD,
      m' ((c.tc : Thread Cert.AdamwFlatRefIdeal.nD Cert.AdamwFlatRefIdeal.τ).loc Cert.AdamwFlatRefIdeal.main_arg0) = m ((c.tc : Thread Cert.AdamwFlatIdeal.nD Cert.AdamwFlatIdeal.τ).loc Cert.AdamwFlatIdeal.main_arg0)
      ∧ m' ((c.tc : Thread Cert.AdamwFlatRefIdeal.nD Cert.AdamwFlatRefIdeal.τ).loc Cert.AdamwFlatRefIdeal.main_arg1) = m ((c.tc : Thread Cert.AdamwFlatIdeal.nD Cert.AdamwFlatIdeal.τ).loc Cert.AdamwFlatIdeal.main_arg1)
      ∧ m' ((c.tc : Thread Cert.AdamwFlatRefIdeal.nD Cert.AdamwFlatRefIdeal.τ).loc Cert.AdamwFlatRefIdeal.main_arg2) = m ((c.tc : Thread Cert.AdamwFlatIdeal.nD Cert.AdamwFlatIdeal.τ).loc Cert.AdamwFlatIdeal.main_arg2)
      ∧ m' ((c.tc : Thread Cert.AdamwFlatRefIdeal.nD Cert.AdamwFlatRefIdeal.τ).loc Cert.AdamwFlatRefIdeal.main_arg3) = m ((c.tc : Thread Cert.AdamwFlatIdeal.nD Cert.AdamwFlatIdeal.τ).loc Cert.AdamwFlatIdeal.main_arg3)
      ∧ m' ((c.tc : Thread Cert.AdamwFlatRefIdeal.nD Cert.AdamwFlatRefIdeal.τ).loc Cert.AdamwFlatRefIdeal.main_arg4) = m ((c.tc : Thread Cert.AdamwFlatIdeal.nD Cert.AdamwFlatIdeal.τ).loc Cert.AdamwFlatIdeal.main_arg4)
      ∧ m' ((c.tc : Thread Cert.AdamwFlatRefIdeal.nD Cert.AdamwFlatRefIdeal.τ).loc Cert.AdamwFlatRefIdeal.main_arg5) = m ((c.tc : Thread Cert.AdamwFlatIdeal.nD Cert.AdamwFlatIdeal.τ).loc Cert.AdamwFlatIdeal.main_arg5)
      ∧ m' ((c.tc : Thread Cert.AdamwFlatRefIdeal.nD Cert.AdamwFlatRefIdeal.τ).loc Cert.AdamwFlatRefIdeal.main_arg6) = m ((c.tc : Thread Cert.AdamwFlatIdeal.nD Cert.AdamwFlatIdeal.τ).loc Cert.AdamwFlatIdeal.main_arg6)
      ∧ m' ((c.tc : Thread Cert.AdamwFlatRefIdeal.nD Cert.AdamwFlatRefIdeal.τ).loc Cert.AdamwFlatRefIdeal.main_arg7) = m ((c.tc : Thread Cert.AdamwFlatIdeal.nD Cert.AdamwFlatIdeal.τ).loc Cert.AdamwFlatIdeal.main_arg7)
      ∧ m' ((c.tc : Thread Cert.AdamwFlatRefIdeal.nD Cert.AdamwFlatRefIdeal.τ).loc Cert.AdamwFlatRefIdeal.main_arg8) = m ((c.tc : Thread Cert.AdamwFlatIdeal.nD Cert.AdamwFlatIdeal.τ).loc Cert.AdamwFlatIdeal.main_arg8)
      ∧ m' ((c.tc : Thread Cert.AdamwFlatRefIdeal.nD Cert.AdamwFlatRefIdeal.τ).loc Cert.AdamwFlatRefIdeal.main_arg9) = m ((c.tc : Thread Cert.AdamwFlatIdeal.nD Cert.AdamwFlatIdeal.τ).loc Cert.AdamwFlatIdeal.main_arg9)
      ∧ m' ((c.tc : Thread Cert.AdamwFlatRefIdeal.nD Cert.AdamwFlatRefIdeal.τ).loc Cert.AdamwFlatRefIdeal.main_arg10) = m ((c.tc : Thread Cert.AdamwFlatIdeal.nD Cert.AdamwFlatIdeal.τ).loc Cert.AdamwFlatIdeal.main_arg10)
      ∧ m' ((c.tc : Thread Cert.AdamwFlatRefIdeal.nD Cert.AdamwFlatRefIdeal.τ).loc Cert.AdamwFlatRefIdeal.main_arg11) = m ((c.tc : Thread Cert.AdamwFlatIdeal.nD Cert.AdamwFlatIdeal.τ).loc Cert.AdamwFlatIdeal.main_arg11)
      ∧ m' ((c.tc : Thread Cert.AdamwFlatRefIdeal.nD Cert.AdamwFlatRefIdeal.τ).loc Cert.AdamwFlatRefIdeal.main_arg12) = m ((c.tc : Thread Cert.AdamwFlatIdeal.nD Cert.AdamwFlatIdeal.τ).loc Cert.AdamwFlatIdeal.main_arg12)
      ∧ m' ((c.tc : Thread Cert.AdamwFlatRefIdeal.nD Cert.AdamwFlatRefIdeal.τ).loc Cert.AdamwFlatRefIdeal.main_arg13) = m ((c.tc : Thread Cert.AdamwFlatIdeal.nD Cert.AdamwFlatIdeal.τ).loc Cert.AdamwFlatIdeal.main_arg13)
      ∧ m' ((c.tc : Thread Cert.AdamwFlatRefIdeal.nD Cert.AdamwFlatRefIdeal.τ).loc Cert.AdamwFlatRefIdeal.main_arg14) = m ((c.tc : Thread Cert.AdamwFlatIdeal.nD Cert.AdamwFlatIdeal.τ).loc Cert.AdamwFlatIdeal.main_arg14)
      ∧ m' ((c.tc : Thread Cert.AdamwFlatRefIdeal.nD Cert.AdamwFlatRefIdeal.τ).loc Cert.AdamwFlatRefIdeal.main_arg15) = m ((c.tc : Thread Cert.AdamwFlatIdeal.nD Cert.AdamwFlatIdeal.τ).loc Cert.AdamwFlatIdeal.main_arg15)
      ∧ m' ((c.tc : Thread Cert.AdamwFlatRefIdeal.nD Cert.AdamwFlatRefIdeal.τ).loc Cert.AdamwFlatRefIdeal.main_arg16) = m ((c.tc : Thread Cert.AdamwFlatIdeal.nD Cert.AdamwFlatIdeal.τ).loc Cert.AdamwFlatIdeal.main_arg16)
      ∧ m' ((c.tc : Thread Cert.AdamwFlatRefIdeal.nD Cert.AdamwFlatRefIdeal.τ).loc Cert.AdamwFlatRefIdeal.main_arg17) = m ((c.tc : Thread Cert.AdamwFlatIdeal.nD Cert.AdamwFlatIdeal.τ).loc Cert.AdamwFlatIdeal.main_arg17)
      ∧ m' ((c.tc : Thread Cert.AdamwFlatRefIdeal.nD Cert.AdamwFlatRefIdeal.τ).loc Cert.AdamwFlatRefIdeal.main_arg18) = m ((c.tc : Thread Cert.AdamwFlatIdeal.nD Cert.AdamwFlatIdeal.τ).loc Cert.AdamwFlatIdeal.main_arg18)
      ∧ m' ((c.tc : Thread Cert.AdamwFlatRefIdeal.nD Cert.AdamwFlatRefIdeal.τ).loc Cert.AdamwFlatRefIdeal.main_arg19) = m ((c.tc : Thread Cert.AdamwFlatIdeal.nD Cert.AdamwFlatIdeal.τ).loc Cert.AdamwFlatIdeal.main_arg19)
      ∧ m' ((c.tc : Thread Cert.AdamwFlatRefIdeal.nD Cert.AdamwFlatRefIdeal.τ).loc Cert.AdamwFlatRefIdeal.main_arg20) = m ((c.tc : Thread Cert.AdamwFlatIdeal.nD Cert.AdamwFlatIdeal.τ).loc Cert.AdamwFlatIdeal.main_arg20)
      ∧ m' ((c.tc : Thread Cert.AdamwFlatRefIdeal.nD Cert.AdamwFlatRefIdeal.τ).loc Cert.AdamwFlatRefIdeal.main_arg21) = m ((c.tc : Thread Cert.AdamwFlatIdeal.nD Cert.AdamwFlatIdeal.τ).loc Cert.AdamwFlatIdeal.main_arg21)
      ∧ m' ((c.tc : Thread Cert.AdamwFlatRefIdeal.nD Cert.AdamwFlatRefIdeal.τ).loc Cert.AdamwFlatRefIdeal.main_arg22) = m ((c.tc : Thread Cert.AdamwFlatIdeal.nD Cert.AdamwFlatIdeal.τ).loc Cert.AdamwFlatIdeal.main_arg22)
      ∧ m' ((c.tc : Thread Cert.AdamwFlatRefIdeal.nD Cert.AdamwFlatRefIdeal.τ).loc Cert.AdamwFlatRefIdeal.main_arg23) = m ((c.tc : Thread Cert.AdamwFlatIdeal.nD Cert.AdamwFlatIdeal.τ).loc Cert.AdamwFlatIdeal.main_arg23)
      ∧ m' ((c.tc : Thread Cert.AdamwFlatRefIdeal.nD Cert.AdamwFlatRefIdeal.τ).loc Cert.AdamwFlatRefIdeal.main_arg24) = m ((c.tc : Thread Cert.AdamwFlatIdeal.nD Cert.AdamwFlatIdeal.τ).loc Cert.AdamwFlatIdeal.main_arg24)
      ∧ m' ((c.tc : Thread Cert.AdamwFlatRefIdeal.nD Cert.AdamwFlatRefIdeal.τ).loc Cert.AdamwFlatRefIdeal.main_arg25) = m ((c.tc : Thread Cert.AdamwFlatIdeal.nD Cert.AdamwFlatIdeal.τ).loc Cert.AdamwFlatIdeal.main_arg25)
      ∧ m' ((c.tc : Thread Cert.AdamwFlatRefIdeal.nD Cert.AdamwFlatRefIdeal.τ).loc Cert.AdamwFlatRefIdeal.main_arg26) = m ((c.tc : Thread Cert.AdamwFlatIdeal.nD Cert.AdamwFlatIdeal.τ).loc Cert.AdamwFlatIdeal.main_arg26)
      ∧ m' ((c.tc : Thread Cert.AdamwFlatRefIdeal.nD Cert.AdamwFlatRefIdeal.τ).loc Cert.AdamwFlatRefIdeal.main_arg27) = m ((c.tc : Thread Cert.AdamwFlatIdeal.nD Cert.AdamwFlatIdeal.τ).loc Cert.AdamwFlatIdeal.main_arg27)
      ∧ m' ((c.tc : Thread Cert.AdamwFlatRefIdeal.nD Cert.AdamwFlatRefIdeal.τ).loc Cert.AdamwFlatRefIdeal.main_arg28) = m ((c.tc : Thread Cert.AdamwFlatIdeal.nD Cert.AdamwFlatIdeal.τ).loc Cert.AdamwFlatIdeal.main_arg28)
      ∧ m' ((c.tc : Thread Cert.AdamwFlatRefIdeal.nD Cert.AdamwFlatRefIdeal.τ).loc Cert.AdamwFlatRefIdeal.main_arg29) = m ((c.tc : Thread Cert.AdamwFlatIdeal.nD Cert.AdamwFlatIdeal.τ).loc Cert.AdamwFlatIdeal.main_arg29)
      ∧ m' ((c.tc : Thread Cert.AdamwFlatRefIdeal.nD Cert.AdamwFlatRefIdeal.τ).loc Cert.AdamwFlatRefIdeal.main_arg30) = m ((c.tc : Thread Cert.AdamwFlatIdeal.nD Cert.AdamwFlatIdeal.τ).loc Cert.AdamwFlatIdeal.main_arg30)
      ∧ m' ((c.tc : Thread Cert.AdamwFlatRefIdeal.nD Cert.AdamwFlatRefIdeal.τ).loc Cert.AdamwFlatRefIdeal.main_arg31) = m ((c.tc : Thread Cert.AdamwFlatIdeal.nD Cert.AdamwFlatIdeal.τ).loc Cert.AdamwFlatIdeal.main_arg31)
      ∧ m' ((c.tc : Thread Cert.AdamwFlatRefIdeal.nD Cert.AdamwFlatRefIdeal.τ).loc Cert.AdamwFlatRefIdeal.main_arg32) = m ((c.tc : Thread Cert.AdamwFlatIdeal.nD Cert.AdamwFlatIdeal.τ).loc Cert.AdamwFlatIdeal.main_arg32)
      ∧ m' ((c.tc : Thread Cert.AdamwFlatRefIdeal.nD Cert.AdamwFlatRefIdeal.τ).loc Cert.AdamwFlatRefIdeal.main_arg33) = m ((c.tc : Thread Cert.AdamwFlatIdeal.nD Cert.AdamwFlatIdeal.τ).loc Cert.AdamwFlatIdeal.main_arg33)
      ∧ m' ((c.tc : Thread Cert.AdamwFlatRefIdeal.nD Cert.AdamwFlatRefIdeal.τ).loc Cert.AdamwFlatRefIdeal.main_arg34) = m ((c.tc : Thread Cert.AdamwFlatIdeal.nD Cert.AdamwFlatIdeal.τ).loc Cert.AdamwFlatIdeal.main_arg34)
      ∧ m' ((c.tc : Thread Cert.AdamwFlatRefIdeal.nD Cert.AdamwFlatRefIdeal.τ).loc Cert.AdamwFlatRefIdeal.main_arg35) = m ((c.tc : Thread Cert.AdamwFlatIdeal.nD Cert.AdamwFlatIdeal.τ).loc Cert.AdamwFlatIdeal.main_arg35)
      ∧ m' ((c.tc : Thread Cert.AdamwFlatRefIdeal.nD Cert.AdamwFlatRefIdeal.τ).loc Cert.AdamwFlatRefIdeal.main_arg36) = m ((c.tc : Thread Cert.AdamwFlatIdeal.nD Cert.AdamwFlatIdeal.τ).loc Cert.AdamwFlatIdeal.main_arg36)
      ∧ m' ((c.tc : Thread Cert.AdamwFlatRefIdeal.nD Cert.AdamwFlatRefIdeal.τ).loc Cert.AdamwFlatRefIdeal.main_arg37) = m ((c.tc : Thread Cert.AdamwFlatIdeal.nD Cert.AdamwFlatIdeal.τ).loc Cert.AdamwFlatIdeal.main_arg37)
      ∧ m' ((c.tc : Thread Cert.AdamwFlatRefIdeal.nD Cert.AdamwFlatRefIdeal.τ).loc Cert.AdamwFlatRefIdeal.main_arg38) = m ((c.tc : Thread Cert.AdamwFlatIdeal.nD Cert.AdamwFlatIdeal.τ).loc Cert.AdamwFlatIdeal.main_arg38)
      ∧ m' ((c.tc : Thread Cert.AdamwFlatRefIdeal.nD Cert.AdamwFlatRefIdeal.τ).loc Cert.AdamwFlatRefIdeal.main_arg39) = m ((c.tc : Thread Cert.AdamwFlatIdeal.nD Cert.AdamwFlatIdeal.τ).loc Cert.AdamwFlatIdeal.main_arg39)) →
    ∃ (v0 : (c : Dev Cert.AdamwFlatIdeal.nD) → Buf (Elt Ideal) ((c.tc : Thread Cert.AdamwFlatIdeal.nD Cert.AdamwFlatIdeal.τ).loc Cert.AdamwFlatIdeal.main_v51_0)) (v1 : (c : Dev Cert.AdamwFlatIdeal.nD) → Buf (Elt Ideal) ((c.tc : Thread Cert.AdamwFlatIdeal.nD Cert.AdamwFlatIdeal.τ).loc Cert.AdamwFlatIdeal.main_v51_1)) (v2 : (c : Dev Cert.AdamwFlatIdeal.nD) → Buf (Elt Ideal) ((c.tc : Thread Cert.AdamwFlatIdeal.nD Cert.AdamwFlatIdeal.τ).loc Cert.AdamwFlatIdeal.main_v51_2)),
      θ_run (Cert.AdamwFlatIdeal.defs (F := Ideal)) (onTc (τ := Cert.AdamwFlatIdeal.τ) (Cert.AdamwFlatIdeal.main (F := Ideal))) ⟨m, fun _ => 0, g⟩ (fun r => ∀ c : Dev Cert.AdamwFlatIdeal.nD,
          r.2.mem ((c.tc : Thread Cert.AdamwFlatIdeal.nD Cert.AdamwFlatIdeal.τ).loc Cert.AdamwFlatIdeal.main_v51_0) = v0 c
          ∧ r.2.mem ((c.tc : Thread Cert.AdamwFlatIdeal.nD Cert.AdamwFlatIdeal.τ).loc Cert.AdamwFlatIdeal.main_v51_1) = v1 c
          ∧ r.2.mem ((c.tc : Thread Cert.AdamwFlatIdeal.nD Cert.AdamwFlatIdeal.τ).loc Cert.AdamwFlatIdeal.main_v51_2) = v2 c
          ∧ r.2.mem ((c.tc : Thread Cert.AdamwFlatIdeal.nD Cert.AdamwFlatIdeal.τ).loc Cert.AdamwFlatIdeal.main_arg0) = m ((c.tc : Thread Cert.AdamwFlatIdeal.nD Cert.AdamwFlatIdeal.τ).loc Cert.AdamwFlatIdeal.main_arg0)
          ∧ r.2.mem ((c.tc : Thread Cert.AdamwFlatIdeal.nD Cert.AdamwFlatIdeal.τ).loc Cert.AdamwFlatIdeal.main_arg1) = m ((c.tc : Thread Cert.AdamwFlatIdeal.nD Cert.AdamwFlatIdeal.τ).loc Cert.AdamwFlatIdeal.main_arg1)
          ∧ r.2.mem ((c.tc : Thread Cert.AdamwFlatIdeal.nD Cert.AdamwFlatIdeal.τ).loc Cert.AdamwFlatIdeal.main_arg2) = m ((c.tc : Thread Cert.AdamwFlatIdeal.nD Cert.AdamwFlatIdeal.τ).loc Cert.AdamwFlatIdeal.main_arg2)
          ∧ r.2.mem ((c.tc : Thread Cert.AdamwFlatIdeal.nD Cert.AdamwFlatIdeal.τ).loc Cert.AdamwFlatIdeal.main_arg3) = m ((c.tc : Thread Cert.AdamwFlatIdeal.nD Cert.AdamwFlatIdeal.τ).loc Cert.AdamwFlatIdeal.main_arg3)
          ∧ r.2.mem ((c.tc : Thread Cert.AdamwFlatIdeal.nD Cert.AdamwFlatIdeal.τ).loc Cert.AdamwFlatIdeal.main_arg4) = m ((c.tc : Thread Cert.AdamwFlatIdeal.nD Cert.AdamwFlatIdeal.τ).loc Cert.AdamwFlatIdeal.main_arg4)
          ∧ r.2.mem ((c.tc : Thread Cert.AdamwFlatIdeal.nD Cert.AdamwFlatIdeal.τ).loc Cert.AdamwFlatIdeal.main_arg5) = m ((c.tc : Thread Cert.AdamwFlatIdeal.nD Cert.AdamwFlatIdeal.τ).loc Cert.AdamwFlatIdeal.main_arg5)
          ∧ r.2.mem ((c.tc : Thread Cert.AdamwFlatIdeal.nD Cert.AdamwFlatIdeal.τ).loc Cert.AdamwFlatIdeal.main_arg6) = m ((c.tc : Thread Cert.AdamwFlatIdeal.nD Cert.AdamwFlatIdeal.τ).loc Cert.AdamwFlatIdeal.main_arg6)
          ∧ r.2.mem ((c.tc : Thread Cert.AdamwFlatIdeal.nD Cert.AdamwFlatIdeal.τ).loc Cert.AdamwFlatIdeal.main_arg7) = m ((c.tc : Thread Cert.AdamwFlatIdeal.nD Cert.AdamwFlatIdeal.τ).loc Cert.AdamwFlatIdeal.main_arg7)
          ∧ r.2.mem ((c.tc : Thread Cert.AdamwFlatIdeal.nD Cert.AdamwFlatIdeal.τ).loc Cert.AdamwFlatIdeal.main_arg8) = m ((c.tc : Thread Cert.AdamwFlatIdeal.nD Cert.AdamwFlatIdeal.τ).loc Cert.AdamwFlatIdeal.main_arg8)
          ∧ r.2.mem ((c.tc : Thread Cert.AdamwFlatIdeal.nD Cert.AdamwFlatIdeal.τ).loc Cert.AdamwFlatIdeal.main_arg9) = m ((c.tc : Thread Cert.AdamwFlatIdeal.nD Cert.AdamwFlatIdeal.τ).loc Cert.AdamwFlatIdeal.main_arg9)
          ∧ r.2.mem ((c.tc : Thread Cert.AdamwFlatIdeal.nD Cert.AdamwFlatIdeal.τ).loc Cert.AdamwFlatIdeal.main_arg10) = m ((c.tc : Thread Cert.AdamwFlatIdeal.nD Cert.AdamwFlatIdeal.τ).loc Cert.AdamwFlatIdeal.main_arg10)
          ∧ r.2.mem ((c.tc : Thread Cert.AdamwFlatIdeal.nD Cert.AdamwFlatIdeal.τ).loc Cert.AdamwFlatIdeal.main_arg11) = m ((c.tc : Thread Cert.AdamwFlatIdeal.nD Cert.AdamwFlatIdeal.τ).loc Cert.AdamwFlatIdeal.main_arg11)
          ∧ r.2.mem ((c.tc : Thread Cert.AdamwFlatIdeal.nD Cert.AdamwFlatIdeal.τ).loc Cert.AdamwFlatIdeal.main_arg12) = m ((c.tc : Thread Cert.AdamwFlatIdeal.nD Cert.AdamwFlatIdeal.τ).loc Cert.AdamwFlatIdeal.main_arg12)
          ∧ r.2.mem ((c.tc : Thread Cert.AdamwFlatIdeal.nD Cert.AdamwFlatIdeal.τ).loc Cert.AdamwFlatIdeal.main_arg13) = m ((c.tc : Thread Cert.AdamwFlatIdeal.nD Cert.AdamwFlatIdeal.τ).loc Cert.AdamwFlatIdeal.main_arg13)
          ∧ r.2.mem ((c.tc : Thread Cert.AdamwFlatIdeal.nD Cert.AdamwFlatIdeal.τ).loc Cert.AdamwFlatIdeal.main_arg14) = m ((c.tc : Thread Cert.AdamwFlatIdeal.nD Cert.AdamwFlatIdeal.τ).loc Cert.AdamwFlatIdeal.main_arg14)
          ∧ r.2.mem ((c.tc : Thread Cert.AdamwFlatIdeal.nD Cert.AdamwFlatIdeal.τ).loc Cert.AdamwFlatIdeal.main_arg15) = m ((c.tc : Thread Cert.AdamwFlatIdeal.nD Cert.AdamwFlatIdeal.τ).loc Cert.AdamwFlatIdeal.main_arg15)
          ∧ r.2.mem ((c.tc : Thread Cert.AdamwFlatIdeal.nD Cert.AdamwFlatIdeal.τ).loc Cert.AdamwFlatIdeal.main_arg16) = m ((c.tc : Thread Cert.AdamwFlatIdeal.nD Cert.AdamwFlatIdeal.τ).loc Cert.AdamwFlatIdeal.main_arg16)
          ∧ r.2.mem ((c.tc : Thread Cert.AdamwFlatIdeal.nD Cert.AdamwFlatIdeal.τ).loc Cert.AdamwFlatIdeal.main_arg17) = m ((c.tc : Thread Cert.AdamwFlatIdeal.nD Cert.AdamwFlatIdeal.τ).loc Cert.AdamwFlatIdeal.main_arg17)
          ∧ r.2.mem ((c.tc : Thread Cert.AdamwFlatIdeal.nD Cert.AdamwFlatIdeal.τ).loc Cert.AdamwFlatIdeal.main_arg18) = m ((c.tc : Thread Cert.AdamwFlatIdeal.nD Cert.AdamwFlatIdeal.τ).loc Cert.AdamwFlatIdeal.main_arg18)
          ∧ r.2.mem ((c.tc : Thread Cert.AdamwFlatIdeal.nD Cert.AdamwFlatIdeal.τ).loc Cert.AdamwFlatIdeal.main_arg19) = m ((c.tc : Thread Cert.AdamwFlatIdeal.nD Cert.AdamwFlatIdeal.τ).loc Cert.AdamwFlatIdeal.main_arg19)
          ∧ r.2.mem ((c.tc : Thread Cert.AdamwFlatIdeal.nD Cert.AdamwFlatIdeal.τ).loc Cert.AdamwFlatIdeal.main_arg20) = m ((c.tc : Thread Cert.AdamwFlatIdeal.nD Cert.AdamwFlatIdeal.τ).loc Cert.AdamwFlatIdeal.main_arg20)
          ∧ r.2.mem ((c.tc : Thread Cert.AdamwFlatIdeal.nD Cert.AdamwFlatIdeal.τ).loc Cert.AdamwFlatIdeal.main_arg21) = m ((c.tc : Thread Cert.AdamwFlatIdeal.nD Cert.AdamwFlatIdeal.τ).loc Cert.AdamwFlatIdeal.main_arg21)
          ∧ r.2.mem ((c.tc : Thread Cert.AdamwFlatIdeal.nD Cert.AdamwFlatIdeal.τ).loc Cert.AdamwFlatIdeal.main_arg22) = m ((c.tc : Thread Cert.AdamwFlatIdeal.nD Cert.AdamwFlatIdeal.τ).loc Cert.AdamwFlatIdeal.main_arg22)
          ∧ r.2.mem ((c.tc : Thread Cert.AdamwFlatIdeal.nD Cert.AdamwFlatIdeal.τ).loc Cert.AdamwFlatIdeal.main_arg23) = m ((c.tc : Thread Cert.AdamwFlatIdeal.nD Cert.AdamwFlatIdeal.τ).loc Cert.AdamwFlatIdeal.main_arg23)
          ∧ r.2.mem ((c.tc : Thread Cert.AdamwFlatIdeal.nD Cert.AdamwFlatIdeal.τ).loc Cert.AdamwFlatIdeal.main_arg24) = m ((c.tc : Thread Cert.AdamwFlatIdeal.nD Cert.AdamwFlatIdeal.τ).loc Cert.AdamwFlatIdeal.main_arg24)
          ∧ r.2.mem ((c.tc : Thread Cert.AdamwFlatIdeal.nD Cert.AdamwFlatIdeal.τ).loc Cert.AdamwFlatIdeal.main_arg25) = m ((c.tc : Thread Cert.AdamwFlatIdeal.nD Cert.AdamwFlatIdeal.τ).loc Cert.AdamwFlatIdeal.main_arg25)
          ∧ r.2.mem ((c.tc : Thread Cert.AdamwFlatIdeal.nD Cert.AdamwFlatIdeal.τ).loc Cert.AdamwFlatIdeal.main_arg26) = m ((c.tc : Thread Cert.AdamwFlatIdeal.nD Cert.AdamwFlatIdeal.τ).loc Cert.AdamwFlatIdeal.main_arg26)
          ∧ r.2.mem ((c.tc : Thread Cert.AdamwFlatIdeal.nD Cert.AdamwFlatIdeal.τ).loc Cert.AdamwFlatIdeal.main_arg27) = m ((c.tc : Thread Cert.AdamwFlatIdeal.nD Cert.AdamwFlatIdeal.τ).loc Cert.AdamwFlatIdeal.main_arg27)
          ∧ r.2.mem ((c.tc : Thread Cert.AdamwFlatIdeal.nD Cert.AdamwFlatIdeal.τ).loc Cert.AdamwFlatIdeal.main_arg28) = m ((c.tc : Thread Cert.AdamwFlatIdeal.nD Cert.AdamwFlatIdeal.τ).loc Cert.AdamwFlatIdeal.main_arg28)
          ∧ r.2.mem ((c.tc : Thread Cert.AdamwFlatIdeal.nD Cert.AdamwFlatIdeal.τ).loc Cert.AdamwFlatIdeal.main_arg29) = m ((c.tc : Thread Cert.AdamwFlatIdeal.nD Cert.AdamwFlatIdeal.τ).loc Cert.AdamwFlatIdeal.main_arg29)
          ∧ r.2.mem ((c.tc : Thread Cert.AdamwFlatIdeal.nD Cert.AdamwFlatIdeal.τ).loc Cert.AdamwFlatIdeal.main_arg30) = m ((c.tc : Thread Cert.AdamwFlatIdeal.nD Cert.AdamwFlatIdeal.τ).loc Cert.AdamwFlatIdeal.main_arg30)
          ∧ r.2.mem ((c.tc : Thread Cert.AdamwFlatIdeal.nD Cert.AdamwFlatIdeal.τ).loc Cert.AdamwFlatIdeal.main_arg31) = m ((c.tc : Thread Cert.AdamwFlatIdeal.nD Cert.AdamwFlatIdeal.τ).loc Cert.AdamwFlatIdeal.main_arg31)
          ∧ r.2.mem ((c.tc : Thread Cert.AdamwFlatIdeal.nD Cert.AdamwFlatIdeal.τ).loc Cert.AdamwFlatIdeal.main_arg32) = m ((c.tc : Thread Cert.AdamwFlatIdeal.nD Cert.AdamwFlatIdeal.τ).loc Cert.AdamwFlatIdeal.main_arg32)
          ∧ r.2.mem ((c.tc : Thread Cert.AdamwFlatIdeal.nD Cert.AdamwFlatIdeal.τ).loc Cert.AdamwFlatIdeal.main_arg33) = m ((c.tc : Thread Cert.AdamwFlatIdeal.nD Cert.AdamwFlatIdeal.τ).loc Cert.AdamwFlatIdeal.main_arg33)
          ∧ r.2.mem ((c.tc : Thread Cert.AdamwFlatIdeal.nD Cert.AdamwFlatIdeal.τ).loc Cert.AdamwFlatIdeal.main_arg34) = m ((c.tc : Thread Cert.AdamwFlatIdeal.nD Cert.AdamwFlatIdeal.τ).loc Cert.AdamwFlatIdeal.main_arg34)
          ∧ r.2.mem ((c.tc : Thread Cert.AdamwFlatIdeal.nD Cert.AdamwFlatIdeal.τ).loc Cert.AdamwFlatIdeal.main_arg35) = m ((c.tc : Thread Cert.AdamwFlatIdeal.nD Cert.AdamwFlatIdeal.τ).loc Cert.AdamwFlatIdeal.main_arg35)
          ∧ r.2.mem ((c.tc : Thread Cert.AdamwFlatIdeal.nD Cert.AdamwFlatIdeal.τ).loc Cert.AdamwFlatIdeal.main_arg36) = m ((c.tc : Thread Cert.AdamwFlatIdeal.nD Cert.AdamwFlatIdeal.τ).loc Cert.AdamwFlatIdeal.main_arg36)
          ∧ r.2.mem ((c.tc : Thread Cert.AdamwFlatIdeal.nD Cert.AdamwFlatIdeal.τ).loc Cert.AdamwFlatIdeal.main_arg37) = m ((c.tc : Thread Cert.AdamwFlatIdeal.nD Cert.AdamwFlatIdeal.τ).loc Cert.AdamwFlatIdeal.main_arg37)
          ∧ r.2.mem ((c.tc : Thread Cert.AdamwFlatIdeal.nD Cert.AdamwFlatIdeal.τ).loc Cert.AdamwFlatIdeal.main_arg38) = m ((c.tc : Thread Cert.AdamwFlatIdeal.nD Cert.AdamwFlatIdeal.τ).loc Cert.AdamwFlatIdeal.main_arg38)
          ∧ r.2.mem ((c.tc : Thread Cert.AdamwFlatIdeal.nD Cert.AdamwFlatIdeal.τ).loc Cert.AdamwFlatIdeal.main_arg39) = m ((c.tc : Thread Cert.AdamwFlatIdeal.nD Cert.AdamwFlatIdeal.τ).loc Cert.AdamwFlatIdeal.main_arg39))
      ∧ θ_run (Cert.AdamwFlatRefIdeal.defs (F := Ideal)) (onTc (τ := Cert.AdamwFlatRefIdeal.τ) (Cert.AdamwFlatRefIdeal.main (F := Ideal))) ⟨m', fun _ => 0, g'⟩ (fun r => ∀ c : Dev Cert.AdamwFlatRefIdeal.nD,
          r.2.mem ((c.tc : Thread Cert.AdamwFlatRefIdeal.nD Cert.AdamwFlatRefIdeal.τ).loc Cert.AdamwFlatRefIdeal.main_v68) = v0 c
          ∧ r.2.mem ((c.tc : Thread Cert.AdamwFlatRefIdeal.nD Cert.AdamwFlatRefIdeal.τ).loc Cert.AdamwFlatRefIdeal.main_v49) = v1 c
          ∧ r.2.mem ((c.tc : Thread Cert.AdamwFlatRefIdeal.nD Cert.AdamwFlatRefIdeal.τ).loc Cert.AdamwFlatRefIdeal.main_v55) = v2 c
          ∧ r.2.mem ((c.tc : Thread Cert.AdamwFlatRefIdeal.nD Cert.AdamwFlatRefIdeal.τ).loc Cert.AdamwFlatRefIdeal.main_arg0) = m' ((c.tc : Thread Cert.AdamwFlatRefIdeal.nD Cert.AdamwFlatRefIdeal.τ).loc Cert.AdamwFlatRefIdeal.main_arg0)
          ∧ r.2.mem ((c.tc : Thread Cert.AdamwFlatRefIdeal.nD Cert.AdamwFlatRefIdeal.τ).loc Cert.AdamwFlatRefIdeal.main_arg1) = m' ((c.tc : Thread Cert.AdamwFlatRefIdeal.nD Cert.AdamwFlatRefIdeal.τ).loc Cert.AdamwFlatRefIdeal.main_arg1)
          ∧ r.2.mem ((c.tc : Thread Cert.AdamwFlatRefIdeal.nD Cert.AdamwFlatRefIdeal.τ).loc Cert.AdamwFlatRefIdeal.main_arg2) = m' ((c.tc : Thread Cert.AdamwFlatRefIdeal.nD Cert.AdamwFlatRefIdeal.τ).loc Cert.AdamwFlatRefIdeal.main_arg2)
          ∧ r.2.mem ((c.tc : Thread Cert.AdamwFlatRefIdeal.nD Cert.AdamwFlatRefIdeal.τ).loc Cert.AdamwFlatRefIdeal.main_arg3) = m' ((c.tc : Thread Cert.AdamwFlatRefIdeal.nD Cert.AdamwFlatRefIdeal.τ).loc Cert.AdamwFlatRefIdeal.main_arg3)
          ∧ r.2.mem ((c.tc : Thread Cert.AdamwFlatRefIdeal.nD Cert.AdamwFlatRefIdeal.τ).loc Cert.AdamwFlatRefIdeal.main_arg4) = m' ((c.tc : Thread Cert.AdamwFlatRefIdeal.nD Cert.AdamwFlatRefIdeal.τ).loc Cert.AdamwFlatRefIdeal.main_arg4)
          ∧ r.2.mem ((c.tc : Thread Cert.AdamwFlatRefIdeal.nD Cert.AdamwFlatRefIdeal.τ).loc Cert.AdamwFlatRefIdeal.main_arg5) = m' ((c.tc : Thread Cert.AdamwFlatRefIdeal.nD Cert.AdamwFlatRefIdeal.τ).loc Cert.AdamwFlatRefIdeal.main_arg5)
          ∧ r.2.mem ((c.tc : Thread Cert.AdamwFlatRefIdeal.nD Cert.AdamwFlatRefIdeal.τ).loc Cert.AdamwFlatRefIdeal.main_arg6) = m' ((c.tc : Thread Cert.AdamwFlatRefIdeal.nD Cert.AdamwFlatRefIdeal.τ).loc Cert.AdamwFlatRefIdeal.main_arg6)
          ∧ r.2.mem ((c.tc : Thread Cert.AdamwFlatRefIdeal.nD Cert.AdamwFlatRefIdeal.τ).loc Cert.AdamwFlatRefIdeal.main_arg7) = m' ((c.tc : Thread Cert.AdamwFlatRefIdeal.nD Cert.AdamwFlatRefIdeal.τ).loc Cert.AdamwFlatRefIdeal.main_arg7)
          ∧ r.2.mem ((c.tc : Thread Cert.AdamwFlatRefIdeal.nD Cert.AdamwFlatRefIdeal.τ).loc Cert.AdamwFlatRefIdeal.main_arg8) = m' ((c.tc : Thread Cert.AdamwFlatRefIdeal.nD Cert.AdamwFlatRefIdeal.τ).loc Cert.AdamwFlatRefIdeal.main_arg8)
          ∧ r.2.mem ((c.tc : Thread Cert.AdamwFlatRefIdeal.nD Cert.AdamwFlatRefIdeal.τ).loc Cert.AdamwFlatRefIdeal.main_arg9) = m' ((c.tc : Thread Cert.AdamwFlatRefIdeal.nD Cert.AdamwFlatRefIdeal.τ).loc Cert.AdamwFlatRefIdeal.main_arg9)
          ∧ r.2.mem ((c.tc : Thread Cert.AdamwFlatRefIdeal.nD Cert.AdamwFlatRefIdeal.τ).loc Cert.AdamwFlatRefIdeal.main_arg10) = m' ((c.tc : Thread Cert.AdamwFlatRefIdeal.nD Cert.AdamwFlatRefIdeal.τ).loc Cert.AdamwFlatRefIdeal.main_arg10)
          ∧ r.2.mem ((c.tc : Thread Cert.AdamwFlatRefIdeal.nD Cert.AdamwFlatRefIdeal.τ).loc Cert.AdamwFlatRefIdeal.main_arg11) = m' ((c.tc : Thread Cert.AdamwFlatRefIdeal.nD Cert.AdamwFlatRefIdeal.τ).loc Cert.AdamwFlatRefIdeal.main_arg11)
          ∧ r.2.mem ((c.tc : Thread Cert.AdamwFlatRefIdeal.nD Cert.AdamwFlatRefIdeal.τ).loc Cert.AdamwFlatRefIdeal.main_arg12) = m' ((c.tc : Thread Cert.AdamwFlatRefIdeal.nD Cert.AdamwFlatRefIdeal.τ).loc Cert.AdamwFlatRefIdeal.main_arg12)
          ∧ r.2.mem ((c.tc : Thread Cert.AdamwFlatRefIdeal.nD Cert.AdamwFlatRefIdeal.τ).loc Cert.AdamwFlatRefIdeal.main_arg13) = m' ((c.tc : Thread Cert.AdamwFlatRefIdeal.nD Cert.AdamwFlatRefIdeal.τ).loc Cert.AdamwFlatRefIdeal.main_arg13)
          ∧ r.2.mem ((c.tc : Thread Cert.AdamwFlatRefIdeal.nD Cert.AdamwFlatRefIdeal.τ).loc Cert.AdamwFlatRefIdeal.main_arg14) = m' ((c.tc : Thread Cert.AdamwFlatRefIdeal.nD Cert.AdamwFlatRefIdeal.τ).loc Cert.AdamwFlatRefIdeal.main_arg14)
          ∧ r.2.mem ((c.tc : Thread Cert.AdamwFlatRefIdeal.nD Cert.AdamwFlatRefIdeal.τ).loc Cert.AdamwFlatRefIdeal.main_arg15) = m' ((c.tc : Thread Cert.AdamwFlatRefIdeal.nD Cert.AdamwFlatRefIdeal.τ).loc Cert.AdamwFlatRefIdeal.main_arg15)
          ∧ r.2.mem ((c.tc : Thread Cert.AdamwFlatRefIdeal.nD Cert.AdamwFlatRefIdeal.τ).loc Cert.AdamwFlatRefIdeal.main_arg16) = m' ((c.tc : Thread Cert.AdamwFlatRefIdeal.nD Cert.AdamwFlatRefIdeal.τ).loc Cert.AdamwFlatRefIdeal.main_arg16)
          ∧ r.2.mem ((c.tc : Thread Cert.AdamwFlatRefIdeal.nD Cert.AdamwFlatRefIdeal.τ).loc Cert.AdamwFlatRefIdeal.main_arg17) = m' ((c.tc : Thread Cert.AdamwFlatRefIdeal.nD Cert.AdamwFlatRefIdeal.τ).loc Cert.AdamwFlatRefIdeal.main_arg17)
          ∧ r.2.mem ((c.tc : Thread Cert.AdamwFlatRefIdeal.nD Cert.AdamwFlatRefIdeal.τ).loc Cert.AdamwFlatRefIdeal.main_arg18) = m' ((c.tc : Thread Cert.AdamwFlatRefIdeal.nD Cert.AdamwFlatRefIdeal.τ).loc Cert.AdamwFlatRefIdeal.main_arg18)
          ∧ r.2.mem ((c.tc : Thread Cert.AdamwFlatRefIdeal.nD Cert.AdamwFlatRefIdeal.τ).loc Cert.AdamwFlatRefIdeal.main_arg19) = m' ((c.tc : Thread Cert.AdamwFlatRefIdeal.nD Cert.AdamwFlatRefIdeal.τ).loc Cert.AdamwFlatRefIdeal.main_arg19)
          ∧ r.2.mem ((c.tc : Thread Cert.AdamwFlatRefIdeal.nD Cert.AdamwFlatRefIdeal.τ).loc Cert.AdamwFlatRefIdeal.main_arg20) = m' ((c.tc : Thread Cert.AdamwFlatRefIdeal.nD Cert.AdamwFlatRefIdeal.τ).loc Cert.AdamwFlatRefIdeal.main_arg20)
          ∧ r.2.mem ((c.tc : Thread Cert.AdamwFlatRefIdeal.nD Cert.AdamwFlatRefIdeal.τ).loc Cert.AdamwFlatRefIdeal.main_arg21) = m' ((c.tc : Thread Cert.AdamwFlatRefIdeal.nD Cert.AdamwFlatRefIdeal.τ).loc Cert.AdamwFlatRefIdeal.main_arg21)
          ∧ r.2.mem ((c.tc : Thread Cert.AdamwFlatRefIdeal.nD Cert.AdamwFlatRefIdeal.τ).loc Cert.AdamwFlatRefIdeal.main_arg22) = m' ((c.tc : Thread Cert.AdamwFlatRefIdeal.nD Cert.AdamwFlatRefIdeal.τ).loc Cert.AdamwFlatRefIdeal.main_arg22)
          ∧ r.2.mem ((c.tc : Thread Cert.AdamwFlatRefIdeal.nD Cert.AdamwFlatRefIdeal.τ).loc Cert.AdamwFlatRefIdeal.main_arg23) = m' ((c.tc : Thread Cert.AdamwFlatRefIdeal.nD Cert.AdamwFlatRefIdeal.τ).loc Cert.AdamwFlatRefIdeal.main_arg23)
          ∧ r.2.mem ((c.tc : Thread Cert.AdamwFlatRefIdeal.nD Cert.AdamwFlatRefIdeal.τ).loc Cert.AdamwFlatRefIdeal.main_arg24) = m' ((c.tc : Thread Cert.AdamwFlatRefIdeal.nD Cert.AdamwFlatRefIdeal.τ).loc Cert.AdamwFlatRefIdeal.main_arg24)
          ∧ r.2.mem ((c.tc : Thread Cert.AdamwFlatRefIdeal.nD Cert.AdamwFlatRefIdeal.τ).loc Cert.AdamwFlatRefIdeal.main_arg25) = m' ((c.tc : Thread Cert.AdamwFlatRefIdeal.nD Cert.AdamwFlatRefIdeal.τ).loc Cert.AdamwFlatRefIdeal.main_arg25)
          ∧ r.2.mem ((c.tc : Thread Cert.AdamwFlatRefIdeal.nD Cert.AdamwFlatRefIdeal.τ).loc Cert.AdamwFlatRefIdeal.main_arg26) = m' ((c.tc : Thread Cert.AdamwFlatRefIdeal.nD Cert.AdamwFlatRefIdeal.τ).loc Cert.AdamwFlatRefIdeal.main_arg26)
          ∧ r.2.mem ((c.tc : Thread Cert.AdamwFlatRefIdeal.nD Cert.AdamwFlatRefIdeal.τ).loc Cert.AdamwFlatRefIdeal.main_arg27) = m' ((c.tc : Thread Cert.AdamwFlatRefIdeal.nD Cert.AdamwFlatRefIdeal.τ).loc Cert.AdamwFlatRefIdeal.main_arg27)
          ∧ r.2.mem ((c.tc : Thread Cert.AdamwFlatRefIdeal.nD Cert.AdamwFlatRefIdeal.τ).loc Cert.AdamwFlatRefIdeal.main_arg28) = m' ((c.tc : Thread Cert.AdamwFlatRefIdeal.nD Cert.AdamwFlatRefIdeal.τ).loc Cert.AdamwFlatRefIdeal.main_arg28)
          ∧ r.2.mem ((c.tc : Thread Cert.AdamwFlatRefIdeal.nD Cert.AdamwFlatRefIdeal.τ).loc Cert.AdamwFlatRefIdeal.main_arg29) = m' ((c.tc : Thread Cert.AdamwFlatRefIdeal.nD Cert.AdamwFlatRefIdeal.τ).loc Cert.AdamwFlatRefIdeal.main_arg29)
          ∧ r.2.mem ((c.tc : Thread Cert.AdamwFlatRefIdeal.nD Cert.AdamwFlatRefIdeal.τ).loc Cert.AdamwFlatRefIdeal.main_arg30) = m' ((c.tc : Thread Cert.AdamwFlatRefIdeal.nD Cert.AdamwFlatRefIdeal.τ).loc Cert.AdamwFlatRefIdeal.main_arg30)
          ∧ r.2.mem ((c.tc : Thread Cert.AdamwFlatRefIdeal.nD Cert.AdamwFlatRefIdeal.τ).loc Cert.AdamwFlatRefIdeal.main_arg31) = m' ((c.tc : Thread Cert.AdamwFlatRefIdeal.nD Cert.AdamwFlatRefIdeal.τ).loc Cert.AdamwFlatRefIdeal.main_arg31)
          ∧ r.2.mem ((c.tc : Thread Cert.AdamwFlatRefIdeal.nD Cert.AdamwFlatRefIdeal.τ).loc Cert.AdamwFlatRefIdeal.main_arg32) = m' ((c.tc : Thread Cert.AdamwFlatRefIdeal.nD Cert.AdamwFlatRefIdeal.τ).loc Cert.AdamwFlatRefIdeal.main_arg32)
          ∧ r.2.mem ((c.tc : Thread Cert.AdamwFlatRefIdeal.nD Cert.AdamwFlatRefIdeal.τ).loc Cert.AdamwFlatRefIdeal.main_arg33) = m' ((c.tc : Thread Cert.AdamwFlatRefIdeal.nD Cert.AdamwFlatRefIdeal.τ).loc Cert.AdamwFlatRefIdeal.main_arg33)
          ∧ r.2.mem ((c.tc : Thread Cert.AdamwFlatRefIdeal.nD Cert.AdamwFlatRefIdeal.τ).loc Cert.AdamwFlatRefIdeal.main_arg34) = m' ((c.tc : Thread Cert.AdamwFlatRefIdeal.nD Cert.AdamwFlatRefIdeal.τ).loc Cert.AdamwFlatRefIdeal.main_arg34)
          ∧ r.2.mem ((c.tc : Thread Cert.AdamwFlatRefIdeal.nD Cert.AdamwFlatRefIdeal.τ).loc Cert.AdamwFlatRefIdeal.main_arg35) = m' ((c.tc : Thread Cert.AdamwFlatRefIdeal.nD Cert.AdamwFlatRefIdeal.τ).loc Cert.AdamwFlatRefIdeal.main_arg35)
          ∧ r.2.mem ((c.tc : Thread Cert.AdamwFlatRefIdeal.nD Cert.AdamwFlatRefIdeal.τ).loc Cert.AdamwFlatRefIdeal.main_arg36) = m' ((c.tc : Thread Cert.AdamwFlatRefIdeal.nD Cert.AdamwFlatRefIdeal.τ).loc Cert.AdamwFlatRefIdeal.main_arg36)
          ∧ r.2.mem ((c.tc : Thread Cert.AdamwFlatRefIdeal.nD Cert.AdamwFlatRefIdeal.τ).loc Cert.AdamwFlatRefIdeal.main_arg37) = m' ((c.tc : Thread Cert.AdamwFlatRefIdeal.nD Cert.AdamwFlatRefIdeal.τ).loc Cert.AdamwFlatRefIdeal.main_arg37)
          ∧ r.2.mem ((c.tc : Thread Cert.AdamwFlatRefIdeal.nD Cert.AdamwFlatRefIdeal.τ).loc Cert.AdamwFlatRefIdeal.main_arg38) = m' ((c.tc : Thread Cert.AdamwFlatRefIdeal.nD Cert.AdamwFlatRefIdeal.τ).loc Cert.AdamwFlatRefIdeal.main_arg38)
          ∧ r.2.mem ((c.tc : Thread Cert.AdamwFlatRefIdeal.nD Cert.AdamwFlatRefIdeal.τ).loc Cert.AdamwFlatRefIdeal.main_arg39) = m' ((c.tc : Thread Cert.AdamwFlatRefIdeal.nD Cert.AdamwFlatRefIdeal.τ).loc Cert.AdamwFlatRefIdeal.main_arg39))

def preserves_AdamwLayer_AdamwLayerIdeal : Prop :=
  True

def algebraic_AdamwLayerIdeal_AdamwLayerRefIdeal [hAdamwLayerIdeal : Cert.AdamwLayerIdeal.Facts] [hAdamwLayerRefIdeal : Cert.AdamwLayerRefIdeal.Facts] : Prop :=
  ∀ (m : (ℓ : Loc Cert.AdamwLayerIdeal.nD Cert.AdamwLayerIdeal.τ Cert.AdamwLayerIdeal.sig) → Buf (Elt Ideal) ℓ) (g : Dev Cert.AdamwLayerIdeal.nD → PrngReg)
    (m' : (ℓ : Loc Cert.AdamwLayerRefIdeal.nD Cert.AdamwLayerRefIdeal.τ Cert.AdamwLayerRefIdeal.sig) → Buf (Elt Ideal) ℓ) (g' : Dev Cert.AdamwLayerRefIdeal.nD → PrngReg), Pre_AdamwLayerIdeal m →
    (∀ c : Dev Cert.AdamwLayerIdeal.nD,
      m' ((c.tc : Thread Cert.AdamwLayerRefIdeal.nD Cert.AdamwLayerRefIdeal.τ).loc Cert.AdamwLayerRefIdeal.main_arg0) = m ((c.tc : Thread Cert.AdamwLayerIdeal.nD Cert.AdamwLayerIdeal.τ).loc Cert.AdamwLayerIdeal.main_arg0)
      ∧ m' ((c.tc : Thread Cert.AdamwLayerRefIdeal.nD Cert.AdamwLayerRefIdeal.τ).loc Cert.AdamwLayerRefIdeal.main_arg1) = m ((c.tc : Thread Cert.AdamwLayerIdeal.nD Cert.AdamwLayerIdeal.τ).loc Cert.AdamwLayerIdeal.main_arg1)
      ∧ m' ((c.tc : Thread Cert.AdamwLayerRefIdeal.nD Cert.AdamwLayerRefIdeal.τ).loc Cert.AdamwLayerRefIdeal.main_arg2) = m ((c.tc : Thread Cert.AdamwLayerIdeal.nD Cert.AdamwLayerIdeal.τ).loc Cert.AdamwLayerIdeal.main_arg2)
      ∧ m' ((c.tc : Thread Cert.AdamwLayerRefIdeal.nD Cert.AdamwLayerRefIdeal.τ).loc Cert.AdamwLayerRefIdeal.main_arg3) = m ((c.tc : Thread Cert.AdamwLayerIdeal.nD Cert.AdamwLayerIdeal.τ).loc Cert.AdamwLayerIdeal.main_arg3)
      ∧ m' ((c.tc : Thread Cert.AdamwLayerRefIdeal.nD Cert.AdamwLayerRefIdeal.τ).loc Cert.AdamwLayerRefIdeal.main_arg4) = m ((c.tc : Thread Cert.AdamwLayerIdeal.nD Cert.AdamwLayerIdeal.τ).loc Cert.AdamwLayerIdeal.main_arg4)
      ∧ m' ((c.tc : Thread Cert.AdamwLayerRefIdeal.nD Cert.AdamwLayerRefIdeal.τ).loc Cert.AdamwLayerRefIdeal.main_arg5) = m ((c.tc : Thread Cert.AdamwLayerIdeal.nD Cert.AdamwLayerIdeal.τ).loc Cert.AdamwLayerIdeal.main_arg5)
      ∧ m' ((c.tc : Thread Cert.AdamwLayerRefIdeal.nD Cert.AdamwLayerRefIdeal.τ).loc Cert.AdamwLayerRefIdeal.main_arg6) = m ((c.tc : Thread Cert.AdamwLayerIdeal.nD Cert.AdamwLayerIdeal.τ).loc Cert.AdamwLayerIdeal.main_arg6)
      ∧ m' ((c.tc : Thread Cert.AdamwLayerRefIdeal.nD Cert.AdamwLayerRefIdeal.τ).loc Cert.AdamwLayerRefIdeal.main_arg7) = m ((c.tc : Thread Cert.AdamwLayerIdeal.nD Cert.AdamwLayerIdeal.τ).loc Cert.AdamwLayerIdeal.main_arg7)) →
    ∃ (v0 : (c : Dev Cert.AdamwLayerIdeal.nD) → Buf (Elt Ideal) ((c.tc : Thread Cert.AdamwLayerIdeal.nD Cert.AdamwLayerIdeal.τ).loc Cert.AdamwLayerIdeal.main_v0_0)) (v1 : (c : Dev Cert.AdamwLayerIdeal.nD) → Buf (Elt Ideal) ((c.tc : Thread Cert.AdamwLayerIdeal.nD Cert.AdamwLayerIdeal.τ).loc Cert.AdamwLayerIdeal.main_v0_1)) (v2 : (c : Dev Cert.AdamwLayerIdeal.nD) → Buf (Elt Ideal) ((c.tc : Thread Cert.AdamwLayerIdeal.nD Cert.AdamwLayerIdeal.τ).loc Cert.AdamwLayerIdeal.main_v0_2)) (v3 : (c : Dev Cert.AdamwLayerIdeal.nD) → Buf (Elt Ideal) ((c.tc : Thread Cert.AdamwLayerIdeal.nD Cert.AdamwLayerIdeal.τ).loc Cert.AdamwLayerIdeal.main_v0_3)),
      θ_run (Cert.AdamwLayerIdeal.defs (F := Ideal)) (onTc (τ := Cert.AdamwLayerIdeal.τ) (Cert.AdamwLayerIdeal.main (F := Ideal))) ⟨m, fun _ => 0, g⟩ (fun r => ∀ c : Dev Cert.AdamwLayerIdeal.nD,
          r.2.mem ((c.tc : Thread Cert.AdamwLayerIdeal.nD Cert.AdamwLayerIdeal.τ).loc Cert.AdamwLayerIdeal.main_v0_0) = v0 c
          ∧ r.2.mem ((c.tc : Thread Cert.AdamwLayerIdeal.nD Cert.AdamwLayerIdeal.τ).loc Cert.AdamwLayerIdeal.main_v0_1) = v1 c
          ∧ r.2.mem ((c.tc : Thread Cert.AdamwLayerIdeal.nD Cert.AdamwLayerIdeal.τ).loc Cert.AdamwLayerIdeal.main_v0_2) = v2 c
          ∧ r.2.mem ((c.tc : Thread Cert.AdamwLayerIdeal.nD Cert.AdamwLayerIdeal.τ).loc Cert.AdamwLayerIdeal.main_v0_3) = v3 c
          ∧ r.2.mem ((c.tc : Thread Cert.AdamwLayerIdeal.nD Cert.AdamwLayerIdeal.τ).loc Cert.AdamwLayerIdeal.main_arg0) = m ((c.tc : Thread Cert.AdamwLayerIdeal.nD Cert.AdamwLayerIdeal.τ).loc Cert.AdamwLayerIdeal.main_arg0)
          ∧ r.2.mem ((c.tc : Thread Cert.AdamwLayerIdeal.nD Cert.AdamwLayerIdeal.τ).loc Cert.AdamwLayerIdeal.main_arg1) = m ((c.tc : Thread Cert.AdamwLayerIdeal.nD Cert.AdamwLayerIdeal.τ).loc Cert.AdamwLayerIdeal.main_arg1)
          ∧ r.2.mem ((c.tc : Thread Cert.AdamwLayerIdeal.nD Cert.AdamwLayerIdeal.τ).loc Cert.AdamwLayerIdeal.main_arg2) = m ((c.tc : Thread Cert.AdamwLayerIdeal.nD Cert.AdamwLayerIdeal.τ).loc Cert.AdamwLayerIdeal.main_arg2)
          ∧ r.2.mem ((c.tc : Thread Cert.AdamwLayerIdeal.nD Cert.AdamwLayerIdeal.τ).loc Cert.AdamwLayerIdeal.main_arg3) = m ((c.tc : Thread Cert.AdamwLayerIdeal.nD Cert.AdamwLayerIdeal.τ).loc Cert.AdamwLayerIdeal.main_arg3)
          ∧ r.2.mem ((c.tc : Thread Cert.AdamwLayerIdeal.nD Cert.AdamwLayerIdeal.τ).loc Cert.AdamwLayerIdeal.main_arg4) = m ((c.tc : Thread Cert.AdamwLayerIdeal.nD Cert.AdamwLayerIdeal.τ).loc Cert.AdamwLayerIdeal.main_arg4)
          ∧ r.2.mem ((c.tc : Thread Cert.AdamwLayerIdeal.nD Cert.AdamwLayerIdeal.τ).loc Cert.AdamwLayerIdeal.main_arg5) = m ((c.tc : Thread Cert.AdamwLayerIdeal.nD Cert.AdamwLayerIdeal.τ).loc Cert.AdamwLayerIdeal.main_arg5)
          ∧ r.2.mem ((c.tc : Thread Cert.AdamwLayerIdeal.nD Cert.AdamwLayerIdeal.τ).loc Cert.AdamwLayerIdeal.main_arg6) = m ((c.tc : Thread Cert.AdamwLayerIdeal.nD Cert.AdamwLayerIdeal.τ).loc Cert.AdamwLayerIdeal.main_arg6)
          ∧ r.2.mem ((c.tc : Thread Cert.AdamwLayerIdeal.nD Cert.AdamwLayerIdeal.τ).loc Cert.AdamwLayerIdeal.main_arg7) = m ((c.tc : Thread Cert.AdamwLayerIdeal.nD Cert.AdamwLayerIdeal.τ).loc Cert.AdamwLayerIdeal.main_arg7))
      ∧ θ_run (Cert.AdamwLayerRefIdeal.defs (F := Ideal)) (onTc (τ := Cert.AdamwLayerRefIdeal.τ) (Cert.AdamwLayerRefIdeal.main (F := Ideal))) ⟨m', fun _ => 0, g'⟩ (fun r => ∀ c : Dev Cert.AdamwLayerRefIdeal.nD,
          r.2.mem ((c.tc : Thread Cert.AdamwLayerRefIdeal.nD Cert.AdamwLayerRefIdeal.τ).loc Cert.AdamwLayerRefIdeal.main_v33) = v0 c
          ∧ r.2.mem ((c.tc : Thread Cert.AdamwLayerRefIdeal.nD Cert.AdamwLayerRefIdeal.τ).loc Cert.AdamwLayerRefIdeal.main_v37) = v1 c
          ∧ r.2.mem ((c.tc : Thread Cert.AdamwLayerRefIdeal.nD Cert.AdamwLayerRefIdeal.τ).loc Cert.AdamwLayerRefIdeal.main_v41) = v2 c
          ∧ r.2.mem ((c.tc : Thread Cert.AdamwLayerRefIdeal.nD Cert.AdamwLayerRefIdeal.τ).loc Cert.AdamwLayerRefIdeal.main_v45) = v3 c
          ∧ r.2.mem ((c.tc : Thread Cert.AdamwLayerRefIdeal.nD Cert.AdamwLayerRefIdeal.τ).loc Cert.AdamwLayerRefIdeal.main_arg0) = m' ((c.tc : Thread Cert.AdamwLayerRefIdeal.nD Cert.AdamwLayerRefIdeal.τ).loc Cert.AdamwLayerRefIdeal.main_arg0)
          ∧ r.2.mem ((c.tc : Thread Cert.AdamwLayerRefIdeal.nD Cert.AdamwLayerRefIdeal.τ).loc Cert.AdamwLayerRefIdeal.main_arg1) = m' ((c.tc : Thread Cert.AdamwLayerRefIdeal.nD Cert.AdamwLayerRefIdeal.τ).loc Cert.AdamwLayerRefIdeal.main_arg1)
          ∧ r.2.mem ((c.tc : Thread Cert.AdamwLayerRefIdeal.nD Cert.AdamwLayerRefIdeal.τ).loc Cert.AdamwLayerRefIdeal.main_arg2) = m' ((c.tc : Thread Cert.AdamwLayerRefIdeal.nD Cert.AdamwLayerRefIdeal.τ).loc Cert.AdamwLayerRefIdeal.main_arg2)
          ∧ r.2.mem ((c.tc : Thread Cert.AdamwLayerRefIdeal.nD Cert.AdamwLayerRefIdeal.τ).loc Cert.AdamwLayerRefIdeal.main_arg3) = m' ((c.tc : Thread Cert.AdamwLayerRefIdeal.nD Cert.AdamwLayerRefIdeal.τ).loc Cert.AdamwLayerRefIdeal.main_arg3)
          ∧ r.2.mem ((c.tc : Thread Cert.AdamwLayerRefIdeal.nD Cert.AdamwLayerRefIdeal.τ).loc Cert.AdamwLayerRefIdeal.main_arg4) = m' ((c.tc : Thread Cert.AdamwLayerRefIdeal.nD Cert.AdamwLayerRefIdeal.τ).loc Cert.AdamwLayerRefIdeal.main_arg4)
          ∧ r.2.mem ((c.tc : Thread Cert.AdamwLayerRefIdeal.nD Cert.AdamwLayerRefIdeal.τ).loc Cert.AdamwLayerRefIdeal.main_arg5) = m' ((c.tc : Thread Cert.AdamwLayerRefIdeal.nD Cert.AdamwLayerRefIdeal.τ).loc Cert.AdamwLayerRefIdeal.main_arg5)
          ∧ r.2.mem ((c.tc : Thread Cert.AdamwLayerRefIdeal.nD Cert.AdamwLayerRefIdeal.τ).loc Cert.AdamwLayerRefIdeal.main_arg6) = m' ((c.tc : Thread Cert.AdamwLayerRefIdeal.nD Cert.AdamwLayerRefIdeal.τ).loc Cert.AdamwLayerRefIdeal.main_arg6)
          ∧ r.2.mem ((c.tc : Thread Cert.AdamwLayerRefIdeal.nD Cert.AdamwLayerRefIdeal.τ).loc Cert.AdamwLayerRefIdeal.main_arg7) = m' ((c.tc : Thread Cert.AdamwLayerRefIdeal.nD Cert.AdamwLayerRefIdeal.τ).loc Cert.AdamwLayerRefIdeal.main_arg7))

def Claim : Prop :=
  ∃ (hMemBwd : Cert.MemBwd.Facts) (hMemBwdIdeal : Cert.MemBwdIdeal.Facts) (hMemBwdRefIdeal : Cert.MemBwdRefIdeal.Facts) (hMmDh : Cert.MmDh.Facts) (hMmDhIdeal : Cert.MmDhIdeal.Facts) (hMmDhRefIdeal : Cert.MmDhRefIdeal.Facts) (hLossHead : Cert.LossHead.Facts) (hLossHeadIdeal : Cert.LossHeadIdeal.Facts) (hLossHeadRefIdeal : Cert.LossHeadRefIdeal.Facts) (hBranchABwd : Cert.BranchABwd.Facts) (hBranchABwdIdeal : Cert.BranchABwdIdeal.Facts) (hBranchABwdRefIdeal : Cert.BranchABwdRefIdeal.Facts) (hBranchCBwd : Cert.BranchCBwd.Facts) (hBranchCBwdIdeal : Cert.BranchCBwdIdeal.Facts) (hBranchCBwdRefIdeal : Cert.BranchCBwdRefIdeal.Facts) (hOutBwd : Cert.OutBwd.Facts) (hOutBwdIdeal : Cert.OutBwdIdeal.Facts) (hOutBwdRefIdeal : Cert.OutBwdRefIdeal.Facts) (hMemKv : Cert.MemKv.Facts) (hMemKvIdeal : Cert.MemKvIdeal.Facts) (hMemKvRefIdeal : Cert.MemKvRefIdeal.Facts) (hBranchAFwd : Cert.BranchAFwd.Facts) (hBranchAFwdIdeal : Cert.BranchAFwdIdeal.Facts) (hBranchAFwdRefIdeal : Cert.BranchAFwdRefIdeal.Facts) (hBranchCFwd : Cert.BranchCFwd.Facts) (hBranchCFwdIdeal : Cert.BranchCFwdIdeal.Facts) (hBranchCFwdRefIdeal : Cert.BranchCFwdRefIdeal.Facts) (hMergeOut : Cert.MergeOut.Facts) (hMergeOutIdeal : Cert.MergeOutIdeal.Facts) (hMergeOutRefIdeal : Cert.MergeOutRefIdeal.Facts) (hMmDwin : Cert.MmDwin.Facts) (hMmDwinIdeal : Cert.MmDwinIdeal.Facts) (hMmDwinRefIdeal : Cert.MmDwinRefIdeal.Facts) (hMmTn : Cert.MmTn.Facts) (hMmTnIdeal : Cert.MmTnIdeal.Facts) (hMmTnRefIdeal : Cert.MmTnRefIdeal.Facts) (hAdamwFlat : Cert.AdamwFlat.Facts) (hAdamwFlatIdeal : Cert.AdamwFlatIdeal.Facts) (hAdamwFlatRefIdeal : Cert.AdamwFlatRefIdeal.Facts) (hAdamwLayer : Cert.AdamwLayer.Facts) (hAdamwLayerIdeal : Cert.AdamwLayerIdeal.Facts) (hAdamwLayerRefIdeal : Cert.AdamwLayerRefIdeal.Facts) (hPre_a_finite : Cert.Pre_a_finite.Facts) (hPre_c_finite : Cert.Pre_c_finite.Facts) (hPre_o_finite : Cert.Pre_o_finite.Facts) (hOn_o_written : Cert.On_o_written.Facts),
    quiescent_MemBwd (hMemBwd := hMemBwd)
    ∧ quiescent_MemBwdIdeal (hMemBwdIdeal := hMemBwdIdeal)
    ∧ quiescent_MemBwdRefIdeal (hMemBwdRefIdeal := hMemBwdRefIdeal)
    ∧ quiescent_MmDh (hMmDh := hMmDh)
    ∧ quiescent_MmDhIdeal (hMmDhIdeal := hMmDhIdeal)
    ∧ quiescent_MmDhRefIdeal (hMmDhRefIdeal := hMmDhRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_BranchABwd (hBranchABwd := hBranchABwd)
    ∧ quiescent_BranchABwdIdeal (hBranchABwdIdeal := hBranchABwdIdeal)
    ∧ quiescent_BranchABwdIdeal_pre_a_finite (hBranchABwdIdeal := hBranchABwdIdeal) (hPre_a_finite := hPre_a_finite)
    ∧ quiescent_BranchABwdRefIdeal (hBranchABwdRefIdeal := hBranchABwdRefIdeal)
    ∧ quiescent_BranchABwdRefIdeal_pre_a_finite (hBranchABwdRefIdeal := hBranchABwdRefIdeal) (hPre_a_finite := hPre_a_finite)
    ∧ quiescent_BranchCBwd (hBranchCBwd := hBranchCBwd)
    ∧ quiescent_BranchCBwdIdeal (hBranchCBwdIdeal := hBranchCBwdIdeal)
    ∧ quiescent_BranchCBwdIdeal_pre_c_finite (hBranchCBwdIdeal := hBranchCBwdIdeal) (hPre_c_finite := hPre_c_finite)
    ∧ quiescent_BranchCBwdRefIdeal (hBranchCBwdRefIdeal := hBranchCBwdRefIdeal)
    ∧ quiescent_BranchCBwdRefIdeal_pre_c_finite (hBranchCBwdRefIdeal := hBranchCBwdRefIdeal) (hPre_c_finite := hPre_c_finite)
    ∧ quiescent_OutBwd (hOutBwd := hOutBwd)
    ∧ quiescent_OutBwdIdeal (hOutBwdIdeal := hOutBwdIdeal)
    ∧ quiescent_OutBwdIdeal_pre_o_finite (hOutBwdIdeal := hOutBwdIdeal) (hPre_o_finite := hPre_o_finite)
    ∧ quiescent_OutBwdRefIdeal (hOutBwdRefIdeal := hOutBwdRefIdeal)
    ∧ quiescent_OutBwdRefIdeal_pre_o_finite (hOutBwdRefIdeal := hOutBwdRefIdeal) (hPre_o_finite := hPre_o_finite)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_BranchAFwd (hBranchAFwd := hBranchAFwd)
    ∧ quiescent_BranchAFwdIdeal (hBranchAFwdIdeal := hBranchAFwdIdeal)
    ∧ quiescent_BranchAFwdRefIdeal (hBranchAFwdRefIdeal := hBranchAFwdRefIdeal)
    ∧ quiescent_BranchCFwd (hBranchCFwd := hBranchCFwd)
    ∧ quiescent_BranchCFwdIdeal (hBranchCFwdIdeal := hBranchCFwdIdeal)
    ∧ quiescent_BranchCFwdRefIdeal (hBranchCFwdRefIdeal := hBranchCFwdRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_MmDwin (hMmDwin := hMmDwin)
    ∧ quiescent_MmDwinIdeal (hMmDwinIdeal := hMmDwinIdeal)
    ∧ quiescent_MmDwinRefIdeal (hMmDwinRefIdeal := hMmDwinRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_AdamwFlat (hAdamwFlat := hAdamwFlat)
    ∧ quiescent_AdamwFlatIdeal (hAdamwFlatIdeal := hAdamwFlatIdeal)
    ∧ quiescent_AdamwFlatRefIdeal (hAdamwFlatRefIdeal := hAdamwFlatRefIdeal)
    ∧ quiescent_AdamwLayer (hAdamwLayer := hAdamwLayer)
    ∧ quiescent_AdamwLayerIdeal (hAdamwLayerIdeal := hAdamwLayerIdeal)
    ∧ quiescent_AdamwLayerRefIdeal (hAdamwLayerRefIdeal := hAdamwLayerRefIdeal)
    ∧ preserves_MemBwd_MemBwdIdeal
    ∧ algebraic_MemBwdIdeal_MemBwdRefIdeal (hMemBwdIdeal := hMemBwdIdeal) (hMemBwdRefIdeal := hMemBwdRefIdeal)
    ∧ preserves_MmDh_MmDhIdeal
    ∧ algebraic_MmDhIdeal_MmDhRefIdeal (hMmDhIdeal := hMmDhIdeal) (hMmDhRefIdeal := hMmDhRefIdeal)
    ∧ preserves_LossHead_LossHeadIdeal
    ∧ algebraic_LossHeadIdeal_LossHeadRefIdeal (hLossHeadIdeal := hLossHeadIdeal) (hLossHeadRefIdeal := hLossHeadRefIdeal)
    ∧ preserves_BranchABwd_BranchABwdIdeal
    ∧ algebraic_BranchABwdIdeal_BranchABwdRefIdeal_pre_a_finite (hBranchABwdIdeal := hBranchABwdIdeal) (hBranchABwdRefIdeal := hBranchABwdRefIdeal) (hPre_a_finite := hPre_a_finite)
    ∧ preserves_BranchCBwd_BranchCBwdIdeal
    ∧ algebraic_BranchCBwdIdeal_BranchCBwdRefIdeal_pre_c_finite (hBranchCBwdIdeal := hBranchCBwdIdeal) (hBranchCBwdRefIdeal := hBranchCBwdRefIdeal) (hPre_c_finite := hPre_c_finite)
    ∧ preserves_OutBwd_OutBwdIdeal
    ∧ algebraic_OutBwdIdeal_OutBwdRefIdeal_on_o_written_pre_o_finite (hOutBwdIdeal := hOutBwdIdeal) (hOutBwdRefIdeal := hOutBwdRefIdeal) (hPre_o_finite := hPre_o_finite) (hOn_o_written := hOn_o_written)
    ∧ preserves_MemKv_MemKvIdeal
    ∧ algebraic_MemKvIdeal_MemKvRefIdeal (hMemKvIdeal := hMemKvIdeal) (hMemKvRefIdeal := hMemKvRefIdeal)
    ∧ preserves_BranchAFwd_BranchAFwdIdeal
    ∧ algebraic_BranchAFwdIdeal_BranchAFwdRefIdeal (hBranchAFwdIdeal := hBranchAFwdIdeal) (hBranchAFwdRefIdeal := hBranchAFwdRefIdeal)
    ∧ preserves_BranchCFwd_BranchCFwdIdeal
    ∧ algebraic_BranchCFwdIdeal_BranchCFwdRefIdeal (hBranchCFwdIdeal := hBranchCFwdIdeal) (hBranchCFwdRefIdeal := hBranchCFwdRefIdeal)
    ∧ preserves_MergeOut_MergeOutIdeal
    ∧ algebraic_MergeOutIdeal_MergeOutRefIdeal (hMergeOutIdeal := hMergeOutIdeal) (hMergeOutRefIdeal := hMergeOutRefIdeal)
    ∧ preserves_MmDwin_MmDwinIdeal
    ∧ algebraic_MmDwinIdeal_MmDwinRefIdeal (hMmDwinIdeal := hMmDwinIdeal) (hMmDwinRefIdeal := hMmDwinRefIdeal)
    ∧ preserves_MmTn_MmTnIdeal
    ∧ algebraic_MmTnIdeal_MmTnRefIdeal (hMmTnIdeal := hMmTnIdeal) (hMmTnRefIdeal := hMmTnRefIdeal)
    ∧ preserves_AdamwFlat_AdamwFlatIdeal
    ∧ algebraic_AdamwFlatIdeal_AdamwFlatRefIdeal (hAdamwFlatIdeal := hAdamwFlatIdeal) (hAdamwFlatRefIdeal := hAdamwFlatRefIdeal)
    ∧ preserves_AdamwLayer_AdamwLayerIdeal
    ∧ algebraic_AdamwLayerIdeal_AdamwLayerRefIdeal (hAdamwLayerIdeal := hAdamwLayerIdeal) (hAdamwLayerRefIdeal := hAdamwLayerRefIdeal)
-- ==== On_o_written.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S10x4096x1024 : Shape := ⟨3, ![10, 4096, 1024]⟩
abbrev S_ : Shape := ⟨0, ![]⟩
abbrev S4x4096x1024 : Shape := ⟨3, ![4, 4096, 1024]⟩

class Facts : Prop where
  bcast_S_S4096x1024 : S_.BroadcastsInDim S4096x1024 (![] : Fin 0 → Fin S4096x1024.rank)
  bcast_S_S4x4096x1024 : S_.BroadcastsInDim S4x4096x1024 (![] : Fin 0 → Fin S4x4096x1024.rank)
  bcast_S_S10x4096x1024 : S_.BroadcastsInDim S10x4096x1024 (![] : Fin 0 → Fin S10x4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .bf16) (main_arg2 : FVec F S4096x1024 .bf16) (main_arg3 : FVec F S4096x1024 .bf16) (main_arg4 : FVec F S4096x10240 .bf16) (main_arg5 : FVec F S4x1024x1024 .bf16) (main_arg6 : FVec F S1x1024 .f32) : IVec S4x4096x1024 1 × IVec S4096x1024 1 × IVec S4096x1024 1 × IVec S4096x1024 1 × IVec S10x4096x1024 1 × IVec S1x1024 1 :=
  let main_v0 : IVec S10x4096x1024 32 := iotaInDim S10x4096x1024 32 0
  let main_c : IVec S_ 1 := constantI S_ 1 1#1
  let main_v1 : IVec S4096x1024 1 := broadcastInDim S4096x1024 ![] bcast_S_S4096x1024 main_c
  let main_c_0 : IVec S_ 1 := constantI S_ 1 1#1
  let main_v2 : IVec S4x4096x1024 1 := broadcastInDim S4x4096x1024 ![] bcast_S_S4x4096x1024 main_c_0
  let main_c_1 : IVec S_ 32 := constantI S_ 32 3#32
  let main_v3 : IVec S10x4096x1024 32 := broadcastInDim S10x4096x1024 ![] bcast_S_S10x4096x1024 main_c_1
  let main_v4 : IVec S10x4096x1024 1 := cmpi .sge main_v0 main_v3
  let main_c_2 : IVec S_ 32 := constantI S_ 32 6#32
  let main_v5 : IVec S10x4096x1024 32 := broadcastInDim S10x4096x1024 ![] bcast_S_S10x4096x1024 main_c_2
  let main_v6 : IVec S10x4096x1024 1 := cmpi .slt main_v0 main_v5
  let main_v7 : IVec S10x4096x1024 1 := andi main_v4 main_v6
  let main_c_3 : IVec S_ 1 := constantI S_ 1 1#1
  let main_v8 : IVec S1x1024 1 := broadcastInDim S1x1024 ![] bcast_S_S1x1024 main_c_3
  (main_v2, main_v1, main_v1, main_v1, main_v7, main_v8)
-- ==== Pre_a_finite.lean ====
abbrev S4096x10240 : Shape := ⟨2, ![4096, 10240]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S10x4096x1024 : Shape := ⟨3, ![10, 4096, 1024]⟩
abbrev S4096x3072 : Shape := ⟨2, ![4096, 3072]⟩
abbrev S_ : Shape := ⟨0, ![]⟩

class Facts : Prop where
  slices_S4096x10240_S4096x3072_0_0 : S4096x10240.Slices ![0, 0] S4096x3072
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v16 : IVec S_ 1) (main_v17 : FVec F S1x1024 .f32) : IVec S_ 1 :=
  let main_cst_4 : FVec F S_ .f32 := constant S_ .f32 0x7F800000#32
  let main_v18 : FVec F S1x1024 .f32 := broadcastInDim S1x1024 ![] bcast_S_S1x1024 main_cst_4
  let main_v19 : IVec S1x1024 1 := cmpf .olt main_v17 main_v18
  let main_c_5 : IVec S_ 1 := constantI S_ 1 1#1
  let main_v20 : IVec S_ 1 := (fun x v => Host.reduce IntOp.andi x v reducesTo_S1x1024_S_d0_1 h_S_) main_v19 main_c_5
  let main_v21 : IVec S_ 1 := andi main_v16 main_v20
  let main_v22 : FVec F S8x128x128 .f32 := Host.absf main_arg4
  let main_cst_6 : FVec F S_ .f32 := constant S_ .f32 0x7F800000#32
  let main_v23 : FVec F S8x128x128 .f32 := broadcastInDim S8x128x128 ![] bcast_S_S8x128x128 main_cst_6
  let main_v24 : IVec S8x128x128 1 := cmpf .olt main_v22 main_v23
  let main_c_7 : IVec S_ 1 := constantI S_ 1 1#1
  let main_v25 : IVec S_ 1 := (fun x v => Host.reduce IntOp.andi x v reducesTo_S8x128x128_S_d0_1_2 h_S_) main_v24 main_c_7
  let main_v26 : IVec S_ 1 := andi main_v21 main_v25
  let main_v27 : FVec F S8x128 .f32 := Host.absf main_arg5
  let main_cst_8 : FVec F S_ .f32 := constant S_ .f32 0x7F800000#32
  let main_v28 : FVec F S8x128 .f32 := broadcastInDim S8x128 ![] bcast_S_S8x128 main_cst_8
  let main_v29 : IVec S8x128 1 := cmpf .olt main_v27 main_v28
  let main_c_9 : IVec S_ 1 := constantI S_ 1 1#1
  let main_v30 : IVec S_ 1 := (fun x v => Host.reduce IntOp.andi x v reducesTo_S8x128_S_d0_1 h_S_) main_v29 main_c_9
  let main_v31 : IVec S_ 1 := andi main_v26 main_v30
  main_v31

def fn {F : FTy → Type} [FloatOps F] (main_arg0 : FVec F S4096x10240 .bf16) (main_arg1 : FVec F S4096x1024 .bf16) (main_arg2 : FVec F S1x1024 .f32) (main_arg3 : FVec F S1x1024 .f32) (main_arg4 : FVec F S8x128x128 .f32) (main_arg5 : FVec F S8x128 .f32) (main_arg6 : FVec F S10x4096x1024 .bf16) : IVec S_ 1 :=
  let main_v0 : FVec F S4096x3072 .bf16 := (extractStridedSlice S4096x3072 ![0, 0] · slices_S4096x10240_S4096x3072_0_0) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_c : IVec S_ 1 := constantI S_ 1 1#1
  let main_v5 : IVec S_ 1 := (fun x v => Host.reduce IntOp.andi x v reducesTo_S4096x3072_S_d0_1 h_S_) main_v4 main_c
  let main_v6 : FVec F S4096x1024 .f32 := (extf .f32 · bitsLt_bf16_f32) main_arg1
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  let main_c_1 : IVec S_ 1 := constantI S_ 1 1#1
  let main_v10 : IVec S_ 1 := (fun x v => Host.reduce IntOp.andi x v reducesTo_S4096x1024_S_d0_1 h_S_) main_v9 main_c_1
  let main_v11 : IVec S_ 1 := andi main_v5 main_v10
  let main_v12 : FVec F S1x1024 .f32 := Host.absf main_arg2
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_c_3 : IVec S_ 1 := constantI S_ 1 1#1
  let main_v15 : IVec S_ 1 := (fun x v => Host.reduce IntOp.andi x v reducesTo_S1x1024_S_d0_1 h_S_) main_v14 main_c_3
  let main_v16 : IVec S_ 1 := andi main_v11 main_v15
  let main_v17 : FVec F S1x1024 .f32 := Host.absf main_arg3
  fn_part1 (F := F) main_arg4 main_arg5 main_v16 main_v17
-- ==== Pre_c_finite.lean ====
abbrev S4096x10240 : Shape := ⟨2, ![4096, 10240]⟩
abbrev S256x2048 : Shape := ⟨2, ![256, 2048]⟩
abbrev S4096x1024 : Shape := ⟨2, ![4096, 1024]⟩
abbrev S10x4096x1024 : Shape := ⟨3, ![10, 4096, 1024]⟩
abbrev S4096x2048 : Shape := ⟨2, ![4096, 2048]⟩
abbrev S_ : Shape := ⟨0, ![]⟩

class Facts : Prop where
  slices_S4096x10240_S4096x2048_0_5120 : S4096x10240.Slices ![0, 5120] S4096x2048
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x10240 .bf16) (main_arg1 : FVec F S256x2048 .bf16) (main_arg2 : FVec F S4096x1024 .bf16) (main_arg3 : FVec F S10x4096x1024 .bf16) : IVec S_ 1 :=
  let main_v0 : FVec F S4096x2048 .bf16 := (extractStridedSlice S4096x2048 ![0, 5120] · slices_S4096x10240_S4096x2048_0_5120) main_arg0
  let main_v1 : FVec F S4096x2048 .f32 := (extf .f32 · bitsLt_bf16_f32) main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_c : IVec S_ 1 := constantI S_ 1 1#1
  let main_v5 : IVec S_ 1 := (fun x v => Host.reduce IntOp.andi x v reducesTo_S4096x2048_S_d0_1 h_S_) main_v4 main_c
  let main_v6 : FVec F S256x2048 .f32 := (extf .f32 · bitsLt_bf16_f32) main_arg1
  let main_v7 : FVec F S256x2048 .f32 := Host.absf main_v6
  let main_cst_0 : FVec F S_ .f32 := constant S_ .f32 0x7F800000#32
  let main_v8 : FVec F S256x2048 .f32 := broadcastInDim S256x2048 ![] bcast_S_S256x2048 main_cst_0
  let main_v9 : IVec S256x2048 1 := cmpf .olt main_v7 main_v8
  let main_c_1 : IVec S_ 1 := constantI S_ 1 1#1
  let main_v10 : IVec S_ 1 := (fun x v => Host.reduce IntOp.andi x v reducesTo_S256x2048_S_d0_1 h_S_) main_v9 main_c_1
  let main_v11 : IVec S_ 1 := andi main_v5 main_v10
  let main_v12 : FVec F S4096x1024 .f32 := (extf .f32 · bitsLt_bf16_f32) main_arg2
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_c_3 : IVec S_ 1 := constantI S_ 1 1#1
  let main_v16 : IVec S_ 1 := (fun x v => Host.reduce IntOp.andi x v reducesTo_S4096x1024_S_d0_1 h_S_) main_v15 main_c_3
  let main_v17 : IVec S_ 1 := andi main_v11 main_v16
  main_v17
-- ==== Pre_o_finite.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S_ : Shape := ⟨0, ![]⟩
abbrev S4096x3072 : Shape := ⟨2, ![4096, 3072]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  slices_S4096x10240_S4096x3072_0_7168 : S4096x10240.Slices ![0, 7168] S4096x3072
  bcast_S_S4096x3072 : S_.BroadcastsInDim S4096x3072 (![] : Fin 0 → Fin S4096x3072.rank)
  reducesTo_S4096x3072_S_d0_1 : S4096x3072.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_v34 : IVec S_ 1) (main_v35 : FVec F S1x1024 .f32) : IVec S_ 1 :=
  let main_cst_10 : FVec F S_ .f32 := constant S_ .f32 0x7F800000#32
  let main_v36 : FVec F S1x1024 .f32 := broadcastInDim S1x1024 ![] bcast_S_S1x1024 main_cst_10
  let main_v37 : IVec S1x1024 1 := cmpf .olt main_v35 main_v36
  let main_c_11 : IVec S_ 1 := constantI S_ 1 1#1
  let main_v38 : IVec S_ 1 := (fun x v => Host.reduce IntOp.andi x v reducesTo_S1x1024_S_d0_1 h_S_) main_v37 main_c_11
  let main_v39 : IVec S_ 1 := andi main_v34 main_v38
  main_v39

def fn_part1 {F : FTy → Type} [FloatOps F] (main_arg4 : FVec F S4096x10240 .bf16) (main_arg5 : FVec F S4x1024x1024 .bf16) (main_arg6 : FVec F S1x1024 .f32) (main_v15 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v15 main_v20
  let main_v22 : FVec F S4096x3072 .bf16 := (extractStridedSlice S4096x3072 ![0, 7168] · slices_S4096x10240_S4096x3072_0_7168) main_arg4
  let main_v23 : FVec F S4096x3072 .f32 := (extf .f32 · bitsLt_bf16_f32) main_v22
  let main_v24 : FVec F S4096x3072 .f32 := Host.absf main_v23
  let main_cst_6 : FVec F S_ .f32 := constant S_ .f32 0x7F800000#32
  let main_v25 : FVec F S4096x3072 .f32 := broadcastInDim S4096x3072 ![] bcast_S_S4096x3072 main_cst_6
  let main_v26 : IVec S4096x3072 1 := cmpf .olt main_v24 main_v25
  let main_c_7 : IVec S_ 1 := constantI S_ 1 1#1
  let main_v27 : IVec S_ 1 := (fun x v => Host.reduce IntOp.andi x v reducesTo_S4096x3072_S_d0_1 h_S_) main_v26 main_c_7
  let main_v28 : IVec S_ 1 := andi main_v21 main_v27
  let main_v29 : FVec F S4x1024x1024 .f32 := (extf .f32 · bitsLt_bf16_f32) main_arg5
  let main_v30 : FVec F S4x1024x1024 .f32 := Host.absf main_v29
  let main_cst_8 : FVec F S_ .f32 := constant S_ .f32 0x7F800000#32
  let main_v31 : FVec F S4x1024x1024 .f32 := broadcastInDim S4x1024x1024 ![] bcast_S_S4x1024x1024 main_cst_8
  let main_v32 : IVec S4x1024x1024 1 := cmpf .olt main_v30 main_v31
  let main_c_9 : IVec S_ 1 := constantI S_ 1 1#1
  let main_v33 : IVec S_ 1 := (fun x v => Host.reduce IntOp.andi x v reducesTo_S4x1024x1024_S_d0_1_2 h_S_) main_v32 main_c_9
  let main_v34 : IVec S_ 1 := andi main_v28 main_v33
  let main_v35 : FVec F S1x1024 .f32 := Host.absf main_arg6
  fn_part2 (F := F) main_v34 main_v35

def fn {F : FTy → Type} [FloatOps F] (main_arg0 : FVec F S4096x1024 .f32) (main_arg1 : FVec F S4096x1024 .bf16) (main_arg2 : FVec F S4096x1024 .bf16) (main_arg3 : FVec F S4096x1024 .bf16) (main_arg4 : FVec F S4096x10240 .bf16) (main_arg5 : FVec F S4x1024x1024 .bf16) (main_arg6 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  let main_v16 : FVec F S4096x1024 .f32 := (extf .f32 · bitsLt_bf16_f32) main_arg3
  let main_v17 : FVec F S4096x1024 .f32 := Host.absf main_v16
  fn_part1 (F := F) main_arg4 main_arg5 main_arg6 main_v15 main_v17
-- ==== MemBwd.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩
abbrev S1024 : Shape := ⟨1, ![1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1x1024, .f32⟩
  | .hbm, ⟨5, _⟩ => ⟨S1024x2048, .bf16⟩
  | .hbm, ⟨6, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .f32⟩
  | .local _ .vmem, ⟨4, _⟩ => ⟨S1x1024, .f32⟩
  | .local _ .vmem, ⟨5, _⟩ => ⟨S1024x2048, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MemBwdRefIdeal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .f32⟩
  | .hbm, ⟨4, _⟩ => ⟨S1x1024, .f32⟩
  | .hbm, ⟨5, _⟩ => ⟨S1024x2048, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S2048x1024, .f32⟩
  | .hbm, ⟨23, _⟩ => ⟨S1024x2048, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S1024x2048, .bf16⟩
  | .hbm, ⟨30, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MmDh.lean ====
abbrev S10x4096x1024 : Shape := ⟨3, ![10, 4096, 1024]⟩
abbrev S1024x10240 : Shape := ⟨2, ![1024, 10240]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S10x4096x1024, .bf16⟩
  | .hbm, ⟨1, _⟩ => ⟨S1024x10240, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S10x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 10], ![false, false]⟩

def k0_cond3 (i : grid0.Coords) : BitVec 1 :=
  let arg1 : BitVec 32 := BitVec.ofNat 32 (i 1).val
  let c9_i32 : BitVec 32 := 9#32
  let v10 : BitVec 1 := Scalar.cmpi .eq arg1 c9_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg0 : BitVec 32 := BitVec.ofNat 32 (i 0).val
  let c0_i32_22 : BitVec 32 := 0#32
  let v43 : BitVec 1 := Scalar.cmpi .eq arg0 c0_i32_22
  let v49 : BitVec 32 := Scalar.extui v43
  let c0_i32_24 : BitVec 32 := 0#32
  let v50 : BitVec 1 := Scalar.cmpi .ne v49 c0_i32_24
  v50

def k0_cond5 (i : grid0.Coords) : BitVec 1 :=
  let arg0 : BitVec 32 := BitVec.ofNat 32 (i 0).val
  let c0_i32_22 : BitVec 32 := 0#32
  let v43 : BitVec 1 := Scalar.cmpi .eq arg0 c0_i32_22
  let true_25 : BitVec 1 := 1#1
  let v51 : BitVec 1 := Scalar.xori v43 true_25
  let v52 : BitVec 32 := Scalar.extui v51
  let c0_i32_26 : BitVec 32 := 0#32
  let v53 : BitVec 1 := Scalar.cmpi .ne v52 c0_i32_26
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c6_i32 : BitVec 32 := 6#32
  let v1 : BitVec 1 := Scalar.cmpi .slt arg1 c6_i32
  let c4_i32 : BitVec 32 := 4#32
  let v2 : BitVec 32 := Scalar.addi arg1 c4_i32
  let c3_i32_0 : BitVec 32 := 3#32
  let v3 : BitVec 32 := Scalar.subi arg1 c3_i32_0
  let v4 : BitVec 32 := Scalar.select v1 v2 v3
  let v5 : BitVec 32 := Scalar.select v0 arg1 v4
  let c0_i32 : BitVec 32 := 0#32
  let c0_i32_1 : BitVec 32 := 0#32
  ![c0_i32.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== MmDhRefIdeal.lean ====
abbrev S10x4096x1024 : Shape := ⟨3, ![10, 4096, 1024]⟩
abbrev S1024x10240 : Shape := ⟨2, ![1024, 10240]⟩
abbrev S4096x1024 : Shape := ⟨2, ![4096, 1024]⟩
abbrev S1x1024 : Shape := ⟨2, ![1, 1024]⟩
abbrev S1x4096x1024 : Shape := ⟨3, ![1, 4096, 1024]⟩
abbrev S4096x10240 : Shape := ⟨2, ![4096, 10240]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 82
  | .vmem => 0
  | .smem => 0
  | _ => 0

abbrev bufTy : (tb : Table) → Fin (tcTables nBuf tb) → BufTy
  | .hbm, ⟨0, _⟩ => ⟨S10x4096x1024, .bf16⟩
  | .hbm, ⟨1, _⟩ => ⟨S1024x10240, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S1x4096x1024, .bf16⟩
  | .hbm, ⟨12, _⟩ => ⟨S4096x1024, .bf16⟩
  | .hbm, ⟨13, _⟩ => ⟨S4096x1024, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S1x4096x1024, .bf16⟩
  | .hbm, ⟨18, _⟩ => ⟨S4096x1024, .bf16⟩
  | .hbm, ⟨19, _⟩ => ⟨S4096x1024, .f32⟩
  | .hbm, ⟨20, _⟩ => ⟨S1x4096x1024, .bf16⟩
  | .hbm, ⟨21, _⟩ => ⟨S4096x1024, .bf16⟩
  | .hbm, ⟨22, _⟩ => ⟨S4096x1024, .f32⟩
  | .hbm, ⟨23, _⟩ => ⟨S1x4096x1024, .bf16⟩
  | .hbm, ⟨24, _⟩ => ⟨S4096x1024, .bf16⟩
  | .hbm, ⟨25, _⟩ => ⟨S4096x1024, .f32⟩
  | .hbm, ⟨26, _⟩ => ⟨S1x4096x1024, .bf16⟩
  | .hbm, ⟨27, _⟩ => ⟨S4096x1024, .bf16⟩
  | .hbm, ⟨28, _⟩ => ⟨S4096x1024, .f32⟩
  | .hbm, ⟨29, _⟩ => ⟨S1x4096x1024, .bf16⟩
  | .hbm, ⟨30, _⟩ => ⟨S4096x1024, .bf16⟩
  | .hbm, ⟨31, _⟩ => ⟨S4096x1024, .f32⟩
  | .hbm, ⟨32, _⟩ => ⟨S1x4096x1024, .bf16⟩
  | .hbm, ⟨33, _⟩ => ⟨S4096x1024, .bf16⟩
  | .hbm, ⟨34, _⟩ => ⟨S4096x1024, .f32⟩
  | .hbm, ⟨35, _⟩ => ⟨S4096x10240, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1024x10240, .f32⟩
  | .hbm, ⟨56, _⟩ => ⟨S4096x10240, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S_, .f32⟩
  | .hbm, ⟨75, _⟩ => ⟨S4096, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | _, _ => ⟨S10x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_cst_4 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== LossHead.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== BranchABwd.lean ====
abbrev S4096x10240 : Shape := ⟨2, ![4096, 10240]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S10x4096x1024 : Shape := ⟨3, ![10, 4096, 1024]⟩
abbrev S8x128x1 : Shape := ⟨3, ![8, 128, 1]⟩
abbrev S512x1024 : Shape := ⟨2, ![512, 1024]⟩
abbrev S3x512x1024 : Shape := ⟨3, ![3, 512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x512x1024 : Shape := ⟨3, ![1, 512, 1024]⟩
abbrev S1024 : Shape := ⟨1, ![1024]⟩
abbrev S128 : Shape := ⟨1, ![128]⟩
abbrev S1x128 : Shape := ⟨2, ![1, 128]⟩

abbrev nBuf : Space → Nat
  | .hbm => 14
  | .vmem => 20
  | .smem => 0
  | _ => 0

abbrev bufTy : (tb : Table) → Fin (tcTables nBuf tb) → BufTy
  | .hbm, ⟨0, _⟩ => ⟨S4096x10240, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S10x4096x1024, .bf16⟩
  | .hbm, ⟨7, _⟩ => ⟨S8x128x1, .f32⟩
  | .hbm, ⟨8, _⟩ => ⟨S8x128x128, .f32⟩
  | .hbm, ⟨9, _⟩ => ⟨S10x4096x1024, .bf16⟩
  | .hbm, ⟨10, _⟩ => ⟨S8x128x128, .f32⟩
  | .hbm, ⟨11, _⟩ => ⟨S8x128, .f32⟩
  | .hbm, ⟨12, _⟩ => ⟨S1x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .f32⟩
  | .local _ .vmem, ⟨11, _⟩ => ⟨S8x128x128, .f32⟩
  | .local _ .vmem, ⟨12, _⟩ => ⟨S3x512x1024, .bf16⟩
  | .local _ .vmem, ⟨13, _⟩ => ⟨S3x512x1024, .bf16⟩
  | .local _ .vmem, ⟨14, _⟩ => ⟨S8x128x128, .f32⟩
  | .local _ .vmem, ⟨15, _⟩ => ⟨S8x128, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S8x128x128, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def k0_cond6 (i : grid0.Coords) : BitVec 1 :=
  let arg0 : BitVec 32 := BitVec.ofNat 32 (i 0).val
  let c7_i32 : BitVec 32 := 7#32
  let v1116 : BitVec 1 := Scalar.cmpi .eq arg0 c7_i32
  let v1117 : BitVec 32 := Scalar.extui v1116
  let c0_i32_628 : BitVec 32 := 0#32
  let v1118 : BitVec 1 := Scalar.cmpi .ne v1117 c0_i32_628
  v1118

def k0_cond2 (i : grid0.Coords) : BitVec 1 :=
  let arg0 : BitVec 32 := BitVec.ofNat 32 (i 0).val
  let c0_i32_619 : BitVec 32 := 0#32
  let v1099 : BitVec 1 := Scalar.cmpi .eq arg0 c0_i32_619
  let v1103 : BitVec 32 := Scalar.extui v1099
  let c0_i32_621 : BitVec 32 := 0#32
  let v1104 : BitVec 1 := Scalar.cmpi .ne v1103 c0_i32_621
  v1104

def k0_cond3 (i : grid0.Coords) : BitVec 1 :=
  let arg0 : BitVec 32 := BitVec.ofNat 32 (i 0).val
  let c0_i32_619 : BitVec 32 := 0#32
  let v1099 : BitVec 1 := Scalar.cmpi .eq arg0 c0_i32_619
  let v_true : BitVec 1 := 1#1
  let v1105 : BitVec 1 := Scalar.xori v1099 v_true
  let v1106 : BitVec 32 := Scalar.extui v1105
  let c0_i32_622 : BitVec 32 := 0#32
  let v1107 : BitVec 1 := Scalar.cmpi .ne v1106 c0_i32_622
  v1107

def k0_cond4 (i : grid0.Coords) : BitVec 1 :=
  let arg0 : BitVec 32 := BitVec.ofNat 32 (i 0).val
  let c0_i32_623 : BitVec 32 := 0#32
  let v1108 : BitVec 1 := Scalar.cmpi .eq arg0 c0_i32_623
  let v1111 : BitVec 32 := Scalar.extui v1108
  let c0_i32_625 : BitVec 32 := 0#32
  let v1112 : BitVec 1 := Scalar.cmpi .ne v1111 c0_i32_625
  v1112

def k0_cond5 (i : grid0.Coords) : BitVec 1 :=
  let arg0 : BitVec 32 := BitVec.ofNat 32 (i 0).val
  let c0_i32_623 : BitVec 32 := 0#32
  let v1108 : BitVec 1 := Scalar.cmpi .eq arg0 c0_i32_623
  let true_626 : BitVec 1 := 1#1
  let v1113 : BitVec 1 := Scalar.xori v1108 true_626
  let v1114 : BitVec 32 := Scalar.extui v1113
  let c0_i32_627 : BitVec 32 := 0#32
  let v1115 : BitVec 1 := Scalar.cmpi .ne v1114 c0_i32_627
  v1115

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BranchABwdRefIdeal.lean ====
abbrev S4096x10240 : Shape := ⟨2, ![4096, 10240]⟩
abbrev S4096x1024 : Shape := ⟨2, ![4096, 1024]⟩
abbrev S1x1024 : Shape := ⟨2, ![1, 1024]⟩
abbrev S8x128x128 : Shape := ⟨3, ![8, 128, 128]⟩
abbrev S8x128 : Shape := ⟨2, ![8, 128]⟩
abbrev S10x4096x1024 : Shape := ⟨3, ![10, 4096, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024 : Shape := ⟨1, ![1024]⟩
abbrev S4096x3x1024 : Shape := ⟨3, ![4096, 3, 1024]⟩
abbrev S3x4096x1024 : Shape := ⟨3, ![3, 4096, 1024]⟩
abbrev S7x4096x1024 : Shape := ⟨3, ![7, 4096, 1024]⟩

abbrev nBuf : Space → Nat
  | .hbm => 177
  | .vmem => 0
  | .smem => 0
  | _ => 0

abbrev hbmTy0_0 (i : Nat) : BufTy := match i % 128 with
  | 0 => ⟨S4096x10240, .bf16⟩
  | 1 => ⟨S4096x1024, .bf16⟩
  | 2 => ⟨S1x1024, .f32⟩
  | 3 => ⟨S1x1024, .f32⟩
  | 4 => ⟨S8x128x128, .f32⟩
  | 5 => ⟨S8x128, .f32⟩
  | 6 => ⟨S10x4096x1024, .bf16⟩
  | 7 => ⟨S4096x3072, .bf16⟩
  | 8 => ⟨S4096x3072, .f32⟩
  | 9 => ⟨S4096x1024, .f32⟩
  | 10 => ⟨S4096x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S32x128x8x128, .f32⟩
  | 47 => ⟨S128, .i32⟩
  | 48 => ⟨S_, .i32⟩
  | 49 => ⟨S_, .i32⟩
  | 50 => ⟨S128, .i32⟩
  | 51 => ⟨S128, .i32⟩
  | 52 => ⟨S128, .i32⟩
  | 53 => ⟨S_, .i32⟩
  | 54 => ⟨S128, .i32⟩
  | 55 => ⟨S128, .i1⟩
  | 56 => ⟨S128, .i32⟩
  | 57 => ⟨S128, .i32⟩
  | 58 => ⟨S_, .i32⟩
  | 59 => ⟨S128, .i32⟩
  | 60 => ⟨S128, .i1⟩
  | 61 => ⟨S128, .i1⟩
  | 62 => ⟨S_, .i32⟩
  | 63 => ⟨S128, .i32⟩
  | 64 => ⟨S128, .i32⟩
  | 65 => ⟨S128, .i32⟩
  | 66 => ⟨S128x1, .i32⟩
  | 67 => ⟨S1x128, .i32⟩
  | 68 => ⟨S128x128, .i32⟩
  | 69 => ⟨S128x128, .i32⟩
  | 70 => ⟨S128x128, .i1⟩
  | 71 => ⟨S1x128x128, .i1⟩
  | 72 => ⟨S_, .f32⟩
  | 73 => ⟨S8x128x128, .f32⟩
  | 74 => ⟨S8x128x128, .i1⟩
  | 75 => ⟨S8x128x128, .f32⟩
  | 76 => ⟨S_, .f32⟩
  | 77 => ⟨S8x128x128, .f32⟩
  | 78 => ⟨S8x32x128x128, .f32⟩
  | 79 => ⟨S32x128x8x128, .f32⟩
  | 80 => ⟨S128x8, .f32⟩
  | 81 => ⟨S1x128x8x1, .f32⟩
  | 82 => ⟨S32x128x8x128, .f32⟩
  | 83 => ⟨S32x128x8x128, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S32x128x8x128, .f32⟩
  | 110 => ⟨S_, .f32⟩
  | 111 => ⟨S128x8, .f32⟩
  | 112 => ⟨S1x128x8x1, .f32⟩
  | 113 => ⟨S_, .f32⟩
  | 114 => ⟨S128x8, .f32⟩
  | 115 => ⟨S8x128, .f32⟩
  | 116 => ⟨S8x32x128x128, .f32⟩
  | 117 => ⟨S8x128x128, .f32⟩
  | 118 => ⟨S8x32x128x128, .f32⟩
  | 119 => ⟨S32x128x8x128, .f32⟩
  | 120 => ⟨S_, .f32⟩
  | 121 => ⟨S8x128x128, .f32⟩
  | 122 => ⟨S8x128x128, .f32⟩
  | 123 => ⟨S4096x1024, .f32⟩
  | 124 => ⟨S_, .f32⟩
  | 125 => ⟨S1024, .f32⟩
  | 126 => ⟨S1x1024, .f32⟩
  | 127 => ⟨S4096x1024, .f32⟩
  | _ => ⟨S4096x10240, .bf16⟩

abbrev hbmTy0_1 (i : Nat) : BufTy := match i % 128 with
  | 0 => ⟨S_, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1024, .f32⟩
  | 11 => ⟨S4096x1, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096, .f32⟩
  | 34 => ⟨S4096x1024, .f32⟩
  | 35 => ⟨S4096x1024, .f32⟩
  | 36 => ⟨S_, .f32⟩
  | 37 => ⟨S4096x3072, .f32⟩
  | 38 => ⟨S_, .f32⟩
  | 39 => ⟨S4096x3072, .f32⟩
  | 40 => ⟨S4096x3072, .f32⟩
  | 41 => ⟨S_, .f32⟩
  | 42 => ⟨S4096x3072, .f32⟩
  | 43 => ⟨S4096x3072, .f32⟩
  | 44 => ⟨S4096x3x1024, .f32⟩
  | 45 => ⟨S3x4096x1024, .f32⟩
  | 46 => ⟨S3x4096x1024, .bf16⟩
  | 47 => ⟨S7x4096x1024, .bf16⟩
  | 48 => ⟨S10x4096x1024, .bf16⟩
  | _ => ⟨S4096x10240, .bf16⟩

abbrev hbmTy (i : Nat) : BufTy := match i / 128 with
  | 0 => hbmTy0_0 i
  | 1 => hbmTy0_1 i
  | _ => ⟨S4096x10240, .bf16⟩

abbrev bufTy : (tb : Table) → Fin (tcTables nBuf tb) → BufTy
  | .hbm, ⟨i, _⟩ => hbmTy i
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_6 : Ref sig .tc := ⟨.hbm, 72, rfl⟩
abbrev main_v41 : Ref sig .tc := ⟨.hbm, 73, rfl⟩
abbrev main_v42_1 : Ref sig .tc := ⟨.hbm, 74, rfl⟩
abbrev main_v42_0 : Ref sig .tc := ⟨.hbm, 75, rfl⟩
abbrev main_call1_cst : Ref sig .tc := ⟨.hbm, 76, rfl⟩
abbrev main_v42_2 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call2_v0 : Ref sig .tc := ⟨.hbm, 86, rfl⟩
abbrev main_call2_v1 : Ref sig .tc := ⟨.hbm, 87, rfl⟩
abbrev main_call2_cst : Ref sig .tc := ⟨.hbm, 88, rfl⟩
abbrev main_call2_v2 : Ref sig .tc := ⟨.hbm, 89, rfl⟩
abbrev main_call2_v3 : Ref sig .tc := ⟨.hbm, 90, rfl⟩
abbrev main_call2_cst_0 : Ref sig .tc := ⟨.hbm, 91, rfl⟩
abbrev main_call2_v4 : Ref sig .tc := ⟨.hbm, 92, rfl⟩
abbrev main_v51_2 : Ref sig .tc := ⟨.hbm, 93, rfl⟩
abbrev main_call2_cst_1 : Ref sig .tc := ⟨.hbm, 94, rfl⟩
abbrev main_call2_v6 : Ref sig .tc := ⟨.hbm, 95, rfl⟩
abbrev main_call2_v7 : Ref sig .tc := ⟨.hbm, 96, rfl⟩
abbrev main_v51_1 : Ref sig .tc := ⟨.hbm, 97, rfl⟩
abbrev main_v51_0 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_7 : Ref sig .tc := ⟨.hbm, 110, rfl⟩
abbrev main_v60 : Ref sig .tc := ⟨.hbm, 111, rfl⟩
abbrev main_v61 : Ref sig .tc := ⟨.hbm, 112, rfl⟩
abbrev main_cst_8 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_call4_cst : Ref sig .tc := ⟨.hbm, 120, rfl⟩
abbrev main_call4_v0 : Ref sig .tc := ⟨.hbm, 121, rfl⟩
abbrev main_v68 : Ref sig .tc := ⟨.hbm, 122, rfl⟩
abbrev main_v69 : Ref sig .tc := ⟨.hbm, 123, rfl⟩
abbrev main_cst_9 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_10 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_11 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_12 : Ref sig .tc := ⟨.hbm, 141, rfl⟩
abbrev main_v84 : Ref sig .tc := ⟨.hbm, 142, rfl⟩
abbrev main_v85 : Ref sig .tc := ⟨.hbm, 143, rfl⟩
abbrev main_cst_13 : Ref sig .tc := ⟨.hbm, 144, rfl⟩
abbrev main_v86 : Ref sig .tc := ⟨.hbm, 145, rfl⟩
abbrev main_v87 : Ref sig .tc := ⟨.hbm, 146, rfl⟩
abbrev main_cst_14 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_15 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_cst_16 : Ref sig .tc := ⟨.hbm, 157, rfl⟩
abbrev main_v96 : Ref sig .tc := ⟨.hbm, 158, rfl⟩
abbrev main_v97 : Ref sig .tc := ⟨.hbm, 159, rfl⟩
abbrev main_cst_17 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_18 : Ref sig .tc := ⟨.hbm, 164, rfl⟩
abbrev main_v101 : Ref sig .tc := ⟨.hbm, 165, rfl⟩
abbrev main_cst_19 : Ref sig .tc := ⟨.hbm, 166, rfl⟩
abbrev main_v102 : Ref sig .tc := ⟨.hbm, 167, rfl⟩
abbrev main_v103 : Ref sig .tc := ⟨.hbm, 168, rfl⟩
abbrev main_cst_20 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩

abbrev nD : Nat := 1
abbrev τ : Topo := Topo.v7x

variable {F : FTy → Type} [FloatOps F]
-- ==== BranchCBwd.lean ====
abbrev S4096x10240 : Shape := ⟨2, ![4096, 10240]⟩
abbrev S256x2048 : Shape := ⟨2, ![256, 2048]⟩
abbrev S4096x1024 : Shape := ⟨2, ![4096, 1024]⟩
abbrev S10x4096x1024 : Shape := ⟨3, ![10, 4096, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S2x512x1024 : Shape := ⟨3, ![2, 512, 1024]⟩
abbrev S1x512x256 : Shape := ⟨3, ![1, 512, 256]⟩

abbrev nBuf : Space → Nat
  | .hbm => 8
  | .vmem => 21
  | .smem => 0
  | _ => 0

abbrev bufTy : (tb : Table) → Fin (tcTables nBuf tb) → BufTy
  | .hbm, ⟨0, _⟩ => ⟨S4096x10240, .bf16⟩
  | .hbm, ⟨1, _⟩ => ⟨S256x2048, .bf16⟩
  | .hbm, ⟨2, _⟩ => ⟨S4096x1024, .bf16⟩
  | .hbm, ⟨3, _⟩ => ⟨S10x4096x1024, .bf16⟩
  | .hbm, ⟨4, _⟩ => ⟨S4096x1024, .bf16⟩
  | .hbm, ⟨5, _⟩ => ⟨S4096x1024, .bf16⟩
  | .hbm, ⟨6, _⟩ => ⟨S10x4096x1024, .bf16⟩
  | .hbm, ⟨7, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S256x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S2x512x1024, .bf16⟩
  | .local _ .vmem, ⟨19, _⟩ => ⟨S2x512x1024, .bf16⟩
  | .local _ .vmem, ⟨20, _⟩ => ⟨S256x2048, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c5_i32 : BitVec 32 := 5#32
  let c0_i32 : BitVec 32 := 0#32
  ![arg0.toNat, c5_i32.toNat]

def cc1_transform_1 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== BranchCBwdRefIdeal.lean ====
abbrev S4096x10240 : Shape := ⟨2, ![4096, 10240]⟩
abbrev S256x2048 : Shape := ⟨2, ![256, 2048]⟩
abbrev S4096x1024 : Shape := ⟨2, ![4096, 1024]⟩
abbrev S10x4096x1024 : Shape := ⟨3, ![10, 4096, 1024]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S8x4096x1024 : Shape := ⟨3, ![8, 4096, 1024]⟩
abbrev S1x4096x1024 : Shape := ⟨3, ![1, 4096, 1024]⟩

abbrev nBuf : Space → Nat
  | .hbm => 120
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S256x2048, .bf16⟩
  | .hbm, ⟨2, _⟩ => ⟨S4096x1024, .bf16⟩
  | .hbm, ⟨3, _⟩ => ⟨S10x4096x1024, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S256x2048, .f32⟩
  | .hbm, ⟨9, _⟩ => ⟨S4096x4x256, .f32⟩
  | .hbm, ⟨10, _⟩ => ⟨S256x1024, .f32⟩
  | .hbm, ⟨11, _⟩ => ⟨S256x4x256, .f32⟩
  | .hbm, ⟨12, _⟩ => ⟨S256x1024, .f32⟩
  | .hbm, ⟨13, _⟩ => ⟨S256x4x256, .f32⟩
  | .hbm, ⟨14, _⟩ => ⟨S4x4096x256, .f32⟩
  | .hbm, ⟨15, _⟩ => ⟨S_, .f32⟩
  | .hbm, ⟨16, _⟩ => ⟨S4x4096x256, .f32⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .i1⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S4x4096x256, .f32⟩
  | .hbm, ⟨51, _⟩ => ⟨S4x4096x256, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x256x4096, .f32⟩
  | .hbm, ⟨57, _⟩ => ⟨S4096x4x256, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x4x256, .f32⟩
  | .hbm, ⟨81, _⟩ => ⟨S4x256x4096, .f32⟩
  | .hbm, ⟨82, _⟩ => ⟨S4x4096x256, .f32⟩
  | .hbm, ⟨83, _⟩ => ⟨S4x256x256, .f32⟩
  | .hbm, ⟨84, _⟩ => ⟨S256x4x256, .f32⟩
  | .hbm, ⟨85, _⟩ => ⟨S4x4096x256, .f32⟩
  | .hbm, ⟨86, _⟩ => ⟨S4x4096x256, .f32⟩
  | .hbm, ⟨87, _⟩ => ⟨S4x4096x256, .f32⟩
  | .hbm, ⟨88, _⟩ => ⟨S_, .f32⟩
  | .hbm, ⟨89, _⟩ => ⟨S4x4096, .f32⟩
  | .hbm, ⟨90, _⟩ => ⟨S4x4096x1, .f32⟩
  | .hbm, ⟨91, _⟩ => ⟨S4x4096x1, .f32⟩
  | .hbm, ⟨92, _⟩ => ⟨S4x4096x256, .f32⟩
  | .hbm, ⟨93, _⟩ => ⟨S4x4096x256, .f32⟩
  | .hbm, ⟨94, _⟩ => ⟨S_, .f32⟩
  | .hbm, ⟨95, _⟩ => ⟨S4x4096, .f32⟩
  | .hbm, ⟨96, _⟩ => ⟨S4x4096x256, .f32⟩
  | .hbm, ⟨97, _⟩ => ⟨S4x4096x256, .f32⟩
  | .hbm, ⟨98, _⟩ => ⟨S4x4096x256, .f32⟩
  | .hbm, ⟨99, _⟩ => ⟨S_, .f32⟩
  | .hbm, ⟨100, _⟩ => ⟨S4x4096x256, .f32⟩
  | .hbm, ⟨101, _⟩ => ⟨S4x4096x256, .f32⟩
  | .hbm, ⟨102, _⟩ => ⟨S4x256x256, .f32⟩
  | .hbm, ⟨103, _⟩ => ⟨S256x4x256, .f32⟩
  | .hbm, ⟨104, _⟩ => ⟨S4x4096x256, .f32⟩
  | .hbm, ⟨105, _⟩ => ⟨S4096x4x256, .f32⟩
  | .hbm, ⟨106, _⟩ => ⟨S256x1024, .f32⟩
  | .hbm, ⟨107, _⟩ => ⟨S_, .f32⟩
  | .hbm, ⟨108, _⟩ => ⟨S256x2048, .f32⟩
  | .hbm, ⟨109, _⟩ => ⟨S256x1024, .f32⟩
  | .hbm, ⟨110, _⟩ => ⟨S_, .f32⟩
  | .hbm, ⟨111, _⟩ => ⟨S256x2048, .f32⟩
  | .hbm, ⟨112, _⟩ => ⟨S256x2048, .f32⟩
  | .hbm, ⟨113, _⟩ => ⟨S4096x1024, .f32⟩
  | .hbm, ⟨114, _⟩ => ⟨S8x4096x1024, .bf16⟩
  | .hbm, ⟨115, _⟩ => ⟨S4096x1024, .bf16⟩
  | .hbm, ⟨116, _⟩ => ⟨S1x4096x1024, .bf16⟩
  | .hbm, ⟨117, _⟩ => ⟨S4096x1024, .bf16⟩
  | .hbm, ⟨118, _⟩ => ⟨S1x4096x1024, .bf16⟩
  | .hbm, ⟨119, _⟩ => ⟨S10x4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v44_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v44_1 : Ref sig .tc := ⟨.hbm, 70, rfl⟩
abbrev main_v44_0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_13 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== OutBwd.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S4096x3072 : Shape := ⟨2, ![4096, 3072]⟩
abbrev S_ : Shape := ⟨0, ![]⟩
abbrev S4x4096x1024 : Shape := ⟨3, ![4, 4096, 1024]⟩
abbrev S10x4096x1024 : Shape := ⟨3, ![10, 4096, 1024]⟩
abbrev S256x1024 : Shape := ⟨2, ![256, 1024]⟩
abbrev S4x256x1024 : Shape := ⟨3, ![4, 256, 1024]⟩
abbrev S3x256x1024 : Shape := ⟨3, ![3, 256, 1024]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩

abbrev nBuf : Space → Nat
  | .hbm => 48
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x10240, .bf16⟩
  | .hbm, ⟨5, _⟩ => ⟨S4x1024x1024, .bf16⟩
  | .hbm, ⟨6, _⟩ => ⟨S1x1024, .f32⟩
  | .hbm, ⟨7, _⟩ => ⟨S1x1024x1024, .bf16⟩
  | .hbm, ⟨8, _⟩ => ⟨S1024x1024, .bf16⟩
  | .hbm, ⟨9, _⟩ => ⟨S4096x1024, .f32⟩
  | .hbm, ⟨10, _⟩ => ⟨S1x1024x1024, .bf16⟩
  | .hbm, ⟨11, _⟩ => ⟨S1024x1024, .bf16⟩
  | .hbm, ⟨12, _⟩ => ⟨S4096x1024, .f32⟩
  | .hbm, ⟨13, _⟩ => ⟨S1x1024x1024, .bf16⟩
  | .hbm, ⟨14, _⟩ => ⟨S1024x1024, .bf16⟩
  | .hbm, ⟨15, _⟩ => ⟨S4096x1024, .f32⟩
  | .hbm, ⟨16, _⟩ => ⟨S4096x3072, .bf16⟩
  | .hbm, ⟨17, _⟩ => ⟨S4096x3072, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | .hbm, ⟨35, _⟩ => ⟨S1x1024x1024, .bf16⟩
  | .hbm, ⟨36, _⟩ => ⟨S1024x1024, .bf16⟩
  | .hbm, ⟨37, _⟩ => ⟨S4096x1024, .f32⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4x4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S10x4096x1024, .bf16⟩
  | .hbm, ⟨47, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S4x1024x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S4x256x1024, .bf16⟩
  | .local _ .vmem, ⟨19, _⟩ => ⟨S4x256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S3x256x1024, .bf16⟩
  | .local _ .vmem, ⟨27, _⟩ => ⟨S3x256x1024, .bf16⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v35 : BitVec 32 := Scalar.extui v29
  let c0_i32_10 : BitVec 32 := 0#32
  let v36 : BitVec 1 := Scalar.cmpi .ne v35 c0_i32_10
  v36

def k0_cond2 (i : grid0.Coords) : BitVec 1 :=
  let arg0 : BitVec 32 := BitVec.ofNat 32 (i 0).val
  let c0_i32 : BitVec 32 := 0#32
  let v29 : BitVec 1 := Scalar.cmpi .eq arg0 c0_i32
  let v_true : BitVec 1 := 1#1
  let v37 : BitVec 1 := Scalar.xori v29 v_true
  let v38 : BitVec 32 := Scalar.extui v37
  let c0_i32_11 : BitVec 32 := 0#32
  let v39 : BitVec 1 := Scalar.cmpi .ne v38 c0_i32_11
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S3x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== OutBwdRefIdeal.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S_ : Shape := ⟨0, ![]⟩
abbrev S4096x3072 : Shape := ⟨2, ![4096, 3072]⟩
abbrev S1x1024x1024 : Shape := ⟨3, ![1, 1024, 1024]⟩
abbrev S1024x1024 : Shape := ⟨2, ![1024, 1024]⟩
abbrev S4096 : Shape := ⟨1, ![4096]⟩
abbrev S4096x1 : Shape := ⟨2, ![4096, 1]⟩
abbrev S1024 : Shape := ⟨1, ![1024]⟩
abbrev S4096x3x1024 : Shape := ⟨3, ![4096, 3, 1024]⟩
abbrev S3x4096x1024 : Shape := ⟨3, ![3, 4096, 1024]⟩
abbrev S4x4096x1024 : Shape := ⟨3, ![4, 4096, 1024]⟩
abbrev S10x4096x1024 : Shape := ⟨3, ![10, 4096, 1024]⟩
abbrev S1x4096x1024 : Shape := ⟨3, ![1, 4096, 1024]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .bf16⟩
  | 3 => ⟨S4096x1024, .bf16⟩
  | 4 => ⟨S4096x10240, .bf16⟩
  | 5 => ⟨S4x1024x1024, .bf16⟩
  | 6 => ⟨S1x1024, .f32⟩
  | 7 => ⟨S_, .f32⟩
  | 8 => ⟨S4096x1024, .f32⟩
  | 9 => ⟨S4x1024x1024, .f32⟩
  | 10 => ⟨S4096x1024, .f32⟩
  | 11 => ⟨S4096x1024, .f32⟩
  | 12 => ⟨S4096x1024, .f32⟩
  | 13 => ⟨S4096x3072, .bf16⟩
  | 14 => ⟨S4096x3072, .f32⟩
  | 15 => ⟨S4096x3072, .f32⟩
  | 16 => ⟨S4096x3072, .f32⟩
  | 17 => ⟨S_, .f32⟩
  | 18 => ⟨S4096x3072, .f32⟩
  | 19 => ⟨S4096x3072, .f32⟩
  | 20 => ⟨S_, .f32⟩
  | 21 => ⟨S4096x3072, .f32⟩
  | 22 => ⟨S4096x3072, .f32⟩
  | 23 => ⟨S_, .f32⟩
  | 24 => ⟨S4096x3072, .f32⟩
  | 25 => ⟨S4096x3072, .f32⟩
  | 26 => ⟨S4096x3072, .f32⟩
  | 27 => ⟨S4096x1024, .f32⟩
  | 28 => ⟨S1x1024x1024, .f32⟩
  | 29 => ⟨S1024x1024, .f32⟩
  | 30 => ⟨S4096x1024, .f32⟩
  | 31 => ⟨S4096x1024, .f32⟩
  | 32 => ⟨S4096x1024, .f32⟩
  | 33 => ⟨S4096x1024, .f32⟩
  | 34 => ⟨S1x1024x1024, .f32⟩
  | 35 => ⟨S1024x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S1x1024x1024, .f32⟩
  | 42 => ⟨S1024x1024, .f32⟩
  | 43 => ⟨S4096x1024, .f32⟩
  | 44 => ⟨S4096x1024, .f32⟩
  | 45 => ⟨S4096x1024, .f32⟩
  | 46 => ⟨S4096x1024, .f32⟩
  | 47 => ⟨S1x1024x1024, .f32⟩
  | 48 => ⟨S1024x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S1024, .f32⟩
  | 73 => ⟨S1x1024, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S4096x1024, .f32⟩
  | 81 => ⟨S4096x1024, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x3072, .f32⟩
  | 99 => ⟨S4096x1024, .f32⟩
  | 100 => ⟨S4096x1024, .f32⟩
  | 101 => ⟨S4096x1024, .f32⟩
  | 102 => ⟨S_, .f32⟩
  | 103 => ⟨S4096x3072, .f32⟩
  | 104 => ⟨S4096x3072, .f32⟩
  | 105 => ⟨S4096x1024, .f32⟩
  | 106 => ⟨S4096x1024, .f32⟩
  | 107 => ⟨S4096x1024, .f32⟩
  | 108 => ⟨S_, .f32⟩
  | 109 => ⟨S4096x3072, .f32⟩
  | 110 => ⟨S4096x3072, .f32⟩
  | 111 => ⟨S4096x3072, .f32⟩
  | 112 => ⟨S4096x3x1024, .f32⟩
  | 113 => ⟨S3x4096x1024, .f32⟩
  | 114 => ⟨S3x4096x1024, .bf16⟩
  | 115 => ⟨S_, .bf16⟩
  | 116 => ⟨S3x4096x1024, .bf16⟩
  | 117 => ⟨S_, .bf16⟩
  | 118 => ⟨S4x4096x1024, .bf16⟩
  | 119 => ⟨S10x4096x1024, .bf16⟩
  | 120 => ⟨S4096x1024, .bf16⟩
  | 121 => ⟨S4096x1024, .bf16⟩
  | 122 => ⟨S4096x1024, .bf16⟩
  | 123 => ⟨S4096x1024, .bf16⟩
  | 124 => ⟨S1x4096x1024, .bf16⟩
  | 125 => ⟨S1x4096x1024, .bf16⟩
  | 126 => ⟨S1x4096x1024, .bf16⟩
  | 127 => ⟨S1x4096x1024, .bf16⟩
  | _ => ⟨S4096x1024, .f32⟩

abbrev hbmTy0_1 (i : Nat) : BufTy := match i % 128 with
  | 0 => ⟨S4x4096x1024, .bf16⟩
  | 1 => ⟨S4096x1024, .bf16⟩
  | 2 => ⟨S4096x1024, .bf16⟩
  | 3 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_13 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_cst_15 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemKvRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x2048, .f32⟩
  | .hbm, ⟨19, _⟩ => ⟨S256x2048, .f32⟩
  | .hbm, ⟨20, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== BranchAFwd.lean ====
abbrev S4096x10240 : Shape := ⟨2, ![4096, 10240]⟩
abbrev S1x1024 : Shape := ⟨2, ![1, 1024]⟩
abbrev S8x128x128 : Shape := ⟨3, ![8, 128, 128]⟩
abbrev S8x128 : Shape := ⟨2, ![8, 128]⟩
abbrev S8x128x1 : Shape := ⟨3, ![8, 128, 1]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 8
  | .vmem => 12
  | .smem => 0
  | _ => 0

abbrev bufTy : (tb : Table) → Fin (tcTables nBuf tb) → BufTy
  | .hbm, ⟨0, _⟩ => ⟨S4096x10240, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S8x128x1, .f32⟩
  | .hbm, ⟨6, _⟩ => ⟨S8x128x128, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S8x128x128, .f32⟩
  | .local _ .vmem, ⟨10, _⟩ => ⟨S512x1024, .bf16⟩
  | .local _ .vmem, ⟨11, _⟩ => ⟨S512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== BranchAFwdRefIdeal.lean ====
abbrev S4096x10240 : Shape := ⟨2, ![4096, 10240]⟩
abbrev S1x1024 : Shape := ⟨2, ![1, 1024]⟩
abbrev S8x128x128 : Shape := ⟨3, ![8, 128, 128]⟩
abbrev S8x128 : Shape := ⟨2, ![8, 128]⟩
abbrev S4096x3072 : Shape := ⟨2, ![4096, 3072]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S4096x3072, .bf16⟩
  | .hbm, ⟨6, _⟩ => ⟨S4096x3072, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S32x128x8x128, .f32⟩
  | .hbm, ⟨38, _⟩ => ⟨S128, .i32⟩
  | .hbm, ⟨39, _⟩ => ⟨S_, .i32⟩
  | .hbm, ⟨40, _⟩ => ⟨S_, .i32⟩
  | .hbm, ⟨41, _⟩ => ⟨S128, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S128, .i32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S128, .i1⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S128, .i32⟩
  | .hbm, ⟨57, _⟩ => ⟨S128x1, .i32⟩
  | .hbm, ⟨58, _⟩ => ⟨S1x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S1x128x128, .i1⟩
  | .hbm, ⟨63, _⟩ => ⟨S_, .f32⟩
  | .hbm, ⟨64, _⟩ => ⟨S8x128x128, .f32⟩
  | .hbm, ⟨65, _⟩ => ⟨S8x128x128, .i1⟩
  | .hbm, ⟨66, _⟩ => ⟨S8x128x128, .f32⟩
  | .hbm, ⟨67, _⟩ => ⟨S8x32x128x128, .f32⟩
  | .hbm, ⟨68, _⟩ => ⟨S32x128x8x128, .f32⟩
  | .hbm, ⟨69, _⟩ => ⟨S128x8, .f32⟩
  | .hbm, ⟨70, _⟩ => ⟨S1x128x8x1, .f32⟩
  | .hbm, ⟨71, _⟩ => ⟨S32x128x8x128, .f32⟩
  | .hbm, ⟨72, _⟩ => ⟨S32x128x8x128, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_call1_v0 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩

abbrev nD : Nat := 1
abbrev τ : Topo := Topo.v7x

variable {F : FTy → Type} [FloatOps F]
-- ==== BranchCFwd.lean ====
abbrev S4096x10240 : Shape := ⟨2, ![4096, 10240]⟩
abbrev S256x2048 : Shape := ⟨2, ![256, 2048]⟩
abbrev S4096x1024 : Shape := ⟨2, ![4096, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x10240, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== BranchCFwdRefIdeal.lean ====
abbrev S4096x10240 : Shape := ⟨2, ![4096, 10240]⟩
abbrev S256x2048 : Shape := ⟨2, ![256, 2048]⟩
abbrev S4096x1024 : Shape := ⟨2, ![4096, 1024]⟩
abbrev S256x1024 : Shape := ⟨2, ![256, 1024]⟩
abbrev S256x4x256 : Shape := ⟨3, ![256, 4, 256]⟩
abbrev S4096x4x256 : Shape := ⟨3, ![4096, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S256x2048, .f32⟩
  | .hbm, ⟨7, _⟩ => ⟨S256x1024, .f32⟩
  | .hbm, ⟨8, _⟩ => ⟨S256x4x256, .f32⟩
  | .hbm, ⟨9, _⟩ => ⟨S4096x4x256, .f32⟩
  | .hbm, ⟨10, _⟩ => ⟨S256x1024, .f32⟩
  | .hbm, ⟨11, _⟩ => ⟨S256x4x256, .f32⟩
  | .hbm, ⟨12, _⟩ => ⟨S4x4096x256, .f32⟩
  | .hbm, ⟨13, _⟩ => ⟨S_, .f32⟩
  | .hbm, ⟨14, _⟩ => ⟨S4x4096x256, .f32⟩
  | .hbm, ⟨15, _⟩ => ⟨S4x4096x256, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x256, .f32⟩
  | .hbm, ⟨23, _⟩ => ⟨S4x4096x256, .f32⟩
  | .hbm, ⟨24, _⟩ => ⟨S4x4096x256, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x256, .f32⟩
  | .hbm, ⟨29, _⟩ => ⟨S4x4096x256, .f32⟩
  | .hbm, ⟨30, _⟩ => ⟨S4x256x4096, .f32⟩
  | .hbm, ⟨31, _⟩ => ⟨S4096x4x256, .f32⟩
  | .hbm, ⟨32, _⟩ => ⟨S4096x1024, .f32⟩
  | .hbm, ⟨33, _⟩ => ⟨S4096x4x256, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x1024, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== MergeOut.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S4x4096x1024 : Shape := ⟨3, ![4, 4096, 1024]⟩
abbrev S256x1024 : Shape := ⟨2, ![256, 1024]⟩
abbrev S4x256x1024 : Shape := ⟨3, ![4, 256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 13
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x10240, .bf16⟩
  | .hbm, ⟨4, _⟩ => ⟨S4x1024x1024, .bf16⟩
  | .hbm, ⟨5, _⟩ => ⟨S4096x1024, .f32⟩
  | .hbm, ⟨6, _⟩ => ⟨S1x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4x4096x1024, .bf16⟩
  | .hbm, ⟨11, _⟩ => ⟨S4096x1024, .bf16⟩
  | .hbm, ⟨12, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x1024x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S4x256x1024, .bf16⟩
  | .local _ .vmem, ⟨23, _⟩ => ⟨S4x256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .f32⟩
  | .local _ .vmem, ⟨27, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeOutRefIdeal.lean ====
abbrev S4096x1024 : Shape := ⟨2, ![4096, 1024]⟩
abbrev S4096x10240 : Shape := ⟨2, ![4096, 10240]⟩
abbrev S4x1024x1024 : Shape := ⟨3, ![4, 1024, 1024]⟩
abbrev S1x1024 : Shape := ⟨2, ![1, 1024]⟩
abbrev S1x1024x1024 : Shape := ⟨3, ![1, 1024, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩
abbrev S4096 : Shape := ⟨1, ![4096]⟩
abbrev S4096x1 : Shape := ⟨2, ![4096, 1]⟩
abbrev S1x4096x1024 : Shape := ⟨3, ![1, 4096, 1024]⟩
abbrev S4x4096x1024 : Shape := ⟨3, ![4, 4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x10240, .bf16⟩
  | .hbm, ⟨4, _⟩ => ⟨S4x1024x1024, .bf16⟩
  | .hbm, ⟨5, _⟩ => ⟨S4096x1024, .f32⟩
  | .hbm, ⟨6, _⟩ => ⟨S1x1024, .f32⟩
  | .hbm, ⟨7, _⟩ => ⟨S4x1024x1024, .f32⟩
  | .hbm, ⟨8, _⟩ => ⟨S4096x1024, .f32⟩
  | .hbm, ⟨9, _⟩ => ⟨S1x1024x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S1x1024x1024, .f32⟩
  | .hbm, ⟨18, _⟩ => ⟨S1024x1024, .f32⟩
  | .hbm, ⟨19, _⟩ => ⟨S4096x1024, .f32⟩
  | .hbm, ⟨20, _⟩ => ⟨S4096x3072, .bf16⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S_, .f32⟩
  | .hbm, ⟨28, _⟩ => ⟨S4096x3072, .f32⟩
  | .hbm, ⟨29, _⟩ => ⟨S4096x3072, .f32⟩
  | .hbm, ⟨30, _⟩ => ⟨S4096x3x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024x1024, .f32⟩
  | .hbm, ⟨43, _⟩ => ⟨S1024x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .bf16⟩
  | .hbm, ⟨65, _⟩ => ⟨S1x4096x1024, .bf16⟩
  | .hbm, ⟨66, _⟩ => ⟨S1x4096x1024, .bf16⟩
  | .hbm, ⟨67, _⟩ => ⟨S1x4096x1024, .bf16⟩
  | .hbm, ⟨68, _⟩ => ⟨S1x4096x1024, .bf16⟩
  | .hbm, ⟨69, _⟩ => ⟨S4x4096x1024, .bf16⟩
  | .hbm, ⟨70, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== MmDwin.lean ====
abbrev S4096x1024 : Shape := ⟨2, ![4096, 1024]⟩
abbrev S10x4096x1024 : Shape := ⟨3, ![10, 4096, 1024]⟩
abbrev S1024x10240 : Shape := ⟨2, ![1024, 10240]⟩
abbrev S1x4096x1024 : Shape := ⟨3, ![1, 4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S10x4096x1024, .bf16⟩
  | .hbm, ⟨2, _⟩ => ⟨S1024x10240, .bf16⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 1 := Scalar.cmpi .slt arg0 c3_i32
  let c6_i32 : BitVec 32 := 6#32
  let v1 : BitVec 1 := Scalar.cmpi .slt arg0 c6_i32
  let c4_i32 : BitVec 32 := 4#32
  let v2 : BitVec 32 := Scalar.addi arg0 c4_i32
  let c3_i32_0 : BitVec 32 := 3#32
  let v3 : BitVec 32 := Scalar.subi arg0 c3_i32_0
  let v4 : BitVec 32 := Scalar.select v1 v2 v3
  let v5 : BitVec 32 := Scalar.select v0 arg0 v4
  let c0_i32 : BitVec 32 := 0#32
  let c0_i32_1 : BitVec 32 := 0#32
  ![c0_i32.toNat, v5.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmDwinRefIdeal.lean ====
abbrev S4096x1024 : Shape := ⟨2, ![4096, 1024]⟩
abbrev S10x4096x1024 : Shape := ⟨3, ![10, 4096, 1024]⟩
abbrev S1x4096x1024 : Shape := ⟨3, ![1, 4096, 1024]⟩
abbrev S4096x10240 : Shape := ⟨2, ![4096, 10240]⟩
abbrev S1024x4096 : Shape := ⟨2, ![1024, 4096]⟩
abbrev S1024x10240 : Shape := ⟨2, ![1024, 10240]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S10x4096x1024, .bf16⟩
  | .hbm, ⟨2, _⟩ => ⟨S1x4096x1024, .bf16⟩
  | .hbm, ⟨3, _⟩ => ⟨S4096x1024, .bf16⟩
  | .hbm, ⟨4, _⟩ => ⟨S4096x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S1x4096x1024, .bf16⟩
  | .hbm, ⟨12, _⟩ => ⟨S4096x1024, .bf16⟩
  | .hbm, ⟨13, _⟩ => ⟨S4096x1024, .f32⟩
  | .hbm, ⟨14, _⟩ => ⟨S1x4096x1024, .bf16⟩
  | .hbm, ⟨15, _⟩ => ⟨S4096x1024, .bf16⟩
  | .hbm, ⟨16, _⟩ => ⟨S4096x1024, .f32⟩
  | .hbm, ⟨17, _⟩ => ⟨S1x4096x1024, .bf16⟩
  | .hbm, ⟨18, _⟩ => ⟨S4096x1024, .bf16⟩
  | .hbm, ⟨19, _⟩ => ⟨S4096x1024, .f32⟩
  | .hbm, ⟨20, _⟩ => ⟨S1x4096x1024, .bf16⟩
  | .hbm, ⟨21, _⟩ => ⟨S4096x1024, .bf16⟩
  | .hbm, ⟨22, _⟩ => ⟨S4096x1024, .f32⟩
  | .hbm, ⟨23, _⟩ => ⟨S1x4096x1024, .bf16⟩
  | .hbm, ⟨24, _⟩ => ⟨S4096x1024, .bf16⟩
  | .hbm, ⟨25, _⟩ => ⟨S4096x1024, .f32⟩
  | .hbm, ⟨26, _⟩ => ⟨S1x4096x1024, .bf16⟩
  | .hbm, ⟨27, _⟩ => ⟨S4096x1024, .bf16⟩
  | .hbm, ⟨28, _⟩ => ⟨S4096x1024, .f32⟩
  | .hbm, ⟨29, _⟩ => ⟨S1x4096x1024, .bf16⟩
  | .hbm, ⟨30, _⟩ => ⟨S4096x1024, .bf16⟩
  | .hbm, ⟨31, _⟩ => ⟨S4096x1024, .f32⟩
  | .hbm, ⟨32, _⟩ => ⟨S4096x10240, .f32⟩
  | .hbm, ⟨33, _⟩ => ⟨S4096x1024, .f32⟩
  | .hbm, ⟨34, _⟩ => ⟨S1024x4096, .f32⟩
  | .hbm, ⟨35, _⟩ => ⟨S1024x10240, .f32⟩
  | .hbm, ⟨36, _⟩ => ⟨S1024x10240, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩

abbrev nD : Nat := 1
abbrev τ : Topo := Topo.v7x

variable {F : FTy → Type} [FloatOps F]
-- ==== MmTn.lean ====
abbrev S4x4096x1024 : Shape := ⟨3, ![4, 4096, 1024]⟩
abbrev S4x1024x1024 : Shape := ⟨3, ![4, 1024, 1024]⟩
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x1024x1024, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x1024x1024, .bf16⟩
  | .local _ .vmem, ⟨5, _⟩ => ⟨S1x1024x1024, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MmTnRefIdeal.lean ====
abbrev S4x4096x1024 : Shape := ⟨3, ![4, 4096, 1024]⟩
abbrev S4x1024x1024 : Shape := ⟨3, ![4, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S4x4096x1024, .f32⟩
  | .hbm, ⟨4, _⟩ => ⟨S4x1024x1024, .f32⟩
  | .hbm, ⟨5, _⟩ => ⟨S4x1024x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamwFlat.lean ====
abbrev S1024 : Shape := ⟨1, ![1024]⟩
abbrev S4x1024 : Shape := ⟨2, ![4, 1024]⟩
abbrev S4x8x128x128 : Shape := ⟨4, ![4, 8, 128, 128]⟩
abbrev S4x8x128 : Shape := ⟨3, ![4, 8, 128]⟩
abbrev S12800x128 : Shape := ⟨2, ![12800, 128]⟩
abbrev S_ : Shape := ⟨0, ![]⟩
abbrev S4x4x1024 : Shape := ⟨3, ![4, 4, 1024]⟩
abbrev S8x128 : Shape := ⟨2, ![8, 128]⟩
abbrev S32x128 : Shape := ⟨2, ![32, 128]⟩
abbrev S4096x128 : Shape := ⟨2, ![4096, 128]⟩
abbrev S128x128 : Shape := ⟨2, ![128, 128]⟩
abbrev S88x128 : Shape := ⟨2, ![88, 128]⟩
abbrev S2560x128 : Shape := ⟨2, ![2560, 128]⟩

abbrev nBuf : Space → Nat
  | .hbm => 100
  | .vmem => 14
  | .smem => 0
  | _ => 0

abbrev bufTy : (tb : Table) → Fin (tcTables nBuf tb) → BufTy
  | .hbm, ⟨0, _⟩ => ⟨S1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x8x128x128, .f32⟩
  | .hbm, ⟨6, _⟩ => ⟨S4x8x128, .f32⟩
  | .hbm, ⟨7, _⟩ => ⟨S4x1024, .f32⟩
  | .hbm, ⟨8, _⟩ => ⟨S4x8x128x128, .f32⟩
  | .hbm, ⟨9, _⟩ => ⟨S4x1024, .f32⟩
  | .hbm, ⟨10, _⟩ => ⟨S4x8x128x128, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x8x128x128, .f32⟩
  | .hbm, ⟨19, _⟩ => ⟨S4x8x128, .f32⟩
  | .hbm, ⟨20, _⟩ => ⟨S4x1024, .f32⟩
  | .hbm, ⟨21, _⟩ => ⟨S4x8x128x128, .f32⟩
  | .hbm, ⟨22, _⟩ => ⟨S4x1024, .f32⟩
  | .hbm, ⟨23, _⟩ => ⟨S4x8x128x128, .f32⟩
  | .hbm, ⟨24, _⟩ => ⟨S4x1024, .f32⟩
  | .hbm, ⟨25, _⟩ => ⟨S4x1024, .f32⟩
  | .hbm, ⟨26, _⟩ => ⟨S1024, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S4x8x128x128, .f32⟩
  | .hbm, ⟨32, _⟩ => ⟨S4x8x128, .f32⟩
  | .hbm, ⟨33, _⟩ => ⟨S4x1024, .f32⟩
  | .hbm, ⟨34, _⟩ => ⟨S4x8x128x128, .f32⟩
  | .hbm, ⟨35, _⟩ => ⟨S4x1024, .f32⟩
  | .hbm, ⟨36, _⟩ => ⟨S4x8x128x128, .f32⟩
  | .hbm, ⟨37, _⟩ => ⟨S4x1024, .f32⟩
  | .hbm, ⟨38, _⟩ => ⟨S4x1024, .f32⟩
  | .hbm, ⟨39, _⟩ => ⟨S12800x128, .f32⟩
  | .hbm, ⟨40, _⟩ => ⟨S_, .f32⟩
  | .hbm, ⟨41, _⟩ => ⟨S4x4x1024, .f32⟩
  | .hbm, ⟨42, _⟩ => ⟨S8x128, .f32⟩
  | .hbm, ⟨43, _⟩ => ⟨S32x128, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S4096x128, .f32⟩
  | .hbm, ⟨48, _⟩ => ⟨S32x128, .f32⟩
  | .hbm, ⟨49, _⟩ => ⟨S32x128, .f32⟩
  | .hbm, ⟨50, _⟩ => ⟨S4096x128, .f32⟩
  | .hbm, ⟨51, _⟩ => ⟨S32x128, .f32⟩
  | .hbm, ⟨52, _⟩ => ⟨S4096x128, .f32⟩
  | .hbm, ⟨53, _⟩ => ⟨S32x128, .f32⟩
  | .hbm, ⟨54, _⟩ => ⟨S32x128, .f32⟩
  | .hbm, ⟨55, _⟩ => ⟨S128x128, .f32⟩
  | .hbm, ⟨56, _⟩ => ⟨S_, .f32⟩
  | .hbm, ⟨57, _⟩ => ⟨S88x128, .f32⟩
  | .hbm, ⟨58, _⟩ => ⟨S12800x128, .f32⟩
  | .hbm, ⟨59, _⟩ => ⟨S_, .f32⟩
  | .hbm, ⟨60, _⟩ => ⟨S4x4x1024, .f32⟩
  | .hbm, ⟨61, _⟩ => ⟨S8x128, .f32⟩
  | .hbm, ⟨62, _⟩ => ⟨S32x128, .f32⟩
  | .hbm, ⟨63, _⟩ => ⟨S32x128, .f32⟩
  | .hbm, ⟨64, _⟩ => ⟨S32x128, .f32⟩
  | .hbm, ⟨65, _⟩ => ⟨S32x128, .f32⟩
  | .hbm, ⟨66, _⟩ => ⟨S4096x128, .f32⟩
  | .hbm, ⟨67, _⟩ => ⟨S32x128, .f32⟩
  | .hbm, ⟨68, _⟩ => ⟨S32x128, .f32⟩
  | .hbm, ⟨69, _⟩ => ⟨S4096x128, .f32⟩
  | .hbm, ⟨70, _⟩ => ⟨S32x128, .f32⟩
  | .hbm, ⟨71, _⟩ => ⟨S4096x128, .f32⟩
  | .hbm, ⟨72, _⟩ => ⟨S32x128, .f32⟩
  | .hbm, ⟨73, _⟩ => ⟨S32x128, .f32⟩
  | .hbm, ⟨74, _⟩ => ⟨S128x128, .f32⟩
  | .hbm, ⟨75, _⟩ => ⟨S_, .f32⟩
  | .hbm, ⟨76, _⟩ => ⟨S88x128, .f32⟩
  | .hbm, ⟨77, _⟩ => ⟨S12800x128, .f32⟩
  | .hbm, ⟨78, _⟩ => ⟨S_, .f32⟩
  | .hbm, ⟨79, _⟩ => ⟨S4x4x1024, .f32⟩
  | .hbm, ⟨80, _⟩ => ⟨S8x128, .f32⟩
  | .hbm, ⟨81, _⟩ => ⟨S32x128, .f32⟩
  | .hbm, ⟨82, _⟩ => ⟨S32x128, .f32⟩
  | .hbm, ⟨83, _⟩ => ⟨S32x128, .f32⟩
  | .hbm, ⟨84, _⟩ => ⟨S32x128, .f32⟩
  | .hbm, ⟨85, _⟩ => ⟨S4096x128, .f32⟩
  | .hbm, ⟨86, _⟩ => ⟨S32x128, .f32⟩
  | .hbm, ⟨87, _⟩ => ⟨S32x128, .f32⟩
  | .hbm, ⟨88, _⟩ => ⟨S4096x128, .f32⟩
  | .hbm, ⟨89, _⟩ => ⟨S32x128, .f32⟩
  | .hbm, ⟨90, _⟩ => ⟨S4096x128, .f32⟩
  | .hbm, ⟨91, _⟩ => ⟨S32x128, .f32⟩
  | .hbm, ⟨92, _⟩ => ⟨S32x128, .f32⟩
  | .hbm, ⟨93, _⟩ => ⟨S128x128, .f32⟩
  | .hbm, ⟨94, _⟩ => ⟨S_, .f32⟩
  | .hbm, ⟨95, _⟩ => ⟨S88x128, .f32⟩
  | .hbm, ⟨96, _⟩ => ⟨S12800x128, .f32⟩
  | .hbm, ⟨97, _⟩ => ⟨S12800x128, .f32⟩
  | .hbm, ⟨98, _⟩ => ⟨S12800x128, .f32⟩
  | .hbm, ⟨99, _⟩ => ⟨S12800x128, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S2560x128, .f32⟩
  | .local _ .vmem, ⟨5, _⟩ => ⟨S2560x128, .f32⟩
  | .local _ .vmem, ⟨6, _⟩ => ⟨S2560x128, .f32⟩
  | .local _ .vmem, ⟨7, _⟩ => ⟨S2560x128, .f32⟩
  | .local _ .vmem, ⟨8, _⟩ => ⟨S2560x128, .f32⟩
  | .local _ .vmem, ⟨9, _⟩ => ⟨S2560x128, .f32⟩
  | .local _ .vmem, ⟨10, _⟩ => ⟨S2560x128, .f32⟩
  | .local _ .vmem, ⟨11, _⟩ => ⟨S2560x128, .f32⟩
  | .local _ .vmem, ⟨12, _⟩ => ⟨S2560x128, .f32⟩
  | .local _ .vmem, ⟨13, _⟩ => ⟨S2560x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_0 : Ref sig .tc := ⟨.hbm, 56, rfl⟩
abbrev main_v15 : Ref sig .tc := ⟨.hbm, 57, rfl⟩
abbrev main_v16 : Ref sig .tc := ⟨.hbm, 58, rfl⟩
abbrev main_cst_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_2 : Ref sig .tc := ⟨.hbm, 75, rfl⟩
abbrev main_v32 : Ref sig .tc := ⟨.hbm, 76, rfl⟩
abbrev main_v33 : Ref sig .tc := ⟨.hbm, 77, rfl⟩
abbrev main_cst_3 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_4 : Ref sig .tc := ⟨.hbm, 94, rfl⟩
abbrev main_v49 : Ref sig .tc := ⟨.hbm, 95, rfl⟩
abbrev main_v50 : Ref sig .tc := ⟨.hbm, 96, rfl⟩
abbrev main_v51_0 : Ref sig .tc := ⟨.hbm, 97, rfl⟩
abbrev main_v51_1 : Ref sig .tc := ⟨.hbm, 98, rfl⟩
abbrev main_v51_2 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2560x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFlatRefIdeal.lean ====
abbrev S1024 : Shape := ⟨1, ![1024]⟩
abbrev S4x1024 : Shape := ⟨2, ![4, 1024]⟩
abbrev S4x8x128x128 : Shape := ⟨4, ![4, 8, 128, 128]⟩
abbrev S4x8x128 : Shape := ⟨3, ![4, 8, 128]⟩
abbrev S12800x128 : Shape := ⟨2, ![12800, 128]⟩
abbrev S_ : Shape := ⟨0, ![]⟩
abbrev S4x4x1024 : Shape := ⟨3, ![4, 4, 1024]⟩
abbrev S128x128 : Shape := ⟨2, ![128, 128]⟩
abbrev S88x128 : Shape := ⟨2, ![88, 128]⟩
abbrev S8x128 : Shape := ⟨2, ![8, 128]⟩
abbrev S32x128 : Shape := ⟨2, ![32, 128]⟩
abbrev S4096x128 : Shape := ⟨2, ![4096, 128]⟩

abbrev nBuf : Space → Nat
  | .hbm => 120
  | .vmem => 0
  | .smem => 0
  | _ => 0

abbrev bufTy : (tb : Table) → Fin (tcTables nBuf tb) → BufTy
  | .hbm, ⟨0, _⟩ => ⟨S1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x8x128x128, .f32⟩
  | .hbm, ⟨6, _⟩ => ⟨S4x8x128, .f32⟩
  | .hbm, ⟨7, _⟩ => ⟨S4x1024, .f32⟩
  | .hbm, ⟨8, _⟩ => ⟨S4x8x128x128, .f32⟩
  | .hbm, ⟨9, _⟩ => ⟨S4x1024, .f32⟩
  | .hbm, ⟨10, _⟩ => ⟨S4x8x128x128, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S4x1024, .f32⟩
  | .hbm, ⟨15, _⟩ => ⟨S4x1024, .f32⟩
  | .hbm, ⟨16, _⟩ => ⟨S4x1024, .f32⟩
  | .hbm, ⟨17, _⟩ => ⟨S4x1024, .f32⟩
  | .hbm, ⟨18, _⟩ => ⟨S4x8x128x128, .f32⟩
  | .hbm, ⟨19, _⟩ => ⟨S4x8x128, .f32⟩
  | .hbm, ⟨20, _⟩ => ⟨S4x1024, .f32⟩
  | .hbm, ⟨21, _⟩ => ⟨S4x8x128x128, .f32⟩
  | .hbm, ⟨22, _⟩ => ⟨S4x1024, .f32⟩
  | .hbm, ⟨23, _⟩ => ⟨S4x8x128x128, .f32⟩
  | .hbm, ⟨24, _⟩ => ⟨S4x1024, .f32⟩
  | .hbm, ⟨25, _⟩ => ⟨S4x1024, .f32⟩
  | .hbm, ⟨26, _⟩ => ⟨S1024, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S4x8x128x128, .f32⟩
  | .hbm, ⟨32, _⟩ => ⟨S4x8x128, .f32⟩
  | .hbm, ⟨33, _⟩ => ⟨S4x1024, .f32⟩
  | .hbm, ⟨34, _⟩ => ⟨S4x8x128x128, .f32⟩
  | .hbm, ⟨35, _⟩ => ⟨S4x1024, .f32⟩
  | .hbm, ⟨36, _⟩ => ⟨S4x8x128x128, .f32⟩
  | .hbm, ⟨37, _⟩ => ⟨S4x1024, .f32⟩
  | .hbm, ⟨38, _⟩ => ⟨S4x1024, .f32⟩
  | .hbm, ⟨39, _⟩ => ⟨S12800x128, .f32⟩
  | .hbm, ⟨40, _⟩ => ⟨S_, .f32⟩
  | .hbm, ⟨41, _⟩ => ⟨S4x4x1024, .f32⟩
  | .hbm, ⟨42, _⟩ => ⟨S128x128, .f32⟩
  | .hbm, ⟨43, _⟩ => ⟨S_, .f32⟩
  | .hbm, ⟨44, _⟩ => ⟨S88x128, .f32⟩
  | .hbm, ⟨45, _⟩ => ⟨S8x128, .f32⟩
  | .hbm, ⟨46, _⟩ => ⟨S32x128, .f32⟩
  | .hbm, ⟨47, _⟩ => ⟨S32x128, .f32⟩
  | .hbm, ⟨48, _⟩ => ⟨S32x128, .f32⟩
  | .hbm, ⟨49, _⟩ => ⟨S32x128, .f32⟩
  | .hbm, ⟨50, _⟩ => ⟨S4096x128, .f32⟩
  | .hbm, ⟨51, _⟩ => ⟨S32x128, .f32⟩
  | .hbm, ⟨52, _⟩ => ⟨S32x128, .f32⟩
  | .hbm, ⟨53, _⟩ => ⟨S4096x128, .f32⟩
  | .hbm, ⟨54, _⟩ => ⟨S32x128, .f32⟩
  | .hbm, ⟨55, _⟩ => ⟨S4096x128, .f32⟩
  | .hbm, ⟨56, _⟩ => ⟨S32x128, .f32⟩
  | .hbm, ⟨57, _⟩ => ⟨S32x128, .f32⟩
  | .hbm, ⟨58, _⟩ => ⟨S12800x128, .f32⟩
  | .hbm, ⟨59, _⟩ => ⟨S8x128, .f32⟩
  | .hbm, ⟨60, _⟩ => ⟨S32x128, .f32⟩
  | .hbm, ⟨61, _⟩ => ⟨S32x128, .f32⟩
  | .hbm, ⟨62, _⟩ => ⟨S32x128, .f32⟩
  | .hbm, ⟨63, _⟩ => ⟨S32x128, .f32⟩
  | .hbm, ⟨64, _⟩ => ⟨S4096x128, .f32⟩
  | .hbm, ⟨65, _⟩ => ⟨S32x128, .f32⟩
  | .hbm, ⟨66, _⟩ => ⟨S32x128, .f32⟩
  | .hbm, ⟨67, _⟩ => ⟨S4096x128, .f32⟩
  | .hbm, ⟨68, _⟩ => ⟨S32x128, .f32⟩
  | .hbm, ⟨69, _⟩ => ⟨S4096x128, .f32⟩
  | .hbm, ⟨70, _⟩ => ⟨S32x128, .f32⟩
  | .hbm, ⟨71, _⟩ => ⟨S32x128, .f32⟩
  | .hbm, ⟨72, _⟩ => ⟨S12800x128, .f32⟩
  | .hbm, ⟨73, _⟩ => ⟨S8x128, .f32⟩
  | .hbm, ⟨74, _⟩ => ⟨S32x128, .f32⟩
  | .hbm, ⟨75, _⟩ => ⟨S32x128, .f32⟩
  | .hbm, ⟨76, _⟩ => ⟨S32x128, .f32⟩
  | .hbm, ⟨77, _⟩ => ⟨S32x128, .f32⟩
  | .hbm, ⟨78, _⟩ => ⟨S4096x128, .f32⟩
  | .hbm, ⟨79, _⟩ => ⟨S32x128, .f32⟩
  | .hbm, ⟨80, _⟩ => ⟨S32x128, .f32⟩
  | .hbm, ⟨81, _⟩ => ⟨S4096x128, .f32⟩
  | .hbm, ⟨82, _⟩ => ⟨S32x128, .f32⟩
  | .hbm, ⟨83, _⟩ => ⟨S4096x128, .f32⟩
  | .hbm, ⟨84, _⟩ => ⟨S32x128, .f32⟩
  | .hbm, ⟨85, _⟩ => ⟨S32x128, .f32⟩
  | .hbm, ⟨86, _⟩ => ⟨S12800x128, .f32⟩
  | .hbm, ⟨87, _⟩ => ⟨S_, .f32⟩
  | .hbm, ⟨88, _⟩ => ⟨S12800x128, .f32⟩
  | .hbm, ⟨89, _⟩ => ⟨S12800x128, .f32⟩
  | .hbm, ⟨90, _⟩ => ⟨S_, .f32⟩
  | .hbm, ⟨91, _⟩ => ⟨S12800x128, .f32⟩
  | .hbm, ⟨92, _⟩ => ⟨S12800x128, .f32⟩
  | .hbm, ⟨93, _⟩ => ⟨S12800x128, .f32⟩
  | .hbm, ⟨94, _⟩ => ⟨S_, .f32⟩
  | .hbm, ⟨95, _⟩ => ⟨S12800x128, .f32⟩
  | .hbm, ⟨96, _⟩ => ⟨S12800x128, .f32⟩
  | .hbm, ⟨97, _⟩ => ⟨S12800x128, .f32⟩
  | .hbm, ⟨98, _⟩ => ⟨S_, .f32⟩
  | .hbm, ⟨99, _⟩ => ⟨S12800x128, .f32⟩
  | .hbm, ⟨100, _⟩ => ⟨S12800x128, .f32⟩
  | .hbm, ⟨101, _⟩ => ⟨S12800x128, .f32⟩
  | .hbm, ⟨102, _⟩ => ⟨S_, .f32⟩
  | .hbm, ⟨103, _⟩ => ⟨S12800x128, .f32⟩
  | .hbm, ⟨104, _⟩ => ⟨S12800x128, .f32⟩
  | .hbm, ⟨105, _⟩ => ⟨S_, .f32⟩
  | .hbm, ⟨106, _⟩ => ⟨S12800x128, .f32⟩
  | .hbm, ⟨107, _⟩ => ⟨S12800x128, .f32⟩
  | .hbm, ⟨108, _⟩ => ⟨S12800x128, .f32⟩
  | .hbm, ⟨109, _⟩ => ⟨S_, .f32⟩
  | .hbm, ⟨110, _⟩ => ⟨S12800x128, .f32⟩
  | .hbm, ⟨111, _⟩ => ⟨S12800x128, .f32⟩
  | .hbm, ⟨112, _⟩ => ⟨S12800x128, .f32⟩
  | .hbm, ⟨113, _⟩ => ⟨S_, .f32⟩
  | .hbm, ⟨114, _⟩ => ⟨S12800x128, .f32⟩
  | .hbm, ⟨115, _⟩ => ⟨S12800x128, .f32⟩
  | .hbm, ⟨116, _⟩ => ⟨S12800x128, .f32⟩
  | .hbm, ⟨117, _⟩ => ⟨S_, .f32⟩
  | .hbm, ⟨118, _⟩ => ⟨S12800x128, .f32⟩
  | .hbm, ⟨119, _⟩ => ⟨S12800x128, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_1 : Ref sig .tc := ⟨.hbm, 87, rfl⟩
abbrev main_v45 : Ref sig .tc := ⟨.hbm, 88, rfl⟩
abbrev main_v46 : Ref sig .tc := ⟨.hbm, 89, rfl⟩
abbrev main_cst_2 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_3 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_4 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_5 : Ref sig .tc := ⟨.hbm, 102, rfl⟩
abbrev main_v56 : Ref sig .tc := ⟨.hbm, 103, rfl⟩
abbrev main_v57 : Ref sig .tc := ⟨.hbm, 104, rfl⟩
abbrev main_cst_6 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_cst_7 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_8 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_9 : Ref sig .tc := ⟨.hbm, 117, rfl⟩
abbrev main_v67 : Ref sig .tc := ⟨.hbm, 118, rfl⟩
abbrev main_v68 : Ref sig .tc := ⟨.hbm, 119, rfl⟩

abbrev nD : Nat := 1
abbrev τ : Topo := Topo.v7x

variable {F : FTy → Type} [FloatOps F]
-- ==== AdamwLayer.lean ====
abbrev S4x1024x2560 : Shape := ⟨3, ![4, 1024, 2560]⟩
abbrev S1024x2560 : Shape := ⟨2, ![1024, 2560]⟩
abbrev S1x256x2560 : Shape := ⟨3, ![1, 256, 2560]⟩
abbrev S256x2560 : Shape := ⟨2, ![256, 2560]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S1024x2560, .f32⟩
  | .hbm, ⟨4, _⟩ => ⟨S4x1024x2560, .f32⟩
  | .hbm, ⟨5, _⟩ => ⟨S4x1024x2560, .f32⟩
  | .hbm, ⟨6, _⟩ => ⟨S4x1024x2560, .f32⟩
  | .hbm, ⟨7, _⟩ => ⟨S4x1024x2560, .f32⟩
  | .hbm, ⟨8, _⟩ => ⟨S4x1024x2560, .f32⟩
  | .hbm, ⟨9, _⟩ => ⟨S4x1024x2560, .f32⟩
  | .hbm, ⟨10, _⟩ => ⟨S4x1024x2560, .f32⟩
  | .hbm, ⟨11, _⟩ => ⟨S4x1024x2560, .f32⟩
  | .local _ .vmem, ⟨0, _⟩ => ⟨S1x256x2560, .f32⟩
  | .local _ .vmem, ⟨1, _⟩ => ⟨S1x256x2560, .f32⟩
  | .local _ .vmem, ⟨2, _⟩ => ⟨S1x256x2560, .f32⟩
  | .local _ .vmem, ⟨3, _⟩ => ⟨S1x256x2560, .f32⟩
  | .local _ .vmem, ⟨4, _⟩ => ⟨S1x256x2560, .f32⟩
  | .local _ .vmem, ⟨5, _⟩ => ⟨S1x256x2560, .f32⟩
  | .local _ .vmem, ⟨6, _⟩ => ⟨S256x2560, .f32⟩
  | .local _ .vmem, ⟨7, _⟩ => ⟨S256x2560, .f32⟩
  | .local _ .vmem, ⟨8, _⟩ => ⟨S1x256x2560, .f32⟩
  | .local _ .vmem, ⟨9, _⟩ => ⟨S1x256x2560, .f32⟩
  | .local _ .vmem, ⟨10, _⟩ => ⟨S1x256x2560, .f32⟩
  | .local _ .vmem, ⟨11, _⟩ => ⟨S1x256x2560, .f32⟩
  | .local _ .vmem, ⟨12, _⟩ => ⟨S1x256x2560, .f32⟩
  | .local _ .vmem, ⟨13, _⟩ => ⟨S1x256x2560, .f32⟩
  | .local _ .vmem, ⟨14, _⟩ => ⟨S1x256x2560, .f32⟩
  | .local _ .vmem, ⟨15, _⟩ => ⟨S1x256x2560, .f32⟩
  | _, _ => ⟨S4x1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwLayerRefIdeal.lean ====
abbrev S4x1024x2560 : Shape := ⟨3, ![4, 1024, 2560]⟩
abbrev S1024x2560 : Shape := ⟨2, ![1024, 2560]⟩
abbrev S1x1024x2560 : Shape := ⟨3, ![1, 1024, 2560]⟩
abbrev S_ : Shape := ⟨0, ![]⟩
abbrev S2x1024x2560 : Shape := ⟨3, ![2, 1024, 2560]⟩

abbrev nBuf : Space → Nat
  | .hbm => 63
  | .vmem => 0
  | .smem => 0
  | _ => 0

abbrev bufTy : (tb : Table) → Fin (tcTables nBuf tb) → BufTy
  | .hbm, ⟨0, _⟩ => ⟨S4x1024x2560, .f32⟩
  | .hbm, ⟨1, _⟩ => ⟨S4x1024x2560, .f32⟩
  | .hbm, ⟨2, _⟩ => ⟨S4x1024x2560, .f32⟩
  | .hbm, ⟨3, _⟩ => ⟨S1024x2560, .f32⟩
  | .hbm, ⟨4, _⟩ => ⟨S4x1024x2560, .f32⟩
  | .hbm, ⟨5, _⟩ => ⟨S4x1024x2560, .f32⟩
  | .hbm, ⟨6, _⟩ => ⟨S4x1024x2560, .f32⟩
  | .hbm, ⟨7, _⟩ => ⟨S4x1024x2560, .f32⟩
  | .hbm, ⟨8, _⟩ => ⟨S1x1024x2560, .f32⟩
  | .hbm, ⟨9, _⟩ => ⟨S1024x2560, .f32⟩
  | .hbm, ⟨10, _⟩ => ⟨S_, .f32⟩
  | .hbm, ⟨11, _⟩ => ⟨S1024x2560, .f32⟩
  | .hbm, ⟨12, _⟩ => ⟨S1024x2560, .f32⟩
  | .hbm, ⟨13, _⟩ => ⟨S_, .f32⟩
  | .hbm, ⟨14, _⟩ => ⟨S1024x2560, .f32⟩
  | .hbm, ⟨15, _⟩ => ⟨S1024x2560, .f32⟩
  | .hbm, ⟨16, _⟩ => ⟨S1024x2560, .f32⟩
  | .hbm, ⟨17, _⟩ => ⟨S1x1024x2560, .f32⟩
  | .hbm, ⟨18, _⟩ => ⟨S1024x2560, .f32⟩
  | .hbm, ⟨19, _⟩ => ⟨S_, .f32⟩
  | .hbm, ⟨20, _⟩ => ⟨S1024x2560, .f32⟩
  | .hbm, ⟨21, _⟩ => ⟨S1024x2560, .f32⟩
  | .hbm, ⟨22, _⟩ => ⟨S1024x2560, .f32⟩
  | .hbm, ⟨23, _⟩ => ⟨S_, .f32⟩
  | .hbm, ⟨24, _⟩ => ⟨S1024x2560, .f32⟩
  | .hbm, ⟨25, _⟩ => ⟨S1024x2560, .f32⟩
  | .hbm, ⟨26, _⟩ => ⟨S1024x2560, .f32⟩
  | .hbm, ⟨27, _⟩ => ⟨S_, .f32⟩
  | .hbm, ⟨28, _⟩ => ⟨S1024x2560, .f32⟩
  | .hbm, ⟨29, _⟩ => ⟨S1024x2560, .f32⟩
  | .hbm, ⟨30, _⟩ => ⟨S_, .f32⟩
  | .hbm, ⟨31, _⟩ => ⟨S1024x2560, .f32⟩
  | .hbm, ⟨32, _⟩ => ⟨S1024x2560, .f32⟩
  | .hbm, ⟨33, _⟩ => ⟨S1024x2560, .f32⟩
  | .hbm, ⟨34, _⟩ => ⟨S_, .f32⟩
  | .hbm, ⟨35, _⟩ => ⟨S1024x2560, .f32⟩
  | .hbm, ⟨36, _⟩ => ⟨S1024x2560, .f32⟩
  | .hbm, ⟨37, _⟩ => ⟨S1024x2560, .f32⟩
  | .hbm, ⟨38, _⟩ => ⟨S1x1024x2560, .f32⟩
  | .hbm, ⟨39, _⟩ => ⟨S1024x2560, .f32⟩
  | .hbm, ⟨40, _⟩ => ⟨S_, .f32⟩
  | .hbm, ⟨41, _⟩ => ⟨S1024x2560, .f32⟩
  | .hbm, ⟨42, _⟩ => ⟨S1024x2560, .f32⟩
  | .hbm, ⟨43, _⟩ => ⟨S1024x2560, .f32⟩
  | .hbm, ⟨44, _⟩ => ⟨S_, .f32⟩
  | .hbm, ⟨45, _⟩ => ⟨S1024x2560, .f32⟩
  | .hbm, ⟨46, _⟩ => ⟨S1024x2560, .f32⟩
  | .hbm, ⟨47, _⟩ => ⟨S1x1024x2560, .f32⟩
  | .hbm, ⟨48, _⟩ => ⟨S1x1024x2560, .f32⟩
  | .hbm, ⟨49, _⟩ => ⟨S2x1024x2560, .f32⟩
  | .hbm, ⟨50, _⟩ => ⟨S4x1024x2560, .f32⟩
  | .hbm, ⟨51, _⟩ => ⟨S1x1024x2560, .f32⟩
  | .hbm, ⟨52, _⟩ => ⟨S1x1024x2560, .f32⟩
  | .hbm, ⟨53, _⟩ => ⟨S2x1024x2560, .f32⟩
  | .hbm, ⟨54, _⟩ => ⟨S4x1024x2560, .f32⟩
  | .hbm, ⟨55, _⟩ => ⟨S1x1024x2560, .f32⟩
  | .hbm, ⟨56, _⟩ => ⟨S1x1024x2560, .f32⟩
  | .hbm, ⟨57, _⟩ => ⟨S2x1024x2560, .f32⟩
  | .hbm, ⟨58, _⟩ => ⟨S4x1024x2560, .f32⟩
  | .hbm, ⟨59, _⟩ => ⟨S1x1024x2560, .f32⟩
  | .hbm, ⟨60, _⟩ => ⟨S1x1024x2560, .f32⟩
  | .hbm, ⟨61, _⟩ => ⟨S2x1024x2560, .f32⟩
  | .hbm, ⟨62, _⟩ => ⟨S4x1024x2560, .f32⟩
  | _, _ => ⟨S4x1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Proof.MemBwd.lean ====
/-
  The memory path's backward call `_mem_bwd` (hand-written, untrusted): the gradient of `rmsnorm(mem, g) @ w_kv` in the
  weights and in the norm's gain, the gain's gradient added to the sum of the layers after it.

  The kernel is one point whose windows are whole arrays, so its two results are the generated payloads of its argument
  arrays (`Gen/MemBwdIdeal/Value.lean`); the reference is the host program of the derivative. Both are read at an index:
  the weights' gradient at row i and column j is `∑ r, (mem r i * s r * g i) * dkv r j` with `s r` the row's reciprocal
  root mean square, and the gain's at i is `acc i + ∑ r, (∑ k, dkv r k * w i k) * (mem r i * s r)`. The two programs take
  the factors of each term in different orders, and that is all that differs: no precondition.
-/
module

public import proofs.«01_k».proof.Defs
public import proofs.«01_k».proof.Proof.Gen.MemBwdIdeal.Value
public import proofs.«01_k».proof.Proof.Gen.MemBwdRefIdeal.Run
public import proofs.«01_k».proof.Proof.Gen.MemBwdRefIdeal.Read
public import Idealize.ShloMosaic.Lib.Pipeline.ValueKit
public import Idealize.ShloMosaic.Lib.Quiescent

@[expose] public section

set_option maxRecDepth 16384

noncomputable section

namespace Cert.MemBwdProof

open Idealize.ShloMosaic Idealize.ShloMosaic.TcCoe Idealize.SL.Sem

section Values

open Cert.MemBwdIdeal (S256x1024 S1x1024 S1024x2048 S256x2048)

variable (a0 : Vec Ideal S256x1024 .f32) (a1 : Vec Ideal S1x1024 .f32) (a2 : Vec Ideal S1024x2048 .bf16)
  (a3 : Vec Ideal S256x2048 .f32) (a4 : Vec Ideal S1x1024 .f32)

/-- The gradient in the weights: both programs sum the same products over the memory's rows. -/
theorem weights : Cert.MemBwdRefIdeal.Read.val_main_v20 (F := Ideal) a0 a1 a3 = Cert.MemBwdIdeal.Value.G5 a0 a1 a2 a3 a4 := by
  funext j
  rw [← Cert.MemBwdRefIdeal.Read.val_main_v20_eq]
  idx_vars j
  pointwise! [Cert.MemBwdIdeal.Gen.k0_pay3, Cert.MemBwdIdeal.Gen.k0_pay2, Cert.MemBwdIdeal.Gen.k0_pay1]

/-- The gradient in the norm's gain, added to the sum so far. -/
theorem gain : Cert.MemBwdRefIdeal.Read.val_main_v21 (F := Ideal) a0 a2 a3 a4 = Cert.MemBwdIdeal.Value.G6 a0 a1 a2 a3 a4 := by
  rw [← Cert.MemBwdRefIdeal.Read.val_main_v21_eq]
  funext j
  idx_vars j
  pointwise! [Cert.MemBwdIdeal.Gen.k0_pay4, Cert.MemBwdIdeal.Gen.k0_pay2, Cert.MemBwdIdeal.Gen.k0_pay1]

end Values

/-- The claim: from memories that agree on the arguments, kernel and reference end with equal results. -/
theorem algebraic : algebraic_MemBwdIdeal_MemBwdRefIdeal := by
  intro m g m' g' _ hag
  refine ⟨_, _, Cert.MemBwdIdeal.Value.run (F := Ideal) m g,
    (θ_run _ _ _).mono (fun r h c => ?_) (Cert.MemBwdRefIdeal.Value.run (F := Ideal) m' g')⟩
  obtain ⟨h0, h1, h2⟩ := h c
  obtain ⟨e0, e1, e2, e3, e4⟩ := hag c
  rw [e0, e1, e3] at h0
  rw [e0, e2, e3, e4] at h1
  exact ⟨h0.trans (weights _ _ _ _ _), h1.trans (gain _ _ _ _ _), h2⟩

/-- The reference's frame: the host program runs and leaves its arguments as they were. -/
theorem frame_ref : quiescent_MemBwdRefIdeal := fun m ρ _ =>
  (θ_run _ _ _).mono (fun r h => ⟨fun c => (h c).2.2, sem_eq_zero_of_no_sems (by decide) r.2⟩)
    (Cert.MemBwdRefIdeal.Value.run (F := Ideal) m ρ)

end Cert.MemBwdProof

end
-- ==== Proof.Reals.lean ====
/- Facts about the extended reals that the value claims share: what the printed constants are, and the gradient of the root
   mean square norm at one element (hand-written, untrusted). -/
module

public import Idealize.ShloMosaic.Lib.Pipeline.ValueKit

@[expose] public section

set_option maxRecDepth 16384

noncomputable section

namespace Cert.Reals

open Idealize.ShloMosaic

/-- The printed 1024. -/
theorem k1024 : Ideal.ofBits FTy.f32 1149239296#32 = ((1024 : ℝ) : EReal) := by
  simp [Ideal.ofBits, Ideal.ieee, -EReal.coe_mul]; norm_num

/-- The printed minus one half. -/
theorem neg_half : Ideal.ofBits FTy.f32 3204448256#32 = ((-(1 / 2) : ℝ) : EReal) := by
  simp [Ideal.ofBits, Ideal.ieee, -EReal.coe_mul, -EReal.coe_neg]; norm_num

/-- The number that the norms add to the mean square is a positive real. -/
theorem eps : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

/-- Twice a multiple of an extended real is the multiple by the doubled factor. -/
theorem two_mul_coe (E : EReal) (d : ℝ) : E * (d : EReal) + E * (d : EReal) = E * ((2 * d : ℝ) : EReal) := by
  induction E with
  | coe r => rw [← EReal.coe_mul, ← EReal.coe_add, ← EReal.coe_mul]; congr 1; ring
  | top =>
    rcases lt_trichotomy d 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy d 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A sum of squares of extended reals is not negative. -/
theorem sum_sq_nonneg {ι : Type} [Fintype ι] (x : ι → EReal) : 0 ≤ ∑ i, x i * x i := by
  refine Finset.sum_nonneg fun i _ => ?_
  induction x i with
  | coe r => rw [← EReal.coe_mul]; exact EReal.coe_nonneg.mpr (mul_self_nonneg r)
  | top => simp
  | bot => simp

/-- THE NORM'S GRADIENT at one element, for all extended reals: `S` the row's sum of squares, `P` the row's sum of the
    products of the input and of the scaled output gradient, `A` that gradient and `x` the input at the element. On the left
    the three-term closed form; on the right what differentiating the inverse root of the mean square gives. -/
theorem norm_grad (S P A x b : EReal) (hS : 0 ≤ S) :
    b + Ideal.rsqrt (Ideal.div S (Ideal.ofBits FTy.f32 1149239296#32) + Ideal.ofBits FTy.f32 897988541#32) * A
      - x * (Ideal.rsqrt (Ideal.div S (Ideal.ofBits FTy.f32 1149239296#32) + Ideal.ofBits FTy.f32 897988541#32)
          * Ideal.rsqrt (Ideal.div S (Ideal.ofBits FTy.f32 1149239296#32) + Ideal.ofBits FTy.f32 897988541#32)
          * Ideal.rsqrt (Ideal.div S (Ideal.ofBits FTy.f32 1149239296#32) + Ideal.ofBits FTy.f32 897988541#32))
        * Ideal.div P (Ideal.ofBits FTy.f32 1149239296#32)
    = b + (A * Ideal.rsqrt (Ideal.div S (Ideal.ofBits FTy.f32 1149239296#32) + Ideal.ofBits FTy.f32 897988541#32)
        + x * Ideal.div (P * (Ideal.ofBits FTy.f32 3204448256#32 * Ideal.div
            (Ideal.rsqrt (Ideal.div S (Ideal.ofBits FTy.f32 1149239296#32) + Ideal.ofBits FTy.f32 897988541#32))
            (Ideal.div S (Ideal.ofBits FTy.f32 1149239296#32) + Ideal.ofBits FTy.f32 897988541#32))) (Ideal.ofBits FTy.f32 1149239296#32)
        + Ideal.div (P * (Ideal.ofBits FTy.f32 3204448256#32 * Ideal.div
            (Ideal.rsqrt (Ideal.div S (Ideal.ofBits FTy.f32 1149239296#32) + Ideal.ofBits FTy.f32 897988541#32))
            (Ideal.div S (Ideal.ofBits FTy.f32 1149239296#32) + Ideal.ofBits FTy.f32 897988541#32))) (Ideal.ofBits FTy.f32 1149239296#32) * x) := by
  obtain ⟨e, he, ee⟩ := eps
  rw [k1024, neg_half, ee]
  simp only [Ideal.div_coe (show (1024 : ℝ) ≠ 0 by norm_num)]
  induction S with
  | bot => exact absurd hS (by simp)
  | top =>
    rw [EReal.top_mul_coe_of_pos (by norm_num), EReal.top_add_coe, Ideal.rsqrt_top]
    have hd : Ideal.div 0 ⊤ = 0 := by simp [Ideal.div]
    simp [hd]
  | coe s =>
    have hs : 0 ≤ s := EReal.coe_nonneg.mp hS
    have hm : 0 < s * (1 / 1024) + e := by positivity
    rw [← EReal.coe_mul, ← EReal.coe_add]
    generalize s * (1 / 1024) + e = q at hm
    rw [Ideal.rsqrt_coe, if_neg (not_lt.mpr hm.le), if_neg hm.ne', Ideal.div_coe hm.ne']
    have hr : (Real.sqrt q)⁻¹ * (Real.sqrt q)⁻¹ * (Real.sqrt q)⁻¹ = (Real.sqrt q)⁻¹ * (1 / q) := by
      have h2 : (Real.sqrt q)⁻¹ * (Real.sqrt q)⁻¹ = 1 / q := by
        rw [← mul_inv, Real.mul_self_sqrt hm.le, one_div]
      rw [h2, mul_comm]
    simp only [← EReal.coe_mul, hr]
    generalize (Real.sqrt q)⁻¹ = r
    generalize 1 / q = v
    have e1 : x * (P * ((-(1 / 2) * (r * v) : ℝ) : EReal) * ((1 / 1024 : ℝ) : EReal))
        = (x * P) * ((-(1 / 2) * (r * v) * (1 / 1024) : ℝ) : EReal) := by
      rw [EReal.coe_mul _ (1 / 1024)]; simp only [mul_assoc]
    have e2 : x * ((r * v : ℝ) : EReal) * (P * ((1 / 1024 : ℝ) : EReal)) = (x * P) * ((r * v * (1 / 1024) : ℝ) : EReal) := by
      rw [EReal.coe_mul _ (1 / 1024)]; ac_rfl
    rw [mul_comm _ x, e1, e2, add_assoc (A * _), two_mul_coe, sub_eq_add_neg, ← mul_neg, ← EReal.coe_neg, mul_comm (r : EReal) A,
      add_assoc]
    congr 5
    ring

end Cert.Reals

end
-- ==== Proof.MmDh.lean ====
/- The value claim of the backward call `_mm_dh`: the ten products of a row block are summed in a scratch, and the last of them
   goes through the root mean square norm's gradient (hand-written, untrusted). -/
module

public import proofs.«01_k».proof.Defs
public import proofs.«01_k».proof.Proof.Gen.MmDhIdeal.Frame
public import proofs.«01_k».proof.Proof.Gen.MmDhRefIdeal.Run
public import proofs.«01_k».proof.Proof.Gen.MmDhRefIdeal.Read
public import proofs.«01_k».proof.Proof.Reals
public import Idealize.ShloMosaic.Lib.Pipeline.ValueKit
public import Idealize.ShloMosaic.Lib.Pipeline.ReadBack
public import Idealize.ShloMosaic.Lib.Quiescent

@[expose] public section

set_option maxRecDepth 16384

noncomputable section

namespace Cert.MmDhProof

open Idealize.ShloMosaic Idealize.ShloMosaic.TcCoe Idealize.SL.Sem

/-! ## The product of the reference, piece by piece -/

/-- The place among the ten column blocks of the weight that belongs to plane `k` of the gradient. -/
def place : Fin 10 ≃ Fin 10 := Equiv.ofBijective ![0, 1, 2, 7, 8, 9, 3, 4, 5, 6] (by decide)

/-- The values of `place`. -/
theorem place_val (k : Fin 10) : (place k).val = if k.val < 3 then k.val else if k.val < 6 then k.val + 4 else k.val - 3 := by
  revert k; decide

open Cert.MmDhRefIdeal in
/-- The reference's concatenation holds plane `k` at the place of `k`. -/
theorem planes (dz : Vec Ideal S10x4096x1024 .bf16) (k : Fin 10) (r : Fin 4096) (x : Fin 1024) (q : Fin 10240)
    (hq : q.val = (place k).val * 1024 + x.val) :
    Read.val_main_v30 (F := Ideal) dz (ix2 r q) = dz (ix3 k r x) := by
  have hx := x.isLt
  rw [place_val] at hq
  simp only [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_v18, Read.val_main_v19, Read.val_main_v20, Read.val_main_v21, Read.val_main_v22, Read.val_main_v23, Read.val_main_v24, Read.val_main_v25, Read.val_main_v26, Read.val_main_v27, Read.val_main_v28, Read.val_main_v29, Read.val_main_v30]
  pointwise
  obtain ⟨k, hk⟩ := k
  interval_cases k
  all_goals
    norm_num at hq
    repeat (first | rw [dif_pos (by omega)] | rw [dif_neg (by omega)])
    refine congrArg dz (congrArg₂ (fun a b => ix3 a r b) ?_ ?_) <;> first | (apply Fin.ext; dsimp only; omega) | rfl

open Cert.MmDhRefIdeal in
/-- The reference's product, the ten planes' contractions one by one. -/
theorem product (dz : Vec Ideal S10x4096x1024 .bf16) (w : Vec Ideal S1024x10240 .bf16) (r : Fin 4096) (j : Fin 1024) :
    Read.val_main_v48 (F := Ideal) dz w (ix2 r j)
      = ∑ k : Fin 10, ∑ x : Fin 1024, dz (ix3 k r x) * w (ix2 j ⟨(place k).val * 1024 + x.val, by have := (place k).isLt; omega⟩) := by
  have e : Read.val_main_v48 (F := Ideal) dz w (ix2 r j)
      = ∑ q : Fin 10240, Read.val_main_v30 (F := Ideal) dz (ix2 r q) * w (ix2 j q) := by
    simp only [Read.val_main_v48, Read.val_main_v46]
    generalize Read.val_main_v30 (F := Ideal) dz = y
    pointwise
  rw [e]
  refine (Fin.sum_mul_add_congr (F := fun (s : Fin 10) (k : Fin 1024) => Read.val_main_v30 (F := Ideal) dz
    (ix2 r ⟨s.val * 1024 + k.val, by have := s.isLt; omega⟩) * w (ix2 j ⟨s.val * 1024 + k.val, by have := s.isLt; omega⟩))
    (fun s k hl => rfl)).symm.trans ?_
  rw [← Equiv.sum_comp place]
  refine Finset.sum_congr rfl fun k _ => Finset.sum_congr rfl fun x _ => ?_
  rw [planes dz k r x _ rfl]

open Cert.MmDhRefIdeal in
/-- The reference's first result at an element, over the product `dh`. -/
theorem ref_dx (dz : Vec Ideal S10x4096x1024 .bf16) (w : Vec Ideal S1024x10240 .bf16) (x dxn : Vec Ideal S4096x1024 .f32)
    (g : Vec Ideal S1x1024 .f32) (r : Fin 4096) (j : Fin 1024) (dh : Fin 1024 → EReal)
    (hdh : ∀ k, Read.val_main_v48 (F := Ideal) dz w (ix2 r k) = dh k) :
    Read.val_main_v68 (F := Ideal) dz w x dxn g (ix2 r j)
      = dxn (ix2 r j) + Ideal.rsqrt (Ideal.div (∑ k, x (ix2 r k) * x (ix2 r k)) (Ideal.ofBits FTy.f32 1149239296#32) + Ideal.ofBits FTy.f32 897988541#32) * (dh j * g (ix2 0 j))
       - x (ix2 r j) * (Ideal.rsqrt (Ideal.div (∑ k, x (ix2 r k) * x (ix2 r k)) (Ideal.ofBits FTy.f32 1149239296#32) + Ideal.ofBits FTy.f32 897988541#32)
          * Ideal.rsqrt (Ideal.div (∑ k, x (ix2 r k) * x (ix2 r k)) (Ideal.ofBits FTy.f32 1149239296#32) + Ideal.ofBits FTy.f32 897988541#32)
          * Ideal.rsqrt (Ideal.div (∑ k, x (ix2 r k) * x (ix2 r k)) (Ideal.ofBits FTy.f32 1149239296#32) + Ideal.ofBits FTy.f32 897988541#32))
        * Ideal.div (∑ k, dh k * g (ix2 0 k) * x (ix2 r k)) (Ideal.ofBits FTy.f32 1149239296#32) := by
  rw [Reals.norm_grad _ _ _ _ _ (Reals.sum_sq_nonneg fun k => x (ix2 r k))]
  simp only [Read.val_main_v31, Read.val_main_cst, Read.val_main_v32, Read.val_main_v33, Read.val_main_cst_0, Read.val_main_v34, Read.val_main_v35, Read.val_main_cst_1, Read.val_main_v36, Read.val_main_v37, Read.val_main_v38, Read.val_main_v39, Read.val_main_cst_2, Read.val_main_v40, Read.val_main_v41, Read.val_main_v52, Read.val_main_v53, Read.val_main_v54, Read.val_main_cst_4, Read.val_main_v55, Read.val_main_v56, Read.val_main_v57, Read.val_main_v58, Read.val_main_v59, Read.val_main_cst_5, Read.val_main_v60, Read.val_main_v61, Read.val_main_cst_6, Read.val_main_v62, Read.val_main_v63, Read.val_main_v64, Read.val_main_v65, Read.val_main_v66, Read.val_main_v67, Read.val_main_v68]
  generalize Read.val_main_v48 (F := Ideal) dz w = y at hdh
  pointwise
  simp only [hdh, Finset.univ_unique, Finset.sum_singleton, mul_comm (x _)]

open Cert.MmDhRefIdeal in
/-- The reference's second result at an element, over the product `dh`. -/
theorem ref_dg (dz : Vec Ideal S10x4096x1024 .bf16) (w : Vec Ideal S1024x10240 .bf16) (x : Vec Ideal S4096x1024 .f32) (j : S1x1024.Idx) :
    Read.val_main_v51 (F := Ideal) dz w x j
      = ∑ r : Fin 4096, Read.val_main_v48 (F := Ideal) dz w (ix2 r (j 1)) * x (ix2 r (j 1))
          * Ideal.rsqrt (Ideal.div (∑ k, x (ix2 r k) * x (ix2 r k)) (Ideal.ofBits FTy.f32 1149239296#32) + Ideal.ofBits FTy.f32 897988541#32) := by
  idx_vars j
  simp only [Read.val_main_v31, Read.val_main_cst, Read.val_main_v32, Read.val_main_v33, Read.val_main_cst_0, Read.val_main_v34, Read.val_main_v35, Read.val_main_cst_1, Read.val_main_v36, Read.val_main_v37, Read.val_main_v38, Read.val_main_v42, Read.val_main_v43, Read.val_main_v49, Read.val_main_cst_3, Read.val_main_v50, Read.val_main_v51]
  generalize Read.val_main_v48 (F := Ideal) dz w = y
  pointwise
  refine Finset.sum_congr rfl fun r _ => ?_
  rw [mul_comm, mul_assoc]

/-! ## What the kernel's points leave -/

open Cert.MmDhIdeal Cert.MmDhIdeal.Gen

variable (m : (ℓ : Loc nD τ sig) → Buf (Elt Ideal) ℓ) (ρ : Dev nD → PrngReg)

/-- The printed index maps, decided over the grid. -/
theorem idx : ∀ t : Fin cfg0.N, win0_0.index t = ![t.val % 10, t.val / 10, 0]
    ∧ win0_1.index t = ![0, if t.val % 10 < 3 then t.val % 10 else if t.val % 10 < 6 then t.val % 10 + 4 else t.val % 10 - 3]
    ∧ win0_2.index t = ![t.val / 10, 0] ∧ win0_3.index t = ![t.val / 10, 0] ∧ win0_4.index t = ![0, 0]
    ∧ win0_5.index t = ![t.val / 10, 0] ∧ win0_6.index t = ![0, 0] :=
  (by decide +kernel : ∀ t : Fin grid0.N, _)

/-- The scratch after the last of a row block's ten points: the row block of the product. -/
theorem scratch (c : Dev nD) (t : Fin cfg0.N) (ht : t.val % 10 = 9) (r j : Fin 1024) :
    (outsAt0 m c t.val t.isLt).2.2 (ix2 r j)
      = ∑ s : Fin 10, k0_pay1 (F := Ideal) (iblk m c 0 ⟨10 * (t.val / 10) + s.val, Pipeline.run_point_lt_of_flush t ht s⟩) (iblk m c 1 ⟨10 * (t.val / 10) + s.val, Pipeline.run_point_lt_of_flush t ht s⟩) (ix2 r j) := by
  have h := Pipeline.eq_sum_fin_of_reset_step_apply_of_flush (fun n h => (outsAt0 m c n h).2.2) 10 (fun _ => (0 : EReal))
    (fun t j => k0_pay1 (F := Ideal) (iblk m c 0 t) (iblk m c 1 t) j)
    (fun t h0 i => by
      rw [outsAt0_A m c t h0 (by omega) (by omega)]; frame_out
      rw [zero_add]; idx_vars i; pointwise [k0_pay2])
    (fun t h0 i => by
      have h1 : 1 ≤ t.val % 10 := by omega
      have e : (outsAt0 m c t.val t.isLt).2.2 = k0_pay3 (F := Ideal) (iblk m c 0 t) (iblk m c 1 t)
          (outsAt0 m c (t.val - 1) (Nat.lt_of_le_of_lt (Nat.sub_le _ _) t.isLt)).2.2 := by
        by_cases h2 : t.val % 10 = 9
        · by_cases h3 : t.val < 10
          · rw [outsAt0_C m c t h0 h1 h2 h3 (by omega)]; frame_out; simp only [read_unread_whole]
          · rw [outsAt0_D m c t h0 h1 h2 h3 (by omega)]; frame_out; simp only [read_unread_whole]
        · rw [outsAt0_B m c t h0 h1 h2]; frame_out; simp only [read_unread_whole]
      show (outsAt0 m c t.val t.isLt).2.2 i = _
      rw [e]
      generalize (outsAt0 m c (t.val - 1) (Nat.lt_of_le_of_lt (Nat.sub_le _ _) t.isLt)).2.2 = y
      idx_vars i; pointwise [k0_pay3])
    t ht (ix2 r j)
  rw [h, zero_add]

/-- The scratch after the last of a row block's ten points is the reference's product at the block's rows. -/
theorem scratch_product (c : Dev nD) (t : Fin cfg0.N) (ht : t.val % 10 = 9) (r j : Fin 1024) (R : Fin 4096)
    (hR : R.val = t.val / 10 * 1024 + r.val) :
    (outsAt0 m c t.val t.isLt).2.2 (ix2 r j)
      = Cert.MmDhRefIdeal.Read.val_main_v48 (F := Ideal) (m ((c.tc : Thread nD τ).loc main_arg0)) (m ((c.tc : Thread nD τ).loc main_arg1)) (ix2 R j) := by
  rw [scratch m c t ht, product]
  refine Finset.sum_congr rfl fun s _ => ?_
  have hs := s.isLt
  have h1 : (10 * (t.val / 10) + s.val) % 10 = s.val := by omega
  have h2 : (10 * (t.val / 10) + s.val) / 10 = t.val / 10 := by omega
  have hp := place_val s
  pointwise [k0_pay1]
  refine Finset.sum_congr rfl fun x _ => ?_
  refine congrArg₂ (· * ·) ?_ ?_
  · blk_ext [iblk, V, idx _]
  · blk_ext [iblk, V, idx _]
    rw [h1, hp]

/-- The root mean square norm's factor of row `R`. -/
abbrev fac (x : Vec Ideal S4096x1024 .f32) (R : Fin 4096) : EReal :=
  Ideal.rsqrt (Ideal.div (∑ k, x (ix2 R k) * x (ix2 R k)) (Ideal.ofBits FTy.f32 1149239296#32) + Ideal.ofBits FTy.f32 897988541#32)

/-- A row block's first result at an element, over the block's product. -/
theorem dx_block (c : Dev nD) (t : Fin cfg0.N) (ht : t.val % 10 = 9) (r j : Fin 1024) (R : Fin 4096)
    (hR : R.val = t.val / 10 * 1024 + r.val) :
    (outsAt0 m c t.val t.isLt).1 (ix2 r j)
      = Cert.MmDhRefIdeal.Read.val_main_v68 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix2 R j) := by
  have e : (outsAt0 m c t.val t.isLt).1
      = k0_pay6 (F := Ideal) (outsAt0 m c t.val t.isLt).2.2 (iblk m c 2 t) (iblk m c 4 t) (iblk m c 3 t) := by
    by_cases h3 : t.val < 10
    · rw [outsAt0_C m c t (by omega) (by omega) ht h3 (by omega)]; frame_out
    · rw [outsAt0_D m c t (by omega) (by omega) ht h3 (by omega)]; frame_out
  rw [e, ref_dx _ _ _ _ _ R j _ (fun k => (scratch_product m c t ht r k R hR).symm)]
  generalize (outsAt0 m c t.val t.isLt).2.2 = y
  have e2 : ∀ k, iblk m c 2 t (ix2 r k) = m ((c.tc : Thread nD τ).loc main_arg2) (ix2 R k) := fun k => by blk_ext [iblk, V, idx _]
  have e3 : iblk m c 3 t (ix2 r j) = m ((c.tc : Thread nD τ).loc main_arg3) (ix2 R j) := by blk_ext [iblk, V, idx _]
  have e4 : ∀ k, iblk m c 4 t (ix2 0 k) = m ((c.tc : Thread nD τ).loc main_arg4) (ix2 0 k) := fun k => by blk_ext [iblk, V, idx _]
  pointwise [k0_pay6, k0_pay5]
  simp only [e2, e3, e4]

/-- Row `R`'s part of the gain's gradient. -/
def part (c : Dev nD) (j : Fin 1024) (R : Fin 4096) : EReal :=
  Cert.MmDhRefIdeal.Read.val_main_v48 (F := Ideal) (m ((c.tc : Thread nD τ).loc main_arg0)) (m ((c.tc : Thread nD τ).loc main_arg1)) (ix2 R j)
    * m ((c.tc : Thread nD τ).loc main_arg2) (ix2 R j) * fac (m ((c.tc : Thread nD τ).loc main_arg2)) R

/-- A row block's part of the gain's gradient. -/
theorem gain_part (c : Dev nD) (t : Fin cfg0.N) (ht : t.val % 10 = 9) (j0 : Fin 1) (j : Fin 1024) :
    k0_pay7 (F := Ideal) (outsAt0 m c t.val t.isLt).2.2 (iblk m c 2 t) (ix2 j0 j)
      = ∑ r : Fin 1024, part m c j ⟨t.val / 10 * 1024 + r.val, by have := lt_of_lt_of_eq t.isLt N_0; omega⟩ := by
  have hN := lt_of_lt_of_eq t.isLt N_0
  have e2 : ∀ r k, iblk m c 2 t (ix2 r k) = m ((c.tc : Thread nD τ).loc main_arg2) (ix2 ⟨t.val / 10 * 1024 + r.val, by omega⟩ k) :=
    fun r k => by blk_ext [iblk, V, idx _]
  have e1 := fun r => scratch_product m c t ht r j ⟨t.val / 10 * 1024 + r.val, by omega⟩ rfl
  generalize (outsAt0 m c t.val t.isLt).2.2 = y at e1
  pointwise [k0_pay7, k0_pay5]
  simp only [e2, e1, part]

/-- The last point of row block `t`. -/
def pt (t : Fin 4) : Fin cfg0.N := ⟨10 * t.val + 9, lt_of_lt_of_eq (by omega) N_0.symm⟩

/-- The same at the last point of row block `t`. -/
theorem gain_at (c : Dev nD) (t : Fin 4) (j : S1x1024.Idx) :
    k0_pay7 (F := Ideal) (outsAt0 m c (pt t).val (pt t).isLt).2.2 (iblk m c 2 (pt t)) j
      = ∑ r : Fin 1024, part m c (j 1) ⟨t.val * 1024 + r.val, by have := t.isLt; omega⟩ := by
  have h1 : (pt t).val = 10 * t.val + 9 := rfl
  generalize pt t = p at h1
  obtain ⟨j0, j1, rfl⟩ : ∃ a b, j = ix2 a b := ⟨_, _, ValueIdx.eq_ix2 j⟩
  rw [gain_part m c p (by omega) j0 j1]
  refine Finset.sum_congr rfl fun r _ => congrArg (part m c j1) (Fin.ext ?_)
  dsimp only
  omega

/-- Between two row blocks' last points the second result's block is kept. -/
theorem gain_kept (c : Dev nD) (t : ℕ) (ht : t % 10 = 9) : ∀ (d : ℕ) (_ : d ≤ 9) (h : t + d < cfg0.N),
    (outsAt0 m c (t + d) h).2.1 = (outsAt0 m c t (by omega)).2.1
  | 0, _, _ => rfl
  | d + 1, hd, h => by
    rw [← gain_kept c t ht d (by omega) (by omega)]
    by_cases h0 : (t + (d + 1)) % 10 = 0
    · rw [outsAt0_A m c ⟨t + (d + 1), h⟩ h0 (by dsimp only; omega) (by dsimp only; omega)]; rfl
    · rw [outsAt0_B m c ⟨t + (d + 1), h⟩ h0 (by dsimp only; omega) (by dsimp only; omega)]; rfl

/-- The second result's block at the first row block's last point. -/
theorem gain_first (c : Dev nD) (p : Fin cfg0.N) (h9 : p.val % 10 = 9) (h10 : p.val < 10) :
    (outsAt0 m c p.val p.isLt).2.1 = k0_pay7 (F := Ideal) (outsAt0 m c p.val p.isLt).2.2 (iblk m c 2 p) := by
  rw [outsAt0_C m c p (by omega) (by omega) h9 h10 (by omega)]
  frame_out

/-- The second result's block at a later row block's last point. -/
theorem gain_next (c : Dev nD) (p : Fin cfg0.N) (h9 : p.val % 10 = 9) (h10 : ¬p.val < 10) (i : S1x1024.Idx) :
    (outsAt0 m c p.val p.isLt).2.1 i = (outsAt0 m c (p.val - 1) (Nat.lt_of_le_of_lt (Nat.sub_le _ _) p.isLt)).2.1 i
      + k0_pay7 (F := Ideal) (outsAt0 m c p.val p.isLt).2.2 (iblk m c 2 p) i := by
  rw [outsAt0_D m c p (by omega) (by omega) h9 h10 (by omega)]
  frame_out
  simp only [read_unread_whole]
  generalize k0_pay7 (F := Ideal) _ _ = y
  generalize (outsAt0 m c (p.val - 1) _).2.1 = z
  idx_vars i
  pointwise [k0_pay4]

/-- The second result's block after the last point: the sum of the row blocks' parts. -/
theorem gain_last (c : Dev nD) (u : Fin 4) (hu : u.val + 1 = 4) (j : S1x1024.Idx) :
    (outsAt0 m c (pt u).val (pt u).isLt).2.1 j = Cert.MmDhRefIdeal.Read.val_main_v51 (F := Ideal) (m ((c.tc : Thread nD τ).loc main_arg0))
      (m ((c.tc : Thread nD τ).loc main_arg1)) (m ((c.tc : Thread nD τ).loc main_arg2)) j := by
  have e := Pipeline.eq_sum_fin_of_reset_step_apply_last (N := 4) (fun n h => (outsAt0 m c (pt ⟨n, h⟩).val (pt ⟨n, h⟩).isLt).2.1) 4 (fun _ => (0 : EReal))
    (fun t j => ∑ r : Fin 1024, part m c (j 1) ⟨t.val * 1024 + r.val, by have := t.isLt; omega⟩)
    (fun t h0 i => by
      have h1 : (pt t).val = 10 * t.val + 9 := rfl
      rw [zero_add, ← gain_at m c t i, ← gain_first m c (pt t) (by omega) (by omega)])
    (fun t h0 i => by
      have h1 : (pt t).val = 10 * t.val + 9 := rfl
      rw [← gain_at m c t i]
      refine (gain_next m c (pt t) (by omega) (by omega) i).trans (congrArg (· + _) ?_)
      have h2 : (pt ⟨t.val - 1, Nat.lt_of_le_of_lt (Nat.sub_le _ _) t.isLt⟩).val = 10 * (t.val - 1) + 9 := rfl
      have hk := gain_kept m c (pt ⟨t.val - 1, Nat.lt_of_le_of_lt (Nat.sub_le _ _) t.isLt⟩).val (by omega) 9 (by omega)
        (by have := N_0; omega)
      rw [← hk]
      have hx : (pt t).val - 1 = (pt ⟨t.val - 1, Nat.lt_of_le_of_lt (Nat.sub_le _ _) t.isLt⟩).val + 9 := by omega
      simp only [hx])
    (by omega) u hu j
  simp only [zero_add, Fin.eta] at e
  rw [ref_dg]
  refine e.trans ?_
  clear e
  exact Fin.sum_mul_add_congr (S := 4) (n := 1024)
    (F := fun s k => part m c (j 1) ⟨s.val * 1024 + k.val, by have := s.isLt; omega⟩) (fun s k hl => rfl)

/-! ## The claim -/

/-- The kernel's run: the two results, the arguments unchanged. -/
theorem run : θ_run defs (onTc (τ := τ) (main (F := Ideal))) ⟨m, fun _ => 0, ρ⟩ fun r => ∀ c : Dev nD,
      r.2.mem ((c.tc : Thread nD τ).loc main_v0_0) = Cert.MmDhRefIdeal.Read.val_main_v68 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v0_1) = Cert.MmDhRefIdeal.Read.val_main_v51 (F := Ideal) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨((h.1 c).1 5).trans ?_, ((h.1 c).1 6).trans ?_, h.2 c⟩) (θ_run_and (run_main m ρ) (unchanged m ρ))
  · refine (dats m 0 c).arrAt_eq_of_covers 5 _ (by decide +kernel) fun t hf y => ?_
    have ht := (flush0_5 t).mp hf
    have hN := lt_of_lt_of_eq t.isLt N_0
    blk_simp
    rw [after0_5]
    obtain ⟨y0, y1, rfl⟩ : ∃ a b, y = ix2 a b := ⟨_, _, ValueIdx.eq_ix2 y⟩
    refine (dx_block m c t ht y0 y1 ⟨t.val / 10 * 1024 + y0.val, by have := y0.isLt; omega⟩ rfl).trans ?_
    blk_ext [idx _]
  · refine (dats m 0 c).arrAt_eq_of_after_last 6 (pt 3) (by decide +kernel) _ fun j => ?_
    blk_simp
    rw [after0_6]
    exact gain_last m c 3 rfl j

/-- The claim: from memories that agree on the arguments, kernel and reference end with equal results. -/
theorem algebraic : algebraic_MmDhIdeal_MmDhRefIdeal := by
  intro m g m' g' _ hag
  refine ⟨_, _, run m g, (θ_run _ _ _).mono (fun r h c => ?_) (Cert.MmDhRefIdeal.Value.run (F := Ideal) m' g')⟩
  obtain ⟨h0, h1, h2⟩ := h c
  obtain ⟨e0, e1, e2, e3, e4⟩ := hag c
  rw [Cert.MmDhRefIdeal.Read.val_main_v68_eq, e0, e1, e2, e3, e4] at h0
  rw [Cert.MmDhRefIdeal.Read.val_main_v51_eq, e0, e1, e2] at h1
  exact ⟨h0, h1, h2⟩

/-- The reference's frame: the host program runs and leaves its arguments as they were. -/
theorem frame_ref : quiescent_MmDhRefIdeal := fun m ρ _ =>
  (θ_run _ _ _).mono (fun r h => ⟨fun c => (h c).2.2, sem_eq_zero_of_no_sems (by decide) r.2⟩)
    (Cert.MmDhRefIdeal.Value.run (F := Ideal) m ρ)

end Cert.MmDhProof

end
-- ==== Proof.LossHead.lean ====
/- The value claim of `_loss_head`: the loss summed over the row blocks, and its gradient (hand-written, untrusted). -/
module

public import proofs.«01_k».proof.Defs
public import proofs.«01_k».proof.Proof.Gen.LossHeadIdeal.Frame
public import proofs.«01_k».proof.Proof.Gen.LossHeadRefIdeal.Run
public import proofs.«01_k».proof.Proof.Gen.LossHeadRefIdeal.Read
public import proofs.«01_k».proof.Proof.Reals
public import Idealize.ShloMosaic.Lib.Pipeline.ValueKit
public import Idealize.ShloMosaic.Lib.Pipeline.ReadBack
public import Idealize.ShloMosaic.Lib.Quiescent

@[expose] public section

set_option maxRecDepth 16384

noncomputable section

namespace Cert.LossHeadProof

open Idealize.ShloMosaic Idealize.ShloMosaic.TcCoe Idealize.SL.Sem

/-- The printed one half. -/
theorem half : Ideal.ofBits FTy.f32 1056964608#32 = ((1 / 2 : ℝ) : EReal) := by
  simp [Ideal.ofBits, Ideal.ieee, -EReal.coe_mul]; norm_num

/-- The printed 1/1024. -/
theorem inv1024 : Ideal.ofBits FTy.f32 981467136#32 = ((1 / 1024 : ℝ) : EReal) := by
  simp [Ideal.ofBits, Ideal.ieee, -EReal.coe_mul]; norm_num

/-- The printed 2. -/
theorem two : Ideal.ofBits FTy.f32 1073741824#32 = ((2 : ℝ) : EReal) := by
  simp [Ideal.ofBits, Ideal.ieee, -EReal.coe_mul]; norm_num

/-- A real factor that is not negative goes into a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- Row `R`'s mean of squared errors. -/
def part (y t : Vec Ideal Cert.LossHeadIdeal.S4096x1024 .f32) (R : Fin 4096) : EReal :=
  (∑ k : Fin 1024, (y (ix2 R k) - t (ix2 R k)) * (y (ix2 R k) - t (ix2 R k))) * ((1 / 1024 : ℝ) : EReal)

open Cert.LossHeadRefIdeal in
/-- The reference's loss: half of the sum of the rows' means. -/
theorem ref_loss (y t : Vec Ideal S4096x1024 .f32) (j : S1x1.Idx) :
    Read.val_main_v15 (F := Ideal) y t j = ∑ R, ((1 / 2 : ℝ) : EReal) * part y t R := by
  idx_vars j
  rw [← Read.val_main_v15_eq]
  pointwise
  simp only [Reals.k1024, half, Ideal.div_coe (show (1024 : ℝ) ≠ 0 by norm_num)]
  rw [coe_mul_sum _ _ (by norm_num)]
  rfl

open Cert.LossHeadRefIdeal in
/-- The reference's gradient: the error over the row's length. -/
theorem ref_dy (y t : Vec Ideal S4096x1024 .f32) (r : Fin 4096) (j : Fin 1024) :
    Read.val_main_v14 (F := Ideal) y t (ix2 r j) = (y (ix2 r j) - t (ix2 r j)) * ((1 / 1024 : ℝ) : EReal) := by
  rw [← Read.val_main_v14_eq]
  pointwise
  rw [Reals.k1024, half, two, Ideal.div_coe (show (1024 : ℝ) ≠ 0 by norm_num), ← mul_assoc, ← EReal.coe_mul, ← EReal.coe_mul,
    mul_comm]
  norm_num

open Cert.LossHeadIdeal Cert.LossHeadIdeal.Gen

variable (m : (ℓ : Loc nD τ sig) → Buf (Elt Ideal) ℓ) (ρ : Dev nD → PrngReg)

/-- The printed index maps, decided over the grid. -/
theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- A row block's part of the loss. -/
theorem loss_part (c : Dev nD) (t : Fin cfg0.N) (z : Vec Ideal S1x1 .f32) (j : S1x1.Idx) :
    k0_pay4 (F := Ideal) (iblk m c 0 t) (iblk m c 1 t) z j = z j + ∑ r : Fin 512, ((1 / 2 : ℝ) : EReal)
      * part (m ((c.tc : Thread nD τ).loc main_arg0)) (m ((c.tc : Thread nD τ).loc main_arg1)) ⟨t.val * 512 + r.val, by have := lt_of_lt_of_eq t.isLt N_0; omega⟩ := by
  have hN := lt_of_lt_of_eq t.isLt N_0
  have e0 : ∀ r k, iblk m c 0 t (ix2 r k) = m ((c.tc : Thread nD τ).loc main_arg0) (ix2 ⟨t.val * 512 + r.val, by omega⟩ k) :=
    fun r k => by blk_ext [iblk, V, idx _]
  have e1 : ∀ r k, iblk m c 1 t (ix2 r k) = m ((c.tc : Thread nD τ).loc main_arg1) (ix2 ⟨t.val * 512 + r.val, by omega⟩ k) :=
    fun r k => by blk_ext [iblk, V, idx _]
  idx_vars j
  pointwise [k0_pay4, k0_pay2]
  simp only [e0, e1, half, inv1024, part]
  rw [coe_mul_sum _ _ (by norm_num)]

/-- The loss after the last point. -/
theorem loss_last (c : Dev nD) (t : Fin cfg0.N) (ht : t.val % 8 = 7) (j : S1x1.Idx) :
    (outsAt0 m c t.val t.isLt).1 j = Cert.LossHeadRefIdeal.Read.val_main_v15 (F := Ideal) (m ((c.tc : Thread nD τ).loc main_arg0))
      (m ((c.tc : Thread nD τ).loc main_arg1)) j := by
  have hN := lt_of_lt_of_eq t.isLt N_0
  have h := Pipeline.eq_sum_fin_of_reset_step_apply_of_flush (fun n h => (outsAt0 m c n h).1) 8 (fun _ => (0 : EReal))
    (fun t _ => ∑ r : Fin 512, ((1 / 2 : ℝ) : EReal)
      * part (m ((c.tc : Thread nD τ).loc main_arg0)) (m ((c.tc : Thread nD τ).loc main_arg1)) ⟨t.val * 512 + r.val, by have := lt_of_lt_of_eq t.isLt N_0; omega⟩)
    (fun t h0 i => by
      rw [outsAt0_A m c t h0]; frame_out
      refine (loss_part m c t _ i).trans (congrArg (· + _) ?_)
      idx_vars i; pointwise [k0_pay1])
    (fun t h0 i => by
      rw [outsAt0_B m c t h0]; frame_out
      exact loss_part m c t _ i)
    t ht j
  rw [ref_loss, h, zero_add]
  refine Eq.trans (Finset.sum_congr rfl fun s _ => Finset.sum_congr rfl fun r _ => ?_) (Fin.sum_mul_add_congr (S := 8) (n := 512)
    (F := fun s k => ((1 / 2 : ℝ) : EReal) * part (m ((c.tc : Thread nD τ).loc main_arg0)) (m ((c.tc : Thread nD τ).loc main_arg1))
      ⟨s.val * 512 + k.val, by have := s.isLt; omega⟩) (fun s k hl => rfl))
  refine congrArg (_ * part _ _ ·) (Fin.ext ?_)
  dsimp only
  have := s.isLt
  omega

/-- A row block of the gradient. -/
theorem dy_block (c : Dev nD) (t : Fin cfg0.N) (r : Fin 512) (j : Fin 1024) (R : Fin 4096) (hR : R.val = t.val * 512 + r.val) :
    (outsAt0 m c t.val t.isLt).2 (ix2 r j) = Cert.LossHeadRefIdeal.Read.val_main_v14 (F := Ideal) (m ((c.tc : Thread nD τ).loc main_arg0))
      (m ((c.tc : Thread nD τ).loc main_arg1)) (ix2 R j) := by
  have e : (outsAt0 m c t.val t.isLt).2 = k0_pay3 (F := Ideal) (iblk m c 0 t) (iblk m c 1 t) := by
    by_cases h0 : t.val % 8 = 0
    · rw [outsAt0_A m c t h0]; frame_out
    · rw [outsAt0_B m c t h0]; frame_out
  have e0 : iblk m c 0 t (ix2 r j) = m ((c.tc : Thread nD τ).loc main_arg0) (ix2 R j) := by blk_ext [iblk, V, idx _]
  have e1 : iblk m c 1 t (ix2 r j) = m ((c.tc : Thread nD τ).loc main_arg1) (ix2 R j) := by blk_ext [iblk, V, idx _]
  rw [e, ref_dy]
  pointwise [k0_pay3, k0_pay2]
  rw [e0, e1, inv1024]

/-- The kernel's run: the two results, the arguments unchanged. -/
theorem run : θ_run defs (onTc (τ := τ) (main (F := Ideal))) ⟨m, fun _ => 0, ρ⟩ fun r => ∀ c : Dev nD,
      r.2.mem ((c.tc : Thread nD τ).loc main_v0_0) = Cert.LossHeadRefIdeal.Read.val_main_v15 (F := Ideal)
          (m ((c.tc : Thread nD τ).loc main_arg0)) (m ((c.tc : Thread nD τ).loc main_arg1))
      ∧ r.2.mem ((c.tc : Thread nD τ).loc main_v0_1) = Cert.LossHeadRefIdeal.Read.val_main_v14 (F := Ideal)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨((h.1 c).1 2).trans ?_, ((h.1 c).1 3).trans ?_, h.2 c⟩) (θ_run_and (run_main m ρ) (unchanged m ρ))
  · refine (dats m 0 c).arrAt_eq_of_covers 2 _ (by decide +kernel) fun t hf y => ?_
    have ht := (flush0_2 t).mp hf
    blk_simp
    rw [after0_2]
    refine (loss_last m c t ht y).trans ?_
    blk_ext [idx _]
  · refine (dats m 0 c).arrAt_eq_of_covers 3 _ (by decide +kernel) fun t hf y => ?_
    have hN := lt_of_lt_of_eq t.isLt N_0
    blk_simp
    rw [after0_3]
    obtain ⟨y0, y1, rfl⟩ : ∃ a b, y = ix2 a b := ⟨_, _, ValueIdx.eq_ix2 y⟩
    refine (dy_block m c t y0 y1 ⟨t.val * 512 + y0.val, by have := y0.isLt; omega⟩ rfl).trans ?_
    blk_ext [idx _]

/-- The claim: from memories that agree on the arguments, kernel and reference end with equal results. -/
theorem algebraic : algebraic_LossHeadIdeal_LossHeadRefIdeal := by
  intro m g m' g' _ hag
  refine ⟨_, _, run m g, (θ_run _ _ _).mono (fun r h c => ?_) (Cert.LossHeadRefIdeal.Value.run (F := Ideal) m' g')⟩
  obtain ⟨h0, h1, h2⟩ := h c
  obtain ⟨e0, e1⟩ := hag c
  rw [Cert.LossHeadRefIdeal.Read.val_main_v15_eq, e0, e1] at h0
  rw [Cert.LossHeadRefIdeal.Read.val_main_v14_eq, e0, e1] at h1
  exact ⟨h0, h1, h2⟩

/-- The reference's frame: the host program runs and leaves its arguments as they were. -/
theorem frame_ref : quiescent_LossHeadRefIdeal := fun m ρ _ =>
  (θ_run _ _ _).mono (fun r h => ⟨fun c => (h c).2.2, sem_eq_zero_of_no_sems (by decide) r.2⟩)
    (Cert.LossHeadRefIdeal.Value.run (F := Ideal) m ρ)

end Cert.LossHeadProof

end
-- ==== Proof.Finite.lean ====
module

public import proofs.«01_k».proof.Proof.Reals
public import Idealize.ShloMosaic.Lib.ReduceAll
public import Idealize.ShloMosaic.Lib.Pipeline.ValueKit

@[expose] public section

set_option maxRecDepth 16384

noncomputable section

/-! Extended reals that are real numbers: how the operations of the programs act on them. -/

namespace Cert.Finite

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real {b : ℝ} (hb : b ≠ 0) (a : ℝ) : Ideal.div (a : EReal) (b : EReal) = ((a / b : ℝ) : EReal) := by
  rw [Ideal.div_coe hb, ← EReal.coe_mul, mul_one_div]

theorem div1024 (a : ℝ) : Ideal.div (a : EReal) ((1024 : ℝ) : EReal) = ((a / 1024 : ℝ) : EReal) := div_real (by norm_num) a

theorem var_pos {ι : Type} [Fintype ι] (f : ι → ℝ) {n e : ℝ} (hn : 0 < n) (he : 0 < e) : 0 < (∑ i, f i * f i) / n + e :=
  add_pos_of_nonneg_of_pos (div_nonneg (Finset.sum_nonneg fun i _ => mul_self_nonneg _) hn.le) he

theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The inverse root of a variance over a row of 1024 lanes is real. -/
theorem rsqrt_var {ι : Type} [Fintype ι] {e : ℝ} (he : 0 < e) (f : ι → ℝ) :
    Ideal.rsqrt (((∑ i, f i * f i) / 1024 + e : ℝ) : EReal) = (((Real.sqrt ((∑ i, f i * f i) / 1024 + e))⁻¹ : ℝ) : EReal) :=
  rsqrt_pos (var_pos f (by norm_num) he)

theorem half : Ideal.ofBits FTy.f32 1056964608#32 = ((1 / 2 : ℝ) : EReal) := by
  simp [Ideal.ofBits, Ideal.ieee, -EReal.coe_mul, -EReal.coe_neg]
  norm_num

theorem two : Ideal.ofBits FTy.f32 1073741824#32 = ((2 : ℝ) : EReal) := by
  simp [Ideal.ofBits, Ideal.ieee, -EReal.coe_mul, -EReal.coe_neg]
  norm_num

theorem inf : Ideal.ofBits FTy.f32 0x7F800000#32 = ⊤ := by
  simp [Ideal.ofBits, Ideal.ieee]

/-- An extended real whose absolute value compares below the top is a real number. -/
theorem of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- A reduction by `and` of the test `|x| < ∞` that came out 1 says that every element is a real number. -/
theorem of_reduce {s t u : Shape} {axes : List (Fin s.rank)} [Subsingleton t.Idx] {φ : FTy} (x : FVec Ideal s φ) (b : FVec Ideal s φ)
    (hb : ∀ i, b i = (⊤ : EReal)) (init : u.Idx → BitVec 1) (h : s.ReducesTo axes t) (hu : 0 < u.numel) (j : t.Idx)
    (e : Host.reduce IntOp.andi (cmpf .olt (Host.absf x) b) init h hu j = 1#1) : ∀ i, ∃ r : ℝ, x i = (r : EReal) := fun i => by
  have h1 := Host.reduce_andi_all _ init h hu j e i
  have h2 : Ideal.cmp .olt (max (x i) (-(x i))) (b i) = 1#1 := h1
  rw [hb] at h2
  exact of_abs_lt h2

theorem andi_one : ∀ a b : BitVec 1, IntOp.andi a b = 1#1 → a = 1#1 ∧ b = 1#1 := by decide

/-- The gate's two forms: half a shifted tangent is the logistic function. -/
theorem logistic_eq (a : ℝ) : 1 / (1 + Real.exp (-a)) = 1 / 2 * Real.tanh (1 / 2 * a) + 1 / 2 := by
  have h : Real.exp (-a) = Real.exp (-(1 / 2 * a)) / Real.exp (1 / 2 * a) := by
    rw [← Real.exp_sub]; congr 1; ring
  have p := Real.exp_pos (1 / 2 * a)
  have p' := Real.exp_pos (-(1 / 2 * a))
  rw [h, Real.tanh_eq_sinh_div_cosh, Real.sinh_eq, Real.cosh_eq]
  field_simp
  ring

/-- The causal mask of one chunk: a key is seen by the queries of its half and of the later half. -/
theorem mask : ∀ i k : Fin 128, IntOp.ori (IntOp.cmpi .sge (BitVec.ofNat 32 i) 64#32) (IntOp.cmpi .slt (BitVec.ofNat 32 k) 64#32)
    = if 64 ≤ i.val ∨ k.val < 64 then 1#1 else 0#1 := by decide +kernel

theorem select_mask (i k : Fin 128) (a : ℝ) : Scalar.select (IntOp.ori (IntOp.cmpi .sge (BitVec.ofNat 32 i) 64#32)
    (IntOp.cmpi .slt (BitVec.ofNat 32 k) 64#32)) (a : EReal) 0 = ((if 64 ≤ i.val ∨ k.val < 64 then a else 0 : ℝ) : EReal) := by
  rw [mask]; split_ifs <;> simp [Scalar.select]

/-- A host sum of a rank four array along its outer two axes, at an index. -/
theorem reduce03 {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ p : Fin n0, ∑ q : Fin n3, v (ix4 p a b q) := by
  rw [← Fintype.sum_prod_type' (f := fun p q => v (ix4 p a b q))]
  refine congrArg (init + ·) (Finset.sum_filter_eq_sum_of_fiber _ (fun k : Fin n0 × Fin n3 => ix4 k.1 a b k.2)
    (fun _ _ e => Prod.ext (congrFun e 0) (congrFun e 3)) (fun i => ?_) v)
  constructor
  · intro e
    refine ⟨(i 0, i 3), ?_⟩
    funext c; apply Fin.ext
    match c with
    | ⟨0, _⟩ => rfl
    | ⟨1, _⟩ => exact (congrArg Fin.val (congrFun e ⟨0, Nat.zero_lt_two⟩)).symm
    | ⟨2, _⟩ => exact (congrArg Fin.val (congrFun e ⟨1, Nat.one_lt_two⟩)).symm
    | ⟨3, _⟩ => rfl
  · rintro ⟨k, rfl⟩
    funext c
    apply Fin.ext
    match c with
    | ⟨0, _⟩ => rfl
    | ⟨1, _⟩ => rfl
    | ⟨_ + 2, hb⟩ => exact absurd hb (by simp)

/-- What an earlier write left does not matter where a later one covers. -/
theorem canon_drop {s : Shape} {e : EltTy} {Val : EltTy → Type} [∀ e, Nonempty (Val e)] :
    ∀ (L L' : List (View.Piece Val s e)) (y : s.Idx), (∃ p ∈ L, y ∈ p.1.set) → View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem p _ hm, View.canon_cons_of_not_mem p _ hm]
      refine canon_drop L L' y ?_
      obtain ⟨q, hq, hyq⟩ := hc
      rcases List.mem_cons.mp hq with rfl | hq'
      · exact absurd hyq hm
      · exact ⟨q, hq', hyq⟩

/-- The host's greatest element along the last axis. -/
theorem reduce_max {n0 n1 n2 : Nat} {u : Shape} (h : (⟨3, ![n0, n1, n2]⟩ : Shape).ReducesTo [2] ⟨2, ![n0, n1]⟩)
    (v : FVec Ideal ⟨3, ![n0, n1, n2]⟩ .f32) (init : FVec Ideal u .f32) (hu : 0 < u.numel) (a : Fin n0) (b : Fin n1) :
    Host.reduce FloatOps.maximumf v init h hu (ix2 a b)
      = (Finset.univ : Finset (Fin n2)).fold max (init (Shape.Idx.first hu)) fun k => v (ix3 a b k) := by
  have e : (FloatOps.maximumf : Ideal .f32 → Ideal .f32 → Ideal .f32) = fun x y => max (x : EReal) y := rfl
  rw [e, Host.reduce_eq_fold]
  exact Shape.ReducesTo.fold_fiber_r3_a2 h (ix2 a b) (fun x y : EReal => max x y) _ v

end Cert.Finite
end
-- ==== Proof.BranchAModel.lean ====
module

public import proofs.«01_k».proof.Proof.Finite

@[expose] public section

noncomputable section

/-! The gated spatial unit of branch A over the reals, and its gradient: what both programs compute. Rows are named by
    their chunk of 128 and their place in it. -/

namespace Cert.BranchA

/-- The argument arrays as real numbers: the gate input `U`, the mixed input `V`, the second gate `G`, the gradient `DY`
    of the branch's output, the norm's gain and bias, the mixing matrices, their biases, and the norm's small constant. -/
structure In where
  U : Fin 32 → Fin 128 → Fin 1024 → ℝ
  V : Fin 32 → Fin 128 → Fin 1024 → ℝ
  G : Fin 32 → Fin 128 → Fin 1024 → ℝ
  DY : Fin 32 → Fin 128 → Fin 1024 → ℝ
  lg : Fin 1024 → ℝ
  lb : Fin 1024 → ℝ
  ws : Fin 8 → Fin 128 → Fin 128 → ℝ
  bs : Fin 8 → Fin 128 → ℝ
  e : ℝ
  he : 0 < e

/-- The group of a lane. -/
def grp (c : Fin 1024) : Fin 8 := ⟨c.val / 128, by omega⟩

/-- Lane `j` of group `g`. -/
def lane (g : Fin 8) (j : Fin 128) : Fin 1024 := ⟨128 * g.val + j.val, by omega⟩

theorem grp_lane (g : Fin 8) (j : Fin 128) : grp (lane g j) = g := by
  apply Fin.ext
  simp only [grp, lane]
  omega

/-- The gate's slope function, as half a shifted tangent. -/
def sg (a : ℝ) : ℝ := 1 / 2 * Real.tanh (1 / 2 * a) + 1 / 2

namespace In
variable (x : In) (N : Fin 32) (i : Fin 128) (c : Fin 1024)

/-- The mean of a row, the centred row, its variance, the inverse root, the normed row, and the norm's output. -/
def mu : ℝ := (∑ c, x.V N i c) / 1024
def d : ℝ := x.V N i c - x.mu N i
def q : ℝ := (∑ c, x.d N i c * x.d N i c) / 1024 + x.e
def ri : ℝ := (Real.sqrt (x.q N i))⁻¹
def vh : ℝ := x.d N i c * x.ri N i
def vn : ℝ := x.vh N i c * x.lg c + x.lb c

/-- The masked mixing matrix, and the mixed rows. -/
def W (g : Fin 8) (i k : Fin 128) : ℝ := if 64 ≤ i.val ∨ k.val < 64 then x.ws g i k else 0
def sv : ℝ := (∑ k, x.W (grp c) i k * x.vn N k c) + x.bs (grp c) i

/-- The gradient at the mixed rows, and the factor of the second gate's gradient. -/
def dsv : ℝ := x.DY N i c * (x.G N i c * sg (x.G N i c)) * x.U N i c
def t : ℝ := x.DY N i c * x.U N i c * (sg (x.G N i c) * (1 + x.G N i c * (1 - sg (x.G N i c))))

/-- The gradient at the norm's output and at the normed row, and the gradient through the norm. -/
def dvn : ℝ := ∑ k, x.W (grp c) k i * x.dsv N k c
def dvh : ℝ := x.dvn N i c * x.lg c
def dv : ℝ := x.ri N i * (x.dvh N i c - (∑ c, x.dvh N i c) / 1024 - x.vh N i c * ((∑ c, x.dvh N i c * x.vh N i c) / 1024))

/-- What one chunk adds to the gradients of the mixing matrices, of their biases, of the gain and of the bias. -/
def dws1 (g : Fin 8) (i k : Fin 128) : ℝ := ∑ j, x.dsv N i (lane g j) * x.vn N k (lane g j)
def dbs1 (g : Fin 8) (i : Fin 128) : ℝ := ∑ j, x.dsv N i (lane g j)

theorem q_pos : 0 < x.q N i := Cert.Finite.var_pos _ (by norm_num) x.he

end In
/-- The three planes of the gradient at the packed inputs. -/
def plane (X : In) (k : ℕ) (N : Fin 32) (i : Fin 128) (c : Fin 1024) : ℝ :=
  if k = 0 then X.DY N i c * (X.G N i c * sg (X.G N i c)) * X.sv N i c
  else if k = 1 then X.dv N i c
  else X.t N i c * X.sv N i c

theorem plane0 (X : In) (N : Fin 32) (i : Fin 128) (c : Fin 1024) :
    plane X 0 N i c = X.DY N i c * (X.G N i c * sg (X.G N i c)) * X.sv N i c := rfl
theorem plane1 (X : In) (N : Fin 32) (i : Fin 128) (c : Fin 1024) : plane X 1 N i c = X.dv N i c := rfl
theorem plane2 (X : In) (N : Fin 32) (i : Fin 128) (c : Fin 1024) : plane X 2 N i c = X.t N i c * X.sv N i c := rfl

/-- The reference's form of the gradient through the norm, over one row: `f` the centred row, `g` the gradient at the normed
    row, `r` the inverse root and `q` its square's inverse. -/
theorem norm_grad {ι : Type} [Fintype ι] (f g : ι → ℝ) (r q : ℝ) (c : ι) (hf : ∑ i, f i = 0) (h : r * r * q = 1) :
    g c * r + (∑ i, f i * g i) * (-(1 / 2) * (r / q)) / 1024 * (2 * f c)
      + (∑ i, -(g i * r) + ∑ x, -((∑ i, f i * g i) * (-(1 / 2) * (r / q)) / 1024 * (2 * f x))) / 1024
    = r * (g c - (∑ i, g i) / 1024 - f c * r * ((∑ i, g i * (f i * r)) / 1024)) := by
  have hq : q ≠ 0 := fun e => by simp [e] at h
  have e1 : r / q = r * r * r := by
    rw [div_eq_iff hq]
    calc r = r * (r * r * q) := by rw [h, mul_one]
      _ = r * r * r * q := by ring
  have e2 : ∑ i, -(g i * r) = -(∑ i, g i) * r := by rw [Finset.sum_neg_distrib, ← Finset.sum_mul, neg_mul]
  have e3 : ∀ S : ℝ, ∑ x, -(S * (2 * f x)) = 0 := fun S => by
    rw [Finset.sum_neg_distrib, ← Finset.mul_sum, ← Finset.mul_sum, hf, mul_zero, mul_zero, neg_zero]
  have e4 : ∑ i, g i * (f i * r) = (∑ i, f i * g i) * r := by
    rw [Finset.sum_mul]; exact Finset.sum_congr rfl fun i _ => by ring
  rw [e1, e2, e3, e4]
  ring

namespace In
variable (x : In) (N : Fin 32) (i : Fin 128)

theorem sum_d : ∑ c, x.d N i c = 0 := by
  simp only [In.d, In.mu, Finset.sum_sub_distrib, Finset.sum_const, Finset.card_univ, Fintype.card_fin, nsmul_eq_mul]
  push_cast
  ring

theorem ri_sq : x.ri N i * x.ri N i * x.q N i = 1 := by
  have h := x.q_pos N i
  have hs : Real.sqrt (x.q N i) ≠ 0 := (Real.sqrt_pos.mpr h).ne'
  rw [In.ri]
  nth_rewrite 3 [← Real.mul_self_sqrt h.le]
  field_simp

end In
end Cert.BranchA
end
-- ==== Proof.BranchAKernel.lean ====
module

public import proofs.«01_k».proof.Defs
public import proofs.«01_k».proof.Proof.Gen.BranchABwdIdeal.Frame
public import proofs.«01_k».proof.Proof.BranchAModel
public import Idealize.ShloMosaic.Lib.Pipeline.ValueKit
public import Idealize.ShloMosaic.Lib.Pipeline.ReadBack
public import Idealize.ShloMosaic.Lib.Quiescent

@[expose] public section

set_option maxRecDepth 16384

noncomputable section

/-! One grid step of the branch's backward kernel, read over the reals: what it leaves in every output block and in the
    accumulators. -/

namespace Cert.BranchAKernel

open Idealize.ShloMosaic Idealize.ShloMosaic.TcCoe Idealize.SL.Sem
open Cert.BranchABwdIdeal Cert.BranchABwdIdeal.Gen Cert.BranchA Cert.Finite

/-- Chunk `n` of step `t`. -/
def ch (t : Fin 8) (n : Fin 4) : Fin 32 := ⟨4 * t.val + n.val, by omega⟩
/-- The chunk of row `a` of step `t`, and the row's place in it. -/
def cn (t : Fin 8) (a : Fin 512) : Fin 32 := ⟨4 * t.val + a.val / 128, by omega⟩
def pi (a : Fin 512) : Fin 128 := ⟨a.val % 128, by omega⟩

/-- The blocks of step `t` hold the real arrays. -/
structure Blk (x : In) (t : Fin 8) (zu zv zg dy : Vec Ideal S512x1024 .bf16) (lg lb : Vec Ideal S1x1024 .f32)
    (ws bs : Vec Ideal S8x128x128 .f32) : Prop where
  eps : Ideal.ofBits FTy.f32 897988541#32 = (x.e : EReal)
  zu : ∀ a c, zu (ix2 a c) = (x.U (cn t a) (pi a) c : EReal)
  zv : ∀ a c, zv (ix2 a c) = (x.V (cn t a) (pi a) c : EReal)
  zg : ∀ a c, zg (ix2 a c) = (x.G (cn t a) (pi a) c : EReal)
  dy : ∀ a c, dy (ix2 a c) = (x.DY (cn t a) (pi a) c : EReal)
  lg : ∀ c, lg (ix2 0 c) = (x.lg c : EReal)
  lb : ∀ c, lb (ix2 0 c) = (x.lb c : EReal)
  ws : ∀ g i k, ws (ix3 g i k) = (x.ws g i k : EReal)
  bs : ∀ g i k, bs (ix3 g i k) = (x.bs g i : EReal)

theorem cn0 (t : Fin 8) (i : Fin 128) (h) : cn t ⟨i.val, h⟩ = ch t 0 := Fin.ext (by simp only [cn, ch]; omega)
theorem cn1 (t : Fin 8) (i : Fin 128) (h) : cn t ⟨128 + i.val, h⟩ = ch t 1 := Fin.ext (by simp only [cn, ch]; omega)
theorem cn2 (t : Fin 8) (i : Fin 128) (h) : cn t ⟨256 + i.val, h⟩ = ch t 2 := Fin.ext (by simp only [cn, ch]; omega)
theorem cn3 (t : Fin 8) (i : Fin 128) (h) : cn t ⟨384 + i.val, h⟩ = ch t 3 := Fin.ext (by simp only [cn, ch]; omega)
theorem pi0 (i : Fin 128) (h) : pi ⟨i.val, h⟩ = i := Fin.ext (by simp only [pi]; omega)
theorem pi1 (i : Fin 128) (h) : pi ⟨128 + i.val, h⟩ = i := Fin.ext (by simp only [pi]; omega)
theorem pi2 (i : Fin 128) (h) : pi ⟨256 + i.val, h⟩ = i := Fin.ext (by simp only [pi]; omega)
theorem pi3 (i : Fin 128) (h) : pi ⟨384 + i.val, h⟩ = i := Fin.ext (by simp only [pi]; omega)
theorem e0 : (⟨0, by decide⟩ : Fin 8) = 0 := rfl

set_option maxHeartbeats 16000000

variable (m : (ℓ : Loc nD τ sig) → Buf (Elt Ideal) ℓ)
theorem gr0 (j : Fin 128) (h) : grp ⟨j.val, h⟩ = 0 := Fin.ext (by simp only [grp]; show j.val / 128 = 0; omega)
theorem gr1 (j : Fin 128) (h) : grp ⟨128 + j.val, h⟩ = 1 := Fin.ext (by simp only [grp]; show (128 + j.val) / 128 = 1; omega)
theorem gr2 (j : Fin 128) (h) : grp ⟨256 + j.val, h⟩ = 2 := Fin.ext (by simp only [grp]; show (256 + j.val) / 128 = 2; omega)
theorem gr3 (j : Fin 128) (h) : grp ⟨384 + j.val, h⟩ = 3 := Fin.ext (by simp only [grp]; show (384 + j.val) / 128 = 3; omega)
theorem gr4 (j : Fin 128) (h) : grp ⟨512 + j.val, h⟩ = 4 := Fin.ext (by simp only [grp]; show (512 + j.val) / 128 = 4; omega)
theorem gr5 (j : Fin 128) (h) : grp ⟨640 + j.val, h⟩ = 5 := Fin.ext (by simp only [grp]; show (640 + j.val) / 128 = 5; omega)
theorem gr6 (j : Fin 128) (h) : grp ⟨768 + j.val, h⟩ = 6 := Fin.ext (by simp only [grp]; show (768 + j.val) / 128 = 6; omega)
theorem gr7 (j : Fin 128) (h) : grp ⟨896 + j.val, h⟩ = 7 := Fin.ext (by simp only [grp]; show (896 + j.val) / 128 = 7; omega)
theorem ln0 (j : Fin 128) : lane 0 j = ⟨j.val, by omega⟩ := Fin.ext (by show 128 * 0 + j.val = _; simp only []; omega)
theorem ln1 (j : Fin 128) : lane 1 j = ⟨128 + j.val, by omega⟩ := Fin.ext (by show 128 * 1 + j.val = _; simp only [])
theorem ln2 (j : Fin 128) : lane 2 j = ⟨256 + j.val, by omega⟩ := Fin.ext (by show 128 * 2 + j.val = _; simp only [])
theorem ln3 (j : Fin 128) : lane 3 j = ⟨384 + j.val, by omega⟩ := Fin.ext (by show 128 * 3 + j.val = _; simp only [])
theorem ln4 (j : Fin 128) : lane 4 j = ⟨512 + j.val, by omega⟩ := Fin.ext (by show 128 * 4 + j.val = _; simp only [])
theorem ln5 (j : Fin 128) : lane 5 j = ⟨640 + j.val, by omega⟩ := Fin.ext (by show 128 * 5 + j.val = _; simp only [])
theorem ln6 (j : Fin 128) : lane 6 j = ⟨768 + j.val, by omega⟩ := Fin.ext (by show 128 * 6 + j.val = _; simp only [])
theorem ln7 (j : Fin 128) : lane 7 j = ⟨896 + j.val, by omega⟩ := Fin.ext (by show 128 * 7 + j.val = _; simp only [])

/-- A load of a whole buffer reads the canon of the writes. -/
theorem readCov_whole {sig : RefSig} {κ : Kind} {sp : Space} {s : Shape} {e : EltTy} {Val : EltTy → Type} [∀ e, Nonempty (Val e)]
    (v : View sig κ sp s e) (L : List (View.Piece Val s e)) {off : Fin s.rank → ℕ} (inb : ∀ a, off a + s.size a ≤ s.size a) :
    v.readCov L (Rect.unit off s.size inb).toLoadRect = View.canon L := by
  funext j
  rw [View.readCov_eq_canon']
  exact congrArg (View.canon L) (funext fun a => Fin.ext (by
    show off a + 1 * (j a).val = (j a).val
    have := inb a
    omega))

/-- One step's block of the gradient at the packed inputs: three planes. -/
theorem dz_block (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (y : S3x512x1024.Idx) :
    (outsAt0 m c t.val t.isLt).1 y = (plane X (y 0).val (cn p (y 1)) (pi (y 1)) (y 2) : EReal) := by
  rcases (by omega : t.val % 8 = 0 ∨ (¬ t.val % 8 = 0 ∧ ¬ t.val % 8 = 7) ∨ (¬ t.val % 8 = 0 ∧ t.val % 8 = 7)) with h0 | ⟨h0, h1⟩ | ⟨h0, h1⟩
  on_goal 1 => rw [outsAt0_A m c t h0 h0 (by have := lt_of_lt_of_eq t.isLt N_0; omega) h0 (by have := lt_of_lt_of_eq t.isLt N_0; omega) (by omega)]
  on_goal 2 => rw [outsAt0_B m c t h0 h0 (by have := lt_of_lt_of_eq t.isLt N_0; omega) h0 (by have := lt_of_lt_of_eq t.isLt N_0; omega) h1]
  on_goal 3 => rw [outsAt0_C m c t h0 h0 (by have := lt_of_lt_of_eq t.isLt N_0; omega) h0 (by have := lt_of_lt_of_eq t.isLt N_0; omega) h1]
  all_goals
    dsimp only
    try generalize outsAt0 m c (t.val - 1) (Nat.lt_of_le_of_lt (Nat.sub_le _ _) t.isLt) = prev
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_out
    try clear h0
    try clear h1
    generalize hq : View.readCov (Val := Elt Ideal) (View.whole cc0_scratch0) _ (Rect.unit ![0, 0] ![512, 1024] inb_S512x1024_S512x1024_0_0).toLoadRect = dvn
    have hd : ∀ (a : Fin 512) (b : Fin 1024), dvn (ix2 a b) = (X.dvn (cn p a) (pi a) b : EReal) := by
      intro a b
      rw [← hq, readCov_whole (Val := Elt Ideal) (s := S512x1024)]
      canon_tiles z h
      all_goals idx_vars z
      all_goals
        have e1 : a = (⟨_, lt_of_eq_of_lt h0.symm a.isLt⟩ : Fin 512) := Fin.ext h0
        have e2 : b = (⟨_, lt_of_eq_of_lt h1.symm b.isLt⟩ : Fin 1024) := Fin.ext h1
        rw [e1, e2]
        clear hq
        open_payloads
        pointwise
        simp only [hzu, hzv, hzg, hdy, hlg, hlb, hws, hbs, eps, half, Reals.k1024, select_mask, cn0, cn1, cn2, cn3, pi0, pi1, pi2, pi3,
          Ideal.tanh_coe, ← EReal.coe_mul, ← EReal.coe_add, ← EReal.coe_sub, ← EReal.coe_one, coe_sum, div1024, rsqrt_var X.he]
        simp only [gr0, gr1, gr2, gr3, gr4, gr5, gr6, gr7, In.dvn, In.W, In.dsv, sg, ite_mul, zero_mul]
    clear hq
    canon_tiles x h using View.cover_of_tiledBy _ ![1, 128, 128] (by sl_kernel_rfl) _
    all_goals idx_vars x
    all_goals
      have e1 : y 1 = (⟨_, lt_of_eq_of_lt h1.symm (y 1).isLt⟩ : Fin 512) := Fin.ext h1
      have e2 : y 2 = (⟨_, lt_of_eq_of_lt h2.symm (y 2).isLt⟩ : Fin 1024) := Fin.ext h2
      first
        | have e0 : (y 0).val = 1 := by omega
          rw [e0, e1, e2]
        | have e0 : (y 0).val = 0 := by omega
          rw [e0, e1, e2]
        | have e0 : (y 0).val = 2 := by omega
          rw [e0, e1, e2]
      open_payloads
      pointwise
      simp only [hd, hzu, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
      simp only [plane0, plane1, plane2, cn0, cn1, cn2, cn3, pi0, pi1, pi2, pi3, gr0, gr1, gr2, gr3, gr4, gr5, gr6, gr7, In.sv, In.t,
        In.vn, In.dv, In.dvh, In.vh, In.d, In.ri, In.q, In.mu, In.W, sg, ite_mul, zero_mul]

/-- What one step adds to the gradients of the mixing matrices, of the biases lane by of the gain and of the bias. -/
def dwsT (X : In) (p : Fin 8) (g : Fin 8) (i k : Fin 128) : ℝ :=
  if 64 ≤ i.val ∨ k.val < 64 then X.dws1 (ch p 0) g i k + X.dws1 (ch p 1) g i k + X.dws1 (ch p 2) g i k + X.dws1 (ch p 3) g i k else 0
def baccT (X : In) (p : Fin 8) (g : Fin 8) (i j : Fin 128) : ℝ :=
  X.dsv (ch p 0) i (lane g j) + X.dsv (ch p 1) i (lane g j) + X.dsv (ch p 2) i (lane g j) + X.dsv (ch p 3) i (lane g j)
def dlgT (X : In) (p : Fin 8) (c : Fin 1024) : ℝ := ∑ a : Fin 512, X.dvn (cn p a) (pi a) c * X.vh (cn p a) (pi a) c
def dlbT (X : In) (p : Fin 8) (c : Fin 1024) : ℝ := ∑ a : Fin 512, X.dvn (cn p a) (pi a) c

/-- The first step's part of the mixing matrices' gradient. -/
theorem dws_reset (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : t.val % 8 = 0) (g : Fin 8) (i k : Fin 128) :
    (outsAt0 m c t.val t.isLt).2.1 (ix3 g i k) = (dwsT X p g i k : EReal) := by
  rw [outsAt0_A m c t h0 h0 (by have := lt_of_lt_of_eq t.isLt N_0; omega) h0 (by have := lt_of_lt_of_eq t.isLt N_0; omega) (by omega)]
  all_goals
    dsimp only
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_open
    simp (disch := decide) only [↓ View.readCov_skip, ↓ View.readCov_cons_toLoadRect, ↓ View.readCov_fill]
    frame_out
    refine (canon_drop [_, _, _, _, _, _, _, _] [_] _ (View.cover_of_tiledBy _ ![1, 128, 128] (by sl_kernel_rfl) _)).trans ?_
    canon_tiles x h using View.cover_of_tiledBy _ ![1, 128, 128] (by sl_kernel_rfl) _
    all_goals idx_vars x
    all_goals
      obtain rfl : x0 = 0 := Subsingleton.elim _ _
      have e0 : g = (⟨_, lt_of_eq_of_lt h0.symm g.isLt⟩ : Fin 8) := Fin.ext h0
      have e1 : i = (⟨_, lt_of_eq_of_lt h1.symm i.isLt⟩ : Fin 128) := Fin.ext h1
      have e2 : k = (⟨_, lt_of_eq_of_lt h2.symm k.isLt⟩ : Fin 128) := Fin.ext h2
      rw [e0, e1, e2]
      open_payloads
      pointwise
      simp only [hzu, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
      simp only [dwsT, ln0, ln1, ln2, ln3, ln4, ln5, ln6, ln7, In.dws1, In.dsv, In.vn, In.vh, In.d, In.ri, In.q, In.mu, sg,
        Fin.val_zero, Fin.isValue, Nat.add_zero]

/-- The first step's lane sums of the biases' gradient. -/
theorem bacc_reset (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : t.val % 8 = 0) (g : Fin 8) (i k : Fin 128) :
    (outsAt0 m c t.val t.isLt).2.2.2.2.2 (ix3 g i k) = (baccT X p g i k : EReal) := by
  rw [outsAt0_A m c t h0 h0 (by have := lt_of_lt_of_eq t.isLt N_0; omega) h0 (by have := lt_of_lt_of_eq t.isLt N_0; omega) (by omega)]
  all_goals
    dsimp only
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_open
    simp (disch := decide) only [↓ View.readCov_skip, ↓ View.readCov_cons_toLoadRect, ↓ View.readCov_fill]
    frame_out
    refine (canon_drop [_, _, _, _, _, _, _, _] [_] _ (View.cover_of_tiledBy _ ![1, 128, 128] (by sl_kernel_rfl) _)).trans ?_
    canon_tiles x h using View.cover_of_tiledBy _ ![1, 128, 128] (by sl_kernel_rfl) _
    all_goals idx_vars x
    all_goals
      obtain rfl : x0 = 0 := Subsingleton.elim _ _
      have e0 : g = (⟨_, lt_of_eq_of_lt h0.symm g.isLt⟩ : Fin 8) := Fin.ext h0
      have e1 : i = (⟨_, lt_of_eq_of_lt h1.symm i.isLt⟩ : Fin 128) := Fin.ext h1
      have e2 : k = (⟨_, lt_of_eq_of_lt h2.symm k.isLt⟩ : Fin 128) := Fin.ext h2
      rw [e0, e1, e2]
      open_payloads
      pointwise
      simp only [hzu, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
      simp only [baccT, ln0, ln1, ln2, ln3, ln4, ln5, ln6, ln7, In.dws1, In.dsv, In.vn, In.vh, In.d, In.ri, In.q, In.mu, sg,
        Fin.val_zero, Fin.isValue, Nat.add_zero]

/-- A later step adds its part to the mixing matrices' gradient. -/
theorem dws_step (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : ¬ t.val % 8 = 0) (g : Fin 8) (i k : Fin 128) :
    (outsAt0 m c t.val t.isLt).2.1 (ix3 g i k)
      = (outsAt0 m c (t.val - 1) (Nat.lt_of_le_of_lt (Nat.sub_le _ _) t.isLt)).2.1 (ix3 g i k) + (dwsT X p g i k : EReal) := by
  by_cases h1 : t.val % 8 = 7
  on_goal 1 => rw [outsAt0_C m c t h0 h0 (by have := lt_of_lt_of_eq t.isLt N_0; omega) h0 (by have := lt_of_lt_of_eq t.isLt N_0; omega) h1]
  on_goal 2 => rw [outsAt0_B m c t h0 h0 (by have := lt_of_lt_of_eq t.isLt N_0; omega) h0 (by have := lt_of_lt_of_eq t.isLt N_0; omega) h1]
  all_goals
    dsimp only
    generalize outsAt0 m c (t.val - 1) (Nat.lt_of_le_of_lt (Nat.sub_le _ _) t.isLt) = prev
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_open
    simp (disch := decide) only [↓ View.readCov_skip, ↓ View.readCov_cons_toLoadRect, ↓ View.readCov_fill]
    frame_out
    canon_tiles x h using View.cover_of_tiledBy _ ![1, 128, 128] (by sl_kernel_rfl) _
    all_goals idx_vars x
    all_goals
      obtain rfl : x0 = 0 := Subsingleton.elim _ _
      have e0 : g = (⟨_, lt_of_eq_of_lt h0.symm g.isLt⟩ : Fin 8) := Fin.ext h0
      have e1 : i = (⟨_, lt_of_eq_of_lt h1.symm i.isLt⟩ : Fin 128) := Fin.ext h1
      have e2 : k = (⟨_, lt_of_eq_of_lt h2.symm k.isLt⟩ : Fin 128) := Fin.ext h2
      rw [e0, e1, e2]
      open_payloads
      pointwise
      simp only [hzu, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
      simp only [dwsT, ln0, ln1, ln2, ln3, ln4, ln5, ln6, ln7, In.dws1, In.dsv, In.vn, In.vh, In.d, In.ri, In.q, In.mu, sg,
        Fin.val_zero, Fin.isValue, Nat.add_zero]

/-- A later step adds its part to the lane sums. -/
theorem bacc_step (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : ¬ t.val % 8 = 0) (g : Fin 8) (i k : Fin 128) :
    (outsAt0 m c t.val t.isLt).2.2.2.2.2 (ix3 g i k)
      = (outsAt0 m c (t.val - 1) (Nat.lt_of_le_of_lt (Nat.sub_le _ _) t.isLt)).2.2.2.2.2 (ix3 g i k) + (baccT X p g i k : EReal) := by
  by_cases h1 : t.val % 8 = 7
  on_goal 1 => rw [outsAt0_C m c t h0 h0 (by have := lt_of_lt_of_eq t.isLt N_0; omega) h0 (by have := lt_of_lt_of_eq t.isLt N_0; omega) h1]
  on_goal 2 => rw [outsAt0_B m c t h0 h0 (by have := lt_of_lt_of_eq t.isLt N_0; omega) h0 (by have := lt_of_lt_of_eq t.isLt N_0; omega) h1]
  all_goals
    dsimp only
    generalize outsAt0 m c (t.val - 1) (Nat.lt_of_le_of_lt (Nat.sub_le _ _) t.isLt) = prev
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_open
    simp (disch := decide) only [↓ View.readCov_skip, ↓ View.readCov_cons_toLoadRect, ↓ View.readCov_fill]
    frame_out
    simp only [read_unread_whole]
    canon_tiles x h using View.cover_of_tiledBy _ ![1, 128, 128] (by sl_kernel_rfl) _
    all_goals idx_vars x
    all_goals
      obtain rfl : x0 = 0 := Subsingleton.elim _ _
      have e0 : g = (⟨_, lt_of_eq_of_lt h0.symm g.isLt⟩ : Fin 8) := Fin.ext h0
      have e1 : i = (⟨_, lt_of_eq_of_lt h1.symm i.isLt⟩ : Fin 128) := Fin.ext h1
      have e2 : k = (⟨_, lt_of_eq_of_lt h2.symm k.isLt⟩ : Fin 128) := Fin.ext h2
      rw [e0, e1, e2]
      open_payloads
      pointwise
      simp only [hzu, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
      simp only [baccT, ln0, ln1, ln2, ln3, ln4, ln5, ln6, ln7, In.dws1, In.dsv, In.vn, In.vh, In.d, In.ri, In.q, In.mu, sg,
        Fin.val_zero, Fin.isValue, Nat.add_zero]

/-- The last step sums the lanes. -/
theorem dbs_last (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : ¬ t.val % 8 = 0) (h1 : t.val % 8 = 7) (g : Fin 8) (i : Fin 128) :
    (outsAt0 m c t.val t.isLt).2.2.1 (ix2 g i)
      = ∑ k : Fin 128, ((outsAt0 m c (t.val - 1) (Nat.lt_of_le_of_lt (Nat.sub_le _ _) t.isLt)).2.2.2.2.2 (ix3 g i k) + (baccT X p g i k : EReal)) := by
  rw [outsAt0_C m c t h0 h0 (by have := lt_of_lt_of_eq t.isLt N_0; omega) h0 (by have := lt_of_lt_of_eq t.isLt N_0; omega) h1]
  all_goals
    dsimp only
    generalize outsAt0 m c (t.val - 1) (Nat.lt_of_le_of_lt (Nat.sub_le _ _) t.isLt) = prev
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_open
    simp (disch := decide) only [↓ View.readCov_skip, ↓ View.readCov_cons_toLoadRect, ↓ View.readCov_fill]
    frame_out
    simp only [read_unread_whole]
    canon_tiles x h
    all_goals idx_vars x
    all_goals
      obtain rfl : x0 = 0 := Subsingleton.elim _ _
      have e0 : g = (⟨_, lt_of_eq_of_lt h0.symm g.isLt⟩ : Fin 8) := Fin.ext h0
      have e1 : i = (⟨_, lt_of_eq_of_lt h1.symm i.isLt⟩ : Fin 128) := Fin.ext h1
      rw [e0, e1]
      open_payloads
      pointwise
      simp only [hzu, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
      simp only [baccT, ln0, ln1, ln2, ln3, ln4, ln5, ln6, ln7, In.dsv, sg, Fin.val_zero, Fin.isValue, Nat.add_zero]

/-- The first step's part of the gain's gradient. -/
theorem dlg_reset (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : t.val % 8 = 0) (b : Fin 1024) :
    (outsAt0 m c t.val t.isLt).2.2.2.1 (ix2 0 b) = (dlgT X p b : EReal) := by
  rw [outsAt0_A m c t h0 h0 (by have := lt_of_lt_of_eq t.isLt N_0; omega) h0 (by have := lt_of_lt_of_eq t.isLt N_0; omega) (by omega)]
  all_goals
    dsimp only
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_out
    try clear h0
    try clear h1
    generalize hq : View.readCov (Val := Elt Ideal) (View.whole cc0_scratch0) _ (Rect.unit ![0, 0] ![512, 1024] inb_S512x1024_S512x1024_0_0).toLoadRect = dvn
    have hd : ∀ (a : Fin 512) (b : Fin 1024), dvn (ix2 a b) = (X.dvn (cn p a) (pi a) b : EReal) := by
      intro a b
      rw [← hq, readCov_whole (Val := Elt Ideal) (s := S512x1024)]
      canon_tiles z h
      all_goals idx_vars z
      all_goals
        have e1 : a = (⟨_, lt_of_eq_of_lt h0.symm a.isLt⟩ : Fin 512) := Fin.ext h0
        have e2 : b = (⟨_, lt_of_eq_of_lt h1.symm b.isLt⟩ : Fin 1024) := Fin.ext h1
        rw [e1, e2]
        clear hq
        open_payloads
        pointwise
        simp only [hzu, hzv, hzg, hdy, hlg, hlb, hws, hbs, eps, half, Reals.k1024, select_mask, cn0, cn1, cn2, cn3, pi0, pi1, pi2, pi3,
          Ideal.tanh_coe, ← EReal.coe_mul, ← EReal.coe_add, ← EReal.coe_sub, ← EReal.coe_one, coe_sum, div1024, rsqrt_var X.he]
        simp only [gr0, gr1, gr2, gr3, gr4, gr5, gr6, gr7, In.dvn, In.W, In.dsv, sg, ite_mul, zero_mul]
    clear hq
    open_payloads
    pointwise
    simp only [hd, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
    simp only [dlgT, In.vh, In.d, In.ri, In.q, In.mu]

/-- A later step adds its part to the gain's gradient. -/
theorem dlg_step (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : ¬ t.val % 8 = 0) (b : Fin 1024) :
    (outsAt0 m c t.val t.isLt).2.2.2.1 (ix2 0 b)
      = (outsAt0 m c (t.val - 1) (Nat.lt_of_le_of_lt (Nat.sub_le _ _) t.isLt)).2.2.2.1 (ix2 0 b) + (dlgT X p b : EReal) := by
  by_cases h1 : t.val % 8 = 7
  on_goal 1 => rw [outsAt0_C m c t h0 h0 (by have := lt_of_lt_of_eq t.isLt N_0; omega) h0 (by have := lt_of_lt_of_eq t.isLt N_0; omega) h1]
  on_goal 2 => rw [outsAt0_B m c t h0 h0 (by have := lt_of_lt_of_eq t.isLt N_0; omega) h0 (by have := lt_of_lt_of_eq t.isLt N_0; omega) h1]
  all_goals
    dsimp only
    generalize outsAt0 m c (t.val - 1) (Nat.lt_of_le_of_lt (Nat.sub_le _ _) t.isLt) = prev
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_out
    clear h0 h1
    generalize hq : View.readCov (Val := Elt Ideal) (View.whole cc0_scratch0) _ (Rect.unit ![0, 0] ![512, 1024] inb_S512x1024_S512x1024_0_0).toLoadRect = dvn
    have hd : ∀ (a : Fin 512) (b : Fin 1024), dvn (ix2 a b) = (X.dvn (cn p a) (pi a) b : EReal) := by
      intro a b
      rw [← hq, readCov_whole (Val := Elt Ideal) (s := S512x1024)]
      canon_tiles z h
      all_goals idx_vars z
      all_goals
        have e1 : a = (⟨_, lt_of_eq_of_lt h0.symm a.isLt⟩ : Fin 512) := Fin.ext h0
        have e2 : b = (⟨_, lt_of_eq_of_lt h1.symm b.isLt⟩ : Fin 1024) := Fin.ext h1
        rw [e1, e2]
        clear hq
        open_payloads
        pointwise
        simp only [hzu, hzv, hzg, hdy, hlg, hlb, hws, hbs, eps, half, Reals.k1024, select_mask, cn0, cn1, cn2, cn3, pi0, pi1, pi2, pi3,
          Ideal.tanh_coe, ← EReal.coe_mul, ← EReal.coe_add, ← EReal.coe_sub, ← EReal.coe_one, coe_sum, div1024, rsqrt_var X.he]
        simp only [gr0, gr1, gr2, gr3, gr4, gr5, gr6, gr7, In.dvn, In.W, In.dsv, sg, ite_mul, zero_mul]
    clear hq
    open_payloads
    pointwise
    simp only [hd, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
    simp only [dlgT, In.vh, In.d, In.ri, In.q, In.mu]

/-- The first step's part of the bias's gradient. -/
theorem dlb_reset (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : t.val % 8 = 0) (b : Fin 1024) :
    (outsAt0 m c t.val t.isLt).2.2.2.2.1 (ix2 0 b) = (dlbT X p b : EReal) := by
  rw [outsAt0_A m c t h0 h0 (by have := lt_of_lt_of_eq t.isLt N_0; omega) h0 (by have := lt_of_lt_of_eq t.isLt N_0; omega) (by omega)]
  all_goals
    dsimp only
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_out
    try clear h0
    try clear h1
    generalize hq : View.readCov (Val := Elt Ideal) (View.whole cc0_scratch0) _ (Rect.unit ![0, 0] ![512, 1024] inb_S512x1024_S512x1024_0_0).toLoadRect = dvn
    have hd : ∀ (a : Fin 512) (b : Fin 1024), dvn (ix2 a b) = (X.dvn (cn p a) (pi a) b : EReal) := by
      intro a b
      rw [← hq, readCov_whole (Val := Elt Ideal) (s := S512x1024)]
      canon_tiles z h
      all_goals idx_vars z
      all_goals
        have e1 : a = (⟨_, lt_of_eq_of_lt h0.symm a.isLt⟩ : Fin 512) := Fin.ext h0
        have e2 : b = (⟨_, lt_of_eq_of_lt h1.symm b.isLt⟩ : Fin 1024) := Fin.ext h1
        rw [e1, e2]
        clear hq
        open_payloads
        pointwise
        simp only [hzu, hzv, hzg, hdy, hlg, hlb, hws, hbs, eps, half, Reals.k1024, select_mask, cn0, cn1, cn2, cn3, pi0, pi1, pi2, pi3,
          Ideal.tanh_coe, ← EReal.coe_mul, ← EReal.coe_add, ← EReal.coe_sub, ← EReal.coe_one, coe_sum, div1024, rsqrt_var X.he]
        simp only [gr0, gr1, gr2, gr3, gr4, gr5, gr6, gr7, In.dvn, In.W, In.dsv, sg, ite_mul, zero_mul]
    clear hq
    open_payloads
    pointwise
    simp only [hd, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
    simp only [dlbT, In.vh, In.d, In.ri, In.q, In.mu]

/-- A later step adds its part to the bias's gradient. -/
theorem dlb_step (c : Dev nD) (t : Fin cfg0.N) (X : In) (p : Fin 8)
    (hb : Blk X p (iblk m c 0 t) (iblk m c 1 t) (iblk m c 2 t) (iblk m c 3 t) (iblk m c 4 t) (iblk m c 5 t) (iblk m c 6 t) (iblk m c 7 t)) (h0 : ¬ t.val % 8 = 0) (b : Fin 1024) :
    (outsAt0 m c t.val t.isLt).2.2.2.2.1 (ix2 0 b)
      = (outsAt0 m c (t.val - 1) (Nat.lt_of_le_of_lt (Nat.sub_le _ _) t.isLt)).2.2.2.2.1 (ix2 0 b) + (dlbT X p b : EReal) := by
  by_cases h1 : t.val % 8 = 7
  on_goal 1 => rw [outsAt0_C m c t h0 h0 (by have := lt_of_lt_of_eq t.isLt N_0; omega) h0 (by have := lt_of_lt_of_eq t.isLt N_0; omega) h1]
  on_goal 2 => rw [outsAt0_B m c t h0 h0 (by have := lt_of_lt_of_eq t.isLt N_0; omega) h0 (by have := lt_of_lt_of_eq t.isLt N_0; omega) h1]
  all_goals
    dsimp only
    generalize outsAt0 m c (t.val - 1) (Nat.lt_of_le_of_lt (Nat.sub_le _ _) t.isLt) = prev
    revert hb
    generalize iblk m c 0 t = zu
    generalize iblk m c 1 t = zv
    generalize iblk m c 2 t = zg
    generalize iblk m c 3 t = dy
    generalize iblk m c 4 t = lg
    generalize iblk m c 5 t = lb
    generalize iblk m c 6 t = ws
    generalize iblk m c 7 t = bs
    intro hb
    obtain ⟨eps, hzu, hzv, hzg, hdy, hlg, hlb, hws, hbs⟩ := hb
    frame_out
    clear h0 h1
    generalize hq : View.readCov (Val := Elt Ideal) (View.whole cc0_scratch0) _ (Rect.unit ![0, 0] ![512, 1024] inb_S512x1024_S512x1024_0_0).toLoadRect = dvn
    have hd : ∀ (a : Fin 512) (b : Fin 1024), dvn (ix2 a b) = (X.dvn (cn p a) (pi a) b : EReal) := by
      intro a b
      rw [← hq, readCov_whole (Val := Elt Ideal) (s := S512x1024)]
      canon_tiles z h
      all_goals idx_vars z
      all_goals
        have e1 : a = (⟨_, lt_of_eq_of_lt h0.symm a.isLt⟩ : Fin 512) := Fin.ext h0
        have e2 : b = (⟨_, lt_of_eq_of_lt h1.symm b.isLt⟩ : Fin 1024) := Fin.ext h1
        rw [e1, e2]
        clear hq
        open_payloads
        pointwise
        simp only [hzu, hzv, hzg, hdy, hlg, hlb, hws, hbs, eps, half, Reals.k1024, select_mask, cn0, cn1, cn2, cn3, pi0, pi1, pi2, pi3,
          Ideal.tanh_coe, ← EReal.coe_mul, ← EReal.coe_add, ← EReal.coe_sub, ← EReal.coe_one, coe_sum, div1024, rsqrt_var X.he]
        simp only [gr0, gr1, gr2, gr3, gr4, gr5, gr6, gr7, In.dvn, In.W, In.dsv, sg, ite_mul, zero_mul]
    clear hq
    open_payloads
    pointwise
    simp only [hd, hzv, hzg, hdy, hlg, hlb, hws, hbs, eps, half, Reals.k1024, select_mask, cn0, cn1, cn2, cn3, pi0, pi1, pi2, pi3,
      Ideal.tanh_coe, ← EReal.coe_mul, ← EReal.coe_add, ← EReal.coe_sub, ← EReal.coe_one, coe_sum, div1024, rsqrt_var X.he]
    simp only [dlbT, In.vh, In.d, In.ri, In.q, In.mu]

end Cert.BranchAKernel

end
-- ==== Proof.BranchARef.lean ====
module

public import proofs.«01_k».proof.Defs
public import proofs.«01_k».proof.Proof.Gen.BranchABwdRefIdeal.Read
public import proofs.«01_k».proof.Proof.BranchAModel
public import Idealize.ShloMosaic.Lib.Pipeline.ValueKit
public import Idealize.ShloMosaic.Lib.Pipeline.ReadBack
public import Idealize.ShloMosaic.Lib.Quiescent

@[expose] public section

set_option maxRecDepth 16384

noncomputable section

/-! The branch's reference gradient, stage by stage, read over the reals. -/

namespace Cert.BranchARef

open Idealize.ShloMosaic Idealize.ShloMosaic.TcCoe Idealize.SL.Sem

open Cert.BranchABwdRefIdeal Read Cert.BranchA Cert.Finite

/-- The chunk of a row, and its place there. -/
def nn (R : Fin 4096) : Fin 32 := ⟨R.val / 128, by omega⟩
def ii (R : Fin 4096) : Fin 128 := ⟨R.val % 128, by omega⟩

/-- The argument arrays hold real numbers. -/
structure Arr (X : In) (x0 : Vec Ideal S4096x10240 .bf16) (x1 : Vec Ideal S4096x1024 .bf16) (x2 x3 : Vec Ideal S1x1024 .f32)
    (x4 : Vec Ideal S8x128x128 .f32) (x5 : Vec Ideal S8x128 .f32) : Prop where
  eps : Ideal.ofBits FTy.f32 897988541#32 = (X.e : EReal)
  u : ∀ R (c : Fin 1024), x0 (ix2 R ⟨c.val, by omega⟩) = (X.U (nn R) (ii R) c : EReal)
  v : ∀ R (c : Fin 1024), x0 (ix2 R ⟨1024 + c.val, by omega⟩) = (X.V (nn R) (ii R) c : EReal)
  g : ∀ R (c : Fin 1024), x0 (ix2 R ⟨2048 + c.val, by omega⟩) = (X.G (nn R) (ii R) c : EReal)
  dy : ∀ R c, x1 (ix2 R c) = (X.DY (nn R) (ii R) c : EReal)
  lg : ∀ c, x2 (ix2 0 c) = (X.lg c : EReal)
  lb : ∀ c, x3 (ix2 0 c) = (X.lb c : EReal)
  ws : ∀ g i k, x4 (ix3 g i k) = (X.ws g i k : EReal)
  bs : ∀ g i, x5 (ix2 g i) = (X.bs g i : EReal)

theorem nn_def (R : Fin 4096) (h) : (⟨R.val / 128, h⟩ : Fin 32) = nn R := rfl
theorem ii_def (R : Fin 4096) (h) : (⟨R.val % 128, h⟩ : Fin 128) = ii R := rfl
theorem grp_def (c : Fin 1024) (h) : (⟨c.val / 128, h⟩ : Fin 8) = grp c := rfl
theorem nn_mk (N : Fin 32) (i : Fin 128) (h) : nn ⟨N.val * 128 + i.val, h⟩ = N := Fin.ext (by simp only [nn]; omega)
theorem ii_mk (N : Fin 32) (i : Fin 128) (h) : ii ⟨N.val * 128 + i.val, h⟩ = i := Fin.ext (by simp only [ii]; omega)
theorem lane_mk (g : Fin 8) (j : Fin 128) (h) : (⟨g.val * 128 + j.val, h⟩ : Fin 1024) = lane g j := Fin.ext (by simp only [lane]; omega)

theorem lane_div (c : Fin 1024) (h h') : lane ⟨c.val / 128, h⟩ ⟨c.val % 128, h'⟩ = c := Fin.ext (by simp only [lane]; omega)

/-- The reference's mask, decided. -/
theorem mask_eq : ∀ (i k : Fin 128), val_main_v39 (F := Ideal) (ix2 i k) = if 64 ≤ i.val ∨ k.val < 64 then 1#1 else 0#1 := by
  simp only [val_main_v39, val_main_v38, val_main_v37, val_main_v36, val_main_v35, val_main_v34, val_main_call0_v13, val_main_call0_v12,
    val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_c, val_main_call0_c,
    val_main_call0_c_0, val_main_v33]
  intro i k
  pointwise
  revert i k
  decide +kernel

section
variable {X : In} {x0 : Vec Ideal S4096x10240 .bf16} {x1 : Vec Ideal S4096x1024 .bf16} {x2 x3 : Vec Ideal S1x1024 .f32}
  {x4 : Vec Ideal S8x128x128 .f32} {x5 : Vec Ideal S8x128 .f32} {x6 : Vec Ideal S10x4096x1024 .bf16} (hx : Arr X x0 x1 x2 x3 x4 x5)
include hx

theorem r_d (R : Fin 4096) (c : Fin 1024) : val_main_v19 (F := Ideal) x0 (ix2 R c) = (X.d (nn R) (ii R) c : EReal)
    ∧ val_main_v10 (F := Ideal) x0 (ix2 R c) = (X.d (nn R) (ii R) c : EReal) := by
  simp only [val_main_v0, val_main_v1, val_main_v2, val_main_v3, val_main_v4, val_main_v5, val_main_v6, val_main_v7, val_main_v8, val_main_v9, val_main_v10, val_main_v18, val_main_v19, val_main_cst, val_main_cst_0]
  constructor <;> pointwise <;> simp only [hx.v, Reals.k1024, ← EReal.coe_mul, ← EReal.coe_add, ← EReal.coe_sub, ← EReal.coe_neg, ← EReal.coe_one, coe_sum, div1024] <;> simp only [In.d, In.mu]

theorem r_ri (R : Fin 4096) : val_main_v22 (F := Ideal) x0 (ix2 R 0) = (X.ri (nn R) (ii R) : EReal)
    ∧ val_main_v21 (F := Ideal) x0 (ix2 R 0) = (X.q (nn R) (ii R) : EReal) := by
  have h1 := fun c => (r_d hx R c).2
  simp only [val_main_v11, val_main_v14, val_main_v15, val_main_v16, val_main_v17, val_main_v20, val_main_v21, val_main_v22, val_main_cst_2, val_main_cst_3, val_main_cst_4]
  generalize val_main_v10 (F := Ideal) x0 = y at h1
  constructor <;> pointwise <;> simp only [h1, hx.eps, Reals.k1024, ← EReal.coe_mul, ← EReal.coe_add, ← EReal.coe_sub, ← EReal.coe_neg, ← EReal.coe_one, coe_sum, div1024, rsqrt_var X.he] <;> simp only [In.ri, In.q]

theorem r_vh (R : Fin 4096) (c : Fin 1024) : val_main_v27 (F := Ideal) x0 (ix2 R c) = (X.vh (nn R) (ii R) c : EReal) := by
  have h1 := fun c => (r_d hx R c).1
  have h2 := (r_ri hx R).1
  simp only [val_main_v26, val_main_v27]
  generalize val_main_v19 (F := Ideal) x0 = y at h1
  generalize val_main_v22 (F := Ideal) x0 = z at h2
  pointwise
  simp only [h1, h2, ← EReal.coe_mul, ← EReal.coe_add, ← EReal.coe_sub, ← EReal.coe_neg, ← EReal.coe_one, coe_sum, div1024, In.vh]

theorem r_vn (R : Fin 4096) (c : Fin 1024) : val_main_v31 (F := Ideal) x0 x2 x3 (ix2 R c) = (X.vn (nn R) (ii R) c : EReal) := by
  have h1 := r_vh hx
  simp only [val_main_v28, val_main_v29, val_main_v30, val_main_v31]
  generalize val_main_v27 (F := Ideal) x0 = y at h1
  pointwise
  simp only [h1, hx.lg, hx.lb, ← EReal.coe_mul, ← EReal.coe_add, ← EReal.coe_sub, ← EReal.coe_neg, ← EReal.coe_one, coe_sum, div1024, In.vn]

theorem r_vn4 (N : Fin 32) (i : Fin 128) (g : Fin 8) (j : Fin 128) :
    val_main_v32 (F := Ideal) x0 x2 x3 (ix4 N i g j) = (X.vn N i (lane g j) : EReal) := by
  have h1 := r_vn hx
  simp only [val_main_v32]
  generalize val_main_v31 (F := Ideal) x0 x2 x3 = y at h1
  pointwise
  simp only [h1, nn_mk, ii_mk, lane_mk]

theorem r_W (g : Fin 8) (i k : Fin 128) : val_main_v42_0 (F := Ideal) x4 (ix3 g i k) = (X.W g i k : EReal) := by
  have h1 := mask_eq i k
  simp only [val_main_v42_0, val_main_v42_1, val_main_v41, val_main_v40, val_main_cst_6]
  generalize val_main_v39 (F := Ideal) = y at h1
  pointwise
  simp only [h1, hx.ws, In.W]
  split_ifs <;> simp [Scalar.select]

theorem r_sv (R : Fin 4096) (c : Fin 1024) : val_main_v49 (F := Ideal) x0 x2 x3 x4 x5 (ix2 R c) = (X.sv (nn R) (ii R) c : EReal) := by
  have h1 := r_vn4 hx
  have h2 := r_W hx
  simp only [val_main_v43, val_main_v44, val_main_v45, val_main_v46, val_main_v47, val_main_v48, val_main_v49]
  generalize val_main_v32 (F := Ideal) x0 x2 x3 = y at h1
  generalize val_main_v42_0 (F := Ideal) x4 = w at h2
  pointwise
  simp only [h1, h2, hx.bs, ← EReal.coe_mul, ← EReal.coe_add, ← EReal.coe_sub, ← EReal.coe_neg, ← EReal.coe_one, coe_sum, div1024]
  simp only [lane_div, In.sv]
  simp only [nn_def, ii_def, grp_def]
  exact congrArg _ (congrArg (· + _) (Finset.sum_congr rfl fun k _ => mul_comm _ _))

/-- The gate's logistic, its slope form. -/
theorem r_sg (R : Fin 4096) (c : Fin 1024) : val_main_v51_2 (F := Ideal) x0 (ix2 R c) = (sg (X.G (nn R) (ii R) c) : EReal)
    ∧ val_main_v4 (F := Ideal) x0 (ix2 R c) = (X.G (nn R) (ii R) c : EReal)
    ∧ val_main_v2 (F := Ideal) x0 (ix2 R c) = (X.U (nn R) (ii R) c : EReal) := by
  simp only [val_main_v51_2, val_main_call2_v0, val_main_call2_v1, val_main_call2_v2, val_main_call2_v3, val_main_call2_v4,
    val_main_call2_cst, val_main_call2_cst_0, val_main_v4, val_main_v2, val_main_v1, val_main_v0]
  refine ⟨?_, ?_, ?_⟩ <;> pointwise <;> simp only [hx.g, hx.u]
  have h : (1 : ℝ) + Real.exp (-(X.G (nn R) (ii R) c)) ≠ 0 := by positivity
  simp only [← EReal.coe_neg, Ideal.exp_coe, ← EReal.coe_one, ← EReal.coe_add, div_real h, logistic_eq, sg]

theorem r_dsv (R : Fin 4096) (c : Fin 1024) : val_main_v57 (F := Ideal) x0 x1 (ix2 R c) = (X.dsv (nn R) (ii R) c : EReal)
    ∧ val_main_v55 (F := Ideal) x0 x1 (ix2 R c) = (X.DY (nn R) (ii R) c * (X.G (nn R) (ii R) c * sg (X.G (nn R) (ii R) c)) : ℝ) := by
  obtain ⟨h1, h2, h3⟩ := r_sg hx R c
  simp only [val_main_v57, val_main_v55, val_main_v53, val_main_v51_0]
  generalize val_main_v51_2 (F := Ideal) x0 = a at h1
  generalize val_main_v4 (F := Ideal) x0 = b at h2
  generalize val_main_v2 (F := Ideal) x0 = d at h3
  constructor <;> pointwise <;> simp only [h1, h2, h3, hx.dy, ← EReal.coe_mul, ← EReal.coe_add, ← EReal.coe_sub, ← EReal.coe_neg, ← EReal.coe_one, coe_sum, div1024, In.dsv]
  rw [mul_comm]

/-- The gradients at the two gates. -/
theorem r_uz (R : Fin 4096) (c : Fin 1024) : val_main_v58 (F := Ideal) x0 x1 x2 x3 x4 x5 (ix2 R c)
      = (X.DY (nn R) (ii R) c * (X.G (nn R) (ii R) c * sg (X.G (nn R) (ii R) c)) * X.sv (nn R) (ii R) c : ℝ)
    ∧ val_main_v56 (F := Ideal) x0 x1 x2 x3 x4 x5 (ix2 R c) = (X.t (nn R) (ii R) c * X.sv (nn R) (ii R) c : ℝ) := by
  obtain ⟨h1, h2, h3⟩ := r_sg hx R c
  have h4 := r_sv hx R c
  have h5 := (r_dsv hx R c).2
  simp only [val_main_v58, val_main_v56, val_main_call3_v0, val_main_call3_v1, val_main_call3_v2, val_main_v54, val_main_v53, val_main_v50,
    val_main_v51_1, val_main_call2_v7, val_main_call2_v6, val_main_call2_cst_1]
  generalize val_main_v51_2 (F := Ideal) x0 = a at h1
  generalize val_main_v4 (F := Ideal) x0 = b at h2
  generalize val_main_v2 (F := Ideal) x0 = d at h3
  generalize val_main_v49 (F := Ideal) x0 x2 x3 x4 x5 = e at h4
  generalize val_main_v55 (F := Ideal) x0 x1 = f at h5
  constructor <;> pointwise <;> simp only [h1, h2, h3, h4, h5, hx.dy, ← EReal.coe_mul, ← EReal.coe_add, ← EReal.coe_sub, ← EReal.coe_neg, ← EReal.coe_one, coe_sum, div1024, In.t]
  congr 1
  ring

theorem r_dsv4 (N : Fin 32) (i : Fin 128) (g : Fin 8) (j : Fin 128) :
    val_main_v59 (F := Ideal) x0 x1 (ix4 N i g j) = (X.dsv N i (lane g j) : EReal) := by
  have h1 := fun R c => (r_dsv hx R c).1
  simp only [val_main_v59]
  generalize val_main_v57 (F := Ideal) x0 x1 = y at h1
  pointwise
  simp only [h1, nn_mk, ii_mk, lane_mk]

theorem r_dvn (R : Fin 4096) (c : Fin 1024) : val_main_v69 (F := Ideal) x0 x1 x4 (ix2 R c) = (X.dvn (nn R) (ii R) c : EReal) := by
  have h1 := r_dsv4 hx
  have h2 := r_W hx
  simp only [val_main_v69, val_main_v67, val_main_v66, val_main_v64]
  generalize val_main_v59 (F := Ideal) x0 x1 = y at h1
  generalize val_main_v42_0 (F := Ideal) x4 = w at h2
  pointwise
  simp only [h1, h2, ← EReal.coe_mul, ← EReal.coe_add, ← EReal.coe_sub, ← EReal.coe_neg, ← EReal.coe_one, coe_sum, div1024, lane_div, In.dvn]
  simp only [nn_def, ii_def, grp_def]
  exact congrArg _ (Finset.sum_congr rfl fun k _ => mul_comm _ _)

theorem r_dbs0 (g : Fin 8) (i : Fin 128) : val_main_v60 (F := Ideal) x0 x1 (ix2 i g) = (∑ N, ∑ j, X.dsv N i (lane g j) : ℝ) := by
  have h1 := r_dsv4 hx
  simp only [val_main_v60, val_main_cst_7, val_main_cst_8]
  generalize val_main_v59 (F := Ideal) x0 x1 = y at h1
  refine (reduce03 _ y _ i g).trans ?_
  simp only [h1, coe_sum]
  pointwise

theorem r_dbs (g : Fin 8) (i : Fin 128) : val_main_v63 (F := Ideal) x0 x1 (ix2 g i) = (∑ N, ∑ j, X.dsv N i (lane g j) : ℝ) := by
  have h1 := r_dbs0 hx g i
  simp only [val_main_v61, val_main_v62, val_main_v63, val_main_cst_7, val_main_cst_8]
  generalize val_main_v60 (F := Ideal) x0 x1 = y at h1
  pointwise
  rw [reduce03]
  pointwise
  simp only [Fin.sum_univ_one, h1]

theorem r_dws (g : Fin 8) (i k : Fin 128) : val_main_v68 (F := Ideal) x0 x1 x2 x3 (ix3 g i k)
    = ((if 64 ≤ i.val ∨ k.val < 64 then ∑ N, X.dws1 N g i k else 0 : ℝ) : EReal) := by
  have h0 := mask_eq i k
  have h1 := r_dsv4 hx
  have h2 := r_vn4 hx
  simp only [val_main_v68, val_main_v65, val_main_v64, val_main_v42_1, val_main_v40, val_main_call4_v0, val_main_call4_cst]
  generalize val_main_v39 (F := Ideal) = x at h0
  generalize val_main_v59 (F := Ideal) x0 x1 = y at h1
  generalize val_main_v32 (F := Ideal) x0 x2 x3 = w at h2
  pointwise
  simp only [h0, h1, h2, ← EReal.coe_mul, ← EReal.coe_add, ← EReal.coe_sub, ← EReal.coe_neg, ← EReal.coe_one, coe_sum, div1024, In.dws1]
  split_ifs <;> rfl

theorem r_dlb (c : Fin 1024) : val_main_v71 (F := Ideal) x0 x1 x4 (ix2 0 c) = (∑ R, X.dvn (nn R) (ii R) c : ℝ) := by
  have h1 := r_dvn hx
  simp only [val_main_v71, val_main_v70, val_main_cst_9]
  generalize val_main_v69 (F := Ideal) x0 x1 x4 = y at h1
  pointwise
  simp only [h1, ← EReal.coe_mul, ← EReal.coe_add, ← EReal.coe_sub, ← EReal.coe_neg, ← EReal.coe_one, coe_sum, div1024]

theorem r_dlg (c : Fin 1024) : val_main_v74 (F := Ideal) x0 x1 x4 (ix2 0 c) = (∑ R, X.dvn (nn R) (ii R) c * X.vh (nn R) (ii R) c : ℝ) := by
  have h1 := r_dvn hx
  have h2 := r_vh hx
  simp only [val_main_v72, val_main_v73, val_main_v74, val_main_cst_10]
  generalize val_main_v69 (F := Ideal) x0 x1 x4 = y at h1
  generalize val_main_v27 (F := Ideal) x0 = z at h2
  pointwise
  simp only [h1, h2, ← EReal.coe_mul, ← EReal.coe_add, ← EReal.coe_sub, ← EReal.coe_neg, ← EReal.coe_one, coe_sum, div1024, mul_comm]

theorem r_dv (R : Fin 4096) (c : Fin 1024) : val_main_v100 (F := Ideal) x0 x1 x2 x4 (ix2 R c) = (X.dv (nn R) (ii R) c : EReal) := by
  have h1 := r_dvn hx R
  have h2 := fun c => (r_d hx R c).1
  have h3 := fun c => (r_d hx R c).2
  obtain ⟨h4, h5⟩ := r_ri hx R
  simp only [val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v23, val_main_v24, val_main_v25, val_main_v13, val_main_v12, val_main_cst_1, val_main_cst_5, val_main_cst_11, val_main_cst_12, val_main_cst_13,
    val_main_cst_14, val_main_cst_15, val_main_cst_16, val_main_cst_17]
  generalize val_main_v69 (F := Ideal) x0 x1 x4 = y1 at h1
  generalize val_main_v19 (F := Ideal) x0 = y2 at h2
  generalize val_main_v10 (F := Ideal) x0 = y3 at h3
  generalize val_main_v22 (F := Ideal) x0 = y4 at h4
  generalize val_main_v21 (F := Ideal) x0 = y5 at h5
  pointwise
  simp only [Fin.sum_univ_one, two, h1, h2, h3, h4, h5, hx.lg, Reals.k1024, Reals.neg_half, div_real (X.q_pos _ _).ne', ← EReal.coe_mul, ← EReal.coe_add, ← EReal.coe_sub, ← EReal.coe_neg, ← EReal.coe_one, coe_sum, div1024]
  exact congrArg _ (norm_grad (fun c => X.d (nn R) (ii R) c) (fun c => X.dvn (nn R) (ii R) c * X.lg c) _ _ c (X.sum_d _ _) (X.ri_sq _ _))

/-- The packed planes. -/
theorem r_planes (R : Fin 4096) (c : Fin 1024) (k : Fin 3) : val_main_v108 (F := Ideal) x0 x1 x2 x3 x4 x5 (ix3 k R c)
    = (plane X k.val (nn R) (ii R) c : EReal) := by
  have h1 := r_dv hx
  have h2 := fun R c => (r_uz hx R c).1
  have h3 := fun R c => (r_uz hx R c).2
  simp only [val_main_v101, val_main_v102, val_main_v103, val_main_v104, val_main_v105, val_main_v106, val_main_v107, val_main_v108, val_main_cst_18, val_main_cst_19, val_main_cst_20]
  generalize val_main_v100 (F := Ideal) x0 x1 x2 x4 = y1 at h1
  generalize val_main_v58 (F := Ideal) x0 x1 x2 x3 x4 x5 = y2 at h2
  generalize val_main_v56 (F := Ideal) x0 x1 x2 x3 x4 x5 = y3 at h3
  pointwise
  have hk := k.isLt
  have hc := c.isLt
  rcases (by omega : k.val = 0 ∨ k.val = 1 ∨ k.val = 2) with e | e | e <;> simp only [e]
  · rw [dif_neg (by omega), dif_neg (by omega), dif_pos (by omega), plane0]
    simp only [Nat.zero_mul, Nat.zero_add, Fin.eta, h2, zero_add]
  · rw [dif_neg (by omega), dif_pos (by omega), dif_neg (by omega), plane1]
    simp only [Nat.one_mul, Nat.add_sub_cancel_left, Fin.eta, h1, zero_add, add_zero]
  · rw [dif_pos (by omega), dif_neg (by omega), dif_neg (by omega), plane2]
    simp only [Nat.reduceMul, Nat.add_sub_cancel_left, Fin.eta, h3, add_zero]

end

end Cert.BranchARef

end
-- ==== Proof.BranchABwd.lean ====
/- The value claim of `_branch_a_bwd`: from real arguments the kernel's five results are the reference's (hand-written,
   untrusted). -/
module

public import proofs.«01_k».proof.Defs
public import proofs.«01_k».proof.Proof.BranchAKernel
public import proofs.«01_k».proof.Proof.BranchARef
public import proofs.«01_k».proof.Proof.Gen.BranchABwdRefIdeal.Run
public import Idealize.ShloMosaic.Lib.Quiescent

@[expose] public section

set_option maxRecDepth 16384

noncomputable section

namespace Cert.BranchABwdProof

open Idealize.ShloMosaic Idealize.ShloMosaic.TcCoe Idealize.SL.Sem
open Cert.BranchABwdIdeal Cert.BranchABwdIdeal.Gen Cert.Finite Cert.BranchA Cert.BranchAKernel

/-- The norm's small constant. -/
theorem eps_val : ∃ e : ℝ, 0 < e ∧ Ideal.ofBits FTy.f32 897988541#32 = (e : EReal) := by
  refine ⟨8796093 / 8796093022208, by norm_num, ?_⟩
  simp [Ideal.ofBits, Ideal.ieee, -EReal.coe_mul, -EReal.coe_neg]
  norm_num

/-- Arguments that pass the test are real arrays. -/
theorem arr_of_pre [Cert.Pre_a_finite.Facts] (x0 : Vec Ideal S4096x10240 .bf16) (x1 : Vec Ideal S4096x1024 .bf16)
    (x2 x3 : Vec Ideal S1x1024 .f32) (x4 : Vec Ideal S8x128x128 .f32) (x5 : Vec Ideal S8x128 .f32) (x6 : Vec Ideal S10x4096x1024 .bf16)
    (h : Cert.Pre_a_finite.fn (F := Ideal) x0 x1 x2 x3 x4 x5 x6 = fun _ => 1#1) : ∃ X, Cert.BranchARef.Arr X x0 x1 x2 x3 x4 x5 := by
  have h := congrFun h (fun i : Fin 0 => i.elim0)
  unfold Cert.Pre_a_finite.fn Cert.Pre_a_finite.fn_part1 at h
  obtain ⟨h, h5⟩ := andi_one _ _ h
  obtain ⟨h, h4⟩ := andi_one _ _ h
  obtain ⟨h, h3⟩ := andi_one _ _ h
  obtain ⟨h, h2⟩ := andi_one _ _ h
  obtain ⟨h0, h1⟩ := andi_one _ _ h
  haveI : Subsingleton Cert.Pre_a_finite.S_.Idx := ⟨fun a b => funext fun i : Fin 0 => i.elim0⟩
  have h0 := of_reduce _ _ (fun _ => inf) _ _ _ _ h0
  have h1 := of_reduce _ _ (fun _ => inf) _ _ _ _ h1
  have h2 := of_reduce _ _ (fun _ => inf) _ _ _ _ h2
  have h3 := of_reduce _ _ (fun _ => inf) _ _ _ _ h3
  have h4 := of_reduce _ _ (fun _ => inf) _ _ _ _ h4
  have h5 := of_reduce _ _ (fun _ => inf) _ _ _ _ h5
  choose f0 h0 using h0
  choose f1 h1 using h1
  choose f2 h2 using h2
  choose f3 h3 using h3
  choose f4 h4 using h4
  choose f5 h5 using h5
  obtain ⟨e, he, h6⟩ := eps_val
  have g0 : ∀ (R : Fin 4096) (C : Fin 3072) (R' : Fin 4096) (C' : Fin 10240), R'.val = R.val → C'.val = C.val →
      x0 (ix2 R' C') = (f0 (ix2 R C) : EReal) := fun R C R' C' e1 e2 => by
    rw [← h0]
    pointwise
    exact congrArg x0 (congrArg₂ ix2 (Fin.ext e1) (Fin.ext e2))
  refine ⟨{ U := fun N i c => f0 (ix2 ⟨128 * N.val + i.val, by omega⟩ ⟨c.val, by omega⟩)
            V := fun N i c => f0 (ix2 ⟨128 * N.val + i.val, by omega⟩ ⟨1024 + c.val, by omega⟩)
            G := fun N i c => f0 (ix2 ⟨128 * N.val + i.val, by omega⟩ ⟨2048 + c.val, by omega⟩)
            DY := fun N i c => f1 (ix2 ⟨128 * N.val + i.val, by omega⟩ c)
            lg := fun c => f2 (ix2 0 c)
            lb := fun c => f3 (ix2 0 c)
            ws := fun g i k => f4 (ix3 g i k)
            bs := fun g i => f5 (ix2 g i)
            e := e
            he := he }, ?_⟩
  have hR : ∀ R : Fin 4096, R.val = 128 * (R.val / 128) + R.val % 128 := fun R => by omega
  constructor
  · exact h6
  · exact fun R c => g0 _ _ _ _ (hR R) rfl
  · exact fun R c => g0 _ _ _ _ (hR R) rfl
  · exact fun R c => g0 _ _ _ _ (hR R) rfl
  · exact fun R c => (h1 _).trans (congrArg (fun z : Fin 4096 => ((f1 (ix2 z c) : ℝ) : EReal)) (Fin.ext (hR R)))
  · exact fun c => h2 _
  · exact fun c => h3 _
  · exact fun g i k => h4 _
  · exact fun g i => h5 _

/-- A sum over the chunks, step by step. -/
theorem sum_chunks (f : Fin 32 → ℝ) : ∑ s : Fin 8, (f (ch s 0) + f (ch s 1) + f (ch s 2) + f (ch s 3)) = ∑ N, f N := by
  refine Eq.trans (Finset.sum_congr rfl fun s _ => (Fin.sum_univ_four (fun k => f (ch s k))).symm) (Fin.sum_mul_add_congr (S := 8) (n := 4) (F := fun s k => f (ch s k))
    (f := f) (fun s k hl => congrArg f (Fin.ext (by simp only [ch]; omega))))

/-- A sum over the rows, step by step. -/
theorem sum_rows (f : Fin 32 → Fin 128 → ℝ) : ∑ s : Fin 8, ∑ a : Fin 512, f (cn s a) (pi a)
    = ∑ R : Fin 4096, f (Cert.BranchARef.nn R) (Cert.BranchARef.ii R) :=
  Fin.sum_mul_add_congr (S := 8) (n := 512) (F := fun s a => f (cn s a) (pi a))
    (f := fun R => f (Cert.BranchARef.nn R) (Cert.BranchARef.ii R)) (fun s a hl => by
      congr 1
      all_goals
        apply Fin.ext
        simp only [cn, pi, Cert.BranchARef.nn, Cert.BranchARef.ii]
        omega)

variable (m : (ℓ : Loc nD τ sig) → Buf (Elt Ideal) ℓ) (ρ : Dev nD → PrngReg)

theorem V_v1 (c : Dev nD) : V m c main_v1 = broadcastInDim S8x128x128 ![0, 1, 2] bcast_S8x128x1_S8x128x128_0_1_2
    (broadcastInDim S8x128x1 ![0, 1] bcast_S8x128_S8x128x1_0_1 (m ((c.tc : Thread nD τ).loc main_arg5))) := by
  simp only [V, hostOps0]
  after_results_simp

/-- The bias operand, read. -/
theorem V_v1_apply (c : Dev nD) (g : Fin 8) (i k : Fin 128) : V m c main_v1 (ix3 g i k) = m ((c.tc : Thread nD τ).loc main_arg5) (ix2 g i) := by
  rw [V_v1]
  pointwise

theorem V_v2 (c : Dev nD) : V m c main_v2_0 = m ((c.tc : Thread nD τ).loc main_arg6) := by
  simp only [V, hostOps0]
  after_results_simp
  rfl

theorem idx : ∀ t : Fin cfg0.N, win0_0.index t = ![t.val, 0] ∧ win0_1.index t = ![t.val, 1] ∧ win0_2.index t = ![t.val, 2]
    ∧ win0_3.index t = ![t.val, 0] ∧ win0_4.index t = ![0, 0] ∧ win0_5.index t = ![0, 0] ∧ win0_6.index t = ![0, 0, 0]
    ∧ win0_7.index t = ![0, 0, 0] ∧ win0_8.index t = ![0, t.val, 0] ∧ win0_9.index t = ![0, 0, 0] ∧ win0_10.index t = ![0, 0]
    ∧ win0_11.index t = ![0, 0] ∧ win0_12.index t = ![0, 0] :=
  (by decide +kernel : ∀ t : Fin grid0.N, _)

/-- The arrays of core `c` are real. -/
abbrev Real (c : Dev nD) (X : In) : Prop := Cert.BranchARef.Arr X (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5))

/-- A grid point as a step. -/
def pt (t : Fin cfg0.N) : Fin 8 := ⟨t.val, lt_of_lt_of_eq t.isLt N_0⟩

/-- Row `a` of step `t` among all rows. -/
def row (t : Fin cfg0.N) (a : Fin 512) : Fin 4096 := ⟨512 * t.val + a.val, by have := lt_of_lt_of_eq t.isLt N_0; omega⟩

theorem nn_row (t : Fin cfg0.N) (a : Fin 512) : Cert.BranchARef.nn (row t a) = cn (pt t) a :=
  Fin.ext (by simp only [Cert.BranchARef.nn, row, cn, pt]; omega)
theorem ii_row (t : Fin cfg0.N) (a : Fin 512) : Cert.BranchARef.ii (row t a) = pi a :=
  Fin.ext (by simp only [Cert.BranchARef.ii, row, pi]; omega)

/-- The blocks of a step hold the real arrays. -/
theorem blk (c : Dev nD) (t : Fin cfg0.N) (X : In) (h : Real m c X) :
    Blk X (pt t) (iblk m c 0 t) (iblk m c 1 t) (iblk m c 2 t) (iblk m c 3 t) (iblk m c 4 t) (iblk m c 5 t) (iblk m c 6 t) (iblk m c 7 t) := by
  have hN := lt_of_lt_of_eq t.isLt N_0
  constructor
  · exact h.eps
  · intro a c'
    rw [← nn_row, ← ii_row, ← h.u]
    blk_ext [iblk, V, idx _, row]
  · intro a c'
    rw [← nn_row, ← ii_row, ← h.v]
    blk_ext [iblk, V, idx _, row]
  · intro a c'
    rw [← nn_row, ← ii_row, ← h.g]
    blk_ext [iblk, V, idx _, row]
  · intro a c'
    rw [← nn_row, ← ii_row, ← h.dy]
    blk_ext [iblk, V, idx _, row]
  · intro c'
    rw [← h.lg]
    blk_ext [iblk, V, idx _]
  · intro c'
    rw [← h.lb]
    blk_ext [iblk, V, idx _]
  · intro g i k
    rw [← h.ws]
    blk_ext [iblk, V, idx _]
  · intro g i k
    rw [← h.bs, ← V_v1_apply m c g i k]
    blk_ext [iblk, idx _]

theorem real_sum (f : Fin 8 → ℝ) (t : ℕ) (ht : t / 8 = 0) (h : ∀ s : Fin 8, 8 * (t / 8) + s.val < cfg0.N) : ∑ s : Fin 8, ((f (pt ⟨8 * (t / 8) + s.val, h s⟩) : ℝ) : EReal) = ((∑ s, f s : ℝ) : EReal) := by
  rw [← coe_sum]
  refine Finset.sum_congr rfl fun s _ => congrArg (fun z => ((f z : ℝ) : EReal)) (Fin.ext ?_)
  simp only [pt]
  omega

section
variable (c : Dev nD) (X : In) (hX : Real m c X) (t : Fin cfg0.N) (ht : t.val % 8 = 7)
include hX ht

theorem div_t : t.val / 8 = 0 := by have := lt_of_lt_of_eq t.isLt N_0; omega

/-- After the last step: the mixing matrices' gradient. -/
theorem dws_last (g : Fin 8) (i k : Fin 128) : (outsAt0 m c t.val t.isLt).2.1 (ix3 g i k)
    = ((if 64 ≤ i.val ∨ k.val < 64 then ∑ N, X.dws1 N g i k else 0 : ℝ) : EReal) := by
  have h := Pipeline.eq_sum_fin_of_reset_step_apply_of_flush (fun n h => (outsAt0 m c n h).2.1) 8 (fun _ => (0 : EReal))
    (fun t j => (dwsT X (pt t) (j 0) (j 1) (j 2) : EReal))
    (fun t h0 j => by
      rw [zero_add]
      obtain ⟨g, i, k, rfl⟩ : ∃ a b c, j = ix3 a b c := ⟨_, _, _, ValueIdx.eq_ix3 j⟩
      exact dws_reset m c t X (pt t) (blk m c t X hX) h0 g i k)
    (fun t h0 j => by
      obtain ⟨g, i, k, rfl⟩ : ∃ a b c, j = ix3 a b c := ⟨_, _, _, ValueIdx.eq_ix3 j⟩
      exact dws_step m c t X (pt t) (blk m c t X hX) h0 g i k)
    t ht (ix3 g i k)
  refine h.trans ?_
  rw [zero_add]
  refine (real_sum (fun s => dwsT X s g i k) _ (div_t m c X hX t ht) _).trans (congrArg _ ?_)
  simp only [dwsT]
  split_ifs
  · exact sum_chunks fun N => X.dws1 N g i k
  · exact Finset.sum_const_zero

theorem bacc_last (g : Fin 8) (i j : Fin 128) : (outsAt0 m c t.val t.isLt).2.2.2.2.2 (ix3 g i j)
    = ((∑ N, X.dsv N i (lane g j) : ℝ) : EReal) := by
  have h := Pipeline.eq_sum_fin_of_reset_step_apply_of_flush (fun n h => (outsAt0 m c n h).2.2.2.2.2) 8 (fun _ => (0 : EReal))
    (fun t j => (baccT X (pt t) (j 0) (j 1) (j 2) : EReal))
    (fun t h0 j => by
      rw [zero_add]
      obtain ⟨g, i, k, rfl⟩ : ∃ a b c, j = ix3 a b c := ⟨_, _, _, ValueIdx.eq_ix3 j⟩
      exact bacc_reset m c t X (pt t) (blk m c t X hX) h0 g i k)
    (fun t h0 j => by
      obtain ⟨g, i, k, rfl⟩ : ∃ a b c, j = ix3 a b c := ⟨_, _, _, ValueIdx.eq_ix3 j⟩
      exact bacc_step m c t X (pt t) (blk m c t X hX) h0 g i k)
    t ht (ix3 g i j)
  refine h.trans ?_
  rw [zero_add]
  refine (real_sum (fun s => baccT X s g i j) _ (div_t m c X hX t ht) _).trans (congrArg _ ?_)
  exact sum_chunks fun N => X.dsv N i (lane g j)

/-- After the last step: the biases' gradient. -/
theorem dbs_sum (g : Fin 8) (i : Fin 128) : (outsAt0 m c t.val t.isLt).2.2.1 (ix2 g i)
    = ((∑ N, ∑ j, X.dsv N i (lane g j) : ℝ) : EReal) := by
  have h0 : ¬ t.val % 8 = 0 := by omega
  rw [dbs_last m c t X (pt t) (blk m c t X hX) h0 ht g i, Finset.sum_comm, ← coe_sum]
  exact Finset.sum_congr rfl fun k _ => (bacc_step m c t X (pt t) (blk m c t X hX) h0 g i k).symm.trans (bacc_last m c X hX t ht g i k)

/-- After the last step: the gain's gradient. -/
theorem dlg_last (b : Fin 1024) : (outsAt0 m c t.val t.isLt).2.2.2.1 (ix2 0 b)
    = ((∑ R, X.dvn (Cert.BranchARef.nn R) (Cert.BranchARef.ii R) b * X.vh (Cert.BranchARef.nn R) (Cert.BranchARef.ii R) b : ℝ) : EReal) := by
  have h := Pipeline.eq_sum_fin_of_reset_step_apply_of_flush (fun n h => (outsAt0 m c n h).2.2.2.1) 8 (fun _ => (0 : EReal))
    (fun t j => (dlgT X (pt t) (j 1) : EReal))
    (fun t h0 j => by
      rw [zero_add]
      obtain ⟨a, b, rfl⟩ : ∃ a b, j = ix2 a b := ⟨_, _, ValueIdx.eq_ix2 j⟩
      obtain rfl : a = 0 := Subsingleton.elim _ _
      exact dlg_reset m c t X (pt t) (blk m c t X hX) h0 b)
    (fun t h0 j => by
      obtain ⟨a, b, rfl⟩ : ∃ a b, j = ix2 a b := ⟨_, _, ValueIdx.eq_ix2 j⟩
      obtain rfl : a = 0 := Subsingleton.elim _ _
      exact dlg_step m c t X (pt t) (blk m c t X hX) h0 b)
    t ht (ix2 0 b)
  refine h.trans ?_
  rw [zero_add]
  refine (real_sum (fun s => dlgT X s b) _ (div_t m c X hX t ht) _).trans (congrArg _ ?_)
  exact sum_rows fun N i => X.dvn N i b * X.vh N i b

/-- After the last step: the norm's bias's gradient. -/
theorem dlb_last (b : Fin 1024) : (outsAt0 m c t.val t.isLt).2.2.2.2.1 (ix2 0 b)
    = ((∑ R, X.dvn (Cert.BranchARef.nn R) (Cert.BranchARef.ii R) b : ℝ) : EReal) := by
  have h := Pipeline.eq_sum_fin_of_reset_step_apply_of_flush (fun n h => (outsAt0 m c n h).2.2.2.2.1) 8 (fun _ => (0 : EReal))
    (fun t j => (dlbT X (pt t) (j 1) : EReal))
    (fun t h0 j => by
      rw [zero_add]
      obtain ⟨a, b, rfl⟩ : ∃ a b, j = ix2 a b := ⟨_, _, ValueIdx.eq_ix2 j⟩
      obtain rfl : a = 0 := Subsingleton.elim _ _
      exact dlb_reset m c t X (pt t) (blk m c t X hX) h0 b)
    (fun t h0 j => by
      obtain ⟨a, b, rfl⟩ : ∃ a b, j = ix2 a b := ⟨_, _, ValueIdx.eq_ix2 j⟩
      obtain rfl : a = 0 := Subsingleton.elim _ _
      exact dlb_step m c t X (pt t) (blk m c t X hX) h0 b)
    t ht (ix2 0 b)
  refine h.trans ?_
  rw [zero_add]
  refine (real_sum (fun s => dlbT X s b) _ (div_t m c X hX t ht) _).trans (congrArg _ ?_)
  exact sum_rows fun N i => X.dvn N i b

end

/-- The reference's first result, plane by plane. -/
theorem ref_dz (X : In) (x0 : Vec Ideal S4096x10240 .bf16) (x1 : Vec Ideal S4096x1024 .bf16)
    (x2 x3 : Vec Ideal S1x1024 .f32) (x4 : Vec Ideal S8x128x128 .f32) (x5 : Vec Ideal S8x128 .f32) (x6 : Vec Ideal S10x4096x1024 .bf16)
    (hX : Cert.BranchARef.Arr X x0 x1 x2 x3 x4 x5) (k : Fin 10) (R : Fin 4096) (b : Fin 1024) :
    Cert.BranchABwdRefIdeal.Read.val_main_v110 (F := Ideal) x0 x1 x2 x3 x4 x5 x6 (ix3 k R b)
      = if k.val < 3 then (plane X k.val (Cert.BranchARef.nn R) (Cert.BranchARef.ii R) b : EReal) else x6 (ix3 k R b) := by
  have h := Cert.BranchARef.r_planes hX R b
  simp only [Cert.BranchABwdRefIdeal.Read.val_main_v110, Cert.BranchABwdRefIdeal.Read.val_main_v109]
  generalize Cert.BranchABwdRefIdeal.Read.val_main_v108 (F := Ideal) x0 x1 x2 x3 x4 x5 = y at h
  pointwise
  by_cases h1 : k.val < 3
  · rw [dif_pos h1, if_pos h1]; exact h ⟨k.val, h1⟩
  · rw [dif_neg h1, if_neg h1]; exact congrArg (fun z : Fin 10 => x6 (ix3 z R b)) (Fin.ext (by dsimp only; omega))

section
variable (X : Dev nD → In) (hX : ∀ c, Real m c (X c))
include hX

/-- The kernel's run: the five results, the arguments unchanged. -/
theorem run : θ_run defs (onTc (τ := τ) (main (F := Ideal))) ⟨m, fun _ => 0, ρ⟩ fun r => ∀ c : Dev nD,
      r.2.mem ((c.tc : Thread nD τ).loc main_v2_0) = Cert.BranchABwdRefIdeal.Read.val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v2_1) = Cert.BranchABwdRefIdeal.Read.val_main_v68 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2_2) = Cert.BranchABwdRefIdeal.Read.val_main_v63 (F := Ideal) (m ((c.tc : Thread nD τ).loc main_arg0)) (m ((c.tc : Thread nD τ).loc main_arg1))
      ∧ r.2.mem ((c.tc : Thread nD τ).loc main_v2_3) = Cert.BranchABwdRefIdeal.Read.val_main_v74 (F := Ideal) (m ((c.tc : Thread nD τ).loc main_arg0)) (m ((c.tc : Thread nD τ).loc main_arg1)) (m ((c.tc : Thread nD τ).loc main_arg4))
      ∧ r.2.mem ((c.tc : Thread nD τ).loc main_v2_4) = Cert.BranchABwdRefIdeal.Read.val_main_v71 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨((h.1 c).1 8).trans ?_, ((h.1 c).1 9).trans ?_, ((h.1 c).1 10).trans ?_,
    ((h.1 c).1 11).trans ?_, ((h.1 c).1 12).trans ?_, h.2 c⟩) (θ_run_and (run_main m ρ) (unchanged m ρ))
  · refine (dats m 0 c).arrAt_eq_of_coversWhere_of_agree 8 _ (fun β => β (0 : Fin 3) < 1) (by decide +kernel) (fun t hf y => ?_) (fun j hj => ?_)
    · have hN := lt_of_lt_of_eq t.isLt N_0
      blk_simp
      rw [after0_8]
      obtain ⟨z, hz⟩ : ∃ z : S3x512x1024.Idx, (cfg0.win 8).xinj (cfg0.grid.coords t) y = z := ⟨_, rfl⟩
      have hz0 : (z 0).val = (y 0).val := by rw [← hz]
      have hz1 : (z 1).val = (y 1).val := by rw [← hz]
      have hz2 : (z 2).val = (y 2).val := by rw [← hz]
      have h3 : (z 0).val < 3 := (z 0).isLt
      have e : (win0_8.blk t).view.emb y = ix3 ⟨(z 0).val, by omega⟩ (row t (z 1)) (z 2) := by blk_ext [idx _, row]
      refine Eq.trans (b := (outsAt0 m c t.val t.isLt).1 z) (by rw [← hz]) ?_
      refine (dz_block m c t (X c) (pt t) (blk m c t (X c) (hX c)) z).trans (Eq.trans ?_ (congrArg _ e).symm)
      refine Eq.trans ?_ (ref_dz (X c) _ _ _ _ _ _ _ (hX c) ⟨(z 0).val, by omega⟩ (row t (z 1)) (z 2)).symm
      dsimp only
      rw [if_pos h3]
      exact congrArg₂ (fun N i => ((plane (X c) (z 0).val N i (z 2) : ℝ) : EReal)) (nn_row t (z 1)).symm (ii_row t (z 1)).symm
    · obtain ⟨a, b, d, rfl⟩ : ∃ (a : Fin 10) (b : Fin 4096) (d : Fin 1024), j = ix3 a b d := ⟨_, _, _, ValueIdx.eq_ix3 j⟩
      have h3 : ¬ a.val < 3 := by
        blk_simp [Pipeline.Window.cell_apply] at hj
        omega
      refine (congrFun (V_v2 m c) (ix3 a b d)).trans (Eq.symm ((ref_dz (X c) _ _ _ _ _ _ _ (hX c) a b d).trans ?_))
      rw [if_neg h3]
  · refine (dats m 0 c).arrAt_eq_of_covers 9 _ (by decide +kernel) fun t hf y => ?_
    have ht := (flush0_9 t).mp hf
    blk_simp
    rw [after0_9]
    obtain ⟨a, b, d, rfl⟩ : ∃ a b d, y = ix3 a b d := ⟨_, _, _, ValueIdx.eq_ix3 y⟩
    refine (dws_last m c (X c) (hX c) t ht a b d).trans ((Cert.BranchARef.r_dws (hX c) a b d).symm.trans ?_)
    blk_ext [idx _]
  · refine (dats m 0 c).arrAt_eq_of_covers 10 _ (by decide +kernel) fun t hf y => ?_
    have ht := (flush0_10 t).mp hf
    blk_simp
    rw [after0_10]
    obtain ⟨a, b, rfl⟩ : ∃ a b, y = ix2 a b := ⟨_, _, ValueIdx.eq_ix2 y⟩
    refine (dbs_sum m c (X c) (hX c) t ht a b).trans ((Cert.BranchARef.r_dbs (hX c) a b).symm.trans ?_)
    blk_ext [idx _]
  · refine (dats m 0 c).arrAt_eq_of_covers 11 _ (by decide +kernel) fun t hf y => ?_
    have ht := (flush0_11 t).mp hf
    blk_simp
    rw [after0_11]
    obtain ⟨a, b, rfl⟩ : ∃ a b, y = ix2 a b := ⟨_, _, ValueIdx.eq_ix2 y⟩
    obtain rfl : a = 0 := Subsingleton.elim _ _
    refine (dlg_last m c (X c) (hX c) t ht b).trans ((Cert.BranchARef.r_dlg (hX c) b).symm.trans ?_)
    blk_ext [idx _]
  · refine (dats m 0 c).arrAt_eq_of_covers 12 _ (by decide +kernel) fun t hf y => ?_
    have ht := (flush0_12 t).mp hf
    blk_simp
    rw [after0_12]
    obtain ⟨a, b, rfl⟩ : ∃ a b, y = ix2 a b := ⟨_, _, ValueIdx.eq_ix2 y⟩
    obtain rfl : a = 0 := Subsingleton.elim _ _
    refine (dlb_last m c (X c) (hX c) t ht b).trans ((Cert.BranchARef.r_dlb (hX c) b).symm.trans ?_)
    blk_ext [idx _]

end

/-- The claim: from real arguments on which the two memories agree, kernel and reference end with equal results. -/
theorem algebraic [Cert.Pre_a_finite.Facts] : algebraic_BranchABwdIdeal_BranchABwdRefIdeal_pre_a_finite := by
  intro m g m' g' hpre hag
  choose X hX using fun c => arr_of_pre _ _ _ _ _ _ _ (hpre c)
  refine ⟨_, _, _, _, _, run m g X hX, (θ_run _ _ _).mono (fun r h c => ?_) (Cert.BranchABwdRefIdeal.Value.run (F := Ideal) m' g')⟩
  obtain ⟨h0, h1, h2, h3, h4, h5⟩ := h c
  obtain ⟨e0, e1, e2, e3, e4, e5, e6⟩ := hag c
  rw [Cert.BranchABwdRefIdeal.Read.val_main_v110_eq, e0, e1, e2, e3, e4, e5, e6] at h0
  rw [Cert.BranchABwdRefIdeal.Read.val_main_v68_eq, e0, e1, e2, e3] at h1
  rw [Cert.BranchABwdRefIdeal.Read.val_main_v63_eq, e0, e1] at h2
  rw [Cert.BranchABwdRefIdeal.Read.val_main_v74_eq, e0, e1, e4] at h3
  rw [Cert.BranchABwdRefIdeal.Read.val_main_v71_eq, e0, e1, e4] at h4
  exact ⟨h0, h1, h2, h3, h4, h5⟩

/-- The reference's frame: the host program runs and leaves its arguments as they were. -/
theorem frame_ref : quiescent_BranchABwdRefIdeal := fun m ρ _ =>
  (θ_run _ _ _).mono (fun r h => ⟨fun c => (h c).2.2.2.2.2, sem_eq_zero_of_no_sems (by decide) r.2⟩)
    (Cert.BranchABwdRefIdeal.Value.run (F := Ideal) m ρ)

end Cert.BranchABwdProof

end
-- ==== Proof.BranchCModel.lean ====
module

public import proofs.«01_k».proof.Proof.BranchAModel

@[expose] public section

noncomputable section

/-! Branch C over the reals: attention of every row over 256 memory rows, in four heads of 256 lanes, gated, and its
    gradient. -/

namespace Cert.BranchC

open Idealize.ShloMosaic Cert.Finite

/-- The argument arrays as real numbers: the queries, the gate's input, the gradient of the branch's output, and the
    memory's keys and values side by side. -/
structure In where
  Q : Fin 4096 → Fin 1024 → ℝ
  G : Fin 4096 → Fin 1024 → ℝ
  DY : Fin 4096 → Fin 1024 → ℝ
  KV : Fin 256 → Fin 2048 → ℝ

/-- Lane `j` of head `h`, and the same lane among the keys and among the values. -/
def lane (h : Fin 4) (j : Fin 256) : Fin 1024 := ⟨256 * h.val + j.val, by omega⟩
def kc (c : Fin 1024) : Fin 2048 := ⟨c.val, by omega⟩
def vc (c : Fin 1024) : Fin 2048 := ⟨1024 + c.val, by omega⟩
/-- The head of a lane. -/
def hd (c : Fin 1024) : Fin 4 := ⟨c.val / 256, by omega⟩

theorem hd_lane (h : Fin 4) (j : Fin 256) : hd (lane h j) = h := Fin.ext (by simp only [hd, lane]; omega)

namespace In

variable (x : In) (i : Fin 4096) (h : Fin 4) (m : Fin 256) (c : Fin 1024)

/-- The scores, the weights, the attention. -/
def s : ℝ := (∑ d, x.Q i (lane h d) * x.KV m (kc (lane h d))) * (1 / 16)
def p : ℝ := Real.exp (x.s i h m) / ∑ k, Real.exp (x.s i h k)
def att : ℝ := ∑ k, x.p i (hd c) k * x.KV k (vc c)
/-- The gradient at the attention, at the gate, at the weights, at the scores. -/
def dab : ℝ := x.DY i c * (x.G i c * Cert.BranchA.sg (x.G i c))
def dg : ℝ := x.DY i c * (Cert.BranchA.sg (x.G i c) * (1 + x.G i c * (1 - Cert.BranchA.sg (x.G i c)))) * x.att i c
def dp : ℝ := ∑ d, x.dab i (lane h d) * x.KV m (vc (lane h d))
def ds : ℝ := x.p i h m * (x.dp i h m - ∑ k, x.p i h k * x.dp i h k) * (1 / 16)
/-- The gradients of the queries, the keys and the values. -/
def dq : ℝ := ∑ k, x.ds i (hd c) k * x.KV k (kc c)
def dk : ℝ := ∑ r, x.ds r (hd c) m * x.Q r c
def dv : ℝ := ∑ r, x.p r (hd c) m * x.dab r c
/-- The weights, the heads side by side. -/
def P : ℝ := x.p i (hd c) ⟨c.val % 256, by omega⟩
/-- One row's part of the gradient of the memory's keys and values. -/
def g (b : Fin 2048) : ℝ := if e : b.val < 1024 then x.ds i (hd ⟨b.val, e⟩) m * x.Q i ⟨b.val, e⟩
  else x.p i (hd ⟨b.val - 1024, by omega⟩) m * x.dab i ⟨b.val - 1024, by omega⟩

end In

theorem In.g_key (x : In) (i : Fin 4096) (m : Fin 256) (h : Fin 4) (j : Fin 256) :
    x.g i m (kc (lane h j)) = x.ds i h m * x.Q i (lane h j) := by
  have e : (kc (lane h j)).val < 1024 := (lane h j).isLt
  simp only [In.g, dif_pos e]
  exact congrArg₂ (fun a b => x.ds i a m * x.Q i b) (hd_lane h j) rfl

theorem In.g_val (x : In) (i : Fin 4096) (m : Fin 256) (h : Fin 4) (j : Fin 256) :
    x.g i m (vc (lane h j)) = x.p i h m * x.dab i (lane h j) := by
  have e : ¬ (vc (lane h j)).val < 1024 := Nat.not_lt.mpr (Nat.le_add_right _ _)
  have e' : (⟨(vc (lane h j)).val - 1024, by have := (vc (lane h j)).isLt; omega⟩ : Fin 1024) = lane h j :=
    Fin.ext (Nat.add_sub_cancel_left _ _)
  simp only [In.g, dif_neg e]
  rw [e', hd_lane]

/-- The softmax does not depend on the shift. -/
theorem softmax_shift {ι : Type} [Fintype ι] (s : ι → ℝ) (M : ℝ) (k : ι) :
    Real.exp (s k - M) / ∑ j, Real.exp (s j - M) = Real.exp (s k) / ∑ j, Real.exp (s j) := by
  simp only [Real.exp_sub]
  rw [← Finset.sum_div]
  exact div_div_div_cancel_right₀ (Real.exp_pos M).ne' _ _

theorem sum_exp_pos {ι : Type} [Fintype ι] [Nonempty ι] (s : ι → ℝ) : 0 < ∑ j, Real.exp (s j) :=
  Finset.sum_pos (fun j _ => Real.exp_pos _) Finset.univ_nonempty

/-- The greatest of finitely many reals, folded from the bottom, is a real. -/
theorem max_real {ι : Type} [Fintype ι] [Nonempty ι] (s : ι → ℝ) :
    ∃ M : ℝ, Finset.univ.fold max (⊥ : EReal) (fun k => (s k : EReal)) = (M : EReal) := by
  classical
  have h : ∀ t : Finset ι, t.fold max (⊥ : EReal) (fun k => (s k : EReal)) = t.sup fun k => (s k : EReal) := fun t => rfl
  rw [h]
  obtain ⟨k, -, hk⟩ := Finset.exists_mem_eq_sup Finset.univ Finset.univ_nonempty fun k => (s k : EReal)
  exact ⟨s k, hk⟩

/-- The softmax with its greatest score taken away, over the extended reals. -/
theorem softmax_coe {ι : Type} [Fintype ι] [Nonempty ι] (s : ι → ℝ) (k : ι) :
    Ideal.div (Ideal.exp ((s k : EReal) - Finset.univ.fold max (⊥ : EReal) (fun j => (s j : EReal))))
      (∑ x, Ideal.exp ((s x : EReal) - Finset.univ.fold max (⊥ : EReal) (fun j => (s j : EReal))))
    = ((Real.exp (s k) / ∑ j, Real.exp (s j) : ℝ) : EReal) := by
  obtain ⟨M, hM⟩ := max_real s
  rw [hM]
  simp only [← EReal.coe_sub, Ideal.exp_coe, coe_sum]
  rw [div_real (sum_exp_pos fun j => s j - M).ne', softmax_shift]

theorem neg_inf : Ideal.ofBits FTy.f32 0xFF800000#32 = ⊥ := by
  simp [Ideal.ofBits, Ideal.ieee]

theorem sixteenth : Ideal.ofBits FTy.f32 0x3D800000#32 = ((1 / 16 : ℝ) : EReal) := by
  simp [Ideal.ofBits, Ideal.ieee, -EReal.coe_mul, -EReal.coe_neg]
  norm_num

end Cert.BranchC

end
-- ==== Proof.BranchCKernel.lean ====
module

public import proofs.«01_k».proof.Defs
public import proofs.«01_k».proof.Proof.Gen.BranchCBwdIdeal.Frame
public import proofs.«01_k».proof.Proof.BranchCModel
public import Idealize.ShloMosaic.Lib.Pipeline.ValueKit
public import Idealize.ShloMosaic.Lib.Pipeline.ReadBack
public import Idealize.ShloMosaic.Lib.Quiescent

@[expose] public section

set_option maxRecDepth 16384

noncomputable section

/-! One grid step of branch C's forward kernel and of its backward kernel, read over the reals. -/

namespace Cert.BranchCKernel

open Idealize.ShloMosaic Idealize.ShloMosaic.TcCoe Idealize.SL.Sem
open Cert.BranchCBwdIdeal Cert.BranchCBwdIdeal.Gen Cert.BranchC Cert.Finite

/-- Row `a` of step `t`. -/
def row (t : Fin 8) (a : Fin 512) : Fin 4096 := ⟨512 * t.val + a.val, by omega⟩

/-- The forward kernel's weights of one head, from the head's queries and keys. -/
theorem weights (q : Vec Ideal S512x256 .bf16) (k : Vec Ideal S256x256 .bf16) (X : In) (t : Fin 8) (h : Fin 4)
    (hq : ∀ a d, q (ix2 a d) = (X.Q (row t a) (lane h d) : EReal)) (hk : ∀ m d, k (ix2 m d) = (X.KV m (kc (lane h d)) : EReal))
    (a : Fin 512) (m : Fin 256) : k0_pay5 (F := Ideal) q k (ix2 a m) = (X.p (row t a) h m : EReal) := by
  open_payloads
  pointwise
  simp only [hq, hk, sixteenth, neg_inf, ← EReal.coe_mul, coe_sum]
  exact softmax_coe (fun k => (∑ i, X.Q (row t a) (lane h i) * X.KV k (kc (lane h i))) * (1 / 16)) m

theorem ln0 (j : Fin 256) (h) : (⟨j.val, h⟩ : Fin 1024) = lane 0 j := Fin.ext (by simp [lane])
theorem ln1 (j : Fin 256) (h) : (⟨256 + j.val, h⟩ : Fin 1024) = lane 1 j := Fin.ext (by simp [lane])
theorem ln2 (j : Fin 256) (h) : (⟨512 + j.val, h⟩ : Fin 1024) = lane 2 j := Fin.ext (by simp [lane])
theorem ln3 (j : Fin 256) (h) : (⟨768 + j.val, h⟩ : Fin 1024) = lane 3 j := Fin.ext (by simp [lane])
theorem kl0 (j : Fin 256) (h) : (⟨j.val, h⟩ : Fin 2048) = kc (lane 0 j) := Fin.ext (by simp [lane, kc])
theorem kl1 (j : Fin 256) (h) : (⟨256 + j.val, h⟩ : Fin 2048) = kc (lane 1 j) := Fin.ext (by simp [lane, kc])
theorem kl2 (j : Fin 256) (h) : (⟨512 + j.val, h⟩ : Fin 2048) = kc (lane 2 j) := Fin.ext (by simp [lane, kc])
theorem kl3 (j : Fin 256) (h) : (⟨768 + j.val, h⟩ : Fin 2048) = kc (lane 3 j) := Fin.ext (by simp [lane, kc])
theorem vl0 (j : Fin 256) (h) : (⟨1024 + j.val, h⟩ : Fin 2048) = vc (lane 0 j) := Fin.ext (by simp [lane, vc])
theorem vl1 (j : Fin 256) (h) : (⟨1280 + j.val, h⟩ : Fin 2048) = vc (lane 1 j) := Fin.ext (by simp [lane, vc]; omega)
theorem vl2 (j : Fin 256) (h) : (⟨1536 + j.val, h⟩ : Fin 2048) = vc (lane 2 j) := Fin.ext (by simp [lane, vc]; omega)
theorem vl3 (j : Fin 256) (h) : (⟨1792 + j.val, h⟩ : Fin 2048) = vc (lane 3 j) := Fin.ext (by simp [lane, vc]; omega)
theorem P_lane (X : In) (i : Fin 4096) (h : Fin 4) (j : Fin 256) : X.P i (lane h j) = X.p i h j := by
  simp only [In.P, hd_lane]
  exact congrArg _ (Fin.ext (by simp only [lane]; omega))

/-- The blocks of a step hold the real arrays. -/
structure Fwd (X : In) (t : Fin 8) (zq : Vec Ideal S512x1024 .bf16) (kv : Vec Ideal S256x2048 .bf16) : Prop where
  q : ∀ a c, zq (ix2 a c) = (X.Q (row t a) c : EReal)
  kv : ∀ m c, kv (ix2 m c) = (X.KV m c : EReal)

/-- The weights that a step of the forward kernel saves. -/
theorem saved (X : In) (t : Fin 8) (zq zg : Vec Ideal S512x1024 .bf16) (kv : Vec Ideal S256x2048 .bf16) (hb : Fwd X t zq kv)
    (a : Fin 512) (c : Fin 1024) : out0_4 (F := Ideal) zq zg kv (ix2 a c) = (X.P (row t a) c : EReal) := by
  obtain ⟨hq, hk⟩ := hb
  unfold out0_4 k0_pay11
  canon_tiles x h
  all_goals idx_vars x
  all_goals
    have e0 : a = (⟨_, lt_of_eq_of_lt h0.symm a.isLt⟩ : Fin 512) := Fin.ext h0
    have e1 : c = (⟨_, lt_of_eq_of_lt h1.symm c.isLt⟩ : Fin 1024) := Fin.ext h1
    rw [e0, e1]
    simp only [ln0, ln1, ln2, ln3, P_lane]
    refine weights _ _ X t _ (fun a d => ?_) (fun m d => ?_) _ _ <;> pointwise <;>
      simp only [hq, hk, ln0, ln1, ln2, ln3, kl0, kl1, kl2, kl3]

/-- The blocks of a step of the backward kernel hold the real arrays. -/
structure Bwd (X : In) (t : Fin 8) (zq zg : Vec Ideal S512x1024 .bf16) (kv : Vec Ideal S256x2048 .bf16) (pw dy : Vec Ideal S512x1024 .bf16) : Prop where
  q : ∀ a c, zq (ix2 a c) = (X.Q (row t a) c : EReal)
  g : ∀ a c, zg (ix2 a c) = (X.G (row t a) c : EReal)
  kv : ∀ m c, kv (ix2 m c) = (X.KV m c : EReal)
  p : ∀ a c, pw (ix2 a c) = (X.P (row t a) c : EReal)
  dy : ∀ a c, dy (ix2 a c) = (X.DY (row t a) c : EReal)

variable (V : (c : Dev nD) → (b : Ref sig .tc) → Buf (Elt Ideal) ((c : Thread nD τ).loc b))

/-- The two planes of a step. -/
def planes (X : In) (k : ℕ) (i : Fin 4096) (c : Fin 1024) : ℝ := if k = 0 then X.dq i c else X.dg i c

/-- A step's gradients of the queries and of the gate's input. -/
theorem dz_block (c : Dev nD) (t : Fin cfg1.N) (X : In) (p : Fin 8)
    (hb : Bwd X p (iblk1 V c 0 t) (iblk1 V c 1 t) (iblk1 V c 2 t) (iblk1 V c 3 t) (iblk1 V c 4 t)) (k : Fin 2) (a : Fin 512) (b : Fin 1024) :
    (outsAt1 V c t.val t.isLt).1 (ix3 k a b) = (planes X k.val (row p a) b : EReal) := by
  by_cases h0 : t.val % 8 = 0
  on_goal 1 => rw [outsAt1_A V c t h0]
  on_goal 2 => rw [outsAt1_B V c t h0]
  on_goal 2 => generalize outsAt1 V c (t.val - 1) (Nat.lt_of_le_of_lt (Nat.sub_le _ _) t.isLt) = prev
  all_goals
    dsimp only
    revert hb
    generalize iblk1 V c 0 t = zq
    generalize iblk1 V c 1 t = zg
    generalize iblk1 V c 2 t = kv
    generalize iblk1 V c 3 t = pw
    generalize iblk1 V c 4 t = dy
    intro hb
    obtain ⟨hq, hg, hk, hp, hy⟩ := hb
    frame_out
    clear h0
    canon_tiles x h
    all_goals idx_vars x
    all_goals
      obtain rfl : x0 = 0 := Subsingleton.elim _ _
      have e0 : k = (⟨_, lt_of_eq_of_lt h0.symm k.isLt⟩ : Fin 2) := Fin.ext h0
      have e1 : a = (⟨_, lt_of_eq_of_lt h1.symm a.isLt⟩ : Fin 512) := Fin.ext h1
      have e2 : b = (⟨_, lt_of_eq_of_lt h2.symm b.isLt⟩ : Fin 1024) := Fin.ext h2
      rw [e0, e1, e2]
      open_payloads
      pointwise
      simp only [hq, hg, hk, hp, hy, half, sixteenth, Ideal.tanh_coe, ← EReal.coe_mul, ← EReal.coe_add, ← EReal.coe_sub, ← EReal.coe_one, coe_sum]
      simp only [ln0, ln1, ln2, ln3, kl0, kl1, kl2, kl3, vl0, vl1, vl2, vl3, P_lane, planes, In.dq, In.dg, In.ds, In.dp, In.dab, In.att, hd_lane, Cert.BranchA.sg, Fin.val_zero, Nat.add_zero, Nat.zero_add, if_true, if_neg one_ne_zero]

/-- A step's part of the gradient of the keys and values. -/
def part (X : In) (t : Fin 8) (i : Fin 256) (b : Fin 2048) : ℝ := ∑ a, X.g (row t a) i b

/-- The first step's part of the gradient of the keys and values. -/
theorem dkv_reset (c : Dev nD) (t : Fin cfg1.N) (X : In) (p : Fin 8)
    (hb : Bwd X p (iblk1 V c 0 t) (iblk1 V c 1 t) (iblk1 V c 2 t) (iblk1 V c 3 t) (iblk1 V c 4 t)) (h0 : t.val % 8 = 0) (i : Fin 256) (b : Fin 2048) :
    (outsAt1 V c t.val t.isLt).2 (ix2 i b) = (part X p i b : EReal) := by
  rw [outsAt1_A V c t h0]
  all_goals
    dsimp only
    revert hb
    generalize iblk1 V c 0 t = zq
    generalize iblk1 V c 1 t = zg
    generalize iblk1 V c 2 t = kv
    generalize iblk1 V c 3 t = pw
    generalize iblk1 V c 4 t = dy
    intro hb
    obtain ⟨hq, hg, hk, hp, hy⟩ := hb
    frame_open
    simp (disch := decide) only [↓ View.readCov_skip, ↓ View.readCov_cons_toLoadRect, ↓ View.readCov_fill]
    frame_out
    clear h0
    refine (canon_drop [_, _, _, _, _, _, _, _] [_] _ (View.cover_of_tiledBy _ ![256, 256] (by sl_kernel_rfl) _)).trans ?_
    canon_tiles x h
    all_goals idx_vars x
    all_goals
      have e0 : i = (⟨_, lt_of_eq_of_lt h0.symm i.isLt⟩ : Fin 256) := Fin.ext h0
      have e1 : b = (⟨_, lt_of_eq_of_lt h1.symm b.isLt⟩ : Fin 2048) := Fin.ext h1
      rw [e0, e1]
      open_payloads
      pointwise
      simp only [hq, hg, hk, hp, hy, half, sixteenth, Ideal.tanh_coe, ← EReal.coe_mul, ← EReal.coe_add, ← EReal.coe_sub, ← EReal.coe_one, coe_sum]
      simp only [ln0, ln1, ln2, ln3, kl0, kl1, kl2, kl3, vl0, vl1, vl2, vl3, P_lane, part, In.g_key, In.g_val, In.ds, In.dp, In.dab, Cert.BranchA.sg, Fin.val_zero, Nat.add_zero, Nat.zero_add]

/-- A later step adds its part. -/
theorem dkv_step (c : Dev nD) (t : Fin cfg1.N) (X : In) (p : Fin 8)
    (hb : Bwd X p (iblk1 V c 0 t) (iblk1 V c 1 t) (iblk1 V c 2 t) (iblk1 V c 3 t) (iblk1 V c 4 t)) (h0 : ¬ t.val % 8 = 0) (i : Fin 256) (b : Fin 2048) :
    (outsAt1 V c t.val t.isLt).2 (ix2 i b)
      = (outsAt1 V c (t.val - 1) (Nat.lt_of_le_of_lt (Nat.sub_le _ _) t.isLt)).2 (ix2 i b) + (part X p i b : EReal) := by
  rw [outsAt1_B V c t h0]
  generalize outsAt1 V c (t.val - 1) (Nat.lt_of_le_of_lt (Nat.sub_le _ _) t.isLt) = prev
  all_goals
    dsimp only
    revert hb
    generalize iblk1 V c 0 t = zq
    generalize iblk1 V c 1 t = zg
    generalize iblk1 V c 2 t = kv
    generalize iblk1 V c 3 t = pw
    generalize iblk1 V c 4 t = dy
    intro hb
    obtain ⟨hq, hg, hk, hp, hy⟩ := hb
    frame_open
    simp (disch := decide) only [↓ View.readCov_skip, ↓ View.readCov_cons_toLoadRect, ↓ View.readCov_fill]
    frame_out
    clear h0
    canon_tiles x h
    all_goals idx_vars x
    all_goals
      have e0 : i = (⟨_, lt_of_eq_of_lt h0.symm i.isLt⟩ : Fin 256) := Fin.ext h0
      have e1 : b = (⟨_, lt_of_eq_of_lt h1.symm b.isLt⟩ : Fin 2048) := Fin.ext h1
      rw [e0, e1]
      open_payloads
      pointwise
      simp only [hq, hg, hk, hp, hy, half, sixteenth, Ideal.tanh_coe, ← EReal.coe_mul, ← EReal.coe_add, ← EReal.coe_sub, ← EReal.coe_one, coe_sum]
      simp only [ln0, ln1, ln2, ln3, kl0, kl1, kl2, kl3, vl0, vl1, vl2, vl3, P_lane, part, In.g_key, In.g_val, In.ds, In.dp, In.dab, Cert.BranchA.sg, Fin.val_zero, Nat.add_zero, Nat.zero_add]

end Cert.BranchCKernel

end
-- ==== Proof.BranchCRun.lean ====
module

public import proofs.«01_k».proof.Proof.Gen.BranchCBwdIdeal.Frame

@[expose] public section

set_option maxRecDepth 16384

noncomputable section

/-! How the program of branch C's two calls ends. -/

namespace Cert.BranchCRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.BranchCBwdIdeal Cert.BranchCBwdIdeal.Gen

variable {F : FTy → Type} [FloatOps F]
variable (m : (ℓ : Loc nD τ sig) → Buf (Elt F) ℓ) (ρ : Dev nD → PrngReg)

set_option backward.isDefEq.respectTransparency.types false in
/-- The program ends with every buffer outside the calls as the second call leaves it. -/
theorem ends : θ_run defs (onTc (τ := τ) (main (F := F))) ⟨m, fun _ => 0, ρ⟩ fun r => ∀ c : Dev nD, ∀ b ∈ Pipeline.ucRefs τ sig,
      r.2.mem ((c : Thread nD τ).1, b) = W3 m ρ c b := by
  refine Pipeline.θ_run_regions_kit (pcfgs (F := F)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩) (hinit := ?_)
    (QY := fun c s => ∀ b ∈ Pipeline.ucRefs τ sig, s.mem ((c : Thread nD τ).1, b) = W3 m ρ c b) (hfin := fun c s' => ?_)
    (hQ := fun s h => h)
  · simp only [segs, Pipeline.Seg.pipes_host, Pipeline.Seg.pipes_region, Pipeline.Seg.pipes_nil]
    decide
  · have e : (BI.emp : sProp (MT nD τ sig Unit (Elt F) ℕ (UR sig nD τ) ℕ)) ⊢ bigSep Finset.univ fun _ : Dev nD => BI.emp := by
      rw [BI.bigSep_emp_const]
    have o : ∀ u : UR sig nD τ, (ownU u : sProp (MT nD τ sig Unit (Elt F) ℕ (UR sig nD τ) ℕ)) ⊢ BI.own (emb₁ u) := fun u => .rfl
    iintro H
    imodintro
    isplitl [H]
    · iapply (o _)
      iexact H
    · iapply e
      iempintro
  · refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hb, -, Ho, -, Hg, -⟩, -⟩
    imodintro
    isplitl [Hb]
    · iexact Hb
    isplitl [Hg]
    · iexists _; iexact Hg
    · iexists ∅; iexact Ho
  · iintro ⟨⟨Hb, -⟩, Hs⟩
    unfold StableHlo.held
    imodintro
    iapply (pointsTo_read_all (Pipeline.ucRefs τ sig) (fun b => ((c : Thread nD τ).1, b)) (W3 m ρ c) s')
    isplitl [Hb] <;> iassumption

end Cert.BranchCRun

end
-- ==== Proof.BranchCRef.lean ====
module

public import proofs.«01_k».proof.Defs
public import proofs.«01_k».proof.Proof.Gen.BranchCBwdRefIdeal.Read
public import proofs.«01_k».proof.Proof.BranchCModel
public import Idealize.ShloMosaic.Lib.Pipeline.ValueKit
public import Idealize.ShloMosaic.Lib.Pipeline.ReadBack
public import Idealize.ShloMosaic.Lib.Quiescent

@[expose] public section

set_option maxRecDepth 16384

noncomputable section

/-! Branch C's reference gradient, stage by stage, read over the reals. -/

namespace Cert.BranchCRef

open Idealize.ShloMosaic Idealize.ShloMosaic.TcCoe Idealize.SL.Sem

open Cert.BranchCBwdRefIdeal Read Cert.BranchC Cert.Finite

/-- The argument arrays hold real numbers. -/
structure Arr (X : In) (x0 : Vec Ideal S4096x10240 .bf16) (x1 : Vec Ideal S256x2048 .bf16) (x2 : Vec Ideal S4096x1024 .bf16) : Prop where
  q : ∀ R (c : Fin 1024), x0 (ix2 R ⟨5120 + c.val, by omega⟩) = (X.Q R c : EReal)
  g : ∀ R (c : Fin 1024), x0 (ix2 R ⟨6144 + c.val, by omega⟩) = (X.G R c : EReal)
  kv : ∀ m c, x1 (ix2 m c) = (X.KV m c : EReal)
  dy : ∀ R c, x2 (ix2 R c) = (X.DY R c : EReal)

theorem lane_mk (h : Fin 4) (j : Fin 256) (e) : (⟨h.val * 256 + j.val, e⟩ : Fin 1024) = lane h j := Fin.ext (by simp only [lane]; omega)
theorem key_mk (h : Fin 4) (j : Fin 256) (e) : (⟨h.val * 256 + j.val, e⟩ : Fin 2048) = kc (lane h j) := Fin.ext (by simp only [lane, kc]; omega)
theorem val_mk (h : Fin 4) (j : Fin 256) (e) : (⟨1024 + (h.val * 256 + j.val), e⟩ : Fin 2048) = vc (lane h j) := Fin.ext (by simp only [lane, vc]; omega)
theorem hd_def (c : Fin 1024) (e) : (⟨c.val / 256, e⟩ : Fin 4) = hd c := rfl
theorem lane_div (c : Fin 1024) (h) : lane (hd c) ⟨c.val % 256, h⟩ = c := Fin.ext (by simp only [lane, hd]; omega)
theorem vc_div (c : Fin 1024) (h) : vc (lane (hd c) ⟨c.val % 256, h⟩) = vc c := congrArg vc (lane_div c h)

section
variable {X : In} {x0 : Vec Ideal S4096x10240 .bf16} {x1 : Vec Ideal S256x2048 .bf16} {x2 : Vec Ideal S4096x1024 .bf16}
  (hx : Arr X x0 x1 x2)
include hx

theorem r_q (R : Fin 4096) (h : Fin 4) (j : Fin 256) : val_main_v5 (F := Ideal) x0 (ix3 R h j) = (X.Q R (lane h j) : EReal) := by
  simp only [val_main_v5, val_main_v1, val_main_v0]
  pointwise
  rw [← hx.q]
  exact congrArg x0 (congrArg (ix2 R) (Fin.ext (by simp only [lane]; omega)))

theorem r_k (m : Fin 256) (h : Fin 4) (j : Fin 256) : val_main_v7 (F := Ideal) x1 (ix3 m h j) = (X.KV m (kc (lane h j)) : EReal) := by
  simp only [val_main_v7, val_main_v6, val_main_v4]
  pointwise
  rw [← hx.kv]
  exact congrArg x1 (congrArg (ix2 m) (Fin.ext (by simp only [lane, kc]; omega)))

theorem r_v (m : Fin 256) (h : Fin 4) (j : Fin 256) : val_main_v9 (F := Ideal) x1 (ix3 m h j) = (X.KV m (vc (lane h j)) : EReal) := by
  simp only [val_main_v9, val_main_v8, val_main_v4]
  pointwise
  rw [← hx.kv]
  exact congrArg x1 (congrArg (ix2 m) (Fin.ext (by simp only [lane, vc]; omega)))

/-- The scores. -/
theorem r_s (h : Fin 4) (R : Fin 4096) (m : Fin 256) : val_main_v12 (F := Ideal) x0 x1 (ix3 h R m) = (X.s R h m : EReal) := by
  have h1 := r_q hx
  have h2 := r_k hx
  simp only [val_main_v12, val_main_v11, val_main_v10, val_main_cst]
  generalize val_main_v5 (F := Ideal) x0 = y at h1
  generalize val_main_v7 (F := Ideal) x1 = z at h2
  pointwise
  simp only [h1, h2, sixteenth, ← EReal.coe_mul, coe_sum, In.s]

omit hx in
theorem bot_init : val_main_cst_0 (F := Ideal) (Shape.Idx.first Gen.h_S_) = (⊥ : EReal) := neg_inf

omit hx in
theorem r_max0 (y : Vec Ideal S4x4096x256 .f32) (h : Fin 4) (R : Fin 4096) :
    Host.reduce (FloatOps.maximumf (F := Ideal) (φ := .f32)) y (val_main_cst_0 (F := Ideal)) Gen.reducesTo_S4x4096x256_S4x4096_d2 Gen.h_S_ (ix2 h R)
      = (Finset.univ : Finset (Fin 256)).fold max (⊥ : EReal) fun k => y (ix3 h R k) :=
  (reduce_max _ y _ _ h R).trans (congrArg (fun z => Finset.univ.fold max z fun k => y (ix3 h R k)) bot_init)

/-- The row's shift: a real number. -/
theorem r_max1 (h : Fin 4) (R : Fin 4096) : ∃ M : ℝ, val_main_v13 (F := Ideal) x0 x1 (ix2 h R) = (M : EReal) := by
  obtain ⟨M, hM⟩ := max_real fun m => X.s R h m
  refine ⟨M, ?_⟩
  unfold val_main_v13
  refine (r_max0 _ h R).trans (Eq.trans ?_ hM)
  exact congrArg (Finset.univ.fold max ⊥) (funext fun k => r_s hx h R k)

theorem r_max (h : Fin 4) (R : Fin 4096) : ∃ M : ℝ, val_main_v20 (F := Ideal) x0 x1 (ix2 h R) = (M : EReal) := by
  obtain ⟨M, h2⟩ := r_max1 hx h R
  refine ⟨M, ?_⟩
  rw [val_main_v20_apply, val_main_v19_apply, val_main_cst_2_apply, h2]
  exact (congrArg (max · (M : EReal)) neg_inf).trans (max_eq_right bot_le)

/-- The shifted exponentials, their sum, the weights. -/
theorem r_p (h : Fin 4) (R : Fin 4096) : ∃ M : ℝ,
    (∀ m, val_main_v33 (F := Ideal) x0 x1 (ix3 h R m) = (Real.exp (X.s R h m - M) : EReal))
    ∧ val_main_v35 (F := Ideal) x0 x1 (ix3 h R 0) = ((∑ k, Real.exp (X.s R h k - M) : ℝ) : EReal) := by
  obtain ⟨M, hM⟩ := r_max hx h R
  have h1 := r_s hx
  have h3 : ∀ m, val_main_v33 (F := Ideal) x0 x1 (ix3 h R m) = (Real.exp (X.s R h m - M) : EReal) := fun m => by
    simp only [val_main_v33, val_main_v32, val_main_v31, val_main_v30]
    generalize val_main_v12 (F := Ideal) x0 x1 = y at h1
    generalize val_main_v20 (F := Ideal) x0 x1 = z at hM
    pointwise
    simp only [h1, hM, ← EReal.coe_sub, Ideal.exp_coe]
  refine ⟨M, h3, ?_⟩
  simp only [val_main_v35, val_main_v34, val_main_cst_8]
  generalize val_main_v33 (F := Ideal) x0 x1 = y at h3
  pointwise
  simp only [h3, coe_sum]

theorem r_w (h : Fin 4) (R : Fin 4096) (m : Fin 256) : val_main_v37 (F := Ideal) x0 x1 (ix3 h R m) = (X.p R h m : EReal) := by
  obtain ⟨M, h3, h4⟩ := r_p hx h R
  simp only [val_main_v37, val_main_v36]
  generalize val_main_v33 (F := Ideal) x0 x1 = y at h3
  generalize val_main_v35 (F := Ideal) x0 x1 = z at h4
  pointwise
  simp only [h3, h4]
  rw [div_real (sum_exp_pos fun j => X.s R h j - M).ne', softmax_shift, In.p]

theorem r_att (R : Fin 4096) (c : Fin 1024) : val_main_v43 (F := Ideal) x0 x1 (ix2 R c) = (X.att R c : EReal) := by
  have h1 := r_w hx
  have h2 := r_v hx
  simp only [val_main_v43, val_main_v42, val_main_v41]
  generalize val_main_v37 (F := Ideal) x0 x1 = y at h1
  generalize val_main_v9 (F := Ideal) x1 = z at h2
  pointwise
  simp only [h1, h2, ← EReal.coe_mul, coe_sum, hd_def, vc_div, In.att]
  exact congrArg _ (Finset.sum_congr rfl fun k _ => mul_comm _ _)

/-- The gate's logistic. -/
theorem r_sg (R : Fin 4096) (c : Fin 1024) : val_main_v44_2 (F := Ideal) x0 (ix2 R c) = (Cert.BranchA.sg (X.G R c) : EReal)
    ∧ val_main_v3 (F := Ideal) x0 (ix2 R c) = (X.G R c : EReal) := by
  have h : 1 + Real.exp (-(X.G R c)) ≠ 0 := (add_pos one_pos (Real.exp_pos _)).ne'
  simp only [val_main_v44_2, val_main_call0_v4, val_main_call0_v3, val_main_call0_v2, val_main_call0_v1, val_main_call0_v0,
    val_main_call0_cst, val_main_call0_cst_0, val_main_v3, val_main_v2]
  constructor <;> pointwise <;> simp only [hx.g]
  simp only [← EReal.coe_neg, Ideal.exp_coe, ← EReal.coe_one, ← EReal.coe_add, div_real h, logistic_eq, Cert.BranchA.sg]

/-- The gradients at the gate's input and at the attention. -/
theorem r_gate (R : Fin 4096) (c : Fin 1024) : val_main_v49 (F := Ideal) x0 x1 x2 (ix2 R c) = (X.dg R c : EReal)
    ∧ val_main_v48 (F := Ideal) x0 x2 (ix2 R c) = (X.dab R c : EReal) := by
  obtain ⟨h1, h2⟩ := r_sg hx R c
  have h3 := r_att hx R c
  simp only [val_main_v49, val_main_call1_v2, val_main_call1_v1, val_main_call1_v0, val_main_v48, val_main_v47, val_main_v46,
    val_main_v44_0, val_main_v44_1, val_main_call0_v7, val_main_call0_v6, val_main_call0_cst_1]
  generalize val_main_v44_2 (F := Ideal) x0 = y at h1
  generalize val_main_v3 (F := Ideal) x0 = z at h2
  generalize val_main_v43 (F := Ideal) x0 x1 = w at h3
  constructor <;> pointwise <;> simp only [h1, h2, h3, hx.dy, ← EReal.coe_mul, ← EReal.coe_add, ← EReal.coe_sub, ← EReal.coe_one]
  · exact congrArg _ (by simp only [In.dg]; ring)
  · simp only [In.dab]

/-- The gradient at the weights. -/
theorem r_dab (h : Fin 4) (d : Fin 256) (R : Fin 4096) : val_main_v51 (F := Ideal) x0 x2 (ix3 h d R) = (X.dab R (lane h d) : EReal) := by
  have h1 := fun R c => (r_gate hx R c).2
  simp only [val_main_v51, val_main_v50]
  generalize val_main_v48 (F := Ideal) x0 x2 = y at h1
  pointwise
  simp only [h1, lane_mk]

theorem r_dp (h : Fin 4) (R : Fin 4096) (m : Fin 256) : val_main_v52 (F := Ideal) x0 x1 x2 (ix3 h R m) = (X.dp R h m : EReal) := by
  have h1 := r_dab hx
  have h2 := r_v hx
  simp only [val_main_v52]
  generalize val_main_v51 (F := Ideal) x0 x2 = y at h1
  generalize val_main_v9 (F := Ideal) x1 = z at h2
  pointwise
  simp only [h1, h2, ← EReal.coe_mul, coe_sum, In.dp]

omit hx in
/-- A sum of one term. -/
theorem sum_one (a : ℝ) : ∑ _i : Fin 1, a = a := Fin.sum_univ_one _

omit hx in
/-- The softmax's gradient through its quotient and its exponentials. -/
theorem soft_grad {ι : Type} [Fintype ι] [Nonempty ι] (s d : ι → ℝ) (M : ℝ) (k : ι) :
    (d k / (∑ j, Real.exp (s j - M)) + -(∑ j, d j * (1 / ((∑ j, Real.exp (s j - M)) * ∑ j, Real.exp (s j - M))) * Real.exp (s j - M)))
      * Real.exp (s k - M)
    = Real.exp (s k) / (∑ j, Real.exp (s j)) * (d k - ∑ j, Real.exp (s j) / (∑ i, Real.exp (s i)) * d j) := by
  simp only [← softmax_shift s M]
  have hS := (sum_exp_pos fun j => s j - M).ne'
  generalize (∑ j, Real.exp (s j - M)) = S at hS
  have e : ∑ j, d j * (1 / (S * S)) * Real.exp (s j - M) = (∑ j, Real.exp (s j - M) / S * d j) / S := by
    rw [Finset.sum_div]
    exact Finset.sum_congr rfl fun j _ => by field_simp
  rw [e]
  field_simp
  ring

/-- The gradient at the scores. -/
theorem r_ds (h : Fin 4) (R : Fin 4096) (m : Fin 256) : val_main_v68 (F := Ideal) x0 x1 x2 (ix3 h R m) = (X.ds R h m : EReal) := by
  obtain ⟨M, h3, h4⟩ := r_p hx h R
  have h5 := r_dp hx h R
  have hS := (sum_exp_pos fun j => X.s R h j - M).ne'
  have hS2 := mul_ne_zero hS hS
  simp only [val_main_v68, val_main_v67, val_main_v66, val_main_v65, val_main_v64, val_main_v63, val_main_v62, val_main_v61,
    val_main_v60, val_main_v59, val_main_v58, val_main_v57, val_main_v56, val_main_v55, val_main_v40, val_main_v39, val_main_v38,
    val_main_cst_9, val_main_cst_10, val_main_cst_11, val_main_cst_12]
  generalize val_main_v33 (F := Ideal) x0 x1 = y at h3
  generalize val_main_v35 (F := Ideal) x0 x1 = z at h4
  generalize val_main_v52 (F := Ideal) x0 x1 x2 = w at h5
  pointwise
  simp only [h3, h4, h5, sixteenth, ← EReal.coe_mul, ← EReal.coe_add, ← EReal.coe_neg, ← EReal.coe_one, div_real hS, div_real hS2, coe_sum]
  rw [sum_one, soft_grad (X.s R h) (X.dp R h) M m]
  simp only [In.ds, In.p]

theorem r_dq (R : Fin 4096) (c : Fin 1024) : val_main_v78 (F := Ideal) x0 x1 x2 (ix2 R c) = (X.dq R c : EReal) := by
  have h1 := r_ds hx
  have h2 := r_k hx
  simp only [val_main_v78, val_main_v72, val_main_v71]
  generalize val_main_v68 (F := Ideal) x0 x1 x2 = y at h1
  generalize val_main_v7 (F := Ideal) x1 = z at h2
  pointwise
  simp only [h1, h2, ← EReal.coe_mul, coe_sum, hd_def, lane_div, In.dq]

theorem r_dk (m : Fin 256) (c : Fin 1024) : val_main_v75 (F := Ideal) x0 x1 x2 (ix2 m c) = (X.dk m c : EReal) := by
  have h1 := r_ds hx
  have h2 := r_q hx
  simp only [val_main_v75, val_main_v70, val_main_v69]
  generalize val_main_v68 (F := Ideal) x0 x1 x2 = y at h1
  generalize val_main_v5 (F := Ideal) x0 = z at h2
  pointwise
  simp only [h1, h2, ← EReal.coe_mul, coe_sum, hd_def, lane_div, In.dk]

theorem r_dv (m : Fin 256) (c : Fin 1024) : val_main_v73 (F := Ideal) x0 x1 x2 (ix2 m c) = (X.dv m c : EReal) := by
  have h1 := r_w hx
  have h2 := r_dab hx
  simp only [val_main_v73, val_main_v54, val_main_v53]
  generalize val_main_v37 (F := Ideal) x0 x1 = y at h1
  generalize val_main_v51 (F := Ideal) x0 x2 = z at h2
  pointwise
  simp only [h1, h2, ← EReal.coe_mul, coe_sum, hd_def, lane_div, In.dv]
  exact congrArg _ (Finset.sum_congr rfl fun k _ => mul_comm _ _)

/-- The gradient of the memory's keys and values. -/
theorem r_dkv (m : Fin 256) (b : Fin 2048) : val_main_v77 (F := Ideal) x0 x1 x2 (ix2 m b) = ((∑ R, X.g R m b : ℝ) : EReal) := by
  have h1 := r_dk hx
  have h2 := r_dv hx
  simp only [val_main_v77, val_main_v76, val_main_v74, val_main_cst_13, val_main_cst_14]
  generalize val_main_v75 (F := Ideal) x0 x1 x2 = y at h1
  generalize val_main_v73 (F := Ideal) x0 x1 x2 = z at h2
  pointwise
  by_cases e : b.val < 1024
  · have e' : ¬ (1024 ≤ b.val ∧ b.val - 1024 < 1024) := fun h => absurd e (Nat.not_lt.mpr h.1)
    simp [h1, h2, In.g, e, e', In.dk, In.dv]
  · have e' : 1024 ≤ b.val ∧ b.val - 1024 < 1024 := ⟨Nat.not_lt.mp e, by omega⟩
    simp [h1, h2, In.g, e, e', In.dk, In.dv]

/-- The first result, plane by plane. -/
theorem r_dz (x3 : Vec Ideal S10x4096x1024 .bf16) (k : Fin 10) (R : Fin 4096) (b : Fin 1024) : val_main_v84 (F := Ideal) x0 x1 x2 x3 (ix3 k R b)
    = if k.val < 8 then x3 (ix3 k R b) else if k.val = 8 then (X.dq R b : EReal) else (X.dg R b : EReal) := by
  have h1 := r_dq hx R b
  have h2 := (r_gate hx R b).1
  simp only [val_main_v84, val_main_v83, val_main_v82, val_main_v81, val_main_v80, val_main_v79]
  pointwise
  by_cases e : k.val < 8
  · simp [h1, h2, e]
  · by_cases e' : k.val = 8
    · simp [h1, h2, e, e']
    · have := k.isLt
      simp [h1, h2, e, e']
      intro h
      omega

end
end Cert.BranchCRef

end
-- ==== Proof.BranchCBwd.lean ====
/- The value claim of `_branch_c_bwd`, the weights saved by `_branch_c` before it in the same program: from real arguments
   the two results are the reference's (hand-written, untrusted). -/
module

public import proofs.«01_k».proof.Defs
public import proofs.«01_k».proof.Proof.BranchCKernel
public import proofs.«01_k».proof.Proof.BranchCRun
public import proofs.«01_k».proof.Proof.BranchCRef
public import proofs.«01_k».proof.Proof.Gen.BranchCBwdRefIdeal.Run
public import Idealize.ShloMosaic.Lib.Quiescent

@[expose] public section

set_option maxRecDepth 16384

noncomputable section

namespace Cert.BranchCBwdProof

open Idealize.ShloMosaic Idealize.ShloMosaic.TcCoe Idealize.SL.Sem
open Cert.BranchCBwdIdeal Cert.BranchCBwdIdeal.Gen Cert.Finite Cert.BranchC Cert.BranchCKernel

/-- Arguments that pass the test are real arrays. -/
theorem arr_of_pre [Cert.Pre_c_finite.Facts] (x0 : Vec Ideal S4096x10240 .bf16) (x1 : Vec Ideal S256x2048 .bf16)
    (x2 : Vec Ideal S4096x1024 .bf16) (x3 : Vec Ideal S10x4096x1024 .bf16)
    (h : Cert.Pre_c_finite.fn (F := Ideal) x0 x1 x2 x3 = fun _ => 1#1) : ∃ X, Cert.BranchCRef.Arr X x0 x1 x2 := by
  have h := congrFun h (fun i : Fin 0 => i.elim0)
  unfold Cert.Pre_c_finite.fn at h
  obtain ⟨h, h2⟩ := andi_one _ _ h
  obtain ⟨h0, h1⟩ := andi_one _ _ h
  haveI : Subsingleton Cert.Pre_c_finite.S_.Idx := ⟨fun a b => funext fun i : Fin 0 => i.elim0⟩
  have h0 := of_reduce _ _ (fun _ => inf) _ _ _ _ h0
  have h1 := of_reduce _ _ (fun _ => inf) _ _ _ _ h1
  have h2 := of_reduce _ _ (fun _ => inf) _ _ _ _ h2
  choose f0 h0 using h0
  choose f1 h1 using h1
  choose f2 h2 using h2
  have g0 : ∀ (R : Fin 4096) (C : Fin 2048) (C' : Fin 10240), C'.val = 5120 + C.val →
      x0 (ix2 R C') = (f0 (ix2 R C) : EReal) := fun R C C' e => by
    rw [← h0]
    pointwise
    exact congrArg x0 (congrArg (ix2 R) (Fin.ext e))
  refine ⟨{ Q := fun R c => f0 (ix2 R ⟨c.val, by omega⟩)
            G := fun R c => f0 (ix2 R ⟨1024 + c.val, by omega⟩)
            DY := fun R c => f2 (ix2 R c)
            KV := fun m c => f1 (ix2 m c) }, ?_⟩
  constructor
  · exact fun R c => g0 _ _ _ rfl
  · exact fun R c => g0 _ _ _ (by dsimp only; omega)
  · exact fun m c => h1 _
  · exact fun R c => h2 _

/-- A sum over the rows, step by step. -/
theorem sum_rows (f : Fin 4096 → ℝ) : ∑ s : Fin 8, ∑ a : Fin 512, f (row s a) = ∑ R, f R :=
  Fin.sum_mul_add_congr (S := 8) (n := 512) (F := fun s a => f (row s a)) (f := f)
    (fun s a hl => congrArg f (Fin.ext (by simp only [row]; omega)))

variable (m : (ℓ : Loc nD τ sig) → Buf (Elt Ideal) ℓ) (ρ : Dev nD → PrngReg)

theorem idx0 : ∀ t : Fin cfg0.N, win0_0.index t = ![t.val, 5] ∧ win0_1.index t = ![t.val, 6] ∧ win0_2.index t = ![0, 0]
    ∧ win0_4.index t = ![t.val, 0] :=
  (by decide +kernel : ∀ t : Fin grid0.N, _)

theorem idx1 : ∀ t : Fin cfg1.N, win1_0.index t = ![t.val, 5] ∧ win1_1.index t = ![t.val, 6] ∧ win1_2.index t = ![0, 0]
    ∧ win1_3.index t = ![t.val, 0] ∧ win1_4.index t = ![t.val, 0] ∧ win1_5.index t = ![4, t.val, 0] ∧ win1_6.index t = ![0, 0] :=
  (by decide +kernel : ∀ t : Fin grid1.N, _)

/-- The arrays of core `c` are real. -/
abbrev Real (c : Dev nD) (X : In) : Prop := Cert.BranchCRef.Arr X (m ((c.tc : Thread nD τ).loc main_arg0)) (m ((c.tc : Thread nD τ).loc main_arg1))
  (m ((c.tc : Thread nD τ).loc main_arg2))

/-- A grid point of the first call, of the second, as a step. -/
def pt0 (t : Fin cfg0.N) : Fin 8 := ⟨t.val, lt_of_lt_of_eq t.isLt N_0⟩
def pt1 (t : Fin cfg1.N) : Fin 8 := ⟨t.val, lt_of_lt_of_eq t.isLt N_1⟩

/-- The forward call's blocks hold the real arrays. -/
theorem fwd (c : Dev nD) (t : Fin cfg0.N) (X : In) (h : Real m c X) : Fwd X (pt0 t) (iblk0 (V0 m ρ) c 0 t) (iblk0 (V0 m ρ) c 2 t) := by
  have hN := lt_of_lt_of_eq t.isLt N_0
  constructor
  · intro a b
    rw [← h.q]
    blk_ext [iblk0, V0, W0, idx0 _, row, pt0]
  · intro a b
    rw [← h.kv]
    blk_ext [iblk0, V0, W0, idx0 _]

/-- The weights that the forward call leaves for the backward call. -/
theorem left (c : Dev nD) (X : In) (h : Real m c X) : V2 m ρ c main_v0_1 = fun j => (X.P (j 0) (j 1) : EReal) := by
  refine (W2_of m ρ c main_v0_1 (by decide)).trans ((W1_arr m ρ c 4).trans ?_)
  refine (dat0 (V0 m ρ) c).arrAt_eq_of_covers 4 _ (by decide +kernel) fun t hf y => ?_
  have hN := lt_of_lt_of_eq t.isLt N_0
  blk_simp
  rw [after0_4]
  obtain ⟨a, b, rfl⟩ : ∃ a b, y = ix2 a b := ⟨_, _, ValueIdx.eq_ix2 y⟩
  refine (saved X (pt0 t) _ _ _ (fwd m ρ c t X h) a b).trans ?_
  have e : (win0_4.blk t).view.emb (ix2 a b) = ix2 (row (pt0 t) a) b := by blk_ext [idx0 _, row, pt0]
  exact (congrArg (fun j : S4096x1024.Idx => ((X.P (j 0) (j 1) : ℝ) : EReal)) e).symm

/-- The backward call's blocks hold the real arrays. -/
theorem bwd (c : Dev nD) (t : Fin cfg1.N) (X : In) (h : Real m c X) : Bwd X (pt1 t) (iblk1 (V2 m ρ) c 0 t) (iblk1 (V2 m ρ) c 1 t)
    (iblk1 (V2 m ρ) c 2 t) (iblk1 (V2 m ρ) c 3 t) (iblk1 (V2 m ρ) c 4 t) := by
  have hN := lt_of_lt_of_eq t.isLt N_1
  have v0 := W2_args m ρ c main_arg0 (by decide)
  have v1 := W2_args m ρ c main_arg1 (by decide)
  have v2 := W2_args m ρ c main_arg2 (by decide)
  have v3 := left m ρ c X h
  constructor
  · intro a b
    refine Eq.trans ?_ ((congrFun v0 _).trans (h.q _ _))
    blk_ext [iblk1, idx1 _, row, pt1]
  · intro a b
    refine Eq.trans ?_ ((congrFun v0 _).trans (h.g _ _))
    blk_ext [iblk1, idx1 _, row, pt1]
  · intro a b
    refine Eq.trans ?_ ((congrFun v1 _).trans (h.kv _ _))
    blk_ext [iblk1, idx1 _]
  · intro a b
    refine Eq.trans ?_ (congrFun v3 (ix2 (row (pt1 t) a) b))
    blk_ext [iblk1, idx1 _, row, pt1]
  · intro a b
    refine Eq.trans ?_ ((congrFun v2 _).trans (h.dy _ _))
    blk_ext [iblk1, idx1 _, row, pt1]

theorem real_sum (f : Fin 8 → ℝ) (t : ℕ) (ht : t / 8 = 0) (h : ∀ s : Fin 8, 8 * (t / 8) + s.val < cfg1.N) :
    ∑ s : Fin 8, ((f (pt1 ⟨8 * (t / 8) + s.val, h s⟩) : ℝ) : EReal) = ((∑ s, f s : ℝ) : EReal) := by
  rw [← coe_sum]
  refine Finset.sum_congr rfl fun s _ => congrArg (fun z => ((f z : ℝ) : EReal)) (Fin.ext ?_)
  simp only [pt1]
  omega

/-- After the last step: the gradient of the memory's keys and values. -/
theorem dkv_last (c : Dev nD) (X : In) (hX : Real m c X) (t : Fin cfg1.N) (ht : t.val % 8 = 7) (i : Fin 256) (b : Fin 2048) :
    (outsAt1 (V2 m ρ) c t.val t.isLt).2 (ix2 i b) = ((∑ R, X.g R i b : ℝ) : EReal) := by
  have hN := lt_of_lt_of_eq t.isLt N_1
  have h := Pipeline.eq_sum_fin_of_reset_step_apply_of_flush (fun n h => (outsAt1 (V2 m ρ) c n h).2) 8 (fun _ => (0 : EReal))
    (fun t j => (part X (pt1 t) (j 0) (j 1) : EReal))
    (fun t h0 j => by
      rw [zero_add]
      obtain ⟨a, b, rfl⟩ : ∃ a b, j = ix2 a b := ⟨_, _, ValueIdx.eq_ix2 j⟩
      exact dkv_reset (V2 m ρ) c t X (pt1 t) (bwd m ρ c t X hX) h0 a b)
    (fun t h0 j => by
      obtain ⟨a, b, rfl⟩ : ∃ a b, j = ix2 a b := ⟨_, _, ValueIdx.eq_ix2 j⟩
      exact dkv_step (V2 m ρ) c t X (pt1 t) (bwd m ρ c t X hX) h0 a b)
    t ht (ix2 i b)
  refine h.trans ?_
  rw [zero_add]
  refine (real_sum (fun s => part X s i b) _ (by omega) _).trans (congrArg _ ?_)
  exact sum_rows fun R => X.g R i b

/-- What the second call's first result holds where it is not written. -/
theorem V2_v1 (c : Dev nD) : V2 m ρ c main_v1_0 = m ((c.tc : Thread nD τ).loc main_arg3) := by
  refine Eq.trans ?_ (W1_args m ρ c main_arg3 (by decide))
  simp only [V2, W2, hostOps1]
  after_results_simp
  rfl

/-- The two planes among the ten. -/
theorem planes_eq (X : In) (w : EReal) (k : ℕ) (R : Fin 4096) (b : Fin 1024) : (planes X k R b : EReal)
    = if 8 + k < 8 then w else if 8 + k = 8 then (X.dq R b : EReal) else (X.dg R b : EReal) := by
  rw [if_neg (by omega), planes]
  by_cases h : k = 0
  · rw [if_pos h, if_pos (by omega)]
  · rw [if_neg h, if_neg (by omega)]

section
variable (X : Dev nD → In) (hX : ∀ c, Real m c (X c))
include hX

/-- The program's run: the two results, the arguments unchanged. -/
theorem run : θ_run defs (onTc (τ := τ) (main (F := Ideal))) ⟨m, fun _ => 0, ρ⟩ fun r => ∀ c : Dev nD,
      r.2.mem ((c.tc : Thread nD τ).loc main_v1_0) = Cert.BranchCBwdRefIdeal.Read.val_main_v84 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_1) = Cert.BranchCBwdRefIdeal.Read.val_main_v77 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c _ (mem_uc main_v1_0 (by decide))).trans ((W3_arr m ρ c 5).trans ?_),
    (h c _ (mem_uc main_v1_1 (by decide))).trans ((W3_arr m ρ c 6).trans ?_),
    (h c _ (mem_uc main_arg0 (by decide))).trans (W3_main_arg0 m ρ c), (h c _ (mem_uc main_arg1 (by decide))).trans (W3_main_arg1 m ρ c),
    (h c _ (mem_uc main_arg2 (by decide))).trans (W3_main_arg2 m ρ c), (h c _ (mem_uc main_arg3 (by decide))).trans (W3_main_arg3 m ρ c)⟩)
    (Cert.BranchCRun.ends m ρ)
  · refine (dat1 (V2 m ρ) c).arrAt_eq_of_coversWhere_of_agree 5 _ (fun β => β (0 : Fin 3) = 4) (by decide +kernel) (fun t hf y => ?_) (fun j hj => ?_)
    · have hN := lt_of_lt_of_eq t.isLt N_1
      blk_simp
      rw [after1_5]
      obtain ⟨z, hz⟩ : ∃ z : S2x512x1024.Idx, (cfg1.win 5).xinj (cfg1.grid.coords t) y = z := ⟨_, rfl⟩
      have hz0 : (z 0).val = (y 0).val := by rw [← hz]
      have hz1 : (z 1).val = (y 1).val := by rw [← hz]
      have hz2 : (z 2).val = (y 2).val := by rw [← hz]
      have h2 : (z 0).val < 2 := (z 0).isLt
      have e : (win1_5.blk t).view.emb y = ix3 ⟨8 + (z 0).val, by omega⟩ (row (pt1 t) (z 1)) (z 2) := by blk_ext [idx1 _, row, pt1]
      refine Eq.trans (b := (outsAt1 (V2 m ρ) c t.val t.isLt).1 (ix3 (z 0) (z 1) (z 2))) (by rw [← hz]; exact congrArg _ (ValueIdx.eq_ix3 _)) ?_
      refine (dz_block (V2 m ρ) c t (X c) (pt1 t) (bwd m ρ c t (X c) (hX c)) (z 0) (z 1) (z 2)).trans (Eq.trans ?_ (congrArg _ e).symm)
      refine Eq.trans ?_ (Cert.BranchCRef.r_dz (hX c) _ ⟨8 + (z 0).val, by omega⟩ (row (pt1 t) (z 1)) (z 2)).symm
      exact planes_eq (X c) _ _ _ _
    · obtain ⟨a, b, d, rfl⟩ : ∃ (a : Fin 10) (b : Fin 4096) (d : Fin 1024), j = ix3 a b d := ⟨_, _, _, ValueIdx.eq_ix3 j⟩
      have h3 : a.val < 8 := by
        blk_simp [Pipeline.Window.cell_apply] at hj
        omega
      refine (congrFun (V2_v1 m ρ c) (ix3 a b d)).trans (Eq.symm ((Cert.BranchCRef.r_dz (hX c) _ a b d).trans ?_))
      rw [if_pos h3]
  · refine (dat1 (V2 m ρ) c).arrAt_eq_of_covers 6 _ (by decide +kernel) fun t hf y => ?_
    have ht := (flush1_6 t).mp hf
    blk_simp
    rw [after1_6]
    obtain ⟨a, b, rfl⟩ : ∃ a b, y = ix2 a b := ⟨_, _, ValueIdx.eq_ix2 y⟩
    refine (dkv_last m ρ c (X c) (hX c) t ht a b).trans ((Cert.BranchCRef.r_dkv (hX c) a b).symm.trans ?_)
    blk_ext [idx1 _]

end

/-- The claim: from real arguments on which the two memories agree, kernel and reference end with equal results. -/
theorem algebraic [Cert.Pre_c_finite.Facts] : algebraic_BranchCBwdIdeal_BranchCBwdRefIdeal_pre_c_finite := by
  intro m g m' g' hpre hag
  choose X hX using fun c => arr_of_pre _ _ _ _ (hpre c)
  refine ⟨_, _, run m g X hX, (θ_run _ _ _).mono (fun r h c => ?_) (Cert.BranchCBwdRefIdeal.Value.run (F := Ideal) m' g')⟩
  obtain ⟨h0, h1, h2⟩ := h c
  obtain ⟨e0, e1, e2, e3⟩ := hag c
  rw [Cert.BranchCBwdRefIdeal.Read.val_main_v84_eq, e0, e1, e2, e3] at h0
  rw [Cert.BranchCBwdRefIdeal.Read.val_main_v77_eq, e0, e1, e2] at h1
  exact ⟨h0, h1, h2⟩

/-- The reference's frame: the host program runs and leaves its arguments as they were. -/
theorem frame_ref : quiescent_BranchCBwdRefIdeal := fun m ρ _ =>
  (θ_run _ _ _).mono (fun r h => ⟨fun c => (h c).2.2, sem_eq_zero_of_no_sems (by decide) r.2⟩)
    (Cert.BranchCBwdRefIdeal.Value.run (F := Ideal) m ρ)

end Cert.BranchCBwdProof

end
-- ==== Proof.OutModel.lean ====
module

public import proofs.«01_k».proof.Proof.BranchAModel

@[expose] public section

noncomputable section

/-! The merge of the three branches over the reals: each branch's projection under its gate, their sum projected, normed;
    and its gradient. -/

namespace Cert.Out

open Idealize.ShloMosaic Cert.Finite Cert.BranchA

/-- The argument arrays as real numbers: the gradient of the result, the three branches, the gates' inputs, the four
    matrices, the norm's gain and its small constant. -/
structure In where
  DX : Fin 4096 → Fin 1024 → ℝ
  Y : Fin 3 → Fin 4096 → Fin 1024 → ℝ
  M : Fin 3 → Fin 4096 → Fin 1024 → ℝ
  W : Fin 4 → Fin 1024 → Fin 1024 → ℝ
  PG : Fin 1024 → ℝ
  e : ℝ
  he : 0 < e

namespace In

variable (x : In) (k : Fin 3) (i : Fin 4096) (c : Fin 1024)

/-- The projections, the merged rows, the output before its norm, its mean square, the inverse root. -/
def p : ℝ := ∑ d, x.Y k i d * x.W k.castSucc d c
def mg : ℝ := sg (x.M 0 i c) * x.p 0 i c + sg (x.M 1 i c) * x.p 1 i c + sg (x.M 2 i c) * x.p 2 i c
def o : ℝ := ∑ d, x.mg i d * x.W 3 d c
def q : ℝ := (∑ c, x.o i c * x.o i c) / 1024 + x.e
def r : ℝ := (Real.sqrt (x.q i))⁻¹
/-- The gradient at the output, at the merged rows, at the gates' inputs, at the projections, at the branches. -/
def do_ : ℝ := x.r i * (x.DX i c * x.PG c) - x.o i c * (x.r i * x.r i * x.r i) * ((∑ d, x.DX i d * x.PG d * x.o i d) / 1024)
def dm : ℝ := ∑ d, x.do_ i d * x.W 3 c d
def dz : ℝ := x.dm i c * x.p k i c * sg (x.M k i c) * (1 - sg (x.M k i c))
def dp : ℝ := sg (x.M k i c) * x.dm i c
def dy : ℝ := ∑ d, x.dp k i d * x.W k.castSucc c d
/-- One row's part of the gain's gradient. -/
def gg : ℝ := x.DX i c * x.o i c * x.r i

theorem q_pos : 0 < x.q i := var_pos _ (by norm_num) x.he

theorem r_sq : x.r i / x.q i = x.r i * x.r i * x.r i := by
  have h := Real.mul_self_sqrt (x.q_pos i).le
  have h' : x.r i * x.r i = (x.q i)⁻¹ := by rw [r, ← mul_inv, h]
  rw [h', div_eq_mul_inv, mul_comm]

/-- The derivative of the norm as it is taken through the root. -/
theorem do_eq : x.DX i c * x.PG c * x.r i
      + x.o i c * ((∑ d, x.o i d * (x.DX i d * x.PG d)) * (-(1 / 2) * (x.r i / x.q i)) / 1024)
      + (∑ d, x.o i d * (x.DX i d * x.PG d)) * (-(1 / 2) * (x.r i / x.q i)) / 1024 * x.o i c = x.do_ i c := by
  rw [r_sq, do_, Finset.sum_congr rfl fun d _ => mul_comm (x.o i d) (x.DX i d * x.PG d)]
  ring

end In

end Cert.Out

end
-- ==== Proof.OutKernel.lean ====
module

public import proofs.«01_k».proof.Defs
public import proofs.«01_k».proof.Proof.Gen.OutBwdIdeal.Frame
public import proofs.«01_k».proof.Proof.OutModel
public import proofs.«01_k».proof.Proof.Reals
public import Idealize.ShloMosaic.Lib.Pipeline.ValueKit
public import Idealize.ShloMosaic.Lib.Pipeline.ReadBack
public import Idealize.ShloMosaic.Lib.Quiescent

@[expose] public section

set_option maxRecDepth 16384

noncomputable section

/-! One grid step of the merge's backward kernel, read over the reals. -/

namespace Cert.OutKernel

open Idealize.ShloMosaic Idealize.ShloMosaic.TcCoe Idealize.SL.Sem
open Cert.OutBwdIdeal Cert.OutBwdIdeal.Gen Cert.Out Cert.Finite
open Cert.BranchA (sg)

/-- Row `a` of step `t`. -/
def row (t : Fin 16) (a : Fin 256) : Fin 4096 := ⟨256 * t.val + a.val, by omega⟩

/-- The blocks of a step hold the real arrays. -/
structure Blk (X : In) (t : Fin 16) (dx : Vec Ideal S256x1024 .f32) (o : Vec Ideal S256x1024 .bf16) (pg : Vec Ideal S1x1024 .f32)
    (wp : Vec Ideal S4x1024x1024 .bf16) (m0 m1 m2 pa pb pc : Vec Ideal S256x1024 .bf16) : Prop where
  eps : Ideal.ofBits FTy.f32 897988541#32 = (X.e : EReal)
  dx : ∀ a c, dx (ix2 a c) = (X.DX (row t a) c : EReal)
  o : ∀ a c, o (ix2 a c) = (X.o (row t a) c : EReal)
  pg : ∀ c, pg (ix2 0 c) = (X.PG c : EReal)
  wp : ∀ k d c, wp (ix3 k d c) = (X.W k d c : EReal)
  m0 : ∀ a c, m0 (ix2 a c) = (X.M 0 (row t a) c : EReal)
  m1 : ∀ a c, m1 (ix2 a c) = (X.M 1 (row t a) c : EReal)
  m2 : ∀ a c, m2 (ix2 a c) = (X.M 2 (row t a) c : EReal)
  pa : ∀ a c, pa (ix2 a c) = (X.p 0 (row t a) c : EReal)
  pb : ∀ a c, pb (ix2 a c) = (X.p 1 (row t a) c : EReal)
  pc : ∀ a c, pc (ix2 a c) = (X.p 2 (row t a) c : EReal)

section
variable (X : In) (t : Fin 16)

theorem rt (o : Vec Ideal S256x1024 .bf16) (he : Ideal.ofBits FTy.f32 897988541#32 = (X.e : EReal))
    (h : ∀ a c, o (ix2 a c) = (X.o (row t a) c : EReal)) (a : Fin 256) : k0_pay7 (F := Ideal) o (ix2 a 0) = (X.r (row t a) : EReal) := by
  open_payloads
  pointwise
  simp only [h, he, Reals.k1024, ← EReal.coe_mul, ← EReal.coe_add, coe_sum, div1024, rsqrt_var X.he, In.r, In.q]

theorem dgain (dx : Vec Ideal S256x1024 .f32) (o : Vec Ideal S256x1024 .bf16) (he : Ideal.ofBits FTy.f32 897988541#32 = (X.e : EReal))
    (hd : ∀ a c, dx (ix2 a c) = (X.DX (row t a) c : EReal)) (h : ∀ a c, o (ix2 a c) = (X.o (row t a) c : EReal)) (c : Fin 1024) :
    k0_pay8 (F := Ideal) dx o (ix2 0 c) = ((∑ a, X.gg (row t a) c : ℝ) : EReal) := by
  have r := rt X t o he h
  unfold k0_pay8 k0_pay6
  generalize k0_pay7 (F := Ideal) o = y at r
  pointwise
  simp only [h, hd, r, ← EReal.coe_mul, coe_sum, In.gg]

theorem dout (dx : Vec Ideal S256x1024 .f32) (o : Vec Ideal S256x1024 .bf16) (pg : Vec Ideal S1x1024 .f32)
    (he : Ideal.ofBits FTy.f32 897988541#32 = (X.e : EReal)) (hd : ∀ a c, dx (ix2 a c) = (X.DX (row t a) c : EReal))
    (h : ∀ a c, o (ix2 a c) = (X.o (row t a) c : EReal)) (hg : ∀ c, pg (ix2 0 c) = (X.PG c : EReal)) (a : Fin 256) (c : Fin 1024) :
    k0_pay10 (F := Ideal) dx o pg (ix2 a c) = (X.do_ (row t a) c : EReal) := by
  have r := rt X t o he h
  unfold k0_pay10 k0_pay6
  generalize k0_pay7 (F := Ideal) o = y at r
  pointwise
  simp only [h, hd, hg, r, Reals.k1024, ← EReal.coe_mul, ← EReal.coe_add, ← EReal.coe_sub, coe_sum, div1024, In.do_]

theorem dmerged (v : Vec Ideal S256x1024 .bf16) (w : Vec Ideal S1x1024x1024 .bf16) (hv : ∀ a c, v (ix2 a c) = (X.do_ (row t a) c : EReal))
    (hw : ∀ d c, w (ix3 0 d c) = (X.W 3 d c : EReal)) (a : Fin 256) (c : Fin 1024) :
    k0_pay12 (F := Ideal) v w (ix2 a c) = (X.dm (row t a) c : EReal) := by
  unfold k0_pay12
  pointwise
  simp only [hv, hw, ← EReal.coe_mul, coe_sum, In.dm]

/-- The first block's product with the step's plane of the weights. -/
theorem ld3 (wp : Vec Ideal S4x1024x1024 .bf16) (h : ∀ k d c, wp (ix3 k d c) = (X.W k d c : EReal)) (d c : Fin 1024) :
    View.ld wp (Rect.unit ![3, 0, 0] ![1, 1024, 1024] inb_S4x1024x1024_S1x1024x1024_3_0_0) (ix3 0 d c) = (X.W 3 d c : EReal) := by
  pointwise
  exact h 3 d c

theorem ld2 (wp : Vec Ideal S4x1024x1024 .bf16) (h : ∀ k d c, wp (ix3 k d c) = (X.W k d c : EReal)) (d c : Fin 1024) :
    View.ld wp (Rect.unit ![2, 0, 0] ![1, 1024, 1024] inb_S4x1024x1024_S1x1024x1024_2_0_0) (ix3 0 d c) = (X.W 2 d c : EReal) := by
  pointwise
  exact h 2 d c

theorem ld1 (wp : Vec Ideal S4x1024x1024 .bf16) (h : ∀ k d c, wp (ix3 k d c) = (X.W k d c : EReal)) (d c : Fin 1024) :
    View.ld wp (Rect.unit ![1, 0, 0] ![1, 1024, 1024] inb_S4x1024x1024_S1x1024x1024_1_0_0) (ix3 0 d c) = (X.W 1 d c : EReal) := by
  pointwise
  exact h 1 d c

theorem ld0 (wp : Vec Ideal S4x1024x1024 .bf16) (h : ∀ k d c, wp (ix3 k d c) = (X.W k d c : EReal)) (d c : Fin 1024) :
    View.ld wp (Rect.unit ![0, 0, 0] ![1, 1024, 1024] inb_S4x1024x1024_S1x1024x1024_0_0_0) (ix3 0 d c) = (X.W 0 d c : EReal) := by
  pointwise
  exact h 0 d c

/-- The merged gradient of a step, from its blocks. -/
theorem dm_blk {dx o pg wp m0 m1 m2 pa pb pc} (hb : Blk X t dx o pg wp m0 m1 m2 pa pb pc) (a : Fin 256) (c : Fin 1024) :
    k0_pay12 (F := Ideal) (k0_pay10 dx o pg) (View.ld wp (Rect.unit ![3, 0, 0] ![1, 1024, 1024] inb_S4x1024x1024_S1x1024x1024_3_0_0)) (ix2 a c)
      = (X.dm (row t a) c : EReal) :=
  dmerged X t _ _ (dout X t dx o pg hb.eps hb.dx hb.o hb.pg) (ld3 X wp hb.wp) a c

theorem gate0 (v : Vec Ideal S256x1024 .bf16) (h : ∀ a c, v (ix2 a c) = (X.M 0 (row t a) c : EReal)) (a : Fin 256) (c : Fin 1024) :
    k0_pay13 (F := Ideal) v (ix2 a c) = (sg (X.M 0 (row t a) c) : EReal) := by
  open_payloads
  pointwise
  simp only [h, half, Ideal.tanh_coe, ← EReal.coe_mul, ← EReal.coe_add, sg]

theorem gate1 (v : Vec Ideal S256x1024 .bf16) (h : ∀ a c, v (ix2 a c) = (X.M 1 (row t a) c : EReal)) (a : Fin 256) (c : Fin 1024) :
    k0_pay18 (F := Ideal) v (ix2 a c) = (sg (X.M 1 (row t a) c) : EReal) := by
  open_payloads
  pointwise
  simp only [h, half, Ideal.tanh_coe, ← EReal.coe_mul, ← EReal.coe_add, sg]

theorem gate2 (v : Vec Ideal S256x1024 .bf16) (h : ∀ a c, v (ix2 a c) = (X.M 2 (row t a) c : EReal)) (a : Fin 256) (c : Fin 1024) :
    k0_pay1 (F := Ideal) v (ix2 a c) = (sg (X.M 2 (row t a) c) : EReal) := by
  open_payloads
  pointwise
  simp only [h, half, Ideal.tanh_coe, ← EReal.coe_mul, ← EReal.coe_add, sg]

/-- The three blocks of the gradient at the branches' projections. -/
theorem dp0 (v : Vec Ideal S256x1024 .bf16) (w : Vec Ideal S1x1024x1024 .bf16) (z : Vec Ideal S256x1024 .bf16)
    (hd : ∀ a c, k0_pay12 (F := Ideal) v w (ix2 a c) = (X.dm (row t a) c : EReal))
    (h : ∀ a c, z (ix2 a c) = (X.M 0 (row t a) c : EReal)) (a : Fin 256) (c : Fin 1024) :
    k0_pay15 (F := Ideal) v w z (ix2 a c) = (X.dp 0 (row t a) c : EReal) := by
  have g := gate0 X t z h
  unfold k0_pay15
  generalize k0_pay13 (F := Ideal) z = y at g
  generalize k0_pay12 (F := Ideal) v w = u at hd
  pointwise
  simp only [g, hd, ← EReal.coe_mul, In.dp]

theorem dp1 (u : Vec Ideal S256x1024 .f32) (z : Vec Ideal S256x1024 .bf16) (hd : ∀ a c, u (ix2 a c) = (X.dm (row t a) c : EReal))
    (h : ∀ a c, z (ix2 a c) = (X.M 1 (row t a) c : EReal)) (a : Fin 256) (c : Fin 1024) :
    k0_pay20 (F := Ideal) u z (ix2 a c) = (X.dp 1 (row t a) c : EReal) := by
  have g := gate1 X t z h
  unfold k0_pay20
  generalize k0_pay18 (F := Ideal) z = y at g
  pointwise
  simp only [g, hd, ← EReal.coe_mul, In.dp]

theorem dp2 (u : Vec Ideal S256x1024 .f32) (z : Vec Ideal S256x1024 .bf16) (hd : ∀ a c, u (ix2 a c) = (X.dm (row t a) c : EReal))
    (h : ∀ a c, z (ix2 a c) = (X.M 2 (row t a) c : EReal)) (a : Fin 256) (c : Fin 1024) :
    k0_pay3 (F := Ideal) u z (ix2 a c) = (X.dp 2 (row t a) c : EReal) := by
  have g := gate2 X t z h
  unfold k0_pay3
  generalize k0_pay1 (F := Ideal) z = y at g
  pointwise
  simp only [g, hd, ← EReal.coe_mul, In.dp]

/-- The three blocks of the gradient at the gates. -/
theorem dz0 (v : Vec Ideal S256x1024 .bf16) (w : Vec Ideal S1x1024x1024 .bf16) (z p : Vec Ideal S256x1024 .bf16)
    (hd : ∀ a c, k0_pay12 (F := Ideal) v w (ix2 a c) = (X.dm (row t a) c : EReal))
    (h : ∀ a c, z (ix2 a c) = (X.M 0 (row t a) c : EReal)) (hp : ∀ a c, p (ix2 a c) = (X.p 0 (row t a) c : EReal)) (q : Fin 1) (a : Fin 256) (c : Fin 1024) :
    k0_pay14 (F := Ideal) v w z p (ix3 q a c) = (X.dz 0 (row t a) c : EReal) := by
  obtain rfl : q = 0 := Subsingleton.elim _ _
  have g := gate0 X t z h
  unfold k0_pay14
  generalize k0_pay13 (F := Ideal) z = y at g
  generalize k0_pay12 (F := Ideal) v w = u at hd
  pointwise
  simp only [g, hd, hp, ← EReal.coe_mul, ← EReal.coe_sub, ← EReal.coe_one, In.dz]

theorem dz1 (u : Vec Ideal S256x1024 .f32) (z p : Vec Ideal S256x1024 .bf16) (hd : ∀ a c, u (ix2 a c) = (X.dm (row t a) c : EReal))
    (h : ∀ a c, z (ix2 a c) = (X.M 1 (row t a) c : EReal)) (hp : ∀ a c, p (ix2 a c) = (X.p 1 (row t a) c : EReal)) (q : Fin 1) (a : Fin 256) (c : Fin 1024) :
    k0_pay19 (F := Ideal) u z p (ix3 q a c) = (X.dz 1 (row t a) c : EReal) := by
  obtain rfl : q = 0 := Subsingleton.elim _ _
  have g := gate1 X t z h
  unfold k0_pay19
  generalize k0_pay18 (F := Ideal) z = y at g
  pointwise
  simp only [g, hd, hp, ← EReal.coe_mul, ← EReal.coe_sub, ← EReal.coe_one, In.dz]

theorem dz2 (u : Vec Ideal S256x1024 .f32) (z p : Vec Ideal S256x1024 .bf16) (hd : ∀ a c, u (ix2 a c) = (X.dm (row t a) c : EReal))
    (h : ∀ a c, z (ix2 a c) = (X.M 2 (row t a) c : EReal)) (hp : ∀ a c, p (ix2 a c) = (X.p 2 (row t a) c : EReal)) (q : Fin 1) (a : Fin 256) (c : Fin 1024) :
    k0_pay2 (F := Ideal) u z p (ix3 q a c) = (X.dz 2 (row t a) c : EReal) := by
  obtain rfl : q = 0 := Subsingleton.elim _ _
  have g := gate2 X t z h
  unfold k0_pay2
  generalize k0_pay1 (F := Ideal) z = y at g
  pointwise
  simp only [g, hd, hp, ← EReal.coe_mul, ← EReal.coe_sub, ← EReal.coe_one, In.dz]

/-- The planes stored of the gradients at the products' left sides. -/
theorem pl0 (v : Vec Ideal S256x1024 .bf16) (w : Vec Ideal S1x1024x1024 .bf16) (z : Vec Ideal S256x1024 .bf16) (q : Fin 1) (a : Fin 256) (c : Fin 1024) :
    k0_pay16 (F := Ideal) v w z (ix3 q a c) = k0_pay15 (F := Ideal) v w z (ix2 a c) := by
  obtain rfl : q = 0 := Subsingleton.elim _ _
  unfold k0_pay16
  generalize k0_pay15 (F := Ideal) v w z = y
  pointwise

theorem pl1 (u : Vec Ideal S256x1024 .f32) (z : Vec Ideal S256x1024 .bf16) (q : Fin 1) (a : Fin 256) (c : Fin 1024) :
    k0_pay21 (F := Ideal) u z (ix3 q a c) = k0_pay20 (F := Ideal) u z (ix2 a c) := by
  obtain rfl : q = 0 := Subsingleton.elim _ _
  unfold k0_pay21
  generalize k0_pay20 (F := Ideal) u z = y
  pointwise

theorem pl2 (u : Vec Ideal S256x1024 .f32) (z : Vec Ideal S256x1024 .bf16) (q : Fin 1) (a : Fin 256) (c : Fin 1024) :
    k0_pay4 (F := Ideal) u z (ix3 q a c) = k0_pay3 (F := Ideal) u z (ix2 a c) := by
  obtain rfl : q = 0 := Subsingleton.elim _ _
  unfold k0_pay4
  generalize k0_pay3 (F := Ideal) u z = y
  pointwise

theorem pl3 (u : Vec Ideal S256x1024 .bf16) (q : Fin 1) (a : Fin 256) (c : Fin 1024) :
    k0_pay11 (F := Ideal) u (ix3 q a c) = u (ix2 a c) := by
  obtain rfl : q = 0 := Subsingleton.elim _ _
  unfold k0_pay11
  pointwise

/-- The three blocks of the gradient at the branches' outputs. -/
theorem dy0 (v : Vec Ideal S256x1024 .bf16) (w : Vec Ideal S1x1024x1024 .bf16) (hv : ∀ a c, v (ix2 a c) = (X.dp 0 (row t a) c : EReal))
    (hw : ∀ d c, w (ix3 0 d c) = (X.W 0 d c : EReal)) (a : Fin 256) (c : Fin 1024) :
    k0_pay17 (F := Ideal) v w (ix2 a c) = (X.dy 0 (row t a) c : EReal) := by
  unfold k0_pay17
  pointwise
  simp only [hv, hw, ← EReal.coe_mul, coe_sum, In.dy, Fin.castSucc_zero]

theorem dy1 (u : Vec Ideal S256x1024 .f32) (z : Vec Ideal S256x1024 .bf16) (w : Vec Ideal S1x1024x1024 .bf16)
    (hv : ∀ a c, k0_pay20 (F := Ideal) u z (ix2 a c) = (X.dp 1 (row t a) c : EReal))
    (hw : ∀ d c, w (ix3 0 d c) = (X.W 1 d c : EReal)) (a : Fin 256) (c : Fin 1024) :
    k0_pay22 (F := Ideal) u z w (ix2 a c) = (X.dy 1 (row t a) c : EReal) := by
  unfold k0_pay22
  generalize k0_pay20 (F := Ideal) u z = y at hv
  pointwise
  simp only [hv, hw, ← EReal.coe_mul, coe_sum, In.dy, Fin.castSucc_one]

theorem dy2 (u : Vec Ideal S256x1024 .f32) (z : Vec Ideal S256x1024 .bf16) (w : Vec Ideal S1x1024x1024 .bf16)
    (hv : ∀ a c, k0_pay3 (F := Ideal) u z (ix2 a c) = (X.dp 2 (row t a) c : EReal))
    (hw : ∀ d c, w (ix3 0 d c) = (X.W 2 d c : EReal)) (a : Fin 256) (c : Fin 1024) :
    k0_pay5 (F := Ideal) u z w (ix2 a c) = (X.dy 2 (row t a) c : EReal) := by
  unfold k0_pay5
  generalize k0_pay3 (F := Ideal) u z = y at hv
  pointwise
  simp only [hv, hw, ← EReal.coe_mul, coe_sum]
  exact congrArg _ rfl

end

variable (m : (ℓ : Loc nD τ sig) → Buf (Elt Ideal) ℓ)

/-- The plane of the stacked gradients. -/
def pl (X : In) (k : ℕ) (i : Fin 4096) (c : Fin 1024) : ℝ :=
  if k = 0 then X.dp 0 i c else if k = 1 then X.dp 1 i c else if k = 2 then X.dp 2 i c else X.do_ i c

def plz (X : In) (k : ℕ) (i : Fin 4096) (c : Fin 1024) : ℝ :=
  if k = 0 then X.dz 0 i c else if k = 1 then X.dz 1 i c else X.dz 2 i c

theorem dp4_block (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (k : Fin 4) (a : Fin 256) (b : Fin 1024) :
    (outsAt0 m c t.val t.isLt).1 (ix3 k a b) = (pl X k.val (row p a) b : EReal) := by
  by_cases h0 : t.val % 16 = 0
  on_goal 1 => rw [outsAt0_A m c t h0 (by have := lt_of_lt_of_eq t.isLt N_0; omega)]
  on_goal 2 => rw [outsAt0_B m c t h0 (by omega)]
  all_goals
    dsimp only
    revert hb
    generalize iblk m c 0 t = dx
    generalize iblk m c 1 t = o
    generalize iblk m c 2 t = pg
    generalize iblk m c 3 t = wp
    generalize iblk m c 4 t = m0
    generalize iblk m c 5 t = m1
    generalize iblk m c 6 t = m2
    generalize iblk m c 7 t = pa
    generalize iblk m c 8 t = pb
    generalize iblk m c 9 t = pc
    intro hb
    frame_out
    clear h0
    canon_tiles x h
    all_goals idx_vars x
    all_goals
      have e1 : a = (⟨_, lt_of_eq_of_lt h1.symm a.isLt⟩ : Fin 256) := Fin.ext h1
      have e2 : b = (⟨_, lt_of_eq_of_lt h2.symm b.isLt⟩ : Fin 1024) := Fin.ext h2
      rw [e1, e2]
    · have hk : k.val = 2 := by omega
      rw [pl2, hk]
      exact dp2 X p _ _ (dm_blk X p hb) hb.m2 _ _
    · have hk : k.val = 1 := by omega
      rw [pl1, hk]
      exact dp1 X p _ _ (dm_blk X p hb) hb.m1 _ _
    · have hk : k.val = 0 := by omega
      rw [pl0, hk]
      exact dp0 X p _ _ _ (dm_blk X p hb) hb.m0 _ _
    · have hk : k.val = 3 := by omega
      rw [pl3, hk]
      exact dout X p _ _ _ hb.eps hb.dx hb.o hb.pg _ _

theorem dz_block (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (k : Fin 3) (a : Fin 256) (b : Fin 1024) :
    (outsAt0 m c t.val t.isLt).2.2.2.2.1 (ix3 k a b) = (plz X k.val (row p a) b : EReal) := by
  by_cases h0 : t.val % 16 = 0
  on_goal 1 => rw [outsAt0_A m c t h0 (by have := lt_of_lt_of_eq t.isLt N_0; omega)]
  on_goal 2 => rw [outsAt0_B m c t h0 (by omega)]
  all_goals
    dsimp only
    revert hb
    generalize iblk m c 0 t = dx
    generalize iblk m c 1 t = o
    generalize iblk m c 2 t = pg
    generalize iblk m c 3 t = wp
    generalize iblk m c 4 t = m0
    generalize iblk m c 5 t = m1
    generalize iblk m c 6 t = m2
    generalize iblk m c 7 t = pa
    generalize iblk m c 8 t = pb
    generalize iblk m c 9 t = pc
    intro hb
    frame_out
    clear h0
    canon_tiles x h
    all_goals idx_vars x
    all_goals
      have e1 : a = (⟨_, lt_of_eq_of_lt h1.symm a.isLt⟩ : Fin 256) := Fin.ext h1
      have e2 : b = (⟨_, lt_of_eq_of_lt h2.symm b.isLt⟩ : Fin 1024) := Fin.ext h2
      rw [e1, e2]
    · have hk : k.val = 2 := by omega
      rw [hk]
      exact dz2 X p _ _ _ (dm_blk X p hb) hb.m2 hb.pc _ _ _
    · have hk : k.val = 1 := by omega
      rw [hk]
      exact dz1 X p _ _ _ (dm_blk X p hb) hb.m1 hb.pb _ _ _
    · have hk : k.val = 0 := by omega
      rw [hk]
      exact dz0 X p _ _ _ _ (dm_blk X p hb) hb.m0 hb.pa _ _ _

theorem dy0_block (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (a : Fin 256) (b : Fin 1024) :
    (outsAt0 m c t.val t.isLt).2.1 (ix2 a b) = (X.dy 0 (row p a) b : EReal) := by
  by_cases h0 : t.val % 16 = 0
  on_goal 1 => rw [outsAt0_A m c t h0 (by have := lt_of_lt_of_eq t.isLt N_0; omega)]
  on_goal 2 => rw [outsAt0_B m c t h0 (by omega)]
  all_goals
    dsimp only
    revert hb
    generalize iblk m c 0 t = dx
    generalize iblk m c 1 t = o
    generalize iblk m c 2 t = pg
    generalize iblk m c 3 t = wp
    generalize iblk m c 4 t = m0
    generalize iblk m c 5 t = m1
    generalize iblk m c 6 t = m2
    generalize iblk m c 7 t = pa
    generalize iblk m c 8 t = pb
    generalize iblk m c 9 t = pc
    intro hb
    frame_out
    exact dy0 X p _ _ (dp0 X p _ _ _ (dm_blk X p hb) hb.m0) (ld0 X _ hb.wp) _ _

theorem dy1_block (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (a : Fin 256) (b : Fin 1024) :
    (outsAt0 m c t.val t.isLt).2.2.1 (ix2 a b) = (X.dy 1 (row p a) b : EReal) := by
  by_cases h0 : t.val % 16 = 0
  on_goal 1 => rw [outsAt0_A m c t h0 (by have := lt_of_lt_of_eq t.isLt N_0; omega)]
  on_goal 2 => rw [outsAt0_B m c t h0 (by omega)]
  all_goals
    dsimp only
    revert hb
    generalize iblk m c 0 t = dx
    generalize iblk m c 1 t = o
    generalize iblk m c 2 t = pg
    generalize iblk m c 3 t = wp
    generalize iblk m c 4 t = m0
    generalize iblk m c 5 t = m1
    generalize iblk m c 6 t = m2
    generalize iblk m c 7 t = pa
    generalize iblk m c 8 t = pb
    generalize iblk m c 9 t = pc
    intro hb
    frame_out
    exact dy1 X p _ _ _ (dp1 X p _ _ (dm_blk X p hb) hb.m1) (ld1 X _ hb.wp) _ _

theorem dy2_block (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (a : Fin 256) (b : Fin 1024) :
    (outsAt0 m c t.val t.isLt).2.2.2.1 (ix2 a b) = (X.dy 2 (row p a) b : EReal) := by
  by_cases h0 : t.val % 16 = 0
  on_goal 1 => rw [outsAt0_A m c t h0 (by have := lt_of_lt_of_eq t.isLt N_0; omega)]
  on_goal 2 => rw [outsAt0_B m c t h0 (by omega)]
  all_goals
    dsimp only
    revert hb
    generalize iblk m c 0 t = dx
    generalize iblk m c 1 t = o
    generalize iblk m c 2 t = pg
    generalize iblk m c 3 t = wp
    generalize iblk m c 4 t = m0
    generalize iblk m c 5 t = m1
    generalize iblk m c 6 t = m2
    generalize iblk m c 7 t = pa
    generalize iblk m c 8 t = pb
    generalize iblk m c 9 t = pc
    intro hb
    frame_out
    exact dy2 X p _ _ _ (dp2 X p _ _ (dm_blk X p hb) hb.m2) (ld2 X _ hb.wp) _ _

/-- One step's part of the gain's gradient. -/
def gT (X : In) (p : Fin 16) (c : Fin 1024) : ℝ := ∑ a, X.gg (row p a) c

theorem dg_reset (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (h0 : t.val % 16 = 0) (b : Fin 1024) :
    (outsAt0 m c t.val t.isLt).2.2.2.2.2 (ix2 0 b) = (gT X p b : EReal) := by
  rw [outsAt0_A m c t h0 (by have := lt_of_lt_of_eq t.isLt N_0; omega)]
  dsimp only
  have h := dgain X p (iblk m c 0 t) (iblk m c 1 t) hb.eps hb.dx hb.o b
  revert h
  generalize iblk m c 0 t = dx
  generalize iblk m c 1 t = o
  intro h
  frame_out
  exact h

theorem dg_step (c : Dev nD) (t : Fin cfg0.N) (X : In) (p : Fin 16)
    (hb : Blk X p (iblk m c 0 t) (iblk m c 1 t) (iblk m c 2 t) (iblk m c 3 t) (iblk m c 4 t) (iblk m c 5 t) (iblk m c 6 t) (iblk m c 7 t) (iblk m c 8 t) (iblk m c 9 t))
    (h0 : ¬ t.val % 16 = 0) (b : Fin 1024) :
    (outsAt0 m c t.val t.isLt).2.2.2.2.2 (ix2 0 b)
      = (outsAt0 m c (t.val - 1) (Nat.lt_of_le_of_lt (Nat.sub_le _ _) t.isLt)).2.2.2.2.2 (ix2 0 b) + (gT X p b : EReal) := by
  rw [outsAt0_B m c t h0 (by omega)]
  dsimp only
  have h := dgain X p (iblk m c 0 t) (iblk m c 1 t) hb.eps hb.dx hb.o b
  generalize outsAt0 m c (t.val - 1) (Nat.lt_of_le_of_lt (Nat.sub_le _ _) t.isLt) = prev
  revert h
  generalize iblk m c 0 t = dx
  generalize iblk m c 1 t = o
  intro h
  frame_out
  unfold k0_pay9
  generalize k0_pay8 (F := Ideal) dx o = y at h
  pointwise
  rw [h]
  rfl

end Cert.OutKernel

end
-- ==== Proof.OutRef.lean ====
module

public import proofs.«01_k».proof.Defs
public import proofs.«01_k».proof.Proof.Gen.OutBwdRefIdeal.Read
public import proofs.«01_k».proof.Proof.OutModel
public import proofs.«01_k».proof.Proof.Reals
public import Idealize.ShloMosaic.Lib.Pipeline.ValueKit
public import Idealize.ShloMosaic.Lib.Pipeline.ReadBack
public import Idealize.ShloMosaic.Lib.Quiescent

@[expose] public section

set_option maxRecDepth 16384

noncomputable section

/-! The merge's reference gradient, stage by stage, read over the reals. -/

namespace Cert.OutRef

open Idealize.ShloMosaic Idealize.ShloMosaic.TcCoe Idealize.SL.Sem
open Cert.OutBwdRefIdeal Read Cert.Out Cert.Finite
open Cert.BranchA (sg)

/-- Lane `c` of gate `k` among the gates' lanes. -/
def gl (k : Fin 3) (c : Fin 1024) : Fin 3072 := ⟨1024 * k.val + c.val, by omega⟩

/-- The argument arrays hold real numbers. -/
structure Arr (X : In) (x0 : Vec Ideal S4096x1024 .f32) (x1 x2 x3 : Vec Ideal S4096x1024 .bf16) (x4 : Vec Ideal S4096x10240 .bf16)
    (x5 : Vec Ideal S4x1024x1024 .bf16) (x6 : Vec Ideal S1x1024 .f32) : Prop where
  eps : Ideal.ofBits FTy.f32 897988541#32 = (X.e : EReal)
  dx : ∀ R c, x0 (ix2 R c) = (X.DX R c : EReal)
  ya : ∀ R c, x1 (ix2 R c) = (X.Y 0 R c : EReal)
  yb : ∀ R c, x2 (ix2 R c) = (X.Y 1 R c : EReal)
  yc : ∀ R c, x3 (ix2 R c) = (X.Y 2 R c : EReal)
  m : ∀ R (k : Fin 3) (c : Fin 1024), x4 (ix2 R ⟨7168 + (1024 * k.val + c.val), by omega⟩) = (X.M k R c : EReal)
  w : ∀ k d c, x5 (ix3 k d c) = (X.W k d c : EReal)
  pg : ∀ c, x6 (ix2 0 c) = (X.PG c : EReal)

theorem g0 (j : Fin 1024) (h) : (⟨j.val, h⟩ : Fin 3072) = gl 0 j := Fin.ext (by simp [gl])
theorem g1 (j : Fin 1024) (h) : (⟨1024 + j.val, h⟩ : Fin 3072) = gl 1 j := Fin.ext (by simp [gl])
theorem g2 (j : Fin 1024) (h) : (⟨2048 + j.val, h⟩ : Fin 3072) = gl 2 j := Fin.ext (by simp [gl])
theorem c0 : Fin.castSucc (0 : Fin 3) = (0 : Fin 4) := rfl
theorem c1 : Fin.castSucc (1 : Fin 3) = (1 : Fin 4) := rfl
theorem c2 : Fin.castSucc (2 : Fin 3) = (2 : Fin 4) := rfl

theorem three : ∀ k : Fin 3, k = 0 ∨ k = 1 ∨ k = 2 := by decide

section
variable {X : In} {x0 : Vec Ideal S4096x1024 .f32} {x1 x2 x3 : Vec Ideal S4096x1024 .bf16} {x4 : Vec Ideal S4096x10240 .bf16}
    {x5 : Vec Ideal S4x1024x1024 .bf16} {x6 : Vec Ideal S1x1024 .f32} (hx : Arr X x0 x1 x2 x3 x4 x5 x6)
include hx

/-- The gates. -/
theorem r_g (R : Fin 4096) (k : Fin 3) (c : Fin 1024) : val_main_v12 (F := Ideal) x4 (ix2 R (gl k c)) = (sg (X.M k R c) : EReal) := by
  simp only [val_main_v5, val_main_v6, val_main_v7, val_main_v8, val_main_v9, val_main_v10, val_main_v11, val_main_v12, val_main_cst_0, val_main_cst_1]
  pointwise
  simp only [gl, hx.m]
  have h : (1 : ℝ) + Real.exp (-(X.M k R c)) ≠ 0 := by positivity
  simp only [← EReal.coe_neg, Ideal.exp_coe, ← EReal.coe_one, ← EReal.coe_add, div_real h, logistic_eq, sg]

theorem r_gk (R : Fin 4096) (c : Fin 1024) : val_main_v16 (F := Ideal) x4 (ix2 R c) = (sg (X.M 0 R c) : EReal)
    ∧ val_main_v22 (F := Ideal) x4 (ix2 R c) = (sg (X.M 1 R c) : EReal) ∧ val_main_v29 (F := Ideal) x4 (ix2 R c) = (sg (X.M 2 R c) : EReal) := by
  have h := r_g hx
  simp only [val_main_v16, val_main_v22, val_main_v29]
  generalize val_main_v12 (F := Ideal) x4 = y at h
  refine ⟨?_, ?_, ?_⟩ <;> pointwise <;> simp only [g0, g1, g2, h]

theorem r_gg (R : Fin 4096) (k : Fin 3) (c : Fin 1024) :
    val_main_v15 (F := Ideal) x4 (ix2 R (gl k c)) = (sg (X.M k R c) * (1 - sg (X.M k R c)) : ℝ) := by
  have h := r_g hx
  simp only [val_main_v13, val_main_v14, val_main_v15, val_main_cst_2]
  generalize val_main_v12 (F := Ideal) x4 = y at h
  pointwise
  simp only [h, ← EReal.coe_mul, ← EReal.coe_sub, ← EReal.coe_one]

/-- The four matrices. -/
theorem r_w (d c : Fin 1024) : val_main_v18 (F := Ideal) x5 (ix2 d c) = (X.W 0 d c : EReal)
    ∧ val_main_v24 (F := Ideal) x5 (ix2 d c) = (X.W 1 d c : EReal) ∧ val_main_v31 (F := Ideal) x5 (ix2 d c) = (X.W 2 d c : EReal)
    ∧ val_main_v37 (F := Ideal) x5 (ix2 d c) = (X.W 3 d c : EReal) := by
  simp only [val_main_v1, val_main_v17, val_main_v18, val_main_v23, val_main_v24, val_main_v30, val_main_v31, val_main_v36, val_main_v37]
  refine ⟨?_, ?_, ?_, ?_⟩ <;> pointwise <;> exact hx.w _ _ _

/-- The projections. -/
theorem r_p (R : Fin 4096) (c : Fin 1024) : val_main_v20 (F := Ideal) x1 x5 (ix2 R c) = (X.p 0 R c : EReal)
    ∧ val_main_v26 (F := Ideal) x2 x5 (ix2 R c) = (X.p 1 R c : EReal) ∧ val_main_v33 (F := Ideal) x3 x5 (ix2 R c) = (X.p 2 R c : EReal) := by
  have w0 := fun d c => (r_w hx d c).1
  have w1 := fun d c => (r_w hx d c).2.1
  have w2 := fun d c => (r_w hx d c).2.2.1
  simp only [val_main_v0, val_main_cst, val_main_v2, val_main_v3, val_main_v4, val_main_v19, val_main_v20, val_main_v25, val_main_v26, val_main_v32, val_main_v33]
  generalize val_main_v18 (F := Ideal) x5 = y0 at w0
  generalize val_main_v24 (F := Ideal) x5 = y1 at w1
  generalize val_main_v31 (F := Ideal) x5 = y2 at w2
  refine ⟨?_, ?_, ?_⟩ <;> pointwise <;>
    simp only [w0, w1, w2, hx.ya, hx.yb, hx.yc, ← EReal.coe_mul, coe_sum, add_zero, In.p, c0, c1, c2] <;>
    exact congrArg _ (Finset.sum_congr rfl fun k _ => mul_comm _ _)

theorem r_o (R : Fin 4096) (c : Fin 1024) : val_main_v39 (F := Ideal) x1 x2 x3 x4 x5 (ix2 R c) = (X.o R c : EReal) := by
  have w3 := fun d c => (r_w hx d c).2.2.2
  have p0 := fun R c => (r_p hx R c).1
  have p1 := fun R c => (r_p hx R c).2.1
  have p2 := fun R c => (r_p hx R c).2.2
  have g0 := fun R c => (r_gk hx R c).1
  have g1 := fun R c => (r_gk hx R c).2.1
  have g2 := fun R c => (r_gk hx R c).2.2
  simp only [val_main_v0, val_main_cst, val_main_v21, val_main_v27, val_main_v28, val_main_v34, val_main_v35, val_main_v38, val_main_v39]
  generalize val_main_v37 (F := Ideal) x5 = y3 at w3
  generalize val_main_v20 (F := Ideal) x1 x5 = a0 at p0
  generalize val_main_v26 (F := Ideal) x2 x5 = a1 at p1
  generalize val_main_v33 (F := Ideal) x3 x5 = a2 at p2
  generalize val_main_v16 (F := Ideal) x4 = b0 at g0
  generalize val_main_v22 (F := Ideal) x4 = b1 at g1
  generalize val_main_v29 (F := Ideal) x4 = b2 at g2
  pointwise
  simp only [w3, p0, p1, p2, g0, g1, g2, ← EReal.coe_mul, ← EReal.coe_add, coe_sum, add_zero, In.o, In.mg]

theorem r_r (R : Fin 4096) : val_main_v47 (F := Ideal) x1 x2 x3 x4 x5 (ix2 R 0) = (X.r R : EReal)
    ∧ val_main_v46 (F := Ideal) x1 x2 x3 x4 x5 (ix2 R 0) = (X.q R : EReal) := by
  have h1 := r_o hx
  simp only [val_main_v40, val_main_v41, val_main_v42, val_main_v43, val_main_v44, val_main_v45, val_main_v46, val_main_v47, val_main_cst_3, val_main_cst_4, val_main_cst_5]
  generalize val_main_v39 (F := Ideal) x1 x2 x3 x4 x5 = y at h1
  constructor <;> pointwise <;>
    simp only [h1, hx.eps, Reals.k1024, ← EReal.coe_mul, ← EReal.coe_add, coe_sum, div1024, rsqrt_var X.he] <;> simp only [In.r, In.q]

/-- The gain's gradient. -/
theorem r_dpg (c : Fin 1024) : val_main_v57 (F := Ideal) x0 x1 x2 x3 x4 x5 (ix2 0 c) = ((∑ R, X.gg R c : ℝ) : EReal) := by
  have h1 := r_o hx
  have h2 := fun R => (r_r hx R).1
  simp only [val_main_v51, val_main_v52, val_main_v55, val_main_v56, val_main_v57, val_main_cst_7]
  generalize val_main_v39 (F := Ideal) x1 x2 x3 x4 x5 = y at h1
  generalize val_main_v47 (F := Ideal) x1 x2 x3 x4 x5 = z at h2
  pointwise
  simp only [h1, h2, hx.dx, ← EReal.coe_mul, coe_sum, In.gg]
  exact congrArg _ (Finset.sum_congr rfl fun k _ => by ring)

theorem r_do (R : Fin 4096) (c : Fin 1024) : val_main_v73 (F := Ideal) x0 x1 x2 x3 x4 x5 x6 (ix2 R c) = (X.do_ R c : EReal) := by
  have h1 := r_o hx
  have h2 : ∀ R (z : Fin 1), val_main_v47 (F := Ideal) x1 x2 x3 x4 x5 (ix2 R z) = (X.r R : EReal) := fun R z => by
    obtain rfl : z = 0 := Subsingleton.elim _ _
    exact (r_r hx R).1
  have h3 : ∀ R (z : Fin 1), val_main_v46 (F := Ideal) x1 x2 x3 x4 x5 (ix2 R z) = (X.q R : EReal) := fun R z => by
    obtain rfl : z = 0 := Subsingleton.elim _ _
    exact (r_r hx R).2
  have h4 : ∀ R, X.q R ≠ 0 := fun R => (X.q_pos R).ne'
  simp only [val_main_v48, val_main_v49, val_main_v50, val_main_v58, val_main_v59, val_main_v60, val_main_v61, val_main_v62, val_main_v63, val_main_v64,
    val_main_v65, val_main_v66, val_main_v67, val_main_v68, val_main_v69, val_main_v70, val_main_v71, val_main_v72, val_main_v73, val_main_cst_6,
    val_main_cst_8, val_main_cst_9, val_main_cst_10]
  generalize val_main_v39 (F := Ideal) x1 x2 x3 x4 x5 = y at h1
  generalize val_main_v47 (F := Ideal) x1 x2 x3 x4 x5 = z at h2
  generalize val_main_v46 (F := Ideal) x1 x2 x3 x4 x5 = w at h3
  pointwise
  simp only [h1, h2, h3, hx.dx, hx.pg, Reals.k1024, Reals.neg_half, div_real (h4 _), ← EReal.coe_mul, ← EReal.coe_add, coe_sum, div1024,
    Finset.univ_unique, Finset.sum_singleton]
  exact congrArg _ (X.do_eq R c)

theorem r_dm (R : Fin 4096) (c : Fin 1024) : val_main_v74 (F := Ideal) x0 x1 x2 x3 x4 x5 x6 (ix2 R c) = (X.dm R c : EReal) := by
  have h1 := r_do hx
  have w3 := fun d c => (r_w hx d c).2.2.2
  simp only [val_main_v74]
  generalize val_main_v73 (F := Ideal) x0 x1 x2 x3 x4 x5 x6 = y at h1
  generalize val_main_v37 (F := Ideal) x5 = z at w3
  pointwise
  simp only [h1, w3, ← EReal.coe_mul, coe_sum, In.dm]

/-- The gradients at the projections. -/
theorem r_dp (R : Fin 4096) (c : Fin 1024) : val_main_v84 (F := Ideal) x0 x1 x2 x3 x4 x5 x6 (ix2 R c) = (X.dp 0 R c : EReal)
    ∧ val_main_v79 (F := Ideal) x0 x1 x2 x3 x4 x5 x6 (ix2 R c) = (X.dp 1 R c : EReal)
    ∧ val_main_v75 (F := Ideal) x0 x1 x2 x3 x4 x5 x6 (ix2 R c) = (X.dp 2 R c : EReal) := by
  have h1 := r_dm hx
  have g0 := fun R c => (r_gk hx R c).1
  have g1 := fun R c => (r_gk hx R c).2.1
  have g2 := fun R c => (r_gk hx R c).2.2
  simp only [val_main_v84, val_main_v79, val_main_v75]
  generalize val_main_v74 (F := Ideal) x0 x1 x2 x3 x4 x5 x6 = y at h1
  generalize val_main_v16 (F := Ideal) x4 = b0 at g0
  generalize val_main_v22 (F := Ideal) x4 = b1 at g1
  generalize val_main_v29 (F := Ideal) x4 = b2 at g2
  refine ⟨?_, ?_, ?_⟩ <;> pointwise <;> simp only [h1, g0, g1, g2, ← EReal.coe_mul, In.dp]

/-- The gradients of the branches. -/
theorem r_dy (R : Fin 4096) (c : Fin 1024) : val_main_v105 (F := Ideal) x0 x1 x2 x3 x4 x5 x6 (ix2 R c) = (X.dy 0 R c : EReal)
    ∧ val_main_v106 (F := Ideal) x0 x1 x2 x3 x4 x5 x6 (ix2 R c) = (X.dy 1 R c : EReal)
    ∧ val_main_v107 (F := Ideal) x0 x1 x2 x3 x4 x5 x6 (ix2 R c) = (X.dy 2 R c : EReal) := by
  have w0 := fun d c => (r_w hx d c).1
  have w1 := fun d c => (r_w hx d c).2.1
  have w2 := fun d c => (r_w hx d c).2.2.1
  have p0 := fun R c => (r_dp hx R c).1
  have p1 := fun R c => (r_dp hx R c).2.1
  have p2 := fun R c => (r_dp hx R c).2.2
  simp only [val_main_v105, val_main_v106, val_main_v107, val_main_v86, val_main_v81, val_main_v77]
  generalize val_main_v18 (F := Ideal) x5 = y0 at w0
  generalize val_main_v24 (F := Ideal) x5 = y1 at w1
  generalize val_main_v31 (F := Ideal) x5 = y2 at w2
  generalize val_main_v84 (F := Ideal) x0 x1 x2 x3 x4 x5 x6 = a0 at p0
  generalize val_main_v79 (F := Ideal) x0 x1 x2 x3 x4 x5 x6 = a1 at p1
  generalize val_main_v75 (F := Ideal) x0 x1 x2 x3 x4 x5 x6 = a2 at p2
  refine ⟨?_, ?_, ?_⟩ <;> pointwise <;> simp only [w0, w1, w2, p0, p1, p2, ← EReal.coe_mul, coe_sum, In.dy, c0, c1, c2]

/-- The gradient of the gates' inputs, the three side by side. -/
theorem r_ml (R : Fin 4096) (k : Fin 3) (c : Fin 1024) :
    val_main_v89 (F := Ideal) x0 x1 x2 x3 x4 x5 x6 (ix2 R (gl k c)) = (X.dz k R c : EReal) := by
  have h1 := r_dm hx
  have h2 := r_gg hx R k c
  have p0 := fun R c => (r_p hx R c).1
  have p1 := fun R c => (r_p hx R c).2.1
  have p2 := fun R c => (r_p hx R c).2.2
  simp only [val_main_v89, val_main_v88, val_main_v87, val_main_v85, val_main_v83, val_main_v82, val_main_v80, val_main_v78, val_main_v76,
    val_main_cst_11, val_main_cst_12, val_main_cst_13]
  generalize val_main_v74 (F := Ideal) x0 x1 x2 x3 x4 x5 x6 = y at h1
  generalize val_main_v15 (F := Ideal) x4 = z at h2
  generalize val_main_v20 (F := Ideal) x1 x5 = a0 at p0
  generalize val_main_v26 (F := Ideal) x2 x5 = a1 at p1
  generalize val_main_v33 (F := Ideal) x3 x5 = a2 at p2
  pointwise
  simp only [h1, h2, p0, p1, p2]
  rcases three k with rfl | rfl | rfl
  · have e : ∀ h, (⟨(gl 0 c).val, h⟩ : Fin 1024) = c := fun h => Fin.ext (by simp [gl])
    rw [dif_neg (by simp [gl]; omega), dif_neg (by simp [gl]), dif_pos (by simp [gl])]
    simp only [e, zero_add, ← EReal.coe_mul, In.dz, mul_assoc]
  · have e : ∀ h, (⟨(gl 1 c).val - 1024, h⟩ : Fin 1024) = c := fun h => Fin.ext (by simp [gl])
    rw [dif_neg (by simp only [gl]; have : (1 : Fin 3).val = 1 := rfl; omega), dif_pos (by simp [gl]), dif_neg (by simp [gl])]
    simp only [e, zero_add, add_zero, ← EReal.coe_mul, In.dz, mul_assoc]
  · have e : ∀ h, (⟨(gl 2 c).val - 2048, h⟩ : Fin 1024) = c := fun h => Fin.ext (by simp [gl])
    rw [dif_pos (by simp [gl]), dif_neg (by simp [gl]; omega), dif_neg (by simp [gl]; omega)]
    simp only [e, add_zero, ← EReal.coe_mul, In.dz, mul_assoc]

/-- The three planes of the gates' gradient among the ten. -/
theorem r_dz (k : Fin 3) (R : Fin 4096) (c : Fin 1024) :
    val_main_v95 (F := Ideal) x0 x1 x2 x3 x4 x5 x6 (ix3 ⟨3 + k.val, by omega⟩ R c) = (X.dz k R c : EReal) := by
  have h1 := r_ml hx R k c
  simp only [val_main_v95, val_main_v94, val_main_v93, val_main_v92, val_main_v91, val_main_v90, val_main_cst_14, val_main_cst_15]
  pointwise
  refine Eq.trans (congrArg (val_main_v89 (F := Ideal) x0 x1 x2 x3 x4 x5 x6) (congrArg (ix2 R) (Fin.ext ?_))) h1
  simp only [gl]
  omega

/-- The gradients at the three projections and at the output, stacked. -/
theorem r_dp4 (R : Fin 4096) (c : Fin 1024) : val_main_v104 (F := Ideal) x0 x1 x2 x3 x4 x5 x6 (ix3 0 R c) = (X.dp 0 R c : EReal)
    ∧ val_main_v104 (F := Ideal) x0 x1 x2 x3 x4 x5 x6 (ix3 1 R c) = (X.dp 1 R c : EReal)
    ∧ val_main_v104 (F := Ideal) x0 x1 x2 x3 x4 x5 x6 (ix3 2 R c) = (X.dp 2 R c : EReal)
    ∧ val_main_v104 (F := Ideal) x0 x1 x2 x3 x4 x5 x6 (ix3 3 R c) = (X.do_ R c : EReal) := by
  obtain ⟨h1, h2, h3⟩ := r_dp hx R c
  have h4 := r_do hx R c
  simp only [val_main_v104, val_main_v103, val_main_v102, val_main_v101, val_main_v100, val_main_v99, val_main_v98, val_main_v97, val_main_v96]
  refine ⟨?_, ?_, ?_, ?_⟩ <;> pointwise <;> simp [h1, h2, h3, h4]

end

end Cert.OutRef

end
-- ==== Proof.OutHost.lean ====
/- The merge's backward kernel: what its host lines save and the blocks of a step, over the reals (hand-written, untrusted). -/
module

public import proofs.«01_k».proof.Defs
public import proofs.«01_k».proof.Proof.OutKernel
public import proofs.«01_k».proof.Proof.OutRef
public import proofs.«01_k».proof.Proof.Reals
public import Idealize.ShloMosaic.Lib.Quiescent

@[expose] public section

set_option maxRecDepth 16384

noncomputable section

namespace Cert.OutBwdProof

open Idealize.ShloMosaic Idealize.ShloMosaic.TcCoe Idealize.SL.Sem
open Cert.OutBwdIdeal Cert.OutBwdIdeal.Gen Cert.Finite Cert.Out Cert.OutKernel
open Cert.BranchA (sg)

/-- Arguments that pass the test are real arrays. -/
theorem arr_of_pre [Cert.Pre_o_finite.Facts] (x0 : Vec Ideal S4096x1024 .f32) (x1 x2 x3 : Vec Ideal S4096x1024 .bf16)
    (x4 : Vec Ideal S4096x10240 .bf16) (x5 : Vec Ideal S4x1024x1024 .bf16) (x6 : Vec Ideal S1x1024 .f32)
    (h : Cert.Pre_o_finite.fn (F := Ideal) x0 x1 x2 x3 x4 x5 x6 = fun _ => 1#1) : ∃ X, Cert.OutRef.Arr X x0 x1 x2 x3 x4 x5 x6 := by
  have h := congrFun h (fun i : Fin 0 => i.elim0)
  unfold Cert.Pre_o_finite.fn Cert.Pre_o_finite.fn_part1 Cert.Pre_o_finite.fn_part2 at h
  obtain ⟨h, h6⟩ := andi_one _ _ h
  obtain ⟨h, h5⟩ := andi_one _ _ h
  obtain ⟨h, h4⟩ := andi_one _ _ h
  obtain ⟨h, h3⟩ := andi_one _ _ h
  obtain ⟨h, h2⟩ := andi_one _ _ h
  obtain ⟨h0, h1⟩ := andi_one _ _ h
  haveI : Subsingleton Cert.Pre_o_finite.S_.Idx := ⟨fun a b => funext fun i : Fin 0 => i.elim0⟩
  have h0 := of_reduce _ _ (fun _ => inf) _ _ _ _ h0
  have h1 := of_reduce _ _ (fun _ => inf) _ _ _ _ h1
  have h2 := of_reduce _ _ (fun _ => inf) _ _ _ _ h2
  have h3 := of_reduce _ _ (fun _ => inf) _ _ _ _ h3
  have h4 := of_reduce _ _ (fun _ => inf) _ _ _ _ h4
  have h5 := of_reduce _ _ (fun _ => inf) _ _ _ _ h5
  have h6 := of_reduce _ _ (fun _ => inf) _ _ _ _ h6
  choose f0 h0 using h0
  choose f1 h1 using h1
  choose f2 h2 using h2
  choose f3 h3 using h3
  choose f4 h4 using h4
  choose f5 h5 using h5
  choose f6 h6 using h6
  obtain ⟨e, he, h7⟩ := Reals.eps
  refine ⟨{ DX := fun R c => f0 (ix2 R c)
            Y := fun k R c => if k = 0 then f1 (ix2 R c) else if k = 1 then f2 (ix2 R c) else f3 (ix2 R c)
            M := fun k R c => f4 (ix2 R ⟨1024 * k.val + c.val, by omega⟩)
            W := fun k d c => f5 (ix3 k d c)
            PG := fun c => f6 (ix2 0 c)
            e := e
            he := he }, ?_⟩
  constructor
  · exact h7
  · exact fun R c => h0 _
  · exact fun R c => h1 _
  · exact fun R c => h2 _
  · exact fun R c => h3 _
  · intro R k c
    rw [← h4]
    pointwise
  · exact fun k d c => h5 _
  · exact fun c => h6 _

variable (m : (ℓ : Loc nD τ sig) → Buf (Elt Ideal) ℓ) (ρ : Dev nD → PrngReg)

/-- The arrays of core `c` are real. -/
abbrev Real (c : Dev nD) (X : In) : Prop := Cert.OutRef.Arr X (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The cast to the narrow format. -/
def lo (x : FVec Ideal S4096x1024 .f32) : FVec Ideal S4096x1024 .bf16 := truncf .bf16 x bitsLt_bf16_f32

/-! The saved values, as the host lines compute them. -/

def pj0 (y : FVec Ideal S4096x1024 .bf16) (w : FVec Ideal S4x1024x1024 .bf16) : FVec Ideal S4096x1024 .f32 :=
  Host.dotGeneral dot_S4096x1024_S1024x1024_S4096x1024_1_0_0_1_n_n none y
    (shapeCast S1024x1024 (extractStridedSlice S1x1024x1024 ![0, 0, 0] w slices_S4x1024x1024_S1x1024x1024_0_0_0) shapeCasts_S1x1024x1024_S1024x1024)
def pj1 (y : FVec Ideal S4096x1024 .bf16) (w : FVec Ideal S4x1024x1024 .bf16) : FVec Ideal S4096x1024 .f32 :=
  Host.dotGeneral dot_S4096x1024_S1024x1024_S4096x1024_1_0_0_1_n_n none y
    (shapeCast S1024x1024 (extractStridedSlice S1x1024x1024 ![1, 0, 0] w slices_S4x1024x1024_S1x1024x1024_1_0_0) shapeCasts_S1x1024x1024_S1024x1024)
def pj2 (y : FVec Ideal S4096x1024 .bf16) (w : FVec Ideal S4x1024x1024 .bf16) : FVec Ideal S4096x1024 .f32 :=
  Host.dotGeneral dot_S4096x1024_S1024x1024_S4096x1024_1_0_0_1_n_n none y
    (shapeCast S1024x1024 (extractStridedSlice S1x1024x1024 ![2, 0, 0] w slices_S4x1024x1024_S1x1024x1024_2_0_0) shapeCasts_S1x1024x1024_S1024x1024)
/-- The product of the merged rows. -/
def ot (g : FVec Ideal S4096x3072 .f32) (a b d : FVec Ideal S4096x1024 .f32) (w : FVec Ideal S4x1024x1024 .bf16) : FVec Ideal S4096x1024 .f32 :=
  Host.dotGeneral dot_S4096x1024_S1024x1024_S4096x1024_1_0_0_1_n_n none
    (truncf .bf16 (addf (addf (mulf (extractStridedSlice S4096x1024 ![0, 0] g slices_S4096x3072_S4096x1024_0_0) a)
      (mulf (extractStridedSlice S4096x1024 ![0, 1024] g slices_S4096x3072_S4096x1024_0_1024) b))
      (mulf (extractStridedSlice S4096x1024 ![0, 2048] g slices_S4096x3072_S4096x1024_0_2048) d)) bitsLt_bf16_f32)
    (shapeCast S1024x1024 (extractStridedSlice S1x1024x1024 ![3, 0, 0] w slices_S4x1024x1024_S1x1024x1024_3_0_0) shapeCasts_S1x1024x1024_S1024x1024)

theorem V_a0 (c : Dev nD) : V m c main_arg0 = (m ((c.tc : Thread nD τ).loc main_arg0)) := by
  simp only [V, hostOps0]
  after_results_simp

theorem V_a4 (c : Dev nD) : V m c main_arg4 = (m ((c.tc : Thread nD τ).loc main_arg4)) := by
  simp only [V, hostOps0]
  after_results_simp

theorem V_a5 (c : Dev nD) : V m c main_arg5 = (m ((c.tc : Thread nD τ).loc main_arg5)) := by
  simp only [V, hostOps0]
  after_results_simp

theorem V_a6 (c : Dev nD) : V m c main_arg6 = (m ((c.tc : Thread nD τ).loc main_arg6)) := by
  simp only [V, hostOps0]
  after_results_simp

theorem V_p0 (c : Dev nD) : V m c main_v29 = lo (pj0 (m ((c.tc : Thread nD τ).loc main_arg1)) (m ((c.tc : Thread nD τ).loc main_arg5))) := by
  simp only [V, hostOps0]
  after_results_simp
  rfl

theorem V_p1 (c : Dev nD) : V m c main_v30 = lo (pj1 (m ((c.tc : Thread nD τ).loc main_arg2)) (m ((c.tc : Thread nD τ).loc main_arg5))) := by
  simp only [V, hostOps0]
  after_results_simp
  rfl

theorem V_p2 (c : Dev nD) : V m c main_v31 = lo (pj2 (m ((c.tc : Thread nD τ).loc main_arg3)) (m ((c.tc : Thread nD τ).loc main_arg5))) := by
  simp only [V, hostOps0]
  after_results_simp
  rfl

theorem V_o (c : Dev nD) : V m c main_v32 = lo (ot (Cert.OutBwdRefIdeal.Read.val_main_v12 (F := Ideal) (m ((c.tc : Thread nD τ).loc main_arg4)))
    (pj0 (m ((c.tc : Thread nD τ).loc main_arg1)) (m ((c.tc : Thread nD τ).loc main_arg5))) (pj1 (m ((c.tc : Thread nD τ).loc main_arg2)) (m ((c.tc : Thread nD τ).loc main_arg5))) (pj2 (m ((c.tc : Thread nD τ).loc main_arg3)) (m ((c.tc : Thread nD τ).loc main_arg5))) (m ((c.tc : Thread nD τ).loc main_arg5))) := by
  simp only [V, hostOps0]
  after_results_simp
  rfl

section
variable {m} {c : Dev nD} {X : In} (h : Real m c X)
include h

theorem pj0_apply (R : Fin 4096) (b : Fin 1024) : pj0 (m ((c.tc : Thread nD τ).loc main_arg1)) (m ((c.tc : Thread nD τ).loc main_arg5)) (ix2 R b) = (X.p 0 R b : EReal) := by
  have h1 := h.ya
  have h2 := h.w
  generalize (m ((c.tc : Thread nD τ).loc main_arg1)) = y at h1
  generalize (m ((c.tc : Thread nD τ).loc main_arg5)) = w at h2
  unfold pj0
  pointwise
  simp only [h1, h2, ← EReal.coe_mul, coe_sum, In.p]
  exact congrArg _ rfl

theorem V_p0_apply (R : Fin 4096) (b : Fin 1024) : V m c main_v29 (ix2 R b) = (X.p 0 R b : EReal) := by
  have h1 := pj0_apply h R b
  rw [V_p0]
  generalize pj0 (m ((c.tc : Thread nD τ).loc main_arg1)) (m ((c.tc : Thread nD τ).loc main_arg5)) = y at h1
  unfold lo
  pointwise
  exact h1

theorem pj1_apply (R : Fin 4096) (b : Fin 1024) : pj1 (m ((c.tc : Thread nD τ).loc main_arg2)) (m ((c.tc : Thread nD τ).loc main_arg5)) (ix2 R b) = (X.p 1 R b : EReal) := by
  have h1 := h.yb
  have h2 := h.w
  generalize (m ((c.tc : Thread nD τ).loc main_arg2)) = y at h1
  generalize (m ((c.tc : Thread nD τ).loc main_arg5)) = w at h2
  unfold pj1
  pointwise
  simp only [h1, h2, ← EReal.coe_mul, coe_sum, In.p]
  exact congrArg _ rfl

theorem V_p1_apply (R : Fin 4096) (b : Fin 1024) : V m c main_v30 (ix2 R b) = (X.p 1 R b : EReal) := by
  have h1 := pj1_apply h R b
  rw [V_p1]
  generalize pj1 (m ((c.tc : Thread nD τ).loc main_arg2)) (m ((c.tc : Thread nD τ).loc main_arg5)) = y at h1
  unfold lo
  pointwise
  exact h1

theorem pj2_apply (R : Fin 4096) (b : Fin 1024) : pj2 (m ((c.tc : Thread nD τ).loc main_arg3)) (m ((c.tc : Thread nD τ).loc main_arg5)) (ix2 R b) = (X.p 2 R b : EReal) := by
  have h1 := h.yc
  have h2 := h.w
  generalize (m ((c.tc : Thread nD τ).loc main_arg3)) = y at h1
  generalize (m ((c.tc : Thread nD τ).loc main_arg5)) = w at h2
  unfold pj2
  pointwise
  simp only [h1, h2, ← EReal.coe_mul, coe_sum, In.p]
  exact congrArg _ rfl

theorem V_p2_apply (R : Fin 4096) (b : Fin 1024) : V m c main_v31 (ix2 R b) = (X.p 2 R b : EReal) := by
  have h1 := pj2_apply h R b
  rw [V_p2]
  generalize pj2 (m ((c.tc : Thread nD τ).loc main_arg3)) (m ((c.tc : Thread nD τ).loc main_arg5)) = y at h1
  unfold lo
  pointwise
  exact h1

theorem V_o_apply (R : Fin 4096) (b : Fin 1024) : V m c main_v32 (ix2 R b) = (X.o R b : EReal) := by
  have h0 := pj0_apply h
  have h1 := pj1_apply h
  have h2 := pj2_apply h
  have h3 := h.w
  have h4 := Cert.OutRef.r_g h
  rw [V_o]
  generalize pj0 (m ((c.tc : Thread nD τ).loc main_arg1)) (m ((c.tc : Thread nD τ).loc main_arg5)) = p0 at h0
  generalize pj1 (m ((c.tc : Thread nD τ).loc main_arg2)) (m ((c.tc : Thread nD τ).loc main_arg5)) = p1 at h1
  generalize pj2 (m ((c.tc : Thread nD τ).loc main_arg3)) (m ((c.tc : Thread nD τ).loc main_arg5)) = p2 at h2
  generalize Cert.OutBwdRefIdeal.Read.val_main_v12 (F := Ideal) (m ((c.tc : Thread nD τ).loc main_arg4)) = g at h4
  generalize (m ((c.tc : Thread nD τ).loc main_arg5)) = w at h3
  unfold lo ot
  pointwise
  simp only [Cert.OutRef.g0, Cert.OutRef.g1, Cert.OutRef.g2, h0, h1, h2, h3, h4, ← EReal.coe_mul, ← EReal.coe_add, coe_sum, In.o, In.mg]

end

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![t.val, 7] := (by decide +kernel : ∀ t : Fin grid0.N, _)
theorem idx5 : ∀ t : Fin cfg0.N, win0_5.index t = ![t.val, 8] := (by decide +kernel : ∀ t : Fin grid0.N, _)
theorem idx6 : ∀ t : Fin cfg0.N, win0_6.index t = ![t.val, 9] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![1, t.val, 0] := (by decide +kernel : ∀ t : Fin grid0.N, _)
theorem idx15 : ∀ t : Fin cfg0.N, win0_15.index t = ![0, 0] := (by decide +kernel : ∀ t : Fin grid0.N, _)

/-- A grid point as a step. -/
def pt (t : Fin cfg0.N) : Fin 16 := ⟨t.val, lt_of_lt_of_eq t.isLt N_0⟩

section
variable {m} {c : Dev nD} {X : In} (h : Real m c X) (t : Fin cfg0.N)
include h

theorem b_dx : ∀ a b, iblk m c 0 t (ix2 a b) = (X.DX (row (pt t) a) b : EReal) := by
  have hN := lt_of_lt_of_eq t.isLt N_0
  intro a b
  rw [← h.dx, ← V_a0 m c]
  blk_ext [iblk, idx0, row, pt]

theorem b_o : ∀ a b, iblk m c 1 t (ix2 a b) = (X.o (row (pt t) a) b : EReal) := by
  have hN := lt_of_lt_of_eq t.isLt N_0
  intro a b
  rw [← V_o_apply h]
  blk_ext [iblk, idx1, row, pt]

theorem b_pg : ∀ b, iblk m c 2 t (ix2 0 b) = (X.PG b : EReal) := by
  have hN := lt_of_lt_of_eq t.isLt N_0
  intro b
  rw [← h.pg, ← V_a6 m c]
  blk_ext [iblk, idx2]

theorem b_wp : ∀ k d b, iblk m c 3 t (ix3 k d b) = (X.W k d b : EReal) := by
  have hN := lt_of_lt_of_eq t.isLt N_0
  intro k d b
  rw [← h.w, ← V_a5 m c]
  blk_ext [iblk, idx3]

theorem b_m0 : ∀ a b, iblk m c 4 t (ix2 a b) = (X.M 0 (row (pt t) a) b : EReal) := by
  have hN := lt_of_lt_of_eq t.isLt N_0
  intro a b
  rw [← h.m, ← V_a4 m c]
  blk_ext [iblk, idx4, row, pt]

theorem b_m1 : ∀ a b, iblk m c 5 t (ix2 a b) = (X.M 1 (row (pt t) a) b : EReal) := by
  have hN := lt_of_lt_of_eq t.isLt N_0
  intro a b
  rw [← h.m, ← V_a4 m c]
  blk_ext [iblk, idx5, row, pt]

theorem b_m2 : ∀ a b, iblk m c 6 t (ix2 a b) = (X.M 2 (row (pt t) a) b : EReal) := by
  have hN := lt_of_lt_of_eq t.isLt N_0
  intro a b
  rw [← h.m, ← V_a4 m c]
  blk_ext [iblk, idx6, row, pt]

theorem b_pa : ∀ a b, iblk m c 7 t (ix2 a b) = (X.p 0 (row (pt t) a) b : EReal) := by
  have hN := lt_of_lt_of_eq t.isLt N_0
  intro a b
  rw [← V_p0_apply h]
  blk_ext [iblk, idx7, row, pt]

theorem b_pb : ∀ a b, iblk m c 8 t (ix2 a b) = (X.p 1 (row (pt t) a) b : EReal) := by
  have hN := lt_of_lt_of_eq t.isLt N_0
  intro a b
  rw [← V_p1_apply h]
  blk_ext [iblk, idx8, row, pt]

theorem b_pc : ∀ a b, iblk m c 9 t (ix2 a b) = (X.p 2 (row (pt t) a) b : EReal) := by
  have hN := lt_of_lt_of_eq t.isLt N_0
  intro a b
  rw [← V_p2_apply h]
  blk_ext [iblk, idx9, row, pt]

/-- The blocks of a step hold the real arrays. -/
theorem blk : Blk X (pt t) (iblk m c 0 t) (iblk m c 1 t) (iblk m c 2 t) (iblk m c 3 t) (iblk m c 4 t) (iblk m c 5 t) (iblk m c 6 t) (iblk m c 7 t) (iblk m c 8 t) (iblk m c 9 t) :=
  ⟨h.eps, b_dx h t, b_o h t, b_pg h t, b_wp h t, b_m0 h t, b_m1 h t, b_m2 h t, b_pa h t, b_pb h t, b_pc h t⟩

end

end Cert.OutBwdProof

end
-- ==== Proof.OutBwd.lean ====
/- The value claim of `_out_bwd`: from real arguments the kernel's six results are the reference's, of the fifth the three
   planes that the kernel writes (hand-written, untrusted). -/
module

public import proofs.«01_k».proof.Defs
public import proofs.«01_k».proof.Proof.OutHost
public import proofs.«01_k».proof.Proof.OutRef
public import proofs.«01_k».proof.Proof.Gen.OutBwdRefIdeal.Run
public import Idealize.ShloMosaic.Lib.Quiescent

@[expose] public section

set_option maxRecDepth 16384

noncomputable section

namespace Cert.OutBwdProof

open Idealize.ShloMosaic Idealize.ShloMosaic.TcCoe Idealize.SL.Sem
open Cert.OutBwdIdeal Cert.OutBwdIdeal.Gen Cert.Finite Cert.Out Cert.OutKernel
open Cert.BranchA (sg)

variable (m : (ℓ : Loc nD τ sig) → Buf (Elt Ideal) ℓ) (ρ : Dev nD → PrngReg)

theorem real_sum (f : Fin 16 → ℝ) (t : ℕ) (ht : t / 16 = 0) (h : ∀ s : Fin 16, 16 * (t / 16) + s.val < cfg0.N) :
    ∑ s : Fin 16, ((f (pt ⟨16 * (t / 16) + s.val, h s⟩) : ℝ) : EReal) = ((∑ s, f s : ℝ) : EReal) := by
  rw [← coe_sum]
  refine Finset.sum_congr rfl fun s _ => congrArg (fun z => ((f z : ℝ) : EReal)) (Fin.ext ?_)
  simp only [pt]
  omega

/-- After the last step: the gain's gradient. -/
theorem dg_last (c : Dev nD) (X : In) (hX : Real m c X) (t : Fin cfg0.N) (ht : t.val % 16 = 15) (b : Fin 1024) :
    (outsAt0 m c t.val t.isLt).2.2.2.2.2 (ix2 0 b) = ((∑ R, X.gg R b : ℝ) : EReal) := by
  have h := Pipeline.eq_sum_fin_of_reset_step_apply_of_flush (fun n h => (outsAt0 m c n h).2.2.2.2.2) 16 (fun _ => (0 : EReal))
    (fun t j => (gT X (pt t) (j 1) : EReal))
    (fun t h0 j => by
      rw [zero_add]
      obtain ⟨a, b, rfl⟩ : ∃ a b, j = ix2 a b := ⟨_, _, ValueIdx.eq_ix2 j⟩
      obtain rfl : a = 0 := Subsingleton.elim _ _
      exact dg_reset m c t X (pt t) (blk hX t) h0 b)
    (fun t h0 j => by
      obtain ⟨a, b, rfl⟩ : ∃ a b, j = ix2 a b := ⟨_, _, ValueIdx.eq_ix2 j⟩
      obtain rfl : a = 0 := Subsingleton.elim _ _
      exact dg_step m c t X (pt t) (blk hX t) h0 b)
    t ht (ix2 0 b)
  refine h.trans ?_
  rw [zero_add]
  refine (real_sum (fun s => gT X s b) _ (by have := lt_of_lt_of_eq t.isLt N_0; omega) _).trans (congrArg _ ?_)
  exact Fin.sum_mul_add_congr (S := 16) (n := 256) (F := fun s a => X.gg (row s a) b) (f := fun R => X.gg R b)
    (fun s a hl => congrArg (fun R => X.gg R b) (Fin.ext (by simp only [row]; omega)))

/-- The reference's first result, plane by plane. -/
theorem ref_dp4 {x0 : Vec Ideal S4096x1024 .f32} {x1 x2 x3 : Vec Ideal S4096x1024 .bf16} {x4 : Vec Ideal S4096x10240 .bf16}
    {x5 : Vec Ideal S4x1024x1024 .bf16} {x6 : Vec Ideal S1x1024 .f32} {X : In} (h : Cert.OutRef.Arr X x0 x1 x2 x3 x4 x5 x6)
    (k : Fin 4) (R : Fin 4096) (b : Fin 1024) :
    Cert.OutBwdRefIdeal.Read.val_main_v104 (F := Ideal) x0 x1 x2 x3 x4 x5 x6 (ix3 k R b) = (pl X k.val R b : EReal) := by
  obtain ⟨h0, h1, h2, h3⟩ := Cert.OutRef.r_dp4 h R b
  fin_cases k
  · exact h0
  · exact h1
  · exact h2
  · exact h3

/-- The three written planes of the reference's fifth result. -/
theorem ref_dz {x0 : Vec Ideal S4096x1024 .f32} {x1 x2 x3 : Vec Ideal S4096x1024 .bf16} {x4 : Vec Ideal S4096x10240 .bf16}
    {x5 : Vec Ideal S4x1024x1024 .bf16} {x6 : Vec Ideal S1x1024 .f32} {X : In} (h : Cert.OutRef.Arr X x0 x1 x2 x3 x4 x5 x6)
    (k : Fin 3) (q : Fin 10) (hq : q.val = 3 + k.val) (R : Fin 4096) (b : Fin 1024) :
    Cert.OutBwdRefIdeal.Read.val_main_v95 (F := Ideal) x0 x1 x2 x3 x4 x5 x6 (ix3 q R b) = (plz X k.val R b : EReal) := by
  have e : q = ⟨3 + k.val, by omega⟩ := Fin.ext hq
  rw [e]
  refine (Cert.OutRef.r_dz h k R b).trans ?_
  fin_cases k <;> rfl

section
variable (X : Dev nD → In) (hX : ∀ c, Real m c (X c))
include hX

theorem a10 (c : Dev nD) : (dats m 0 c).arrAt 10 cfg0.N = (Cert.OutBwdRefIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 10 _ (by decide +kernel) fun t hf y => ?_
  have hN := lt_of_lt_of_eq t.isLt N_0
  blk_simp
  rw [after0_10]
  obtain ⟨k, a, b, rfl⟩ : ∃ k a b, y = ix3 k a b := ⟨_, _, _, ValueIdx.eq_ix3 y⟩
  refine (dp4_block m c t (X c) (pt t) (blk (hX c) t) k a b).trans ((ref_dp4 (hX c) k (row (pt t) a) b).symm.trans ?_)
  blk_ext [idx10, row, pt]

theorem a11 (c : Dev nD) : (dats m 0 c).arrAt 11 cfg0.N = (Cert.OutBwdRefIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 11 _ (by decide +kernel) fun t hf y => ?_
  have hN := lt_of_lt_of_eq t.isLt N_0
  blk_simp
  rw [after0_11]
  obtain ⟨a, b, rfl⟩ : ∃ a b, y = ix2 a b := ⟨_, _, ValueIdx.eq_ix2 y⟩
  refine (dy0_block m c t (X c) (pt t) (blk (hX c) t) a b).trans ((Cert.OutRef.r_dy (hX c) (row (pt t) a) b).1.symm.trans ?_)
  blk_ext [idx11, row, pt]

theorem a12 (c : Dev nD) : (dats m 0 c).arrAt 12 cfg0.N = (Cert.OutBwdRefIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 12 _ (by decide +kernel) fun t hf y => ?_
  have hN := lt_of_lt_of_eq t.isLt N_0
  blk_simp
  rw [after0_12]
  obtain ⟨a, b, rfl⟩ : ∃ a b, y = ix2 a b := ⟨_, _, ValueIdx.eq_ix2 y⟩
  refine (dy1_block m c t (X c) (pt t) (blk (hX c) t) a b).trans ((Cert.OutRef.r_dy (hX c) (row (pt t) a) b).2.1.symm.trans ?_)
  blk_ext [idx12, row, pt]

theorem a13 (c : Dev nD) : (dats m 0 c).arrAt 13 cfg0.N = (Cert.OutBwdRefIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (dats m 0 c).arrAt_eq_of_covers 13 _ (by decide +kernel) fun t hf y => ?_
  have hN := lt_of_lt_of_eq t.isLt N_0
  blk_simp
  rw [after0_13]
  obtain ⟨a, b, rfl⟩ : ∃ a b, y = ix2 a b := ⟨_, _, ValueIdx.eq_ix2 y⟩
  refine (dy2_block m c t (X c) (pt t) (blk (hX c) t) a b).trans ((Cert.OutRef.r_dy (hX c) (row (pt t) a) b).2.2.symm.trans ?_)
  blk_ext [idx13, row, pt]

theorem a14 (c : Dev nD) (i : S10x4096x1024.Idx) (hi : 3 ≤ (i 0).val ∧ (i 0).val < 6) :
    (dats m 0 c).arrAt 14 cfg0.N i = (Cert.OutBwdRefIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) i := by
  have e := (dats m 0 c).arrAt_eq_of_coversWhere 14 (Cert.OutBwdRefIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (P := fun i : S10x4096x1024.Idx => 3 ≤ (i 0).val ∧ (i 0).val < 6) (fun β => β (0 : Fin 3) = 1) (by decide +kernel) (fun t hf y => by
      have hN := lt_of_lt_of_eq t.isLt N_0
      blk_simp
      rw [after0_14]
      obtain ⟨z, hz⟩ : ∃ z : S3x256x1024.Idx, (cfg0.win 14).xinj (cfg0.grid.coords t) y = z := ⟨_, rfl⟩
      have hz0 : (z 0).val = (y 0).val := by rw [← hz]
      have hz1 : (z 1).val = (y 1).val := by rw [← hz]
      have hz2 : (z 2).val = (y 2).val := by rw [← hz]
      have h3 : (z 0).val < 3 := (z 0).isLt
      have e : (win0_14.blk t).view.emb y = ix3 ⟨3 + (z 0).val, by omega⟩ (row (pt t) (z 1)) (z 2) := by blk_ext [idx14, row, pt]
      refine Eq.trans (b := (outsAt0 m c t.val t.isLt).2.2.2.2.1 (ix3 (z 0) (z 1) (z 2))) (congrArg _ (hz.trans (ValueIdx.eq_ix3 z))) ?_
      exact (dz_block m c t (X c) (pt t) (blk (hX c) t) (z 0) (z 1) (z 2)).trans
        ((ref_dz (hX c) (z 0) ⟨3 + (z 0).val, by omega⟩ rfl (row (pt t) (z 1)) (z 2)).symm.trans (congrArg _ e).symm))
    (fun j => by blk_simp [Pipeline.Window.cell_apply]; omega)
  rw [e]
  exact if_pos hi

theorem a15 (c : Dev nD) : (dats m 0 c).arrAt 15 cfg0.N = (Cert.OutBwdRefIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (dats m 0 c).arrAt_eq_of_covers 15 _ (by decide +kernel) fun t hf y => ?_
  have ht := (flush0_15 t).mp hf
  blk_simp
  rw [after0_15]
  obtain ⟨a, b, rfl⟩ : ∃ a b, y = ix2 a b := ⟨_, _, ValueIdx.eq_ix2 y⟩
  obtain rfl : a = 0 := Subsingleton.elim _ _
  refine (dg_last m c (X c) (hX c) t ht b).trans ((Cert.OutRef.r_dpg (hX c) b).symm.trans ?_)
  blk_ext [idx15]

/-- The kernel's run: the results (of the fifth the written planes), the arguments unchanged. -/
theorem run : θ_run defs (onTc (τ := τ) (main (F := Ideal))) ⟨m, fun _ => 0, ρ⟩ fun r => ∀ c : Dev nD,
      r.2.mem ((c.tc : Thread nD τ).loc main_v33_0) = Cert.OutBwdRefIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v33_1) = Cert.OutBwdRefIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v33_2) = Cert.OutBwdRefIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v33_3) = Cert.OutBwdRefIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ (∀ i : S10x4096x1024.Idx, 3 ≤ (i 0).val ∧ (i 0).val < 6 → r.2.mem ((c.tc : Thread nD τ).loc main_v33_4) i = Cert.OutBwdRefIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i)
      ∧ r.2.mem ((c.tc : Thread nD τ).loc main_v33_5) = Cert.OutBwdRefIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun r h c => ⟨((h.1 c).1 10).trans (a10 m X hX c), ((h.1 c).1 11).trans (a11 m X hX c), ((h.1 c).1 12).trans (a12 m X hX c),
    ((h.1 c).1 13).trans (a13 m X hX c), fun i hi => (congrFun ((h.1 c).1 14) i).trans (a14 m X hX c i hi), ((h.1 c).1 15).trans (a15 m X hX c), h.2 c⟩) (θ_run_and (run_main m ρ) (unchanged m ρ))
end

/-- The mask selects the written planes only. -/
theorem mask [Cert.On_o_written.Facts] (x0 : Vec Ideal S4096x1024 .f32) (x1 x2 x3 : Vec Ideal S4096x1024 .bf16)
    (x4 : Vec Ideal S4096x10240 .bf16) (x5 : Vec Ideal S4x1024x1024 .bf16) (x6 : Vec Ideal S1x1024 .f32) (i : S10x4096x1024.Idx)
    (h : (Cert.On_o_written.fn (F := Ideal) x0 x1 x2 x3 x4 x5 x6).2.2.2.2.1 i = 1#1) : 3 ≤ (i 0).val ∧ (i 0).val < 6 := by
  obtain ⟨a, b, d, rfl⟩ : ∃ (a : Fin 10) (b : Fin 4096) (d : Fin 1024), i = ix3 a b d := ⟨_, _, _, ValueIdx.eq_ix3 i⟩
  have e : ∀ a : Fin 10, IntOp.andi (IntOp.cmpi .sge (BitVec.ofNat 32 a.val) 3#32) (IntOp.cmpi .slt (BitVec.ofNat 32 a.val) 6#32) = 1#1 →
      3 ≤ a.val ∧ a.val < 6 := by decide +kernel
  exact e a h

/-- The claim: from real arguments on which the two memories agree, kernel and reference end with equal results. -/
theorem algebraic [Cert.Pre_o_finite.Facts] [Cert.On_o_written.Facts] : algebraic_OutBwdIdeal_OutBwdRefIdeal_on_o_written_pre_o_finite := by
  intro m g m' g' hpre hag
  choose X hX using fun c => arr_of_pre _ _ _ _ _ _ _ (hpre c)
  refine ⟨fun c => Cert.OutBwdRefIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.OutBwdRefIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.OutBwdRefIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.OutBwdRefIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.OutBwdRefIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.OutBwdRefIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    (θ_run _ _ _).mono (fun r h c => ?_) (run m g X hX), (θ_run _ _ _).mono (fun r h c => ?_) (Cert.OutBwdRefIdeal.Value.run (F := Ideal) m' g')⟩
  · obtain ⟨h0, h1, h2, h3, h4, h5, h6⟩ := h c
    exact ⟨fun i _ => congrFun h0 i, fun i _ => congrFun h1 i, fun i _ => congrFun h2 i, fun i _ => congrFun h3 i,
      fun i hi => h4 i (mask _ _ _ _ _ _ _ i hi), fun i _ => congrFun h5 i, h6⟩
  · obtain ⟨h0, h1, h2, h3, h4, h5, h6⟩ := h c
    obtain ⟨e0, e1, e2, e3, e4, e5, e6⟩ := hag c
    have g0 : r.2.mem ((c.tc : Thread Cert.OutBwdRefIdeal.nD Cert.OutBwdRefIdeal.τ).loc Cert.OutBwdRefIdeal.main_v104)
        = Cert.OutBwdRefIdeal.Read.val_main_v104 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
      clear hpre hX
      rw [← e0, ← e1, ← e2, ← e3, ← e4, ← e5, ← e6]
      exact h0.trans (Cert.OutBwdRefIdeal.Read.val_main_v104_eq _)
    have g1 : r.2.mem ((c.tc : Thread Cert.OutBwdRefIdeal.nD Cert.OutBwdRefIdeal.τ).loc Cert.OutBwdRefIdeal.main_v105)
        = Cert.OutBwdRefIdeal.Read.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
      clear hpre hX
      rw [← e0, ← e1, ← e2, ← e3, ← e4, ← e5, ← e6]
      exact h1.trans (Cert.OutBwdRefIdeal.Read.val_main_v105_eq _)
    have g2 : r.2.mem ((c.tc : Thread Cert.OutBwdRefIdeal.nD Cert.OutBwdRefIdeal.τ).loc Cert.OutBwdRefIdeal.main_v106)
        = Cert.OutBwdRefIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
      clear hpre hX
      rw [← e0, ← e1, ← e2, ← e3, ← e4, ← e5, ← e6]
      exact h2.trans (Cert.OutBwdRefIdeal.Read.val_main_v106_eq _)
    have g3 : r.2.mem ((c.tc : Thread Cert.OutBwdRefIdeal.nD Cert.OutBwdRefIdeal.τ).loc Cert.OutBwdRefIdeal.main_v107)
        = Cert.OutBwdRefIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
      clear hpre hX
      rw [← e0, ← e1, ← e2, ← e3, ← e4, ← e5, ← e6]
      exact h3.trans (Cert.OutBwdRefIdeal.Read.val_main_v107_eq _)
    have g4 : r.2.mem ((c.tc : Thread Cert.OutBwdRefIdeal.nD Cert.OutBwdRefIdeal.τ).loc Cert.OutBwdRefIdeal.main_v95)
        = Cert.OutBwdRefIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
      clear hpre hX
      rw [← e0, ← e1, ← e2, ← e3, ← e4, ← e5, ← e6]
      exact h4.trans (Cert.OutBwdRefIdeal.Read.val_main_v95_eq _)
    have g5 : r.2.mem ((c.tc : Thread Cert.OutBwdRefIdeal.nD Cert.OutBwdRefIdeal.τ).loc Cert.OutBwdRefIdeal.main_v57)
        = Cert.OutBwdRefIdeal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
      clear hpre hX
      rw [← e0, ← e1, ← e2, ← e3, ← e4, ← e5]
      exact h5.trans (Cert.OutBwdRefIdeal.Read.val_main_v57_eq _)
    refine ⟨?_, ?_, ?_, ?_, ?_, ?_, h6⟩
    · exact fun i _ => congrFun g0 i
    · exact fun i _ => congrFun g1 i
    · exact fun i _ => congrFun g2 i
    · exact fun i _ => congrFun g3 i
    · exact fun i _ => congrFun g4 i
    · exact fun i _ => congrFun g5 i

/-- The reference's frame: the host program runs and leaves its arguments as they were. -/
theorem frame_ref : quiescent_OutBwdRefIdeal := fun m ρ _ =>
  (θ_run _ _ _).mono (fun r h => ⟨fun c => (h c).2.2.2.2.2.2, sem_eq_zero_of_no_sems (by decide) r.2⟩)
    (Cert.OutBwdRefIdeal.Value.run (F := Ideal) m ρ)

end Cert.OutBwdProof

end
-- ==== Proof.MemKv.lean ====
/- The value claim of `_kv`: the memory's keys and values, the normed memory times the weights (hand-written, untrusted). -/
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.MemKvProof

open Idealize.ShloMosaic Idealize.ShloMosaic.TcCoe Idealize.SL.Sem
open Cert.MemKvIdeal (S256x1024 S1x1024 S1024x2048)

/-- Both programs take the same products of the normed memory. -/
theorem keys_values (a0 : Vec Ideal S256x1024 .f32) (a1 : Vec Ideal S1x1024 .f32) (a2 : Vec Ideal S1024x2048 .bf16) :
    Cert.MemKvRefIdeal.Read.val_main_v14 (F := Ideal) a0 a1 a2 = Cert.MemKvIdeal.Value.G3 a0 a1 a2 := by
  rw [← Cert.MemKvRefIdeal.Read.val_main_v14_eq]
  funext j
  idx_vars j
  pointwise! [Cert.MemKvIdeal.Gen.k0_pay1]

/-- The claim: from memories that agree on the arguments, kernel and reference end with equal results. -/
theorem algebraic : algebraic_MemKvIdeal_MemKvRefIdeal := by
  intro m g m' g' _ hag
  refine ⟨_, Cert.MemKvIdeal.Value.run (F := Ideal) m g,
    (θ_run _ _ _).mono (fun r h c => ?_) (Cert.MemKvRefIdeal.Value.run (F := Ideal) m' g')⟩
  obtain ⟨h0, h2⟩ := h c
  obtain ⟨e0, e1, e2⟩ := hag c
  rw [e0, e1, e2] at h0
  exact ⟨h0.trans (keys_values _ _ _), h2⟩

/-- The reference's frame: the host program runs and leaves its arguments as they were. -/
theorem frame_ref : quiescent_MemKvRefIdeal := fun m ρ _ =>
  (θ_run _ _ _).mono (fun r h => ⟨fun c => (h c).2, sem_eq_zero_of_no_sems (by decide) r.2⟩)
    (Cert.MemKvRefIdeal.Value.run (F := Ideal) m ρ)

end Cert.MemKvProof

end
-- ==== Proof.Forward.lean ====
/- The logistic function as a hyperbolic tangent and as a quotient, for all extended reals (hand-written, untrusted). -/
module

public import proofs.«01_k».proof.Proof.Finite

@[expose] public section

noncomputable section

namespace Cert.Forward

open Idealize.ShloMosaic Cert.Finite

/-- The gate's weight as a kernel writes it, from the printed one half. -/
def sgm (x : EReal) : EReal := ((1 / 2 : ℝ) : EReal) * Ideal.tanh (((1 / 2 : ℝ) : EReal) * x) + ((1 / 2 : ℝ) : EReal)

/-- The same weight as the reference writes it. -/
theorem sgm_eq (x : EReal) : Ideal.div 1 (1 + Ideal.exp (-x)) = sgm x := by
  unfold sgm
  induction x with
  | bot =>
    rw [EReal.neg_bot, Ideal.exp_top, EReal.coe_mul_bot_of_pos (by norm_num), Ideal.tanh_bot]
    have h1 : Ideal.div 1 (1 + ⊤) = 0 := by
      have e : (1 : EReal) + ⊤ = ⊤ := EReal.coe_add_top 1
      rw [e]; simp [Ideal.div]
    rw [h1]
    have h2 : (-1 : EReal) = ((-1 : ℝ) : EReal) := rfl
    rw [h2, ← EReal.coe_mul, ← EReal.coe_add]
    norm_num
  | top =>
    rw [EReal.neg_top, Ideal.exp_bot, EReal.coe_mul_top_of_pos (by norm_num), Ideal.tanh_top, add_zero, mul_one, ← EReal.coe_add]
    have h1 : Ideal.div 1 1 = 1 := by simp [Ideal.div]
    rw [h1]
    norm_num
  | coe r =>
    have h := Real.exp_pos (-r)
    rw [← EReal.coe_neg, Ideal.exp_coe, ← EReal.coe_mul, Ideal.tanh_coe, ← EReal.coe_mul, ← EReal.coe_add, ← EReal.coe_one, ← EReal.coe_add,
      div_real (by positivity), logistic_eq]

end Cert.Forward

end
-- ==== Proof.BranchAFwd.lean ====
/- The value claim of `_branch_a`: the normed input mixed along each chunk and gated twice, for all extended reals
   (hand-written, untrusted). -/
module

public import proofs.«01_k».proof.Defs
public import proofs.«01_k».proof.Proof.Forward
public import proofs.«01_k».proof.Proof.BranchAKernel
public import proofs.«01_k».proof.Proof.BranchARef
public import proofs.«01_k».proof.Proof.Gen.BranchAFwdIdeal.Value
public import proofs.«01_k».proof.Proof.Gen.BranchAFwdRefIdeal.Run
public import proofs.«01_k».proof.Proof.Gen.BranchAFwdRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.BranchAFwdProof

open Idealize.ShloMosaic Idealize.ShloMosaic.TcCoe Idealize.SL.Sem
open Cert.Forward Cert.Finite Cert.BranchA
open Cert.BranchARef (nn ii nn_def ii_def grp_def nn_mk ii_mk lane_mk lane_div)
open Cert.BranchAKernel (ch cn pi cn0 cn1 cn2 cn3 pi0 pi1 pi2 pi3 gr0 gr1 gr2 gr3 gr4 gr5 gr6 gr7)

/-- The arguments at an index, rows by their chunk and their place in it: the two gates' inputs, the mixed input, the norm's
    gain and bias, the mixing matrices, their biases. -/
structure Args where
  U : Fin 32 → Fin 128 → Fin 1024 → EReal
  V : Fin 32 → Fin 128 → Fin 1024 → EReal
  G : Fin 32 → Fin 128 → Fin 1024 → EReal
  lg : Fin 1024 → EReal
  lb : Fin 1024 → EReal
  ws : Fin 8 → Fin 128 → Fin 128 → EReal
  bs : Fin 8 → Fin 128 → EReal

namespace Args

variable (X : Args) (N : Fin 32) (i : Fin 128) (c : Fin 1024)

/-- The centred row, its factor, the normed row, the mixed row, the branch's output. -/
def d : EReal := X.V N i c - Ideal.div (∑ c, X.V N i c) (Ideal.ofBits FTy.f32 1149239296#32)
def r : EReal := Ideal.rsqrt (Ideal.div (∑ c, X.d N i c * X.d N i c) (Ideal.ofBits FTy.f32 1149239296#32) + Ideal.ofBits FTy.f32 897988541#32)
def vn : EReal := X.d N i c * X.r N i * X.lg c + X.lb c
def W (g : Fin 8) (i k : Fin 128) : EReal := if 64 ≤ i.val ∨ k.val < 64 then X.ws g i k else 0
def sv : EReal := (∑ k, X.W (grp c) i k * X.vn N k c) + X.bs (grp c) i
def ug : EReal := X.U N i c * (X.G N i c * sgm (X.G N i c))
def y : EReal := X.ug N i c * X.sv N i c

end Args

/-- The mask's choice. -/
theorem select_mask' (i k : Fin 128) (a : EReal) :
    Scalar.select (if 64 ≤ i.val ∨ k.val < 64 then 1#1 else 0#1) a 0 = if 64 ≤ i.val ∨ k.val < 64 then a else 0 := by
  split_ifs <;> simp [Scalar.select]

/-! ### The reference -/

section Reference
open Cert.BranchAFwdRefIdeal Read

/-- The arguments as the arrays hold them. -/
def ofArr (x0 : Vec Ideal S4096x10240 .bf16) (x1 x2 : Vec Ideal S1x1024 .f32) (x3 : Vec Ideal S8x128x128 .f32)
    (x4 : Vec Ideal S8x128 .f32) : Args where
  U N i c := x0 (ix2 ⟨128 * N.val + i.val, by omega⟩ ⟨c.val, by omega⟩)
  V N i c := x0 (ix2 ⟨128 * N.val + i.val, by omega⟩ ⟨1024 + c.val, by omega⟩)
  G N i c := x0 (ix2 ⟨128 * N.val + i.val, by omega⟩ ⟨2048 + c.val, by omega⟩)
  lg c := x1 (ix2 0 c)
  lb c := x2 (ix2 0 c)
  ws g i k := x3 (ix3 g i k)
  bs g i := x4 (ix2 g i)

variable (x0 : Vec Ideal S4096x10240 .bf16) (x1 x2 : Vec Ideal S1x1024 .f32) (x3 : Vec Ideal S8x128x128 .f32)
    (x4 : Vec Ideal S8x128 .f32)

local notation "X" => ofArr x0 x1 x2 x3 x4

theorem row_nn (R : Fin 4096) (h) : (⟨128 * (nn R).val + (ii R).val, h⟩ : Fin 4096) = R := Fin.ext (by simp only [nn, ii]; omega)

/-- The reference's mask, decided. -/
theorem mask_eq : ∀ (i k : Fin 128), val_main_v34 (F := Ideal) (ix2 i k) = if 64 ≤ i.val ∨ k.val < 64 then 1#1 else 0#1 := by
  simp only [val_main_v34, val_main_v33, val_main_v32, val_main_v31, val_main_v30, val_main_v29, val_main_call0_v13, val_main_call0_v12,
    val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_c, val_main_call0_c,
    val_main_call0_c_0, val_main_v28]
  intro i k
  pointwise
  revert i k
  decide +kernel

theorem r_z (R : Fin 4096) (c : Fin 1024) : val_main_v2 (F := Ideal) x0 (ix2 R c) = (X).U (nn R) (ii R) c
    ∧ val_main_v3 (F := Ideal) x0 (ix2 R c) = (X).V (nn R) (ii R) c ∧ val_main_v4 (F := Ideal) x0 (ix2 R c) = (X).G (nn R) (ii R) c := by
  simp only [val_main_v2, val_main_v3, val_main_v4, val_main_v1, val_main_v0]
  refine ⟨?_, ?_, ?_⟩ <;> pointwise <;> simp only [ofArr, row_nn]

theorem r_d (R : Fin 4096) (c : Fin 1024) : val_main_v17 (F := Ideal) x0 (ix2 R c) = (X).d (nn R) (ii R) c
    ∧ val_main_v10 (F := Ideal) x0 (ix2 R c) = (X).d (nn R) (ii R) c := by
  have h := fun R c => (r_z x0 x1 x2 x3 x4 R c).2.1
  simp only [val_main_v17, val_main_v16, val_main_v10, val_main_v9, val_main_v8, val_main_v7, val_main_v6, val_main_v5, val_main_cst, val_main_cst_0]
  generalize val_main_v3 (F := Ideal) x0 = y at h
  constructor <;> pointwise <;> simp only [h, Args.d]

theorem r_r (R : Fin 4096) : val_main_v20 (F := Ideal) x0 (ix2 R 0) = (X).r (nn R) (ii R) := by
  have h := fun R c => (r_d x0 x1 x2 x3 x4 R c).2
  simp only [val_main_v20, val_main_v19, val_main_v18, val_main_v15, val_main_v14, val_main_v13, val_main_v12, val_main_v11, val_main_cst_1,
    val_main_cst_2, val_main_cst_3]
  generalize val_main_v10 (F := Ideal) x0 = y at h
  pointwise
  simp only [h, Args.r]

theorem r_vn (N : Fin 32) (i : Fin 128) (g : Fin 8) (j : Fin 128) :
    val_main_v27 (F := Ideal) x0 x1 x2 (ix4 N i g j) = (X).vn N i (lane g j) := by
  have h := fun R c => (r_d x0 x1 x2 x3 x4 R c).1
  have h' := r_r x0 x1 x2 x3 x4
  simp only [val_main_v27, val_main_v26, val_main_v25, val_main_v24, val_main_v23, val_main_v22, val_main_v21]
  generalize val_main_v17 (F := Ideal) x0 = y at h
  generalize val_main_v20 (F := Ideal) x0 = z at h'
  pointwise
  simp only [h, h', nn_mk, ii_mk, lane_mk, Args.vn]
  rfl

theorem r_W (g : Fin 8) (i k : Fin 128) : val_main_v37 (F := Ideal) x3 (ix3 g i k) = (X).W g i k := by
  have h := mask_eq i k
  simp only [val_main_v37, val_main_v36, val_main_v35, val_main_call1_v0, val_main_cst_4]
  generalize val_main_v34 (F := Ideal) = y at h
  pointwise
  simp only [h, select_mask', Args.W]
  rfl

theorem r_sv (R : Fin 4096) (c : Fin 1024) : val_main_v44 (F := Ideal) x0 x1 x2 x3 x4 (ix2 R c) = (X).sv (nn R) (ii R) c := by
  have h := r_vn x0 x1 x2 x3 x4
  have h' := r_W x0 x1 x2 x3 x4
  simp only [val_main_v44, val_main_v43, val_main_v42, val_main_v41, val_main_v40, val_main_v39, val_main_v38]
  generalize val_main_v27 (F := Ideal) x0 x1 x2 = y at h
  generalize val_main_v37 (F := Ideal) x3 = z at h'
  pointwise
  simp only [h, h', lane_div, Args.sv]
  simp only [nn_def, ii_def, grp_def]
  exact congrArg (· + _) (Finset.sum_congr rfl fun k _ => mul_comm _ _)

theorem r_y (R : Fin 4096) (c : Fin 1024) : val_main_v48 (F := Ideal) x0 x1 x2 x3 x4 (ix2 R c) = (X).y (nn R) (ii R) c := by
  have h := r_sv x0 x1 x2 x3 x4
  have hu := fun R c => (r_z x0 x1 x2 x3 x4 R c).1
  have hg := fun R c => (r_z x0 x1 x2 x3 x4 R c).2.2
  simp only [val_main_v48, val_main_v47, val_main_v46, val_main_v45, val_main_call2_v0, val_main_call2_v1, val_main_call2_v2,
    val_main_call2_v3, val_main_call2_v4, val_main_call2_v5, val_main_call2_cst, val_main_call2_cst_0]
  generalize val_main_v44 (F := Ideal) x0 x1 x2 x3 x4 = y at h
  generalize val_main_v2 (F := Ideal) x0 = u at hu
  generalize val_main_v4 (F := Ideal) x0 = g at hg
  pointwise
  rw [Args.y, Args.ug, ← sgm_eq, mul_right_comm]
  simp only [h, hu, hg]

end Reference

/-! ### The kernel's blocks -/

section Kernel
open Cert.BranchAFwdIdeal Cert.BranchAFwdIdeal.Gen

/-- The blocks of a step hold the arguments. -/
structure Blocks (X : Args) (t : Fin 8) (u0 u1 u2 : Vec Ideal S512x1024 .bf16) (u3 u4 : Vec Ideal S1x1024 .f32)
    (u5 u6 : Vec Ideal S8x128x128 .f32) : Prop where
  u : ∀ a c, u0 (ix2 a c) = X.U (cn t a) (pi a) c
  v : ∀ a c, u1 (ix2 a c) = X.V (cn t a) (pi a) c
  g : ∀ a c, u2 (ix2 a c) = X.G (cn t a) (pi a) c
  lg : ∀ c, u3 (ix2 0 c) = X.lg c
  lb : ∀ c, u4 (ix2 0 c) = X.lb c
  ws : ∀ g i k, u5 (ix3 g i k) = X.ws g i k
  bs : ∀ g i k, u6 (ix3 g i k) = X.bs g i

variable {X : Args} {t : Fin 8} {u0 u1 u2 : Vec Ideal S512x1024 .bf16} {u3 u4 : Vec Ideal S1x1024 .f32}
    {u5 u6 : Vec Ideal S8x128x128 .f32} (hb : Blocks X t u0 u1 u2 u3 u4 u5 u6)
include hb

theorem b_vn (a : Fin 512) (c : Fin 1024) : k0_pay52 (F := Ideal) u0 u1 u2 u3 u4 u5 u6 (ix2 a c) = X.vn (cn t a) (pi a) c := by
  obtain ⟨g0, g1, g2, g3, g4, g5, g6⟩ := hb
  unfold k0_pay52
  open_payloads
  pointwise
  simp only [g1, g3, g4, Args.vn, Args.r, Args.d]

theorem b_ug (a : Fin 512) (c : Fin 1024) : k0_pay53 (F := Ideal) u0 u1 u2 u3 u4 u5 u6 (ix2 a c) = X.ug (cn t a) (pi a) c := by
  obtain ⟨g0, g1, g2, g3, g4, g5, g6⟩ := hb
  unfold k0_pay53
  open_payloads
  pointwise
  simp only [g0, g2, half, Args.ug, sgm]

omit hb in
theorem b_mask (i k : Fin 128) : k0_pay54 (F := Ideal) u0 u1 u2 u3 u4 u5 u6 (ix2 i k) = if 64 ≤ i.val ∨ k.val < 64 then 1#1 else 0#1 := by
  unfold k0_pay54 k0_pay51 k0_pay50
  open_payloads
  pointwise
  exact mask i k

omit hb in
theorem b_iota (i k : Fin 128) : k0_pay50 (F := Ideal) u0 u1 u2 u3 u4 u5 u6 (ix2 i k) = BitVec.ofNat 32 i
    ∧ k0_pay51 (F := Ideal) u0 u1 u2 u3 u4 u5 u6 (ix2 i k) = BitVec.ofNat 32 k := by
  unfold k0_pay51 k0_pay50
  constructor <;> pointwise

set_option maxHeartbeats 16000000 in
/-- The output of a step. -/
theorem b_y (a : Fin 512) (c : Fin 1024) : out0_7 (F := Ideal) u0 u1 u2 u3 u4 u5 u6 (ix2 a c) = X.y (cn t a) (pi a) c := by
  have hv := b_vn hb
  have hu := b_ug hb
  have hm := b_mask (u0 := u0) (u1 := u1) (u2 := u2) (u3 := u3) (u4 := u4) (u5 := u5) (u6 := u6)
  have hi := fun i k => (b_iota (u0 := u0) (u1 := u1) (u2 := u2) (u3 := u3) (u4 := u4) (u5 := u5) (u6 := u6) i k).1
  have hk := fun i k => (b_iota (u0 := u0) (u1 := u1) (u2 := u2) (u3 := u3) (u4 := u4) (u5 := u5) (u6 := u6) i k).2
  obtain ⟨g0, g1, g2, g3, g4, g5, g6⟩ := hb
  unfold out0_7 k0_pay59 k0_pay58 k0_pay57 k0_pay56 k0_pay55
  generalize k0_pay52 (F := Ideal) u0 u1 u2 u3 u4 u5 u6 = yv at hv
  generalize k0_pay53 (F := Ideal) u0 u1 u2 u3 u4 u5 u6 = yu at hu
  generalize k0_pay54 (F := Ideal) u0 u1 u2 u3 u4 u5 u6 = ym at hm
  canon_tiles x h
  all_goals idx_vars x
  all_goals
    have e0 : a = (⟨_, lt_of_eq_of_lt h0.symm a.isLt⟩ : Fin 512) := Fin.ext h0
    have e1 : c = (⟨_, lt_of_eq_of_lt h1.symm c.isLt⟩ : Fin 1024) := Fin.ext h1
    rw [e0, e1]
    open_payloads
    pointwise
    simp only [hv, hu, hm, hi, hk, mask, g5, g6, select_mask', cn0, cn1, cn2, cn3, pi0, pi1, pi2, pi3, gr0, gr1, gr2, gr3, gr4, gr5, gr6, gr7, Args.y,
      Args.sv, Args.W, ite_mul, zero_mul]
    try rfl

end Kernel

/-! ### The runs -/

section Runs
open Cert.BranchAFwdIdeal Cert.BranchAFwdIdeal.Gen

variable (m : (ℓ : Loc nD τ sig) → Buf (Elt Ideal) ℓ) (ρ : Dev nD → PrngReg)

theorem idx : ∀ t : Fin cfg0.N, win0_0.index t = ![t.val, 0] ∧ win0_1.index t = ![t.val, 1] ∧ win0_2.index t = ![t.val, 2]
    ∧ win0_3.index t = ![0, 0] ∧ win0_4.index t = ![0, 0] ∧ win0_5.index t = ![0, 0, 0] ∧ win0_6.index t = ![0, 0, 0]
    ∧ win0_7.index t = ![t.val, 0] :=
  (by decide +kernel : ∀ t : Fin grid0.N, _)

/-- A grid point as a step. -/
def pt (t : Fin cfg0.N) : Fin 8 := ⟨t.val, lt_of_lt_of_eq t.isLt N_0⟩

/-- The arguments of core `c`. -/
abbrev args (c : Dev nD) : Args := ofArr (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))

/-- The biases spread along their second axis, read. -/
theorem spread (c : Dev nD) (g : Fin 8) (i k : Fin 128) : V m c main_v1 (ix3 g i k) = m ((c.tc : Thread nD τ).loc main_arg4) (ix2 g i) := by
  have h : V m c main_v1 = broadcastInDim S8x128x128 ![0, 1, 2] bcast_S8x128x1_S8x128x128_0_1_2
      (broadcastInDim S8x128x1 ![0, 1] bcast_S8x128_S8x128x1_0_1 (m ((c.tc : Thread nD τ).loc main_arg4))) := by
    simp only [V, hostOps0]
    after_results_simp
  rw [h]
  pointwise

theorem blocks (c : Dev nD) (t : Fin cfg0.N) : Blocks (args m c) (pt t) (iblk m c 0 t) (iblk m c 1 t) (iblk m c 2 t) (iblk m c 3 t)
    (iblk m c 4 t) (iblk m c 5 t) (iblk m c 6 t) := by
  have hN := lt_of_lt_of_eq t.isLt N_0
  constructor
  · intro a b
    refine Eq.trans ?_ (congrFun (V_main_arg0 m c) _)
    blk_ext [iblk, idx _, cn, pi, pt]
  · intro a b
    refine Eq.trans ?_ (congrFun (V_main_arg0 m c) _)
    blk_ext [iblk, idx _, cn, pi, pt]
  · intro a b
    refine Eq.trans ?_ (congrFun (V_main_arg0 m c) _)
    blk_ext [iblk, idx _, cn, pi, pt]
  · intro b
    refine Eq.trans ?_ (congrFun (V_main_arg1 m c) _)
    blk_ext [iblk, idx _]
  · intro b
    refine Eq.trans ?_ (congrFun (V_main_arg2 m c) _)
    blk_ext [iblk, idx _]
  · intro g i k
    refine Eq.trans ?_ (congrFun (V_main_arg3 m c) _)
    blk_ext [iblk, idx _]
  · intro g i k
    refine Eq.trans ?_ (spread m c g i k)
    blk_ext [iblk, idx _]

theorem array7 (c : Dev nD) : (dats m 0 c).arrAt 7 cfg0.N = fun j => (args m c).y (nn (j 0)) (ii (j 0)) (j 1) := by
  refine (dats m 0 c).arrAt_eq_of_covers 7 _ (by decide +kernel) fun t hf y => ?_
  have hN := lt_of_lt_of_eq t.isLt N_0
  blk_simp
  rw [after0_7]
  obtain ⟨a, b, rfl⟩ : ∃ a b, y = ix2 a b := ⟨_, _, ValueIdx.eq_ix2 y⟩
  refine (b_y (blocks m c t) a b).trans ?_
  have e : (win0_7.blk t).view.emb (ix2 a b) = ix2 (⟨512 * t.val + a.val, by omega⟩ : Fin 4096) b := by blk_ext [idx _]
  refine Eq.trans ?_ (congrArg (fun j : S4096x1024.Idx => (args m c).y (nn (j 0)) (ii (j 0)) (j 1)) e).symm
  have f0 : cn (pt t) a = nn ⟨512 * t.val + a.val, by omega⟩ := Fin.ext (by simp only [cn, nn, pt]; omega)
  have f1 : pi a = ii ⟨512 * t.val + a.val, by omega⟩ := Fin.ext (by simp only [pi, ii]; omega)
  rw [f0, f1]
  rfl

end Runs

/-- The claim: from memories that agree on the arguments, kernel and reference end with equal results. -/
theorem algebraic : algebraic_BranchAFwdIdeal_BranchAFwdRefIdeal := by
  intro m g m' g' _ hag
  refine ⟨_, Cert.BranchAFwdIdeal.Value.run_blocks (F := Ideal) m g,
    (θ_run _ _ _).mono (fun r h c => ?_) (Cert.BranchAFwdRefIdeal.Value.run (F := Ideal) m' g')⟩
  obtain ⟨h0, h1⟩ := h c
  obtain ⟨e0, e1, e2, e3, e4⟩ := hag c
  refine ⟨h0.trans ?_, h1⟩
  refine (Cert.BranchAFwdRefIdeal.Read.val_main_v48_eq m' c).trans ?_
  rw [e0, e1, e2, e3, e4]
  refine Eq.trans ?_ (array7 m c).symm
  funext j
  obtain ⟨a, b, rfl⟩ : ∃ a b, j = ix2 a b := ⟨_, _, ValueIdx.eq_ix2 j⟩
  exact r_y _ _ _ _ _ a b

/-- The reference's frame: the host program runs and leaves its arguments as they were. -/
theorem frame_ref : quiescent_BranchAFwdRefIdeal := fun m ρ _ =>
  (θ_run _ _ _).mono (fun r h => ⟨fun c => (h c).2, sem_eq_zero_of_no_sems (by decide) r.2⟩)
    (Cert.BranchAFwdRefIdeal.Value.run (F := Ideal) m ρ)

end Cert.BranchAFwdProof

end
-- ==== Proof.BranchCFwd.lean ====
/- The value claim of `_branch_c`: attention over the memory's rows, gated, and the weights that it saves, for all extended
   reals (hand-written, untrusted). -/
module

public import proofs.«01_k».proof.Defs
public import proofs.«01_k».proof.Proof.Forward
public import proofs.«01_k».proof.Proof.BranchCModel
public import proofs.«01_k».proof.Proof.Gen.BranchCFwdIdeal.Value
public import proofs.«01_k».proof.Proof.Gen.BranchCFwdRefIdeal.Run
public import proofs.«01_k».proof.Proof.Gen.BranchCFwdRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.BranchCFwdProof

open Idealize.ShloMosaic Idealize.ShloMosaic.TcCoe Idealize.SL.Sem
open Cert.BranchC (lane kc vc hd hd_lane neg_inf)
open Cert.Forward Cert.Finite

/-- The arguments at an index: the queries, the gate's input, the keys and values side by side. -/
structure Args where
  Q : Fin 4096 → Fin 1024 → EReal
  G : Fin 4096 → Fin 1024 → EReal
  KV : Fin 256 → Fin 2048 → EReal

namespace Args

variable (X : Args) (R : Fin 4096) (h : Fin 4) (m : Fin 256) (c : Fin 1024)

/-- The scores; the weights, the row's greatest score taken away; the attention; the gated attention; the weights, the heads
    side by side. -/
def s : EReal := (∑ d, X.Q R (lane h d) * X.KV m (kc (lane h d))) * Ideal.ofBits FTy.f32 0x3D800000#32
def w : EReal := Ideal.div (Ideal.exp (X.s R h m - Finset.univ.fold max ⊥ fun k => X.s R h k))
  (∑ k, Ideal.exp (X.s R h k - Finset.univ.fold max ⊥ fun k => X.s R h k))
def att : EReal := ∑ k, X.w R (hd c) k * X.KV k (vc c)
def y : EReal := X.att R c * (X.G R c * sgm (X.G R c))
def p : EReal := X.w R (hd c) ⟨c.val % 256, by omega⟩

end Args

/-! ### The reference -/

section Reference
open Cert.BranchCFwdRefIdeal Read

/-- The arguments as the arrays hold them. -/
def ofArr (x0 : Vec Ideal S4096x10240 .bf16) (x1 : Vec Ideal S256x2048 .bf16) : Args where
  Q R c := x0 (ix2 R ⟨5120 + c.val, by omega⟩)
  G R c := x0 (ix2 R ⟨6144 + c.val, by omega⟩)
  KV m c := x1 (ix2 m c)

variable (x0 : Vec Ideal S4096x10240 .bf16) (x1 : Vec Ideal S256x2048 .bf16)

theorem lane_mk (h : Fin 4) (j : Fin 256) (e) : (⟨h.val * 256 + j.val, e⟩ : Fin 1024) = lane h j := Fin.ext (by simp only [lane]; omega)
theorem lane_div (c : Fin 1024) (h) : lane (hd c) ⟨c.val % 256, h⟩ = c := Fin.ext (by simp only [lane, hd]; omega)
theorem vc_div (c : Fin 1024) (h) : vc (lane (hd c) ⟨c.val % 256, h⟩) = vc c := congrArg vc (lane_div c h)
theorem hd_def (c : Fin 1024) (e) : (⟨c.val / 256, e⟩ : Fin 4) = hd c := rfl

theorem r_q (R : Fin 4096) (h : Fin 4) (j : Fin 256) : val_main_v7 (F := Ideal) x0 (ix3 R h j) = (ofArr x0 x1).Q R (lane h j) := by
  simp only [val_main_v7, val_main_v2, val_main_v0]
  pointwise
  exact congrArg x0 (congrArg (ix2 R) (Fin.ext (by simp only [lane]; omega)))

theorem r_k (m : Fin 256) (h : Fin 4) (j : Fin 256) : val_main_v9 (F := Ideal) x1 (ix3 m h j) = (ofArr x0 x1).KV m (kc (lane h j)) := by
  simp only [val_main_v9, val_main_v8, val_main_v4]
  pointwise
  exact congrArg x1 (congrArg (ix2 m) (Fin.ext (by simp only [lane, kc]; omega)))

theorem r_v (m : Fin 256) (h : Fin 4) (j : Fin 256) : val_main_v6 (F := Ideal) x1 (ix3 m h j) = (ofArr x0 x1).KV m (vc (lane h j)) := by
  simp only [val_main_v6, val_main_v5, val_main_v4]
  pointwise
  exact congrArg x1 (congrArg (ix2 m) (Fin.ext (by simp only [lane, vc]; omega)))

/-- The scores. -/
theorem r_s (h : Fin 4) (R : Fin 4096) (m : Fin 256) : val_main_v12 (F := Ideal) x0 x1 (ix3 h R m) = (ofArr x0 x1).s R h m := by
  have h1 := r_q x0 x1
  have h2 := r_k x0 x1
  simp only [val_main_v12, val_main_v11, val_main_v10, val_main_cst]
  generalize val_main_v7 (F := Ideal) x0 = y at h1
  generalize val_main_v9 (F := Ideal) x1 = z at h2
  pointwise
  simp only [h1, h2, Args.s]

theorem bot_init : val_main_cst_0 (F := Ideal) (Shape.Idx.first Gen.h_S_) = (⊥ : EReal) := neg_inf

/-- The row's greatest score. -/
theorem r_max (h : Fin 4) (R : Fin 4096) :
    val_main_v15 (F := Ideal) x0 x1 (ix2 h R) = Finset.univ.fold max ⊥ fun k => (ofArr x0 x1).s R h k := by
  have e : val_main_v13 (F := Ideal) x0 x1 (ix2 h R) = Finset.univ.fold max ⊥ fun k => (ofArr x0 x1).s R h k := by
    unfold val_main_v13
    refine (reduce_max _ _ _ _ h R).trans ?_
    rw [bot_init]
    exact congrArg (Finset.univ.fold max ⊥) (funext fun k => r_s x0 x1 h R k)
  rw [val_main_v15_apply, val_main_v14_apply, val_main_cst_1_apply, e]
  exact (congrArg (max · _) neg_inf).trans (max_eq_right bot_le)

/-- The weights. -/
theorem r_w (h : Fin 4) (R : Fin 4096) (m : Fin 256) : val_main_v23 (F := Ideal) x0 x1 (ix3 h R m) = (ofArr x0 x1).w R h m := by
  have h1 := r_s x0 x1
  have h2 := r_max x0 x1
  have h3 : ∀ h R m, val_main_v19 (F := Ideal) x0 x1 (ix3 h R m)
      = Ideal.exp ((ofArr x0 x1).s R h m - Finset.univ.fold max ⊥ fun k => (ofArr x0 x1).s R h k) := fun h R m => by
    simp only [val_main_v19, val_main_v18, val_main_v17, val_main_v16]
    generalize val_main_v12 (F := Ideal) x0 x1 = y at h1
    generalize val_main_v15 (F := Ideal) x0 x1 = z at h2
    pointwise
    simp only [h1, h2]
  simp only [val_main_v23, val_main_v22, val_main_v21, val_main_v20, val_main_cst_2]
  generalize val_main_v19 (F := Ideal) x0 x1 = y at h3
  pointwise
  simp only [h3, Args.w]

/-- The two results. -/
theorem r_p (R : Fin 4096) (c : Fin 1024) : val_main_v32 (F := Ideal) x0 x1 (ix2 R c) = (ofArr x0 x1).p R c := by
  have h1 := r_w x0 x1
  simp only [val_main_v32, val_main_v28, val_main_v27]
  generalize val_main_v23 (F := Ideal) x0 x1 = y at h1
  pointwise
  simp only [h1, hd_def, Args.p]

theorem r_y (R : Fin 4096) (c : Fin 1024) : val_main_v31 (F := Ideal) x0 x1 (ix2 R c) = (ofArr x0 x1).y R c := by
  have h1 := r_w x0 x1
  have h2 := r_v x0 x1
  simp only [val_main_v31, val_main_v30, val_main_v29, val_main_v26, val_main_v25, val_main_v24, val_main_v3, val_main_v1,
    val_main_call0_v5, val_main_call0_v4, val_main_call0_v3, val_main_call0_v2, val_main_call0_v1, val_main_call0_v0,
    val_main_call0_cst, val_main_call0_cst_0]
  generalize val_main_v23 (F := Ideal) x0 x1 = y at h1
  generalize val_main_v6 (F := Ideal) x1 = z at h2
  pointwise
  simp only [h1, h2, hd_def, vc_div, Args.y, Args.att, sgm_eq]
  exact congrArg (· * _) (Finset.sum_congr rfl fun k _ => mul_comm _ _)

end Reference

/-! ### A step of the kernel -/

section Kernel
open Cert.BranchCFwdIdeal Cert.BranchCFwdIdeal.Gen

/-- Row `a` of step `t`. -/
def row (t : Fin 8) (a : Fin 512) : Fin 4096 := ⟨512 * t.val + a.val, by omega⟩

/-- The blocks of a step hold the arguments. -/
structure Blocks (X : Args) (t : Fin 8) (zq zg : Vec Ideal S512x1024 .bf16) (kv : Vec Ideal S256x2048 .bf16) : Prop where
  q : ∀ a c, zq (ix2 a c) = X.Q (row t a) c
  g : ∀ a c, zg (ix2 a c) = X.G (row t a) c
  kv : ∀ m c, kv (ix2 m c) = X.KV m c

theorem ln0 (j : Fin 256) (h) : (⟨j.val, h⟩ : Fin 1024) = lane 0 j := Fin.ext (by simp [lane])
theorem ln1 (j : Fin 256) (h) : (⟨256 + j.val, h⟩ : Fin 1024) = lane 1 j := Fin.ext (by simp [lane])
theorem ln2 (j : Fin 256) (h) : (⟨512 + j.val, h⟩ : Fin 1024) = lane 2 j := Fin.ext (by simp [lane])
theorem ln3 (j : Fin 256) (h) : (⟨768 + j.val, h⟩ : Fin 1024) = lane 3 j := Fin.ext (by simp [lane])
theorem kl0 (j : Fin 256) (h) : (⟨j.val, h⟩ : Fin 2048) = kc (lane 0 j) := Fin.ext (by simp [lane, kc])
theorem kl1 (j : Fin 256) (h) : (⟨256 + j.val, h⟩ : Fin 2048) = kc (lane 1 j) := Fin.ext (by simp [lane, kc])
theorem kl2 (j : Fin 256) (h) : (⟨512 + j.val, h⟩ : Fin 2048) = kc (lane 2 j) := Fin.ext (by simp [lane, kc])
theorem kl3 (j : Fin 256) (h) : (⟨768 + j.val, h⟩ : Fin 2048) = kc (lane 3 j) := Fin.ext (by simp [lane, kc])
theorem vl0 (j : Fin 256) (h) : (⟨1024 + j.val, h⟩ : Fin 2048) = vc (lane 0 j) := Fin.ext (by simp [lane, vc])
theorem vl1 (j : Fin 256) (h) : (⟨1280 + j.val, h⟩ : Fin 2048) = vc (lane 1 j) := Fin.ext (by simp [lane, vc]; omega)
theorem vl2 (j : Fin 256) (h) : (⟨1536 + j.val, h⟩ : Fin 2048) = vc (lane 2 j) := Fin.ext (by simp [lane, vc]; omega)
theorem vl3 (j : Fin 256) (h) : (⟨1792 + j.val, h⟩ : Fin 2048) = vc (lane 3 j) := Fin.ext (by simp [lane, vc]; omega)

theorem p_lane (X : Args) (i : Fin 4096) (h : Fin 4) (j : Fin 256) : X.p i (lane h j) = X.w i h j := by
  simp only [Args.p, hd_lane]
  exact congrArg _ (Fin.ext (by simp only [lane]; omega))

variable {X : Args} {t : Fin 8} {zq zg : Vec Ideal S512x1024 .bf16} {kv : Vec Ideal S256x2048 .bf16} (hb : Blocks X t zq zg kv)
include hb

/-- The weights that a step saves. -/
theorem saved (a : Fin 512) (c : Fin 1024) : out0_4 (F := Ideal) zq zg kv (ix2 a c) = X.p (row t a) c := by
  obtain ⟨hq, hg, hk⟩ := hb
  unfold out0_4
  canon_tiles x h
  all_goals idx_vars x
  all_goals
    have e0 : a = (⟨_, lt_of_eq_of_lt h0.symm a.isLt⟩ : Fin 512) := Fin.ext h0
    have e1 : c = (⟨_, lt_of_eq_of_lt h1.symm c.isLt⟩ : Fin 1024) := Fin.ext h1
    rw [e0, e1]
    open_payloads
    pointwise
    simp only [hq, hk, neg_inf, ln0, ln1, ln2, ln3, kl0, kl1, kl2, kl3, p_lane, Args.w, Args.s]

/-- The gated attention of a step. -/
theorem gated (a : Fin 512) (c : Fin 1024) : out0_3 (F := Ideal) zq zg kv (ix2 a c) = X.y (row t a) c := by
  obtain ⟨hq, hg, hk⟩ := hb
  unfold out0_3
  canon_tiles x h
  all_goals idx_vars x
  all_goals
    have e0 : a = (⟨_, lt_of_eq_of_lt h0.symm a.isLt⟩ : Fin 512) := Fin.ext h0
    have e1 : c = (⟨_, lt_of_eq_of_lt h1.symm c.isLt⟩ : Fin 1024) := Fin.ext h1
    rw [e0, e1]
    open_payloads
    pointwise
    simp only [hq, hg, hk, half, neg_inf, ln0, ln1, ln2, ln3, kl0, kl1, kl2, kl3, vl0, vl1, vl2, vl3, hd_lane, Args.y, Args.att, Args.w,
      Args.s, sgm]

end Kernel

/-! ### The runs -/

section Runs
open Cert.BranchCFwdIdeal Cert.BranchCFwdIdeal.Gen

variable (m : (ℓ : Loc nD τ sig) → Buf (Elt Ideal) ℓ) (ρ : Dev nD → PrngReg)

theorem idx : ∀ t : Fin cfg0.N, win0_0.index t = ![t.val, 5] ∧ win0_1.index t = ![t.val, 6] ∧ win0_2.index t = ![0, 0]
    ∧ win0_3.index t = ![t.val, 0] ∧ win0_4.index t = ![t.val, 0] :=
  (by decide +kernel : ∀ t : Fin grid0.N, _)

/-- A grid point as a step. -/
def pt (t : Fin cfg0.N) : Fin 8 := ⟨t.val, lt_of_lt_of_eq t.isLt N_0⟩

/-- The arguments of core `c`. -/
abbrev args (c : Dev nD) : Args := ofArr (m ((c.tc : Thread nD τ).loc main_arg0)) (m ((c.tc : Thread nD τ).loc main_arg1))

theorem blocks (c : Dev nD) (t : Fin cfg0.N) : Blocks (args m c) (pt t) (iblk m c 0 t) (iblk m c 1 t) (iblk m c 2 t) := by
  have hN := lt_of_lt_of_eq t.isLt N_0
  constructor
  · intro a b
    refine Eq.trans ?_ (congrFun (V_main_arg0 m c) _)
    blk_ext [iblk, idx _, row, pt]
  · intro a b
    refine Eq.trans ?_ (congrFun (V_main_arg0 m c) _)
    blk_ext [iblk, idx _, row, pt]
  · intro a b
    refine Eq.trans ?_ (congrFun (V_main_arg1 m c) _)
    blk_ext [iblk, idx _]

theorem array3 (c : Dev nD) : (dats m 0 c).arrAt 3 cfg0.N = fun j => (args m c).y (j 0) (j 1) := by
  refine (dats m 0 c).arrAt_eq_of_covers 3 _ (by decide +kernel) fun t hf y => ?_
  have hN := lt_of_lt_of_eq t.isLt N_0
  blk_simp
  rw [after0_3]
  obtain ⟨a, b, rfl⟩ : ∃ a b, y = ix2 a b := ⟨_, _, ValueIdx.eq_ix2 y⟩
  refine (gated (blocks m c t) a b).trans ?_
  have e : (win0_3.blk t).view.emb (ix2 a b) = ix2 (row (pt t) a) b := by blk_ext [idx _, row, pt]
  exact (congrArg (fun j : S4096x1024.Idx => (args m c).y (j 0) (j 1)) e).symm

theorem array4 (c : Dev nD) : (dats m 0 c).arrAt 4 cfg0.N = fun j => (args m c).p (j 0) (j 1) := by
  refine (dats m 0 c).arrAt_eq_of_covers 4 _ (by decide +kernel) fun t hf y => ?_
  have hN := lt_of_lt_of_eq t.isLt N_0
  blk_simp
  rw [after0_4]
  obtain ⟨a, b, rfl⟩ : ∃ a b, y = ix2 a b := ⟨_, _, ValueIdx.eq_ix2 y⟩
  refine (saved (blocks m c t) a b).trans ?_
  have e : (win0_4.blk t).view.emb (ix2 a b) = ix2 (row (pt t) a) b := by blk_ext [idx _, row, pt]
  exact (congrArg (fun j : S4096x1024.Idx => (args m c).p (j 0) (j 1)) e).symm

end Runs

/-- The claim: from memories that agree on the arguments, kernel and reference end with equal results. -/
theorem algebraic : algebraic_BranchCFwdIdeal_BranchCFwdRefIdeal := by
  intro m g m' g' _ hag
  refine ⟨_, _, Cert.BranchCFwdIdeal.Value.run_blocks (F := Ideal) m g,
    (θ_run _ _ _).mono (fun r h c => ?_) (Cert.BranchCFwdRefIdeal.Value.run (F := Ideal) m' g')⟩
  obtain ⟨h0, h1, h2⟩ := h c
  obtain ⟨e0, e1⟩ := hag c
  refine ⟨h0.trans ?_, h1.trans ?_, h2⟩
  · refine (Cert.BranchCFwdRefIdeal.Read.val_main_v31_eq m' c).trans ?_
    rw [e0, e1]
    refine Eq.trans ?_ (array3 m c).symm
    funext j
    obtain ⟨a, b, rfl⟩ : ∃ a b, j = ix2 a b := ⟨_, _, ValueIdx.eq_ix2 j⟩
    exact r_y _ _ a b
  · rw [e0, e1]
    refine (Cert.BranchCFwdRefIdeal.Read.val_main_v32_eq _ _).trans (Eq.trans ?_ (array4 m c).symm)
    funext j
    obtain ⟨a, b, rfl⟩ : ∃ a b, j = ix2 a b := ⟨_, _, ValueIdx.eq_ix2 j⟩
    exact r_p _ _ a b

/-- The reference's frame: the host program runs and leaves its arguments as they were. -/
theorem frame_ref : quiescent_BranchCFwdRefIdeal := fun m ρ _ =>
  (θ_run _ _ _).mono (fun r h => ⟨fun c => (h c).2.2, sem_eq_zero_of_no_sems (by decide) r.2⟩)
    (Cert.BranchCFwdRefIdeal.Value.run (F := Ideal) m ρ)

end Cert.BranchCFwdProof

end
-- ==== Proof.MergeOut.lean ====
/- The value claim of `_merge_out`: the three branches' projections, their gated sum, its projection and the normed sum with
   the layer's input, for all extended reals (hand-written, untrusted). -/
module

public import proofs.«01_k».proof.Defs
public import proofs.«01_k».proof.Proof.Forward
public import proofs.«01_k».proof.Proof.Gen.MergeOutIdeal.Value
public import proofs.«01_k».proof.Proof.Gen.MergeOutRefIdeal.Run
public import proofs.«01_k».proof.Proof.Gen.MergeOutRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.MergeOutProof

open Idealize.ShloMosaic Idealize.ShloMosaic.TcCoe Idealize.SL.Sem
open Cert.Forward Cert.Finite

/-- The arguments at an index: the three branches, the gates' inputs, the four weights, the layer's input, the norm's gain. -/
structure Args where
  A : Fin 4096 → Fin 1024 → EReal
  B : Fin 4096 → Fin 1024 → EReal
  C : Fin 4096 → Fin 1024 → EReal
  M : Fin 3 → Fin 4096 → Fin 1024 → EReal
  W : Fin 4 → Fin 1024 → Fin 1024 → EReal
  X : Fin 4096 → Fin 1024 → EReal
  PG : Fin 1024 → EReal

namespace Args

variable (X : Args) (R : Fin 4096) (c : Fin 1024)

/-- The projections of the branches, the gated sum, its projection, the row's factor, the layer's output. -/
def pa : EReal := ∑ d, X.A R d * X.W 0 d c
def pb : EReal := ∑ d, X.B R d * X.W 1 d c
def pc : EReal := ∑ d, X.C R d * X.W 2 d c
def mg : EReal := sgm (X.M 0 R c) * X.pa R c + sgm (X.M 1 R c) * X.pb R c + sgm (X.M 2 R c) * X.pc R c
def o : EReal := ∑ d, X.mg R d * X.W 3 d c
def r : EReal := Ideal.rsqrt (Ideal.div (∑ d, X.o R d * X.o R d) (Ideal.ofBits FTy.f32 1149239296#32) + Ideal.ofBits FTy.f32 897988541#32)
def xn : EReal := X.X R c + X.o R c * X.r R * X.PG c
/-- The branches and the gated sum, one after the other. -/
def st (k : Fin 4) : EReal := match k with
  | 0 => X.A R c
  | 1 => X.B R c
  | 2 => X.C R c
  | 3 => X.mg R c

end Args

/-! ### The reference -/

section Reference
open Cert.MergeOutRefIdeal Read

/-- The arguments as the arrays hold them. -/
def ofArr (x0 x1 x2 : Vec Ideal S4096x1024 .bf16) (x3 : Vec Ideal S4096x10240 .bf16) (x4 : Vec Ideal S4x1024x1024 .bf16)
    (x5 : Vec Ideal S4096x1024 .f32) (x6 : Vec Ideal S1x1024 .f32) : Args where
  A R c := x0 (ix2 R c)
  B R c := x1 (ix2 R c)
  C R c := x2 (ix2 R c)
  M k R c := x3 (ix2 R ⟨7168 + (1024 * k.val + c.val), by omega⟩)
  W k d c := x4 (ix3 k d c)
  X R c := x5 (ix2 R c)
  PG c := x6 (ix2 0 c)

variable (x0 x1 x2 : Vec Ideal S4096x1024 .bf16) (x3 : Vec Ideal S4096x10240 .bf16) (x4 : Vec Ideal S4x1024x1024 .bf16)
    (x5 : Vec Ideal S4096x1024 .f32) (x6 : Vec Ideal S1x1024 .f32)

local notation "X" => ofArr x0 x1 x2 x3 x4 x5 x6

theorem r_pa (R : Fin 4096) (c : Fin 1024) : val_main_v4 (F := Ideal) x0 x4 (ix2 R c) = (X).pa R c := by
  simp only [val_main_v4, val_main_v3, val_main_v2, val_main_v1, val_main_v0]
  pointwise
  rfl

theorem r_pb (R : Fin 4096) (c : Fin 1024) : val_main_v8 (F := Ideal) x1 x4 (ix2 R c) = (X).pb R c := by
  simp only [val_main_v8, val_main_v7, val_main_v6, val_main_v5, val_main_v0]
  pointwise
  rfl

theorem r_pc (R : Fin 4096) (c : Fin 1024) : val_main_v12 (F := Ideal) x2 x4 (ix2 R c) = (X).pc R c := by
  simp only [val_main_v12, val_main_v11, val_main_v10, val_main_v9, val_main_v0]
  pointwise
  rfl

/-- The gates' weights. -/
theorem r_g (R : Fin 4096) (k : Fin 3) (c : Fin 1024) : val_main_v21 (F := Ideal) x3 (ix3 R k c) = sgm ((X).M k R c) := by
  simp only [val_main_v21, val_main_v20, val_main_v19, val_main_v18, val_main_v17, val_main_v16, val_main_v15, val_main_v14, val_main_v13,
    val_main_cst, val_main_cst_0]
  pointwise
  rw [← sgm_eq]
  simp only [ofArr]
  have e : (⟨7168 + (k.val * 1024 + c.val), by omega⟩ : Fin 10240) = ⟨7168 + (1024 * k.val + c.val), by omega⟩ := Fin.ext (by dsimp only; omega)
  rw [← e]

theorem r_mg (R : Fin 4096) (c : Fin 1024) : val_main_v32 (F := Ideal) x0 x1 x2 x3 x4 (ix2 R c) = (X).mg R c := by
  have h0 := r_pa x0 x1 x2 x3 x4 x5 x6
  have h1 := r_pb x0 x1 x2 x3 x4 x5 x6
  have h2 := r_pc x0 x1 x2 x3 x4 x5 x6
  have h3 := r_g x0 x1 x2 x3 x4 x5 x6
  simp only [val_main_v32, val_main_v31, val_main_v30, val_main_v29, val_main_v28, val_main_v27, val_main_v26, val_main_v25, val_main_v24,
    val_main_v23, val_main_v22]
  generalize val_main_v4 (F := Ideal) x0 x4 = y0 at h0
  generalize val_main_v8 (F := Ideal) x1 x4 = y1 at h1
  generalize val_main_v12 (F := Ideal) x2 x4 = y2 at h2
  generalize val_main_v21 (F := Ideal) x3 = y3 at h3
  pointwise
  simp only [h0, h1, h2, h3, Args.mg]

theorem r_o (R : Fin 4096) (c : Fin 1024) : val_main_v35 (F := Ideal) x0 x1 x2 x3 x4 (ix2 R c) = (X).o R c := by
  have h0 := r_mg x0 x1 x2 x3 x4 x5 x6
  simp only [val_main_v35, val_main_v34, val_main_v33, val_main_v0]
  generalize val_main_v32 (F := Ideal) x0 x1 x2 x3 x4 = y0 at h0
  pointwise
  simp only [h0, Args.o]
  rfl

theorem r_xn (R : Fin 4096) (c : Fin 1024) : val_main_v48 (F := Ideal) x0 x1 x2 x3 x4 x5 x6 (ix2 R c) = (X).xn R c := by
  have h0 := r_o x0 x1 x2 x3 x4 x5 x6
  simp only [val_main_v48, val_main_v47, val_main_v46, val_main_v45, val_main_v44, val_main_v43, val_main_v42, val_main_v41, val_main_v40,
    val_main_v39, val_main_v38, val_main_v37, val_main_v36, val_main_cst_1, val_main_cst_2, val_main_cst_3]
  generalize val_main_v35 (F := Ideal) x0 x1 x2 x3 x4 = y0 at h0
  pointwise
  simp only [h0, Args.xn, Args.r]
  rfl

/-- The six results. -/
theorem res_pa (R : Fin 4096) (c : Fin 1024) : val_main_v49 (F := Ideal) x0 x4 (ix2 R c) = (X).pa R c :=
  r_pa x0 x1 x2 x3 x4 x5 x6 R c
theorem res_pb (R : Fin 4096) (c : Fin 1024) : val_main_v50 (F := Ideal) x1 x4 (ix2 R c) = (X).pb R c :=
  r_pb x0 x1 x2 x3 x4 x5 x6 R c
theorem res_pc (R : Fin 4096) (c : Fin 1024) : val_main_v51 (F := Ideal) x2 x4 (ix2 R c) = (X).pc R c :=
  r_pc x0 x1 x2 x3 x4 x5 x6 R c
theorem res_o (R : Fin 4096) (c : Fin 1024) : val_main_v58 (F := Ideal) x0 x1 x2 x3 x4 (ix2 R c) = (X).o R c :=
  r_o x0 x1 x2 x3 x4 x5 x6 R c
theorem r_52 (R : Fin 4096) (c : Fin 1024) : val_main_v52 (F := Ideal) x0 x1 x2 x3 x4 (ix2 R c) = (X).mg R c :=
  r_mg x0 x1 x2 x3 x4 x5 x6 R c
theorem res_st (k : Fin 4) (R : Fin 4096) (c : Fin 1024) : val_main_v57 (F := Ideal) x0 x1 x2 x3 x4 (ix3 k R c) = (X).st R c k := by
  have h0 := r_52 x0 x1 x2 x3 x4 x5 x6
  simp only [val_main_v57, val_main_v56, val_main_v55, val_main_v54, val_main_v53]
  fin_cases k <;> pointwise <;> first | rfl | exact h0 R c

end Reference

/-! ### The kernel's blocks -/

section Kernel
open Cert.MergeOutIdeal Cert.MergeOutIdeal.Gen

/-- Row `a` of step `t`. -/
def row (t : Fin 16) (a : Fin 256) : Fin 4096 := ⟨256 * t.val + a.val, by omega⟩

/-- The blocks of a step hold the arguments. -/
structure Blocks (X : Args) (t : Fin 16) (u0 u1 u2 u3 u4 u5 : Vec Ideal S256x1024 .bf16) (u6 : Vec Ideal S4x1024x1024 .bf16)
    (u7 : Vec Ideal S256x1024 .f32) (u8 : Vec Ideal S1x1024 .f32) : Prop where
  a : ∀ a c, u0 (ix2 a c) = X.A (row t a) c
  b : ∀ a c, u1 (ix2 a c) = X.B (row t a) c
  c : ∀ a c, u2 (ix2 a c) = X.C (row t a) c
  m0 : ∀ a c, u3 (ix2 a c) = X.M 0 (row t a) c
  m1 : ∀ a c, u4 (ix2 a c) = X.M 1 (row t a) c
  m2 : ∀ a c, u5 (ix2 a c) = X.M 2 (row t a) c
  w : ∀ k d c, u6 (ix3 k d c) = X.W k d c
  x : ∀ a c, u7 (ix2 a c) = X.X (row t a) c
  pg : ∀ c, u8 (ix2 0 c) = X.PG c

variable {X : Args} {t : Fin 16} {u0 u1 u2 u3 u4 u5 : Vec Ideal S256x1024 .bf16} {u6 : Vec Ideal S4x1024x1024 .bf16}
  {u7 : Vec Ideal S256x1024 .f32} {u8 : Vec Ideal S1x1024 .f32} (hb : Blocks X t u0 u1 u2 u3 u4 u5 u6 u7 u8)
include hb

/-- The gated sum of a step. -/
theorem merged (a : Fin 256) (c : Fin 1024) : k0_pay16 (F := Ideal) u0 u1 u2 u3 u4 u5 u6 u7 u8 (ix2 a c) = X.mg (row t a) c := by
  obtain ⟨g0, g1, g2, g3, g4, g5, g6, g7, g8⟩ := hb
  unfold k0_pay16
  open_payloads
  pointwise
  simp only [g0, g1, g2, g3, g4, g5, g6, half, Args.mg, Args.pa, Args.pb, Args.pc, sgm]

/-- The first branch's projection. -/
theorem b_pa (a : Fin 256) (c : Fin 1024) : out0_9 (F := Ideal) u0 u1 u2 u3 u4 u5 u6 u7 u8 (ix2 a c) = X.pa (row t a) c := by
  obtain ⟨g0, g1, g2, g3, g4, g5, g6, g7, g8⟩ := hb
  unfold out0_9
  canon_tiles x h
  all_goals idx_vars x
  all_goals
    have e0 : a = (⟨_, lt_of_eq_of_lt h0.symm a.isLt⟩ : Fin 256) := Fin.ext h0
    have e1 : c = (⟨_, lt_of_eq_of_lt h1.symm c.isLt⟩ : Fin 1024) := Fin.ext h1
    rw [e0, e1]
    open_payloads
    pointwise
    simp only [g0, g6, Args.pa]

/-- The second's. -/
theorem b_pb (a : Fin 256) (c : Fin 1024) : out0_10 (F := Ideal) u0 u1 u2 u3 u4 u5 u6 u7 u8 (ix2 a c) = X.pb (row t a) c := by
  obtain ⟨g0, g1, g2, g3, g4, g5, g6, g7, g8⟩ := hb
  unfold out0_10
  canon_tiles x h
  all_goals idx_vars x
  all_goals
    have e0 : a = (⟨_, lt_of_eq_of_lt h0.symm a.isLt⟩ : Fin 256) := Fin.ext h0
    have e1 : c = (⟨_, lt_of_eq_of_lt h1.symm c.isLt⟩ : Fin 1024) := Fin.ext h1
    rw [e0, e1]
    open_payloads
    pointwise
    simp only [g1, g6, Args.pb]

/-- The third's. -/
theorem b_pc (a : Fin 256) (c : Fin 1024) : out0_11 (F := Ideal) u0 u1 u2 u3 u4 u5 u6 u7 u8 (ix2 a c) = X.pc (row t a) c := by
  obtain ⟨g0, g1, g2, g3, g4, g5, g6, g7, g8⟩ := hb
  unfold out0_11
  canon_tiles x h
  all_goals idx_vars x
  all_goals
    have e0 : a = (⟨_, lt_of_eq_of_lt h0.symm a.isLt⟩ : Fin 256) := Fin.ext h0
    have e1 : c = (⟨_, lt_of_eq_of_lt h1.symm c.isLt⟩ : Fin 1024) := Fin.ext h1
    rw [e0, e1]
    open_payloads
    pointwise
    simp only [g2, g6, Args.pc]

/-- The gated sum's projection. -/
theorem b_o (a : Fin 256) (c : Fin 1024) : out0_13 (F := Ideal) u0 u1 u2 u3 u4 u5 u6 u7 u8 (ix2 a c) = X.o (row t a) c := by
  have g := merged hb
  obtain ⟨g0, g1, g2, g3, g4, g5, g6, g7, g8⟩ := hb
  unfold out0_13
  generalize k0_pay16 (F := Ideal) u0 u1 u2 u3 u4 u5 u6 u7 u8 = y at g
  canon_tiles x h
  all_goals idx_vars x
  all_goals
    have e0 : a = (⟨_, lt_of_eq_of_lt h0.symm a.isLt⟩ : Fin 256) := Fin.ext h0
    have e1 : c = (⟨_, lt_of_eq_of_lt h1.symm c.isLt⟩ : Fin 1024) := Fin.ext h1
    rw [e0, e1]
    open_payloads
    pointwise
    simp only [g, g6, Args.o]

/-- The layer's output. -/
theorem b_xn (a : Fin 256) (c : Fin 1024) : out0_14 (F := Ideal) u0 u1 u2 u3 u4 u5 u6 u7 u8 (ix2 a c) = X.xn (row t a) c := by
  have g := merged hb
  obtain ⟨g0, g1, g2, g3, g4, g5, g6, g7, g8⟩ := hb
  unfold out0_14
  generalize k0_pay16 (F := Ideal) u0 u1 u2 u3 u4 u5 u6 u7 u8 = y at g
  canon_tiles x h
  all_goals idx_vars x
  all_goals
    have e0 : a = (⟨_, lt_of_eq_of_lt h0.symm a.isLt⟩ : Fin 256) := Fin.ext h0
    have e1 : c = (⟨_, lt_of_eq_of_lt h1.symm c.isLt⟩ : Fin 1024) := Fin.ext h1
    rw [e0, e1]
    open_payloads
    pointwise
    simp only [g, g6, g7, g8, Args.xn, Args.r, Args.o]

/-- The stack of the branches and the gated sum. -/
theorem b_st (k : Fin 4) (a : Fin 256) (c : Fin 1024) :
    out0_12 (F := Ideal) u0 u1 u2 u3 u4 u5 u6 u7 u8 (ix3 k a c) = X.st (row t a) c k := by
  have g := merged hb
  obtain ⟨g0, g1, g2, g3, g4, g5, g6, g7, g8⟩ := hb
  unfold out0_12
  generalize k0_pay16 (F := Ideal) u0 u1 u2 u3 u4 u5 u6 u7 u8 = y at g
  canon_tiles x h
  all_goals idx_vars x
  all_goals
    have e0 : a = (⟨_, lt_of_eq_of_lt h1.symm a.isLt⟩ : Fin 256) := Fin.ext h1
    have e1 : c = (⟨_, lt_of_eq_of_lt h2.symm c.isLt⟩ : Fin 1024) := Fin.ext h2
    have hx := x0.isLt
    obtain ⟨k, hk⟩ := k
    dsimp only at h0
    interval_cases k <;> try omega
    rw [e0, e1]
    open_payloads
    pointwise
    simp only [g, g0, g1, g2]
    rfl

end Kernel

/-! ### The runs -/

section Runs
open Cert.MergeOutIdeal Cert.MergeOutIdeal.Gen

variable (m : (ℓ : Loc nD τ sig) → Buf (Elt Ideal) ℓ) (ρ : Dev nD → PrngReg)

theorem idx : ∀ t : Fin cfg0.N, win0_0.index t = ![t.val, 0] ∧ win0_1.index t = ![t.val, 0] ∧ win0_2.index t = ![t.val, 0]
    ∧ win0_3.index t = ![t.val, 7] ∧ win0_4.index t = ![t.val, 8] ∧ win0_5.index t = ![t.val, 9] ∧ win0_6.index t = ![0, 0, 0]
    ∧ win0_7.index t = ![t.val, 0] ∧ win0_8.index t = ![0, 0] :=
  (by decide +kernel : ∀ t : Fin grid0.N, _)

theorem idxo : ∀ t : Fin cfg0.N, win0_9.index t = ![t.val, 0] ∧ win0_10.index t = ![t.val, 0] ∧ win0_11.index t = ![t.val, 0]
    ∧ win0_12.index t = ![0, t.val, 0] ∧ win0_13.index t = ![t.val, 0] ∧ win0_14.index t = ![t.val, 0] :=
  (by decide +kernel : ∀ t : Fin grid0.N, _)

/-- A grid point as a step. -/
def pt (t : Fin cfg0.N) : Fin 16 := ⟨t.val, lt_of_lt_of_eq t.isLt N_0⟩

/-- The arguments of core `c`. -/
abbrev args (c : Dev nD) : Args := ofArr (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6))

theorem blocks (c : Dev nD) (t : Fin cfg0.N) : Blocks (args m c) (pt t) (iblk m c 0 t) (iblk m c 1 t) (iblk m c 2 t) (iblk m c 3 t)
    (iblk m c 4 t) (iblk m c 5 t) (iblk m c 6 t) (iblk m c 7 t) (iblk m c 8 t) := by
  have hN := lt_of_lt_of_eq t.isLt N_0
  constructor
  · intro a b
    refine Eq.trans ?_ (congrFun (V_main_arg0 m c) _)
    blk_ext [iblk, idx _, row, pt]
  · intro a b
    refine Eq.trans ?_ (congrFun (V_main_arg1 m c) _)
    blk_ext [iblk, idx _, row, pt]
  · intro a b
    refine Eq.trans ?_ (congrFun (V_main_arg2 m c) _)
    blk_ext [iblk, idx _, row, pt]
  · intro a b
    refine Eq.trans ?_ (congrFun (V_main_arg3 m c) _)
    blk_ext [iblk, idx _, row, pt]
  · intro a b
    refine Eq.trans ?_ (congrFun (V_main_arg3 m c) _)
    blk_ext [iblk, idx _, row, pt]
  · intro a b
    refine Eq.trans ?_ (congrFun (V_main_arg3 m c) _)
    blk_ext [iblk, idx _, row, pt]
  · intro k a b
    refine Eq.trans ?_ (congrFun (V_main_arg4 m c) _)
    blk_ext [iblk, idx _, row, pt]
  · intro a b
    refine Eq.trans ?_ (congrFun (V_main_arg5 m c) _)
    blk_ext [iblk, idx _, row, pt]
  · intro b
    refine Eq.trans ?_ (congrFun (V_main_arg6 m c) _)
    blk_ext [iblk, idx _, row, pt]

theorem array9 (c : Dev nD) : (dats m 0 c).arrAt 9 cfg0.N = fun j => (args m c).pa (j 0) (j 1) := by
  refine (dats m 0 c).arrAt_eq_of_covers 9 _ (by decide +kernel) fun t hf y => ?_
  have hN := lt_of_lt_of_eq t.isLt N_0
  blk_simp
  rw [after0_9]
  obtain ⟨a, b, rfl⟩ : ∃ a b, y = ix2 a b := ⟨_, _, ValueIdx.eq_ix2 y⟩
  refine (b_pa (blocks m c t) a b).trans ?_
  have e : (win0_9.blk t).view.emb (ix2 a b) = ix2 (row (pt t) a) b := by blk_ext [idxo _, row, pt]
  exact (congrArg (fun j : S4096x1024.Idx => (args m c).pa (j 0) (j 1)) e).symm

theorem array10 (c : Dev nD) : (dats m 0 c).arrAt 10 cfg0.N = fun j => (args m c).pb (j 0) (j 1) := by
  refine (dats m 0 c).arrAt_eq_of_covers 10 _ (by decide +kernel) fun t hf y => ?_
  have hN := lt_of_lt_of_eq t.isLt N_0
  blk_simp
  rw [after0_10]
  obtain ⟨a, b, rfl⟩ : ∃ a b, y = ix2 a b := ⟨_, _, ValueIdx.eq_ix2 y⟩
  refine (b_pb (blocks m c t) a b).trans ?_
  have e : (win0_10.blk t).view.emb (ix2 a b) = ix2 (row (pt t) a) b := by blk_ext [idxo _, row, pt]
  exact (congrArg (fun j : S4096x1024.Idx => (args m c).pb (j 0) (j 1)) e).symm

theorem array11 (c : Dev nD) : (dats m 0 c).arrAt 11 cfg0.N = fun j => (args m c).pc (j 0) (j 1) := by
  refine (dats m 0 c).arrAt_eq_of_covers 11 _ (by decide +kernel) fun t hf y => ?_
  have hN := lt_of_lt_of_eq t.isLt N_0
  blk_simp
  rw [after0_11]
  obtain ⟨a, b, rfl⟩ : ∃ a b, y = ix2 a b := ⟨_, _, ValueIdx.eq_ix2 y⟩
  refine (b_pc (blocks m c t) a b).trans ?_
  have e : (win0_11.blk t).view.emb (ix2 a b) = ix2 (row (pt t) a) b := by blk_ext [idxo _, row, pt]
  exact (congrArg (fun j : S4096x1024.Idx => (args m c).pc (j 0) (j 1)) e).symm

theorem array13 (c : Dev nD) : (dats m 0 c).arrAt 13 cfg0.N = fun j => (args m c).o (j 0) (j 1) := by
  refine (dats m 0 c).arrAt_eq_of_covers 13 _ (by decide +kernel) fun t hf y => ?_
  have hN := lt_of_lt_of_eq t.isLt N_0
  blk_simp
  rw [after0_13]
  obtain ⟨a, b, rfl⟩ : ∃ a b, y = ix2 a b := ⟨_, _, ValueIdx.eq_ix2 y⟩
  refine (b_o (blocks m c t) a b).trans ?_
  have e : (win0_13.blk t).view.emb (ix2 a b) = ix2 (row (pt t) a) b := by blk_ext [idxo _, row, pt]
  exact (congrArg (fun j : S4096x1024.Idx => (args m c).o (j 0) (j 1)) e).symm

theorem array14 (c : Dev nD) : (dats m 0 c).arrAt 14 cfg0.N = fun j => (args m c).xn (j 0) (j 1) := by
  refine (dats m 0 c).arrAt_eq_of_covers 14 _ (by decide +kernel) fun t hf y => ?_
  have hN := lt_of_lt_of_eq t.isLt N_0
  blk_simp
  rw [after0_14]
  obtain ⟨a, b, rfl⟩ : ∃ a b, y = ix2 a b := ⟨_, _, ValueIdx.eq_ix2 y⟩
  refine (b_xn (blocks m c t) a b).trans ?_
  have e : (win0_14.blk t).view.emb (ix2 a b) = ix2 (row (pt t) a) b := by blk_ext [idxo _, row, pt]
  exact (congrArg (fun j : S4096x1024.Idx => (args m c).xn (j 0) (j 1)) e).symm

theorem array12 (c : Dev nD) : (dats m 0 c).arrAt 12 cfg0.N = fun j => (args m c).st (j 1) (j 2) (j 0) := by
  refine (dats m 0 c).arrAt_eq_of_covers 12 _ (by decide +kernel) fun t hf y => ?_
  have hN := lt_of_lt_of_eq t.isLt N_0
  blk_simp
  rw [after0_12]
  obtain ⟨k, a, b, rfl⟩ : ∃ k a b, y = ix3 k a b := ⟨_, _, _, ValueIdx.eq_ix3 y⟩
  refine (b_st (blocks m c t) k a b).trans ?_
  have e : (win0_12.blk t).view.emb (ix3 k a b) = ix3 k (row (pt t) a) b := by blk_ext [idxo _, row, pt]
  exact (congrArg (fun j : S4x4096x1024.Idx => (args m c).st (j 1) (j 2) (j 0)) e).symm

end Runs

/-- The claim: from memories that agree on the arguments, kernel and reference end with equal results. -/
theorem algebraic : algebraic_MergeOutIdeal_MergeOutRefIdeal := by
  intro m g m' g' _ hag
  refine ⟨_, _, _, _, _, _, Cert.MergeOutIdeal.Value.run_blocks (F := Ideal) m g,
    (θ_run _ _ _).mono (fun r h c => ?_) (Cert.MergeOutRefIdeal.Value.run (F := Ideal) m' g')⟩
  obtain ⟨h0, h1, h2, h3, h4, h5, h6⟩ := h c
  obtain ⟨e0, e1, e2, e3, e4, e5, e6⟩ := hag c
  let x0 := m ((c.tc : Thread Cert.MergeOutIdeal.nD Cert.MergeOutIdeal.τ).loc Cert.MergeOutIdeal.main_arg0)
  let x1 := m ((c.tc : Thread Cert.MergeOutIdeal.nD Cert.MergeOutIdeal.τ).loc Cert.MergeOutIdeal.main_arg1)
  let x2 := m ((c.tc : Thread Cert.MergeOutIdeal.nD Cert.MergeOutIdeal.τ).loc Cert.MergeOutIdeal.main_arg2)
  let x3 := m ((c.tc : Thread Cert.MergeOutIdeal.nD Cert.MergeOutIdeal.τ).loc Cert.MergeOutIdeal.main_arg3)
  let x5 := m ((c.tc : Thread Cert.MergeOutIdeal.nD Cert.MergeOutIdeal.τ).loc Cert.MergeOutIdeal.main_arg5)
  let x6 := m ((c.tc : Thread Cert.MergeOutIdeal.nD Cert.MergeOutIdeal.τ).loc Cert.MergeOutIdeal.main_arg6)
  refine ⟨h0.trans ?_, h1.trans ?_, h2.trans ?_, h3.trans ?_, h4.trans ?_, h5.trans ?_, h6⟩
  · rw [e0, e4]
    refine (Cert.MergeOutRefIdeal.Read.val_main_v49_eq _ _).trans (Eq.trans ?_ (array9 m c).symm)
    funext j
    obtain ⟨a, b, rfl⟩ : ∃ a b, j = ix2 a b := ⟨_, _, ValueIdx.eq_ix2 j⟩
    exact res_pa _ x1 x2 x3 _ x5 x6 a b
  · rw [e1, e4]
    refine (Cert.MergeOutRefIdeal.Read.val_main_v50_eq _ _).trans (Eq.trans ?_ (array10 m c).symm)
    funext j
    obtain ⟨a, b, rfl⟩ : ∃ a b, j = ix2 a b := ⟨_, _, ValueIdx.eq_ix2 j⟩
    exact res_pb x0 _ x2 x3 _ x5 x6 a b
  · rw [e2, e4]
    refine (Cert.MergeOutRefIdeal.Read.val_main_v51_eq _ _).trans (Eq.trans ?_ (array11 m c).symm)
    funext j
    obtain ⟨a, b, rfl⟩ : ∃ a b, j = ix2 a b := ⟨_, _, ValueIdx.eq_ix2 j⟩
    exact res_pc x0 x1 _ x3 _ x5 x6 a b
  · rw [e0, e1, e2, e3, e4]
    refine (Cert.MergeOutRefIdeal.Read.val_main_v57_eq _ _ _ _ _).trans (Eq.trans ?_ (array12 m c).symm)
    funext j
    obtain ⟨k, a, b, rfl⟩ : ∃ k a b, j = ix3 k a b := ⟨_, _, _, ValueIdx.eq_ix3 j⟩
    exact res_st _ _ _ _ _ x5 x6 k a b
  · rw [e0, e1, e2, e3, e4]
    refine (Cert.MergeOutRefIdeal.Read.val_main_v58_eq _ _ _ _ _).trans (Eq.trans ?_ (array13 m c).symm)
    funext j
    obtain ⟨a, b, rfl⟩ : ∃ a b, j = ix2 a b := ⟨_, _, ValueIdx.eq_ix2 j⟩
    exact res_o _ _ _ _ _ x5 x6 a b
  · refine (Cert.MergeOutRefIdeal.Read.val_main_v48_eq m' c).trans ?_
    rw [e0, e1, e2, e3, e4, e5, e6]
    refine Eq.trans ?_ (array14 m c).symm
    funext j
    obtain ⟨a, b, rfl⟩ : ∃ a b, j = ix2 a b := ⟨_, _, ValueIdx.eq_ix2 j⟩
    exact r_xn _ _ _ _ _ _ _ a b

/-- The reference's frame: the host program runs and leaves its arguments as they were. -/
theorem frame_ref : quiescent_MergeOutRefIdeal := fun m ρ _ =>
  (θ_run _ _ _).mono (fun r h => ⟨fun c => (h c).2.2.2.2.2.2, sem_eq_zero_of_no_sems (by decide) r.2⟩)
    (Cert.MergeOutRefIdeal.Value.run (F := Ideal) m ρ)

end Cert.MergeOutProof

end
-- ==== Proof.MmDwin.lean ====
/- The value claim of `_mm_dwin`: the product of the normed input's transpose and the ten planes of the gradient, each in its place
   among the columns (hand-written, untrusted). -/
module

public import proofs.«01_k».proof.Defs
public import proofs.«01_k».proof.Proof.Gen.MmDwinIdeal.Value
public import proofs.«01_k».proof.Proof.Gen.MmDwinRefIdeal.Run
public import proofs.«01_k».proof.Proof.Gen.MmDwinRefIdeal.Read
public import proofs.«01_k».proof.Proof.MmDh
public import Idealize.ShloMosaic.Lib.Pipeline.ValueKit
public import Idealize.ShloMosaic.Lib.Pipeline.ReadBack
public import Idealize.ShloMosaic.Lib.Quiescent

@[expose] public section

set_option maxRecDepth 16384

noncomputable section

namespace Cert.MmDwinProof

open Idealize.ShloMosaic Idealize.ShloMosaic.TcCoe Idealize.SL.Sem

open Cert.MmDhProof (place place_val)

open Cert.MmDwinRefIdeal in
/-- The reference at a column of plane `k`: the contraction of the rows. -/
theorem ref_apply (h : Vec Ideal S4096x1024 .bf16) (dz : Vec Ideal S10x4096x1024 .bf16) (k : Fin 10) (i x : Fin 1024) (q : Fin 10240)
    (hq : q.val = (place k).val * 1024 + x.val) :
    Read.val_main_v34 (F := Ideal) h dz (ix2 i q) = ∑ s : Fin 4096, h (ix2 s i) * dz (ix3 k s x) := by
  have e (s : Fin 4096) : Read.val_main_v30 (F := Ideal) dz (ix2 s q) = dz (ix3 k s x) := Cert.MmDhProof.planes dz k s x q hq
  simp only [Read.val_main_v34, Read.val_main_v33, Read.val_main_v32, Read.val_main_v31]
  generalize Read.val_main_v30 (F := Ideal) dz = y at e
  pointwise
  simp only [e]

section Runs

open Cert.MmDwinIdeal Cert.MmDwinIdeal.Gen

variable (m : (ℓ : Loc nD τ sig) → Buf (Elt Ideal) ℓ)

/-- The printed index maps, decided over the grid. -/
theorem idx : ∀ t : Fin cfg0.N, win0_0.index t = ![0, 0] ∧ win0_1.index t = ![t.val, 0, 0]
    ∧ win0_2.index t = ![0, if t.val < 3 then t.val else if t.val < 6 then t.val + 4 else t.val - 3] :=
  (by decide +kernel : ∀ t : Fin grid0.N, _)

/-- What a point leaves, from its two blocks. -/
theorem block_apply (u0 : Vec Ideal S4096x1024 .bf16) (u1 : Vec Ideal S1x4096x1024 .bf16) (i j : Fin 1024) :
    out0_2 (F := Ideal) u0 u1 (ix2 i j) = ∑ s : Fin 4096, u0 (ix2 s i) * u1 (ix3 0 s j) := by
  unfold out0_2
  canon_tiles x h
  all_goals idx_vars x
  all_goals
    have e0 : i = (⟨_, lt_of_eq_of_lt h0.symm i.isLt⟩ : Fin 1024) := Fin.ext h0
    have e1 : j = (⟨_, lt_of_eq_of_lt h1.symm j.isLt⟩ : Fin 1024) := Fin.ext h1
    rw [e0, e1]
    pointwise [k0_pay1]

/-- The ten column blocks as one array `W`, given by the products at each plane's place. -/
theorem array (c : Dev nD) (h : Vec Ideal S4096x1024 .bf16) (dz : Vec Ideal S10x4096x1024 .bf16) (W : Vec Ideal S1024x10240 .bf16)
    (eh : m ((c.tc : Thread nD τ).loc main_arg0) = h) (edz : m ((c.tc : Thread nD τ).loc main_arg1) = dz)
    (hW : ∀ (k : Fin 10) (i x : Fin 1024) (q : Fin 10240), q.val = (place k).val * 1024 + x.val →
      W (ix2 i q) = ∑ s : Fin 4096, h (ix2 s i) * dz (ix3 k s x)) :
    (dats m 0 c).arrAt 2 cfg0.N = W := by
  refine (dats m 0 c).arrAt_eq_of_covers 2 _ (by decide +kernel) fun t hf y => ?_
  have hN := lt_of_lt_of_eq t.isLt N_0
  blk_simp
  rw [after0_2]
  obtain ⟨i, j, rfl⟩ : ∃ i j, y = ix2 i j := ⟨_, _, ValueIdx.eq_ix2 y⟩
  refine (block_apply _ _ i j).trans ?_
  have hp := place_val ⟨t.val, hN⟩
  have hl := (place ⟨t.val, hN⟩).isLt
  have e : (win0_2.blk t).view.emb (ix2 i j) = ix2 i (⟨(place ⟨t.val, hN⟩).val * 1024 + j.val, by omega⟩ : Fin 10240) := by
    blk_ext [idx _, hp]
  refine Eq.trans ?_ (congrArg W e).symm
  refine Eq.trans ?_ (hW ⟨t.val, hN⟩ i j _ rfl).symm
  refine Finset.sum_congr rfl fun s _ => congrArg₂ (· * ·) ?_ ?_
  · refine Eq.trans ?_ (congrFun ((V_main_arg0 m c).trans eh) (ix2 s i))
    blk_ext [iblk, idx _]
  · refine Eq.trans ?_ (congrFun ((V_main_arg1 m c).trans edz) (ix3 (⟨t.val, hN⟩ : Fin 10) s j))
    blk_ext [iblk, idx _]

end Runs

/-- The claim: from memories that agree on the arguments, kernel and reference end with equal results. -/
theorem algebraic : algebraic_MmDwinIdeal_MmDwinRefIdeal := by
  intro m g m' g' _ hag
  refine ⟨_, Cert.MmDwinIdeal.Value.run_blocks (F := Ideal) m g,
    (θ_run _ _ _).mono (fun r h c => ?_) (Cert.MmDwinRefIdeal.Value.run (F := Ideal) m' g')⟩
  obtain ⟨h0, h1⟩ := h c
  obtain ⟨e0, e1⟩ := hag c
  refine ⟨h0.trans ?_, h1⟩
  rw [e0, e1]
  exact (Cert.MmDwinRefIdeal.Read.val_main_v34_eq _ _).trans (array m c _ _ _ rfl rfl fun k i x q hq => ref_apply _ _ k i x q hq).symm

/-- The reference's frame: the host program runs and leaves its arguments as they were. -/
theorem frame_ref : quiescent_MmDwinRefIdeal := fun m ρ _ =>
  (θ_run _ _ _).mono (fun r h => ⟨fun c => (h c).2, sem_eq_zero_of_no_sems (by decide) r.2⟩)
    (Cert.MmDwinRefIdeal.Value.run (F := Ideal) m ρ)

end Cert.MmDwinProof

end
-- ==== Proof.MmTn.lean ====
/- The value claim of `_mm_tn4`: for each of the four pairs, the product of the first array's transpose and the second (hand-written, untrusted). -/
module

public import proofs.«01_k».proof.Defs
public import proofs.«01_k».proof.Proof.Gen.MmTnIdeal.Value
public import proofs.«01_k».proof.Proof.Gen.MmTnRefIdeal.Run
public import proofs.«01_k».proof.Proof.Gen.MmTnRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.MmTnProof

open Idealize.ShloMosaic Idealize.ShloMosaic.TcCoe Idealize.SL.Sem

/-- The four products. -/
def products (a b : Vec Ideal Cert.MmTnIdeal.S4x4096x1024 .bf16) : Vec Ideal Cert.MmTnIdeal.S4x1024x1024 .bf16 :=
  fun j => ∑ s : Fin 4096, a (ix3 (j 0) s (j 1)) * b (ix3 (j 0) s (j 2))

open Cert.MmTnRefIdeal in
/-- The reference at an element: the contraction of the pair's rows. -/
theorem ref_apply (a b : Vec Ideal S4x4096x1024 .bf16) (w : Fin 4) (i j : Fin 1024) :
    Read.val_main_v3 (F := Ideal) a b (ix3 w i j) = ∑ s : Fin 4096, a (ix3 w s i) * b (ix3 w s j) := by
  simp only [Read.val_main_v3, Read.val_main_v2, Read.val_main_v1, Read.val_main_v0]
  pointwise

section Runs

open Cert.MmTnIdeal Cert.MmTnIdeal.Gen

variable (m : (ℓ : Loc nD τ sig) → Buf (Elt Ideal) ℓ)

/-- The printed index maps, decided over the grid. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

/-- What a point leaves, from its two blocks. -/
theorem block_apply (u0 u1 : Vec Ideal S1x4096x1024 .bf16) (o : Fin 1) (i j : Fin 1024) :
    out0_2 (F := Ideal) u0 u1 (ix3 o i j) = ∑ s : Fin 4096, u0 (ix3 0 s i) * u1 (ix3 0 s j) := by
  unfold out0_2
  canon_tiles x h
  all_goals idx_vars x
  all_goals
    have e1 : i = (⟨_, lt_of_eq_of_lt h1.symm i.isLt⟩ : Fin 1024) := Fin.ext h1
    have e2 : j = (⟨_, lt_of_eq_of_lt h2.symm j.isLt⟩ : Fin 1024) := Fin.ext h2
    rw [e1, e2]
    pointwise [k0_pay1]

/-- The four products as one array. -/
theorem array (c : Dev nD) : (dats m 0 c).arrAt 2 cfg0.N
    = products (m ((c.tc : Thread nD τ).loc main_arg0)) (m ((c.tc : Thread nD τ).loc main_arg1)) := by
  refine (dats m 0 c).arrAt_eq_of_covers 2 _ (by decide +kernel) fun t hf y => ?_
  have hN := lt_of_lt_of_eq t.isLt N_0
  blk_simp
  rw [after0_2]
  obtain ⟨o, i, j, rfl⟩ : ∃ o i j, y = ix3 o i j := ⟨_, _, _, ValueIdx.eq_ix3 y⟩
  obtain rfl : o = 0 := Subsingleton.elim _ _
  refine (block_apply _ _ 0 i j).trans ?_
  have e : (win0_2.blk t).view.emb (ix3 0 i j) = ix3 (⟨t.val, hN⟩ : Fin 4) i j := by blk_ext [idx _]
  refine Eq.trans ?_ (congrArg (products (m ((c.tc : Thread nD τ).loc main_arg0)) (m ((c.tc : Thread nD τ).loc main_arg1))) e).symm
  refine Finset.sum_congr rfl fun s _ => congrArg₂ (· * ·) ?_ ?_
  · refine Eq.trans ?_ (congrFun (V_main_arg0 m c) (ix3 (⟨t.val, hN⟩ : Fin 4) s i))
    blk_ext [iblk, idx _]
  · refine Eq.trans ?_ (congrFun (V_main_arg1 m c) (ix3 (⟨t.val, hN⟩ : Fin 4) s j))
    blk_ext [iblk, idx _]

end Runs

/-- The claim: from memories that agree on the arguments, kernel and reference end with equal results. -/
theorem algebraic : algebraic_MmTnIdeal_MmTnRefIdeal := by
  intro m g m' g' _ hag
  refine ⟨_, Cert.MmTnIdeal.Value.run_blocks (F := Ideal) m g,
    (θ_run _ _ _).mono (fun r h c => ?_) (Cert.MmTnRefIdeal.Value.run (F := Ideal) m' g')⟩
  obtain ⟨h0, h1⟩ := h c
  obtain ⟨e0, e1⟩ := hag c
  refine ⟨h0.trans ?_, h1⟩
  rw [e0, e1]
  refine (Cert.MmTnRefIdeal.Read.val_main_v3_eq _ _).trans ?_
  refine Eq.trans ?_ (array m c).symm
  funext j
  obtain ⟨w, a, b, rfl⟩ : ∃ w a b, j = ix3 w a b := ⟨_, _, _, ValueIdx.eq_ix3 j⟩
  exact ref_apply _ _ w a b

/-- The reference's frame: the host program runs and leaves its arguments as they were. -/
theorem frame_ref : quiescent_MmTnRefIdeal := fun m ρ _ =>
  (θ_run _ _ _).mono (fun r h => ⟨fun c => (h c).2, sem_eq_zero_of_no_sems (by decide) r.2⟩)
    (Cert.MmTnRefIdeal.Value.run (F := Ideal) m ρ)

end Cert.MmTnProof

end
-- ==== Proof.Adamw.lean ====
/- One step of the optimiser on one element, over the extended reals (hand-written, untrusted). -/
module

public import Idealize.ShloMosaic.Lib.Pipeline.ValueKit

@[expose] public section

noncomputable section

namespace Cert.Adamw

open Idealize.ShloMosaic

/-- The first moment after the step. -/
def moment1 (m g : EReal) : EReal := Ideal.ofBits FTy.f32 0x3F666666#32 * m + Ideal.ofBits FTy.f32 0x3DCCCCCD#32 * g

/-- The second moment after the step. -/
def moment2 (v g : EReal) : EReal := Ideal.ofBits FTy.f32 0x3F7FBE77#32 * v + Ideal.ofBits FTy.f32 0x3A83126F#32 * (g * g)

/-- The change of the parameter. -/
def delta (w m v g : EReal) : EReal :=
  Ideal.ofBits FTy.f32 0xBA83126F#32 * (Ideal.div (Ideal.div (moment1 m g) (Ideal.ofBits FTy.f32 0x3F26BD02#32))
      (Ideal.sqrt (Ideal.div (moment2 v g) (Ideal.ofBits FTy.f32 0x3C231ACC#32)) + Ideal.ofBits FTy.f32 0x322BCC77#32)
    + Ideal.ofBits FTy.f32 0x3C23D70A#32 * w)

end Cert.Adamw

end
-- ==== Proof.AdamwFlat.lean ====
/- The value claim of `_adamw_flat`: one step of the optimiser on the small parameters, which the host lays in one array's rows (hand-written, untrusted). -/
module

public import proofs.«01_k».proof.Defs
public import proofs.«01_k».proof.Proof.Adamw
public import proofs.«01_k».proof.Proof.Gen.AdamwFlatIdeal.Value
public import proofs.«01_k».proof.Proof.Gen.AdamwFlatRefIdeal.Run
public import proofs.«01_k».proof.Proof.Gen.AdamwFlatRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.AdamwFlatProof

open Idealize.ShloMosaic Idealize.ShloMosaic.TcCoe Idealize.SL.Sem Cert.Adamw

section Ref

open Cert.AdamwFlatRefIdeal

variable (x0 : Vec Ideal S1024 .f32) (x1 x2 x3 x4 : Vec Ideal S4x1024 .f32) (x5 : Vec Ideal S4x8x128x128 .f32)
  (x6 : Vec Ideal S4x8x128 .f32) (x7 : Vec Ideal S4x1024 .f32) (x8 : Vec Ideal S4x8x128x128 .f32) (x9 : Vec Ideal S4x1024 .f32)
  (x10 : Vec Ideal S4x8x128x128 .f32) (x11 x12 : Vec Ideal S4x1024 .f32) (x13 : Vec Ideal S1024 .f32)
  (x14 x15 x16 x17 : Vec Ideal S4x1024 .f32) (x18 : Vec Ideal S4x8x128x128 .f32) (x19 : Vec Ideal S4x8x128 .f32)
  (x20 : Vec Ideal S4x1024 .f32) (x21 : Vec Ideal S4x8x128x128 .f32) (x22 : Vec Ideal S4x1024 .f32) (x23 : Vec Ideal S4x8x128x128 .f32)
  (x24 x25 : Vec Ideal S4x1024 .f32) (x26 : Vec Ideal S1024 .f32) (x27 x28 x29 x30 : Vec Ideal S4x1024 .f32)
  (x31 : Vec Ideal S4x8x128x128 .f32) (x32 : Vec Ideal S4x8x128 .f32) (x33 : Vec Ideal S4x1024 .f32)
  (x34 : Vec Ideal S4x8x128x128 .f32) (x35 : Vec Ideal S4x1024 .f32) (x36 : Vec Ideal S4x8x128x128 .f32)
  (x37 x38 : Vec Ideal S4x1024 .f32) (x39 : Vec Ideal S12800x128 .f32) (i : Fin 12800) (j : Fin 128)

/-- The reference's first moment at an element. -/
theorem r_m : Read.val_main_v49 (F := Ideal) x13 x14 x15 x16 x17 x18 x19 x20 x21 x22 x23 x24 x25 x39 (ix2 i j)
    = moment1 (Read.val_main_v30 (F := Ideal) x13 x14 x15 x16 x17 x18 x19 x20 x21 x22 x23 x24 x25 (ix2 i j)) (x39 (ix2 i j)) := by
  simp only [Read.val_main_v49, Read.val_main_v48, Read.val_main_v47, Read.val_main_v46, Read.val_main_v45, Read.val_main_cst_1, Read.val_main_cst_2]
  generalize Read.val_main_v30 (F := Ideal) x13 x14 x15 x16 x17 x18 x19 x20 x21 x22 x23 x24 x25 = y
  pointwise [moment1]

/-- The reference's second moment at an element. -/
theorem r_v : Read.val_main_v55 (F := Ideal) x26 x27 x28 x29 x30 x31 x32 x33 x34 x35 x36 x37 x38 x39 (ix2 i j)
    = moment2 (Read.val_main_v44 (F := Ideal) x26 x27 x28 x29 x30 x31 x32 x33 x34 x35 x36 x37 x38 (ix2 i j)) (x39 (ix2 i j)) := by
  simp only [Read.val_main_v55, Read.val_main_v54, Read.val_main_v53, Read.val_main_v52, Read.val_main_v51, Read.val_main_v50, Read.val_main_cst_3, Read.val_main_cst_4]
  generalize Read.val_main_v44 (F := Ideal) x26 x27 x28 x29 x30 x31 x32 x33 x34 x35 x36 x37 x38 = y
  pointwise [moment2]

/-- The reference's change of the parameter at an element. -/
theorem r_d : Read.val_main_v68 (F := Ideal) x0 x1 x2 x3 x4 x5 x6 x7 x8 x9 x10 x11 x12
      x13 x14 x15 x16 x17 x18 x19 x20 x21 x22 x23 x24 x25
      x26 x27 x28 x29 x30 x31 x32 x33 x34 x35 x36 x37 x38 x39 (ix2 i j)
    = delta (Read.val_main_v16 (F := Ideal) x0 x1 x2 x3 x4 x5 x6 x7 x8 x9 x10 x11 x12 (ix2 i j)) (Read.val_main_v30 (F := Ideal) x13 x14 x15 x16 x17 x18 x19 x20 x21 x22 x23 x24 x25 (ix2 i j))
        (Read.val_main_v44 (F := Ideal) x26 x27 x28 x29 x30 x31 x32 x33 x34 x35 x36 x37 x38 (ix2 i j)) (x39 (ix2 i j)) := by
  have hm := r_m x13 x14 x15 x16 x17 x18 x19 x20 x21 x22 x23 x24 x25 x39 i j
  have hv := r_v x26 x27 x28 x29 x30 x31 x32 x33 x34 x35 x36 x37 x38 x39 i j
  simp only [Read.val_main_v56, Read.val_main_v57, Read.val_main_v58, Read.val_main_v59, Read.val_main_v60, Read.val_main_v61, Read.val_main_v62, Read.val_main_v63, Read.val_main_v64, Read.val_main_v65, Read.val_main_v66, Read.val_main_v67, Read.val_main_v68, Read.val_main_cst_5, Read.val_main_cst_6,
    Read.val_main_cst_7, Read.val_main_cst_8, Read.val_main_cst_9]
  generalize Read.val_main_v49 (F := Ideal) x13 x14 x15 x16 x17 x18 x19 x20 x21 x22 x23 x24 x25 x39 = ym at hm
  generalize Read.val_main_v55 (F := Ideal) x26 x27 x28 x29 x30 x31 x32 x33 x34 x35 x36 x37 x38 x39 = yv at hv
  generalize Read.val_main_v16 (F := Ideal) x0 x1 x2 x3 x4 x5 x6 x7 x8 x9 x10 x11 x12 = yw
  pointwise [delta]
  simp only [hm, hv]

end Ref

section Runs

open Cert.AdamwFlatIdeal Cert.AdamwFlatIdeal.Gen

variable (m : (ℓ : Loc nD τ sig) → Buf (Elt Ideal) ℓ)

/-- The printed index maps, decided over the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (u0 u1 u2 u3 : Vec Ideal S2560x128 .f32) (i : Fin 2560) (j : Fin 128)

theorem b_m : out0_5 (F := Ideal) u0 u1 u2 u3 (ix2 i j) = moment1 (u1 (ix2 i j)) (u3 (ix2 i j)) := by
  unfold out0_5
  canon_tiles x h
  all_goals idx_vars x
  all_goals
    have e0 : i = (⟨_, lt_of_eq_of_lt h0.symm i.isLt⟩ : Fin 2560) := Fin.ext h0
    have e1 : j = (⟨_, lt_of_eq_of_lt h1.symm j.isLt⟩ : Fin 128) := Fin.ext h1
    rw [e0, e1]
    pointwise [k0_pay1, moment1]

theorem b_v : out0_6 (F := Ideal) u0 u1 u2 u3 (ix2 i j) = moment2 (u2 (ix2 i j)) (u3 (ix2 i j)) := by
  unfold out0_6
  canon_tiles x h
  all_goals idx_vars x
  all_goals
    have e0 : i = (⟨_, lt_of_eq_of_lt h0.symm i.isLt⟩ : Fin 2560) := Fin.ext h0
    have e1 : j = (⟨_, lt_of_eq_of_lt h1.symm j.isLt⟩ : Fin 128) := Fin.ext h1
    rw [e0, e1]
    pointwise [k0_pay2, moment2]

theorem b_d : out0_4 (F := Ideal) u0 u1 u2 u3 (ix2 i j) = delta (u0 (ix2 i j)) (u1 (ix2 i j)) (u2 (ix2 i j)) (u3 (ix2 i j)) := by
  unfold out0_4
  canon_tiles x h
  all_goals idx_vars x
  all_goals
    have e0 : i = (⟨_, lt_of_eq_of_lt h0.symm i.isLt⟩ : Fin 2560) := Fin.ext h0
    have e1 : j = (⟨_, lt_of_eq_of_lt h1.symm j.isLt⟩ : Fin 128) := Fin.ext h1
    rw [e0, e1]
    pointwise [k0_pay1, k0_pay2, k0_pay3, delta, moment1, moment2]

/-- The host's rows of the parameters are the reference's. -/
theorem pack_w (c : Dev nD) : V m c main_v16 = Cert.AdamwFlatRefIdeal.Read.val_main_v16 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) := by
  simp only [V, hostOps0]
  after_results_simp
  rfl

/-- The host's rows of the first moments are the reference's. -/
theorem pack_m (c : Dev nD) : V m c main_v33 = Cert.AdamwFlatRefIdeal.Read.val_main_v30 (F := Ideal)
    (m ((c.tc : Thread nD τ).loc main_arg13)) (m ((c.tc : Thread nD τ).loc main_arg14)) (m ((c.tc : Thread nD τ).loc main_arg15))
    (m ((c.tc : Thread nD τ).loc main_arg16)) (m ((c.tc : Thread nD τ).loc main_arg17)) (m ((c.tc : Thread nD τ).loc main_arg18))
    (m ((c.tc : Thread nD τ).loc main_arg19)) (m ((c.tc : Thread nD τ).loc main_arg20)) (m ((c.tc : Thread nD τ).loc main_arg21))
    (m ((c.tc : Thread nD τ).loc main_arg22)) (m ((c.tc : Thread nD τ).loc main_arg23)) (m ((c.tc : Thread nD τ).loc main_arg24))
    (m ((c.tc : Thread nD τ).loc main_arg25)) := by
  simp only [V, hostOps0]
  after_results_simp
  rfl

/-- The host's rows of the second moments are the reference's. -/
theorem pack_v (c : Dev nD) : V m c main_v50 = Cert.AdamwFlatRefIdeal.Read.val_main_v44 (F := Ideal)
    (m ((c.tc : Thread nD τ).loc main_arg26)) (m ((c.tc : Thread nD τ).loc main_arg27)) (m ((c.tc : Thread nD τ).loc main_arg28))
    (m ((c.tc : Thread nD τ).loc main_arg29)) (m ((c.tc : Thread nD τ).loc main_arg30)) (m ((c.tc : Thread nD τ).loc main_arg31))
    (m ((c.tc : Thread nD τ).loc main_arg32)) (m ((c.tc : Thread nD τ).loc main_arg33)) (m ((c.tc : Thread nD τ).loc main_arg34))
    (m ((c.tc : Thread nD τ).loc main_arg35)) (m ((c.tc : Thread nD τ).loc main_arg36)) (m ((c.tc : Thread nD τ).loc main_arg37))
    (m ((c.tc : Thread nD τ).loc main_arg38)) := by
  simp only [V, hostOps0]
  after_results_simp
  rfl

theorem array4 (c : Dev nD) : (dats m 0 c).arrAt 4 cfg0.N = fun q : S12800x128.Idx =>
    delta ((V m c main_v16 : Vec Ideal S12800x128 .f32) q) ((V m c main_v33 : Vec Ideal S12800x128 .f32) q) ((V m c main_v50 : Vec Ideal S12800x128 .f32) q) ((V m c main_arg39 : Vec Ideal S12800x128 .f32) q) := by
  refine (dats m 0 c).arrAt_eq_of_covers 4 _ (by decide +kernel) fun t hf y => ?_
  have hN := lt_of_lt_of_eq t.isLt N_0
  blk_simp
  rw [after0_4]
  obtain ⟨i, j, rfl⟩ : ∃ i j, y = ix2 i j := ⟨_, _, ValueIdx.eq_ix2 y⟩
  refine (b_d _ _ _ _ i j).trans ?_
  rfl

theorem array5 (c : Dev nD) : (dats m 0 c).arrAt 5 cfg0.N = fun q : S12800x128.Idx =>
    moment1 ((V m c main_v33 : Vec Ideal S12800x128 .f32) q) ((V m c main_arg39 : Vec Ideal S12800x128 .f32) q) := by
  refine (dats m 0 c).arrAt_eq_of_covers 5 _ (by decide +kernel) fun t hf y => ?_
  have hN := lt_of_lt_of_eq t.isLt N_0
  blk_simp
  rw [after0_5]
  obtain ⟨i, j, rfl⟩ : ∃ i j, y = ix2 i j := ⟨_, _, ValueIdx.eq_ix2 y⟩
  refine (b_m _ _ _ _ i j).trans ?_
  rfl

theorem array6 (c : Dev nD) : (dats m 0 c).arrAt 6 cfg0.N = fun q : S12800x128.Idx =>
    moment2 ((V m c main_v50 : Vec Ideal S12800x128 .f32) q) ((V m c main_arg39 : Vec Ideal S12800x128 .f32) q) := by
  refine (dats m 0 c).arrAt_eq_of_covers 6 _ (by decide +kernel) fun t hf y => ?_
  have hN := lt_of_lt_of_eq t.isLt N_0
  blk_simp
  rw [after0_6]
  obtain ⟨i, j, rfl⟩ : ∃ i j, y = ix2 i j := ⟨_, _, ValueIdx.eq_ix2 y⟩
  refine (b_v _ _ _ _ i j).trans ?_
  rfl

theorem value4 (c : Dev nD) : (dats m 0 c).arrAt 4 cfg0.N = Cert.AdamwFlatRefIdeal.Read.val_main_v68 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))
    (m ((c.tc : Thread nD τ).loc main_arg24)) (m ((c.tc : Thread nD τ).loc main_arg25)) (m ((c.tc : Thread nD τ).loc main_arg26))
    (m ((c.tc : Thread nD τ).loc main_arg27)) (m ((c.tc : Thread nD τ).loc main_arg28)) (m ((c.tc : Thread nD τ).loc main_arg29))
    (m ((c.tc : Thread nD τ).loc main_arg30)) (m ((c.tc : Thread nD τ).loc main_arg31)) (m ((c.tc : Thread nD τ).loc main_arg32))
    (m ((c.tc : Thread nD τ).loc main_arg33)) (m ((c.tc : Thread nD τ).loc main_arg34)) (m ((c.tc : Thread nD τ).loc main_arg35))
    (m ((c.tc : Thread nD τ).loc main_arg36)) (m ((c.tc : Thread nD τ).loc main_arg37)) (m ((c.tc : Thread nD τ).loc main_arg38))
    (m ((c.tc : Thread nD τ).loc main_arg39)) := by
  rw [array4, pack_w, pack_m, pack_v, V_main_arg39]
  funext q
  obtain ⟨i, j, rfl⟩ : ∃ i j, q = ix2 i j := ⟨_, _, ValueIdx.eq_ix2 q⟩
  symm
  exact r_d ..

theorem value5 (c : Dev nD) : (dats m 0 c).arrAt 5 cfg0.N = Cert.AdamwFlatRefIdeal.Read.val_main_v49 (F := Ideal)
    (m ((c.tc : Thread nD τ).loc main_arg13)) (m ((c.tc : Thread nD τ).loc main_arg14)) (m ((c.tc : Thread nD τ).loc main_arg15))
    (m ((c.tc : Thread nD τ).loc main_arg16)) (m ((c.tc : Thread nD τ).loc main_arg17)) (m ((c.tc : Thread nD τ).loc main_arg18))
    (m ((c.tc : Thread nD τ).loc main_arg19)) (m ((c.tc : Thread nD τ).loc main_arg20)) (m ((c.tc : Thread nD τ).loc main_arg21))
    (m ((c.tc : Thread nD τ).loc main_arg22)) (m ((c.tc : Thread nD τ).loc main_arg23)) (m ((c.tc : Thread nD τ).loc main_arg24))
    (m ((c.tc : Thread nD τ).loc main_arg25)) (m ((c.tc : Thread nD τ).loc main_arg39)) := by
  rw [array5, pack_m, V_main_arg39]
  funext q
  obtain ⟨i, j, rfl⟩ : ∃ i j, q = ix2 i j := ⟨_, _, ValueIdx.eq_ix2 q⟩
  symm
  exact r_m ..

theorem value6 (c : Dev nD) : (dats m 0 c).arrAt 6 cfg0.N = Cert.AdamwFlatRefIdeal.Read.val_main_v55 (F := Ideal)
    (m ((c.tc : Thread nD τ).loc main_arg26)) (m ((c.tc : Thread nD τ).loc main_arg27)) (m ((c.tc : Thread nD τ).loc main_arg28))
    (m ((c.tc : Thread nD τ).loc main_arg29)) (m ((c.tc : Thread nD τ).loc main_arg30)) (m ((c.tc : Thread nD τ).loc main_arg31))
    (m ((c.tc : Thread nD τ).loc main_arg32)) (m ((c.tc : Thread nD τ).loc main_arg33)) (m ((c.tc : Thread nD τ).loc main_arg34))
    (m ((c.tc : Thread nD τ).loc main_arg35)) (m ((c.tc : Thread nD τ).loc main_arg36)) (m ((c.tc : Thread nD τ).loc main_arg37))
    (m ((c.tc : Thread nD τ).loc main_arg38)) (m ((c.tc : Thread nD τ).loc main_arg39)) := by
  rw [array6, pack_v, V_main_arg39]
  funext q
  obtain ⟨i, j, rfl⟩ : ∃ i j, q = ix2 i j := ⟨_, _, ValueIdx.eq_ix2 q⟩
  symm
  exact r_v ..

end Runs

set_option maxHeartbeats 2000000 in
/-- The claim: from memories that agree on the arguments, kernel and reference end with equal results. -/
theorem algebraic : algebraic_AdamwFlatIdeal_AdamwFlatRefIdeal := by
  intro m g m' g' _ hag
  refine ⟨_, _, _, Cert.AdamwFlatIdeal.Value.run_blocks (F := Ideal) m g,
    (θ_run _ _ _).mono (fun r h c => ?_) (Cert.AdamwFlatRefIdeal.Value.run (F := Ideal) m' g')⟩
  obtain ⟨h0, h1, h2, hk⟩ := h c
  refine ⟨h0.trans (Eq.trans ?_ (value4 m c).symm), h1.trans (Eq.trans ?_ (value5 m c).symm), h2.trans (Eq.trans ?_ (value6 m c).symm), hk⟩
  · refine (Cert.AdamwFlatRefIdeal.Read.val_main_v68_eq m' c).trans ?_
    simp only [hag c]
  · refine (Cert.AdamwFlatRefIdeal.Read.val_main_v49_eq ..).trans ?_
    simp only [hag c]
  · refine (Cert.AdamwFlatRefIdeal.Read.val_main_v55_eq ..).trans ?_
    simp only [hag c]

/-- The reference's frame: the host program runs and leaves its arguments as they were. -/
theorem frame_ref : quiescent_AdamwFlatRefIdeal := fun m ρ _ =>
  (θ_run _ _ _).mono (fun r h => ⟨fun c => (h c).2.2.2, sem_eq_zero_of_no_sems (by decide) r.2⟩)
    (Cert.AdamwFlatRefIdeal.Value.run (F := Ideal) m ρ)

end Cert.AdamwFlatProof

end
-- ==== Proof.AdamwLayer.lean ====
/- The value claim of `_adamw_layer`: one step of the optimiser on one layer's matrix; the other layers' places keep what
   the carried arrays hold (hand-written, untrusted). -/
module

public import proofs.«01_k».proof.Defs
public import proofs.«01_k».proof.Proof.Adamw
public import proofs.«01_k».proof.Proof.Gen.AdamwLayerIdeal.Value
public import proofs.«01_k».proof.Proof.Gen.AdamwLayerRefIdeal.Run
public import proofs.«01_k».proof.Proof.Gen.AdamwLayerRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.AdamwLayerProof

open Idealize.ShloMosaic Idealize.ShloMosaic.TcCoe Idealize.SL.Sem Cert.Adamw

section Ref

open Cert.AdamwLayerRefIdeal

variable (x0 x1 x2 : Vec Ideal S4x1024x2560 .f32) (x3 : Vec Ideal S1024x2560 .f32) (x4 x5 x6 x7 : Vec Ideal S4x1024x2560 .f32)
  (a : Fin 4) (i : Fin 1024) (j : Fin 2560)

/-- The reference's first moment at an element of the layer. -/
theorem r_m : Read.val_main_v6 (F := Ideal) x1 x3 (ix2 i j) = moment1 (x1 (ix3 1 i j)) (x3 (ix2 i j)) := by
  simp only [Read.val_main_v0, Read.val_main_v1, Read.val_main_v2, Read.val_main_v3, Read.val_main_v4, Read.val_main_v5, Read.val_main_v6, Read.val_main_cst, Read.val_main_cst_0]
  pointwise [moment1]

/-- The reference's second moment at an element of the layer. -/
theorem r_v : Read.val_main_v14 (F := Ideal) x2 x3 (ix2 i j) = moment2 (x2 (ix3 1 i j)) (x3 (ix2 i j)) := by
  simp only [Read.val_main_v7, Read.val_main_v8, Read.val_main_v9, Read.val_main_v10, Read.val_main_v11, Read.val_main_v12, Read.val_main_v13, Read.val_main_v14, Read.val_main_cst_1, Read.val_main_cst_2]
  pointwise [moment2]

/-- The reference's change of the parameter at an element of the layer. -/
theorem r_d : Read.val_main_v29 (F := Ideal) x0 x1 x2 x3 (ix2 i j)
    = delta (x0 (ix3 1 i j)) (x1 (ix3 1 i j)) (x2 (ix3 1 i j)) (x3 (ix2 i j)) := by
  have hm := r_m x1 x3 i j
  have hv := r_v x2 x3 i j
  simp only [Read.val_main_v15, Read.val_main_v16, Read.val_main_v17, Read.val_main_v18, Read.val_main_v19, Read.val_main_v20, Read.val_main_v21, Read.val_main_v22, Read.val_main_v23, Read.val_main_v24, Read.val_main_v25, Read.val_main_v26, Read.val_main_v27,
    Read.val_main_v28, Read.val_main_v29, Read.val_main_cst_3, Read.val_main_cst_4, Read.val_main_cst_5, Read.val_main_cst_6, Read.val_main_cst_7]
  generalize Read.val_main_v6 (F := Ideal) x1 x3 = ym at hm
  generalize Read.val_main_v14 (F := Ideal) x2 x3 = yv at hv
  pointwise [delta]
  simp only [hm, hv]

/-- An array whose plane 1 is replaced. -/
def put (x : Vec Ideal S4x1024x2560 .f32) (y : EReal) : EReal := if a.val = 1 then y else x (ix3 a i j)

theorem put_one (x : Vec Ideal S4x1024x2560 .f32) (y : EReal) : put 1 i j x y = y := if_pos rfl

theorem r_put4 : Read.val_main_v33 (F := Ideal) x3 x4 (ix3 a i j) = put a i j x4 (x3 (ix2 i j)) := by
  simp only [Read.val_main_v30, Read.val_main_v31, Read.val_main_v32, Read.val_main_v33]
  pointwise [put]
  obtain ⟨a, ha⟩ := a
  interval_cases a <;> simp

theorem r_put5 : Read.val_main_v37 (F := Ideal) x0 x1 x2 x3 x5 (ix3 a i j)
    = put a i j x5 (delta (x0 (ix3 1 i j)) (x1 (ix3 1 i j)) (x2 (ix3 1 i j)) (x3 (ix2 i j))) := by
  rw [← r_d]
  simp only [Read.val_main_v34, Read.val_main_v35, Read.val_main_v36, Read.val_main_v37]
  pointwise [put]
  obtain ⟨a, ha⟩ := a
  interval_cases a <;> simp

theorem r_put6 : Read.val_main_v41 (F := Ideal) x1 x3 x6 (ix3 a i j) = put a i j x6 (moment1 (x1 (ix3 1 i j)) (x3 (ix2 i j))) := by
  rw [← r_m]
  simp only [Read.val_main_v38, Read.val_main_v39, Read.val_main_v40, Read.val_main_v41]
  pointwise [put]
  obtain ⟨a, ha⟩ := a
  interval_cases a <;> simp

theorem r_put7 : Read.val_main_v45 (F := Ideal) x2 x3 x7 (ix3 a i j) = put a i j x7 (moment2 (x2 (ix3 1 i j)) (x3 (ix2 i j))) := by
  rw [← r_v]
  simp only [Read.val_main_v42, Read.val_main_v43, Read.val_main_v44, Read.val_main_v45]
  pointwise [put]
  obtain ⟨a, ha⟩ := a
  interval_cases a <;> simp

end Ref

section Runs

open Cert.AdamwLayerIdeal Cert.AdamwLayerIdeal.Gen

variable (m : (ℓ : Loc nD τ sig) → Buf (Elt Ideal) ℓ)

/-- The printed index maps, decided over the grid. -/
theorem idx : ∀ t : Fin cfg0.N, win0_0.index t = ![1, t.val, 0] ∧ win0_1.index t = ![1, t.val, 0] ∧ win0_2.index t = ![1, t.val, 0]
    ∧ win0_3.index t = ![t.val, 0] ∧ win0_4.index t = ![1, t.val, 0] ∧ win0_5.index t = ![1, t.val, 0] ∧ win0_6.index t = ![1, t.val, 0]
    ∧ win0_7.index t = ![1, t.val, 0] :=
  (by decide +kernel : ∀ t : Fin grid0.N, _)

section Blocks

variable (u0 u1 u2 : Vec Ideal S1x256x2560 .f32) (u3 : Vec Ideal S256x2560 .f32) (z : Fin 1) (i : Fin 256) (j : Fin 2560)

theorem p_g : k0_pay7 (F := Ideal) u3 (ix3 z i j) = u3 (ix2 i j) := by
  pointwise [k0_pay7]

theorem p_m : k0_pay2 (F := Ideal) (k0_pay4 u3 u1) (ix3 z i j) = moment1 (u1 (ix3 z i j)) (u3 (ix2 i j)) := by
  obtain rfl : z = 0 := Subsingleton.elim _ _
  pointwise [k0_pay2, k0_pay4, moment1]

theorem p_v : k0_pay3 (F := Ideal) (k0_pay5 u3 u2) (ix3 z i j) = moment2 (u2 (ix3 z i j)) (u3 (ix2 i j)) := by
  obtain rfl : z = 0 := Subsingleton.elim _ _
  pointwise [k0_pay3, k0_pay5, moment2]

theorem p_d : k0_pay1 (F := Ideal) (k0_pay6 u3 u0 u1 u2) (ix3 z i j)
    = delta (u0 (ix3 z i j)) (u1 (ix3 z i j)) (u2 (ix3 z i j)) (u3 (ix2 i j)) := by
  obtain rfl : z = 0 := Subsingleton.elim _ _
  pointwise [k0_pay1, k0_pay4, k0_pay5, k0_pay6, delta, moment1, moment2]

end Blocks

/-- What a point leaves in the four outputs' buffers. -/
theorem outs (c : Dev nD) (t : Fin cfg0.N) :
    (outsAt0 m c t).1 = k0_pay7 (F := Ideal) (iblk m c 3 t)
    ∧ (outsAt0 m c t).2.1 = k0_pay1 (F := Ideal) (k0_pay6 (iblk m c 3 t) (iblk m c 0 t) (iblk m c 1 t) (iblk m c 2 t))
    ∧ (outsAt0 m c t).2.2.1 = k0_pay2 (F := Ideal) (k0_pay4 (iblk m c 3 t) (iblk m c 1 t))
    ∧ (outsAt0 m c t).2.2.2 = k0_pay3 (F := Ideal) (k0_pay5 (iblk m c 3 t) (iblk m c 2 t)) := by
  unfold outsAt0
  generalize iblk m c 0 t = u0
  generalize iblk m c 1 t = u1
  generalize iblk m c 2 t = u2
  generalize iblk m c 3 t = u3
  refine ⟨?_, ?_, ?_, ?_⟩
  all_goals frame_out

/-- A point's rows among the layer's. -/
def row (t : Fin cfg0.N) (i : Fin 256) : Fin 1024 := ⟨256 * t.val + i.val, by have := lt_of_lt_of_eq t.isLt N_0; omega⟩

theorem V_v0 (c : Dev nD) : V m c main_v0_0 = m ((c.tc : Thread nD τ).loc main_arg4) ∧ V m c main_v0_1 = m ((c.tc : Thread nD τ).loc main_arg5)
    ∧ V m c main_v0_2 = m ((c.tc : Thread nD τ).loc main_arg6) ∧ V m c main_v0_3 = m ((c.tc : Thread nD τ).loc main_arg7) := by
  refine ⟨?_, ?_, ?_, ?_⟩
  all_goals
    simp only [V, hostOps0]
    after_results_simp
    rfl

/-- The blocks a point reads, at an element. -/
theorem blks (c : Dev nD) (t : Fin cfg0.N) (z : Fin 1) (i : Fin 256) (j : Fin 2560) :
    iblk m c 0 t (ix3 z i j) = m ((c.tc : Thread nD τ).loc main_arg0) (ix3 1 (row t i) j)
    ∧ iblk m c 1 t (ix3 z i j) = m ((c.tc : Thread nD τ).loc main_arg1) (ix3 1 (row t i) j)
    ∧ iblk m c 2 t (ix3 z i j) = m ((c.tc : Thread nD τ).loc main_arg2) (ix3 1 (row t i) j)
    ∧ iblk m c 3 t (ix2 i j) = m ((c.tc : Thread nD τ).loc main_arg3) (ix2 (row t i) j) := by
  have hN := lt_of_lt_of_eq t.isLt N_0
  obtain rfl : z = 0 := Subsingleton.elim _ _
  refine ⟨?_, ?_, ?_, ?_⟩
  all_goals blk_ext [iblk, V, idx _, row]

theorem value4 (c : Dev nD) : (dats m 0 c).arrAt 4 cfg0.N = Cert.AdamwLayerRefIdeal.Read.val_main_v33 (F := Ideal)
    (m ((c.tc : Thread nD τ).loc main_arg3)) (m ((c.tc : Thread nD τ).loc main_arg4)) := by
  refine (dats m 0 c).arrAt_eq_of_coversWhere_of_agree 4 _ (fun β => β (0 : Fin 3) = 1) (by decide +kernel) (fun t hf y => ?_) (fun q hq => ?_)
  · have hN := lt_of_lt_of_eq t.isLt N_0
    blk_simp
    rw [after0_4]
    obtain ⟨z, i, j, rfl⟩ : ∃ (z : Fin 1) (i : Fin 256) (j : Fin 2560), y = ix3 z i j := ⟨_, _, _, ValueIdx.eq_ix3 y⟩
    obtain ⟨h0, h1, h2, h3⟩ := blks m c t z i j
    have e : (win0_4.blk t).view.emb (ix3 z i j) = ix3 1 (row t i) j := by blk_ext [idx _, row]
    refine (congrFun (outs m c t).1 (ix3 z i j)).trans ((p_g _ z i j).trans (Eq.trans ?_ (congrArg _ e).symm))
    rw [h3]
    exact ((r_put4 ..).trans (put_one ..)).symm
  · obtain ⟨a, i, j, rfl⟩ : ∃ (a : Fin 4) (i : Fin 1024) (j : Fin 2560), q = ix3 a i j := ⟨_, _, _, ValueIdx.eq_ix3 q⟩
    have ha : ¬ a.val = 1 := by
      blk_simp [Pipeline.Window.cell_apply] at hq
      omega
    exact (congrFun (V_v0 m c).1 (ix3 a i j)).trans (Eq.symm ((r_put4 ..).trans (if_neg ha)))

theorem value5 (c : Dev nD) : (dats m 0 c).arrAt 5 cfg0.N = Cert.AdamwLayerRefIdeal.Read.val_main_v37 (F := Ideal)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) := by
  refine (dats m 0 c).arrAt_eq_of_coversWhere_of_agree 5 _ (fun β => β (0 : Fin 3) = 1) (by decide +kernel) (fun t hf y => ?_) (fun q hq => ?_)
  · have hN := lt_of_lt_of_eq t.isLt N_0
    blk_simp
    rw [after0_5]
    obtain ⟨z, i, j, rfl⟩ : ∃ (z : Fin 1) (i : Fin 256) (j : Fin 2560), y = ix3 z i j := ⟨_, _, _, ValueIdx.eq_ix3 y⟩
    obtain ⟨h0, h1, h2, h3⟩ := blks m c t z i j
    have e : (win0_5.blk t).view.emb (ix3 z i j) = ix3 1 (row t i) j := by blk_ext [idx _, row]
    refine (congrFun (outs m c t).2.1 (ix3 z i j)).trans ((p_d _ _ _ _ z i j).trans (Eq.trans ?_ (congrArg _ e).symm))
    rw [h0, h1, h2, h3]
    exact ((r_put5 ..).trans (put_one ..)).symm
  · obtain ⟨a, i, j, rfl⟩ : ∃ (a : Fin 4) (i : Fin 1024) (j : Fin 2560), q = ix3 a i j := ⟨_, _, _, ValueIdx.eq_ix3 q⟩
    have ha : ¬ a.val = 1 := by
      blk_simp [Pipeline.Window.cell_apply] at hq
      omega
    exact (congrFun (V_v0 m c).2.1 (ix3 a i j)).trans (Eq.symm ((r_put5 ..).trans (if_neg ha)))

theorem value6 (c : Dev nD) : (dats m 0 c).arrAt 6 cfg0.N = Cert.AdamwLayerRefIdeal.Read.val_main_v41 (F := Ideal)
    (m ((c.tc : Thread nD τ).loc main_arg1)) (m ((c.tc : Thread nD τ).loc main_arg3)) (m ((c.tc : Thread nD τ).loc main_arg6)) := by
  refine (dats m 0 c).arrAt_eq_of_coversWhere_of_agree 6 _ (fun β => β (0 : Fin 3) = 1) (by decide +kernel) (fun t hf y => ?_) (fun q hq => ?_)
  · have hN := lt_of_lt_of_eq t.isLt N_0
    blk_simp
    rw [after0_6]
    obtain ⟨z, i, j, rfl⟩ : ∃ (z : Fin 1) (i : Fin 256) (j : Fin 2560), y = ix3 z i j := ⟨_, _, _, ValueIdx.eq_ix3 y⟩
    obtain ⟨h0, h1, h2, h3⟩ := blks m c t z i j
    have e : (win0_6.blk t).view.emb (ix3 z i j) = ix3 1 (row t i) j := by blk_ext [idx _, row]
    refine (congrFun (outs m c t).2.2.1 (ix3 z i j)).trans ((p_m _ _ z i j).trans (Eq.trans ?_ (congrArg _ e).symm))
    rw [h1, h3]
    exact ((r_put6 ..).trans (put_one ..)).symm
  · obtain ⟨a, i, j, rfl⟩ : ∃ (a : Fin 4) (i : Fin 1024) (j : Fin 2560), q = ix3 a i j := ⟨_, _, _, ValueIdx.eq_ix3 q⟩
    have ha : ¬ a.val = 1 := by
      blk_simp [Pipeline.Window.cell_apply] at hq
      omega
    exact (congrFun (V_v0 m c).2.2.1 (ix3 a i j)).trans (Eq.symm ((r_put6 ..).trans (if_neg ha)))

theorem value7 (c : Dev nD) : (dats m 0 c).arrAt 7 cfg0.N = Cert.AdamwLayerRefIdeal.Read.val_main_v45 (F := Ideal)
    (m ((c.tc : Thread nD τ).loc main_arg2)) (m ((c.tc : Thread nD τ).loc main_arg3)) (m ((c.tc : Thread nD τ).loc main_arg7)) := by
  refine (dats m 0 c).arrAt_eq_of_coversWhere_of_agree 7 _ (fun β => β (0 : Fin 3) = 1) (by decide +kernel) (fun t hf y => ?_) (fun q hq => ?_)
  · have hN := lt_of_lt_of_eq t.isLt N_0
    blk_simp
    rw [after0_7]
    obtain ⟨z, i, j, rfl⟩ : ∃ (z : Fin 1) (i : Fin 256) (j : Fin 2560), y = ix3 z i j := ⟨_, _, _, ValueIdx.eq_ix3 y⟩
    obtain ⟨h0, h1, h2, h3⟩ := blks m c t z i j
    have e : (win0_7.blk t).view.emb (ix3 z i j) = ix3 1 (row t i) j := by blk_ext [idx _, row]
    refine (congrFun (outs m c t).2.2.2 (ix3 z i j)).trans ((p_v _ _ z i j).trans (Eq.trans ?_ (congrArg _ e).symm))
    rw [h2, h3]
    exact ((r_put7 ..).trans (put_one ..)).symm
  · obtain ⟨a, i, j, rfl⟩ : ∃ (a : Fin 4) (i : Fin 1024) (j : Fin 2560), q = ix3 a i j := ⟨_, _, _, ValueIdx.eq_ix3 q⟩
    have ha : ¬ a.val = 1 := by
      blk_simp [Pipeline.Window.cell_apply] at hq
      omega
    exact (congrFun (V_v0 m c).2.2.2 (ix3 a i j)).trans (Eq.symm ((r_put7 ..).trans (if_neg ha)))

end Runs

/-- The claim: from memories that agree on the arguments, kernel and reference end with equal results. -/
theorem algebraic : algebraic_AdamwLayerIdeal_AdamwLayerRefIdeal := by
  intro m g m' g' _ hag
  refine ⟨_, _, _, _, Cert.AdamwLayerIdeal.Value.run_blocks (F := Ideal) m g,
    (θ_run _ _ _).mono (fun r h c => ?_) (Cert.AdamwLayerRefIdeal.Value.run (F := Ideal) m' g')⟩
  obtain ⟨h0, h1, h2, h3, hk⟩ := h c
  refine ⟨h0.trans (Eq.trans ?_ (value4 m c).symm), h1.trans (Eq.trans ?_ (value5 m c).symm), h2.trans (Eq.trans ?_ (value6 m c).symm),
    h3.trans (Eq.trans ?_ (value7 m c).symm), hk⟩
  · refine (Cert.AdamwLayerRefIdeal.Read.val_main_v33_eq ..).trans ?_
    simp only [hag c]
  · refine (Cert.AdamwLayerRefIdeal.Read.val_main_v37_eq ..).trans ?_
    simp only [hag c]
  · refine (Cert.AdamwLayerRefIdeal.Read.val_main_v41_eq ..).trans ?_
    simp only [hag c]
  · refine (Cert.AdamwLayerRefIdeal.Read.val_main_v45_eq ..).trans ?_
    simp only [hag c]

/-- The reference's frame: the host program runs and leaves its arguments as they were. -/
theorem frame_ref : quiescent_AdamwLayerRefIdeal := fun m ρ _ =>
  (θ_run _ _ _).mono (fun r h => ⟨fun c => (h c).2.2.2.2, sem_eq_zero_of_no_sems (by decide) r.2⟩)
    (Cert.AdamwLayerRefIdeal.Value.run (F := Ideal) m ρ)

end Cert.AdamwLayerProof

end
-- ==== Proof.lean ====
module

public import proofs.«01_k».proof.Defs
public import proofs.«01_k».proof.Proof.Gen.MemBwd
public import proofs.«01_k».proof.Proof.Gen.MemBwd.Frame
public import proofs.«01_k».proof.Proof.Gen.MemBwdIdeal
public import proofs.«01_k».proof.Proof.Gen.MemBwdIdeal.Frame
public import proofs.«01_k».proof.Proof.Gen.MemBwdIdeal.Value
public import proofs.«01_k».proof.Proof.Gen.MemBwdRefIdeal
public import proofs.«01_k».proof.Proof.Gen.MemBwdRefIdeal.Run
public import proofs.«01_k».proof.Proof.Gen.MemBwdRefIdeal.Read
public import proofs.«01_k».proof.Proof.MemBwd
public import proofs.«01_k».proof.Proof.Gen.MmDh
public import proofs.«01_k».proof.Proof.Gen.MmDh.Frame
public import proofs.«01_k».proof.Proof.Gen.MmDhIdeal
public import proofs.«01_k».proof.Proof.Gen.MmDhIdeal.Frame
public import proofs.«01_k».proof.Proof.Gen.MmDhRefIdeal
public import proofs.«01_k».proof.Proof.Gen.MmDhRefIdeal.Run
public import proofs.«01_k».proof.Proof.Gen.MmDhRefIdeal.Read
public import proofs.«01_k».proof.Proof.MmDh
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.LossHead
public import proofs.«01_k».proof.Proof.Gen.BranchABwd
public import proofs.«01_k».proof.Proof.Gen.BranchABwd.Frame
public import proofs.«01_k».proof.Proof.Gen.BranchABwdIdeal
public import proofs.«01_k».proof.Proof.Gen.BranchABwdIdeal.Frame
public import proofs.«01_k».proof.Proof.Gen.BranchABwdRefIdeal
public import proofs.«01_k».proof.Proof.Gen.BranchABwdRefIdeal.Run
public import proofs.«01_k».proof.Proof.Gen.BranchABwdRefIdeal.Read
public import proofs.«01_k».proof.Proof.Gen.Pre_a_finite
public import proofs.«01_k».proof.Proof.BranchABwd
public import proofs.«01_k».proof.Proof.Gen.BranchCBwd
public import proofs.«01_k».proof.Proof.Gen.BranchCBwd.Frame
public import proofs.«01_k».proof.Proof.Gen.BranchCBwdIdeal
public import proofs.«01_k».proof.Proof.Gen.BranchCBwdIdeal.Frame
public import proofs.«01_k».proof.Proof.Gen.BranchCBwdRefIdeal
public import proofs.«01_k».proof.Proof.Gen.BranchCBwdRefIdeal.Run
public import proofs.«01_k».proof.Proof.Gen.BranchCBwdRefIdeal.Read
public import proofs.«01_k».proof.Proof.Gen.Pre_c_finite
public import proofs.«01_k».proof.Proof.BranchCBwd
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.Gen.Pre_o_finite
public import proofs.«01_k».proof.Proof.Gen.On_o_written
public import proofs.«01_k».proof.Proof.OutBwd
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.MemKv
public import proofs.«01_k».proof.Proof.Gen.BranchAFwd
public import proofs.«01_k».proof.Proof.Gen.BranchAFwd.Frame
public import proofs.«01_k».proof.Proof.Gen.BranchAFwdIdeal
public import proofs.«01_k».proof.Proof.Gen.BranchAFwdIdeal.Frame
public import proofs.«01_k».proof.Proof.Gen.BranchAFwdIdeal.Value
public import proofs.«01_k».proof.Proof.Gen.BranchAFwdRefIdeal
public import proofs.«01_k».proof.Proof.Gen.BranchAFwdRefIdeal.Run
public import proofs.«01_k».proof.Proof.Gen.BranchAFwdRefIdeal.Read
public import proofs.«01_k».proof.Proof.BranchAFwd
public import proofs.«01_k».proof.Proof.Gen.BranchCFwd
public import proofs.«01_k».proof.Proof.Gen.BranchCFwd.Frame
public import proofs.«01_k».proof.Proof.Gen.BranchCFwdIdeal
public import proofs.«01_k».proof.Proof.Gen.BranchCFwdIdeal.Frame
public import proofs.«01_k».proof.Proof.Gen.BranchCFwdIdeal.Value
public import proofs.«01_k».proof.Proof.Gen.BranchCFwdRefIdeal
public import proofs.«01_k».proof.Proof.Gen.BranchCFwdRefIdeal.Run
public import proofs.«01_k».proof.Proof.Gen.BranchCFwdRefIdeal.Read
public import proofs.«01_k».proof.Proof.BranchCFwd
public import proofs.«01_k».proof.Proof.Gen.MergeOut
public import proofs.«01_k».proof.Proof.Gen.MergeOut.Frame
public import proofs.«01_k».proof.Proof.Gen.MergeOutIdeal
public import proofs.«01_k».proof.Proof.Gen.MergeOutIdeal.Frame
public import proofs.«01_k».proof.Proof.Gen.MergeOutIdeal.Value
public import proofs.«01_k».proof.Proof.Gen.MergeOutRefIdeal
public import proofs.«01_k».proof.Proof.Gen.MergeOutRefIdeal.Run
public import proofs.«01_k».proof.Proof.Gen.MergeOutRefIdeal.Read
public import proofs.«01_k».proof.Proof.MergeOut
public import proofs.«01_k».proof.Proof.Gen.MmDwin
public import proofs.«01_k».proof.Proof.Gen.MmDwin.Frame
public import proofs.«01_k».proof.Proof.Gen.MmDwinIdeal
public import proofs.«01_k».proof.Proof.Gen.MmDwinIdeal.Frame
public import proofs.«01_k».proof.Proof.Gen.MmDwinIdeal.Value
public import proofs.«01_k».proof.Proof.Gen.MmDwinRefIdeal
public import proofs.«01_k».proof.Proof.Gen.MmDwinRefIdeal.Run
public import proofs.«01_k».proof.Proof.Gen.MmDwinRefIdeal.Read
public import proofs.«01_k».proof.Proof.MmDwin
public import proofs.«01_k».proof.Proof.Gen.MmTn
public import proofs.«01_k».proof.Proof.Gen.MmTn.Frame
public import proofs.«01_k».proof.Proof.Gen.MmTnIdeal
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import proofs.«01_k».proof.Proof.Gen.MmTnRefIdeal.Read
public import proofs.«01_k».proof.Proof.MmTn
public import proofs.«01_k».proof.Proof.Gen.AdamwFlat
public import proofs.«01_k».proof.Proof.Gen.AdamwFlat.Frame
public import proofs.«01_k».proof.Proof.Gen.AdamwFlatIdeal
public import proofs.«01_k».proof.Proof.Gen.AdamwFlatIdeal.Frame
public import proofs.«01_k».proof.Proof.Gen.AdamwFlatIdeal.Value
public import proofs.«01_k».proof.Proof.Gen.AdamwFlatRefIdeal
public import proofs.«01_k».proof.Proof.Gen.AdamwFlatRefIdeal.Run
public import proofs.«01_k».proof.Proof.Gen.AdamwFlatRefIdeal.Read
public import proofs.«01_k».proof.Proof.AdamwFlat
public import proofs.«01_k».proof.Proof.Gen.AdamwLayer
public import proofs.«01_k».proof.Proof.Gen.AdamwLayer.Frame
public import proofs.«01_k».proof.Proof.Gen.AdamwLayerIdeal
public import proofs.«01_k».proof.Proof.Gen.AdamwLayerIdeal.Frame
public import proofs.«01_k».proof.Proof.Gen.AdamwLayerIdeal.Value
public import proofs.«01_k».proof.Proof.Gen.AdamwLayerRefIdeal
public import proofs.«01_k».proof.Proof.Gen.AdamwLayerRefIdeal.Run
public import proofs.«01_k».proof.Proof.Gen.AdamwLayerRefIdeal.Read
public import proofs.«01_k».proof.Proof.AdamwLayer
public import Idealize.ShloMosaic.Adequacy
public import Idealize.ShloMosaic.Init

@[expose] public section

noncomputable section

namespace Cert.Proof

open Idealize.ShloMosaic Idealize.SL.Sem

/-- The certificate's claim, its parts in the order in which it states them. -/
theorem claim : Cert.Claim := ⟨Cert.MemBwd.Gen.facts,
  Cert.MemBwdIdeal.Gen.facts,
  Cert.MemBwdRefIdeal.Gen.facts,
  Cert.MmDh.Gen.facts,
  Cert.MmDhIdeal.Gen.facts,
  Cert.MmDhRefIdeal.Gen.facts,
  Cert.LossHead.Gen.facts,
  Cert.LossHeadIdeal.Gen.facts,
  Cert.LossHeadRefIdeal.Gen.facts,
  Cert.BranchABwd.Gen.facts,
  Cert.BranchABwdIdeal.Gen.facts,
  Cert.BranchABwdRefIdeal.Gen.facts,
  Cert.BranchCBwd.Gen.facts,
  Cert.BranchCBwdIdeal.Gen.facts,
  Cert.BranchCBwdRefIdeal.Gen.facts,
  Cert.OutBwd.Gen.facts,
  Cert.OutBwdIdeal.Gen.facts,
  Cert.OutBwdRefIdeal.Gen.facts,
  Cert.MemKv.Gen.facts,
  Cert.MemKvIdeal.Gen.facts,
  Cert.MemKvRefIdeal.Gen.facts,
  Cert.BranchAFwd.Gen.facts,
  Cert.BranchAFwdIdeal.Gen.facts,
  Cert.BranchAFwdRefIdeal.Gen.facts,
  Cert.BranchCFwd.Gen.facts,
  Cert.BranchCFwdIdeal.Gen.facts,
  Cert.BranchCFwdRefIdeal.Gen.facts,
  Cert.MergeOut.Gen.facts,
  Cert.MergeOutIdeal.Gen.facts,
  Cert.MergeOutRefIdeal.Gen.facts,
  Cert.MmDwin.Gen.facts,
  Cert.MmDwinIdeal.Gen.facts,
  Cert.MmDwinRefIdeal.Gen.facts,
  Cert.MmTn.Gen.facts,
  Cert.MmTnIdeal.Gen.facts,
  Cert.MmTnRefIdeal.Gen.facts,
  Cert.AdamwFlat.Gen.facts,
  Cert.AdamwFlatIdeal.Gen.facts,
  Cert.AdamwFlatRefIdeal.Gen.facts,
  Cert.AdamwLayer.Gen.facts,
  Cert.AdamwLayerIdeal.Gen.facts,
  Cert.AdamwLayerRefIdeal.Gen.facts,
  Cert.Pre_a_finite.Gen.facts,
  Cert.Pre_c_finite.Gen.facts,
  Cert.Pre_o_finite.Gen.facts,
  Cert.On_o_written.Gen.facts,
  fun m ρ _ => Cert.MemBwd.Gen.frame m ρ,
  fun m ρ _ => Cert.MemBwdIdeal.Gen.frame m ρ,
  Cert.MemBwdProof.frame_ref,
  fun m ρ _ => Cert.MmDh.Gen.frame m ρ,
  fun m ρ _ => Cert.MmDhIdeal.Gen.frame m ρ,
  Cert.MmDhProof.frame_ref,
  fun m ρ _ => Cert.LossHead.Gen.frame m ρ,
  fun m ρ _ => Cert.LossHeadIdeal.Gen.frame m ρ,
  Cert.LossHeadProof.frame_ref,
  fun m ρ _ => Cert.BranchABwd.Gen.frame m ρ,
  fun m ρ _ => Cert.BranchABwdIdeal.Gen.frame m ρ,
  fun m ρ _ => Cert.BranchABwdIdeal.Gen.frame m ρ,
  Cert.BranchABwdProof.frame_ref,
  fun m ρ _ => Cert.BranchABwdProof.frame_ref m ρ trivial,
  fun m ρ _ => Cert.BranchCBwd.Gen.frame m ρ,
  fun m ρ _ => Cert.BranchCBwdIdeal.Gen.frame m ρ,
  fun m ρ _ => Cert.BranchCBwdIdeal.Gen.frame m ρ,
  Cert.BranchCBwdProof.frame_ref,
  fun m ρ _ => Cert.BranchCBwdProof.frame_ref m ρ trivial,
  fun m ρ _ => Cert.OutBwd.Gen.frame m ρ,
  fun m ρ _ => Cert.OutBwdIdeal.Gen.frame m ρ,
  fun m ρ _ => Cert.OutBwdIdeal.Gen.frame m ρ,
  Cert.OutBwdProof.frame_ref,
  fun m ρ _ => Cert.OutBwdProof.frame_ref m ρ trivial,
  fun m ρ _ => Cert.MemKv.Gen.frame m ρ,
  fun m ρ _ => Cert.MemKvIdeal.Gen.frame m ρ,
  Cert.MemKvProof.frame_ref,
  fun m ρ _ => Cert.BranchAFwd.Gen.frame m ρ,
  fun m ρ _ => Cert.BranchAFwdIdeal.Gen.frame m ρ,
  Cert.BranchAFwdProof.frame_ref,
  fun m ρ _ => Cert.BranchCFwd.Gen.frame m ρ,
  fun m ρ _ => Cert.BranchCFwdIdeal.Gen.frame m ρ,
  Cert.BranchCFwdProof.frame_ref,
  fun m ρ _ => Cert.MergeOut.Gen.frame m ρ,
  fun m ρ _ => Cert.MergeOutIdeal.Gen.frame m ρ,
  Cert.MergeOutProof.frame_ref,
  fun m ρ _ => Cert.MmDwin.Gen.frame m ρ,
  fun m ρ _ => Cert.MmDwinIdeal.Gen.frame m ρ,
  Cert.MmDwinProof.frame_ref,
  fun m ρ _ => Cert.MmTn.Gen.frame m ρ,
  fun m ρ _ => Cert.MmTnIdeal.Gen.frame m ρ,
  Cert.MmTnProof.frame_ref,
  fun m ρ _ => Cert.AdamwFlat.Gen.frame m ρ,
  fun m ρ _ => Cert.AdamwFlatIdeal.Gen.frame m ρ,
  Cert.AdamwFlatProof.frame_ref,
  fun m ρ _ => Cert.AdamwLayer.Gen.frame m ρ,
  fun m ρ _ => Cert.AdamwLayerIdeal.Gen.frame m ρ,
  Cert.AdamwLayerProof.frame_ref,
  trivial,
  Cert.MemBwdProof.algebraic,
  trivial,
  Cert.MmDhProof.algebraic,
  trivial,
  Cert.LossHeadProof.algebraic,
  trivial,
  Cert.BranchABwdProof.algebraic,
  trivial,
  Cert.BranchCBwdProof.algebraic,
  trivial,
  Cert.OutBwdProof.algebraic,
  trivial,
  Cert.MemKvProof.algebraic,
  trivial,
  Cert.BranchAFwdProof.algebraic,
  trivial,
  Cert.BranchCFwdProof.algebraic,
  trivial,
  Cert.MergeOutProof.algebraic,
  trivial,
  Cert.MmDwinProof.algebraic,
  trivial,
  Cert.MmTnProof.algebraic,
  trivial,
  Cert.AdamwFlatProof.algebraic,
  trivial,
  Cert.AdamwLayerProof.algebraic⟩

end Cert.Proof

end
